-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather [hPre_named_nodes : Cert.Pre_named_nodes.Facts] (m : (ℓ : Loc Cert.Gather.nD Cert.Gather.τ Cert.Gather.sig) → Buf (Elt Bits) ℓ) : Prop :=
  ∀ c : Dev Cert.Gather.nD,
    (Cert.Pre_named_nodes.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))) = (fun _ => 1#1)

def Pre_GatherIdeal [hPre_named_nodes : Cert.Pre_named_nodes.Facts] (m : (ℓ : Loc Cert.GatherIdeal.nD Cert.GatherIdeal.τ Cert.GatherIdeal.sig) → Buf (Elt Ideal) ℓ) : Prop :=
  ∀ c : Dev Cert.GatherIdeal.nD,
    (Cert.Pre_named_nodes.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2))) = (fun _ => 1#1)

def Pre_GatherReferenceIdeal [hPre_named_nodes : Cert.Pre_named_nodes.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_named_nodes.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1)) (m ((c.tc : Thread Cert.GatherReferenceIdeal.nD Cert.GatherReferenceIdeal.τ).loc Cert.GatherReferenceIdeal.main_arg2))) = (fun _ => 1#1)

def Pre_GatherReference [hPre_named_nodes : Cert.Pre_named_nodes.Facts] (m : (ℓ : Loc Cert.GatherReference.nD Cert.GatherReference.τ Cert.GatherReference.sig) → Buf (Elt Bits) ℓ) : Prop :=
  ∀ c : Dev Cert.GatherReference.nD,
    (Cert.Pre_named_nodes.fn (F := Bits) (m ((c.tc : Thread Cert.GatherReference.nD Cert.GatherReference.τ).loc Cert.GatherReference.main_arg0)) (m ((c.tc : Thread Cert.GatherReference.nD Cert.GatherReference.τ).loc Cert.GatherReference.main_arg1)) (m ((c.tc : Thread Cert.GatherReference.nD Cert.GatherReference.τ).loc Cert.GatherReference.main_arg2))) = (fun _ => 1#1)

def Pre_Records [hPre_named_scans : Cert.Pre_named_scans.Facts] (m : (ℓ : Loc Cert.Records.nD Cert.Records.τ Cert.Records.sig) → Buf (Elt Bits) ℓ) : Prop :=
  ∀ c : Dev Cert.Records.nD,
    (Cert.Pre_named_scans.fn (F := Bits) (m ((c.tc : Thread Cert.Records.nD Cert.Records.τ).loc Cert.Records.main_arg0)) (m ((c.tc : Thread Cert.Records.nD Cert.Records.τ).loc Cert.Records.main_arg1)) (m ((c.tc : Thread Cert.Records.nD Cert.Records.τ).loc Cert.Records.main_arg2)) (m ((c.tc : Thread Cert.Records.nD Cert.Records.τ).loc Cert.Records.main_arg3)) (m ((c.tc : Thread Cert.Records.nD Cert.Records.τ).loc Cert.Records.main_arg4))) = (fun _ => 1#1)

def Pre_RecordsIdeal [hPre_named_scans : Cert.Pre_named_scans.Facts] (m : (ℓ : Loc Cert.RecordsIdeal.nD Cert.RecordsIdeal.τ Cert.RecordsIdeal.sig) → Buf (Elt Ideal) ℓ) : Prop :=
  ∀ c : Dev Cert.RecordsIdeal.nD,
    (Cert.Pre_named_scans.fn (F := Ideal) (m ((c.tc : Thread Cert.RecordsIdeal.nD Cert.RecordsIdeal.τ).loc Cert.RecordsIdeal.main_arg0)) (m ((c.tc : Thread Cert.RecordsIdeal.nD Cert.RecordsIdeal.τ).loc Cert.RecordsIdeal.main_arg1)) (m ((c.tc : Thread Cert.RecordsIdeal.nD Cert.RecordsIdeal.τ).loc Cert.RecordsIdeal.main_arg2)) (m ((c.tc : Thread Cert.RecordsIdeal.nD Cert.RecordsIdeal.τ).loc Cert.RecordsIdeal.main_arg3)) (m ((c.tc : Thread Cert.RecordsIdeal.nD Cert.RecordsIdeal.τ).loc Cert.RecordsIdeal.main_arg4))) = (fun _ => 1#1)

def Pre_RecordsReferenceIdeal [hPre_named_scans : Cert.Pre_named_scans.Facts] (m : (ℓ : Loc Cert.RecordsReferenceIdeal.nD Cert.RecordsReferenceIdeal.τ Cert.RecordsReferenceIdeal.sig) → Buf (Elt Ideal) ℓ) : Prop :=
  ∀ c : Dev Cert.RecordsReferenceIdeal.nD,
    (Cert.Pre_named_scans.fn (F := Ideal) (m ((c.tc : Thread Cert.RecordsReferenceIdeal.nD Cert.RecordsReferenceIdeal.τ).loc Cert.RecordsReferenceIdeal.main_arg0)) (m ((c.tc : Thread Cert.RecordsReferenceIdeal.nD Cert.RecordsReferenceIdeal.τ).loc Cert.RecordsReferenceIdeal.main_arg1)) (m ((c.tc : Thread Cert.RecordsReferenceIdeal.nD Cert.RecordsReferenceIdeal.τ).loc Cert.RecordsReferenceIdeal.main_arg2)) (m ((c.tc : Thread Cert.RecordsReferenceIdeal.nD Cert.RecordsReferenceIdeal.τ).loc Cert.RecordsReferenceIdeal.main_arg3)) (m ((c.tc : Thread Cert.RecordsReferenceIdeal.nD Cert.RecordsReferenceIdeal.τ).loc Cert.RecordsReferenceIdeal.main_arg4))) = (fun _ => 1#1)

def Pre_Edge [hPre_finite_edges : Cert.Pre_finite_edges.Facts] (m : (ℓ : Loc Cert.Edge.nD Cert.Edge.τ Cert.Edge.sig) → Buf (Elt Bits) ℓ) : Prop :=
  ∀ c : Dev Cert.Edge.nD,
    (Cert.Pre_finite_edges.fn (F := Bits) (m ((c.tc : Thread Cert.Edge.nD Cert.Edge.τ).loc Cert.Edge.main_arg0)) (m ((c.tc : Thread Cert.Edge.nD Cert.Edge.τ).loc Cert.Edge.main_arg1)) (m ((c.tc : Thread Cert.Edge.nD Cert.Edge.τ).loc Cert.Edge.main_arg2)) (m ((c.tc : Thread Cert.Edge.nD Cert.Edge.τ).loc Cert.Edge.main_arg3)) (m ((c.tc : Thread Cert.Edge.nD Cert.Edge.τ).loc Cert.Edge.main_arg4)) (m ((c.tc : Thread Cert.Edge.nD Cert.Edge.τ).loc Cert.Edge.main_arg5)) (m ((c.tc : Thread Cert.Edge.nD Cert.Edge.τ).loc Cert.Edge.main_arg6)) (m ((c.tc : Thread Cert.Edge.nD Cert.Edge.τ).loc Cert.Edge.main_arg7)) (m ((c.tc : Thread Cert.Edge.nD Cert.Edge.τ).loc Cert.Edge.main_arg8)) (m ((c.tc : Thread Cert.Edge.nD Cert.Edge.τ).loc Cert.Edge.main_arg9))) = (fun _ => 1#1)

def Pre_EdgeIdeal [hPre_finite_edges : Cert.Pre_finite_edges.Facts] (m : (ℓ : Loc Cert.EdgeIdeal.nD Cert.EdgeIdeal.τ Cert.EdgeIdeal.sig) → Buf (Elt Ideal) ℓ) : Prop :=
  ∀ c : Dev Cert.EdgeIdeal.nD,
    (Cert.Pre_finite_edges.fn (F := Ideal) (m ((c.tc : Thread Cert.EdgeIdeal.nD Cert.EdgeIdeal.τ).loc Cert.EdgeIdeal.main_arg0)) (m ((c.tc : Thread Cert.EdgeIdeal.nD Cert.EdgeIdeal.τ).loc Cert.EdgeIdeal.main_arg1)) (m ((c.tc : Thread Cert.EdgeIdeal.nD Cert.EdgeIdeal.τ).loc Cert.EdgeIdeal.main_arg2)) (m ((c.tc : Thread Cert.EdgeIdeal.nD Cert.EdgeIdeal.τ).loc Cert.EdgeIdeal.main_arg3)) (m ((c.tc : Thread Cert.EdgeIdeal.nD Cert.EdgeIdeal.τ).loc Cert.EdgeIdeal.main_arg4)) (m ((c.tc : Thread Cert.EdgeIdeal.nD Cert.EdgeIdeal.τ).loc Cert.EdgeIdeal.main_arg5)) (m ((c.tc : Thread Cert.EdgeIdeal.nD Cert.EdgeIdeal.τ).loc Cert.EdgeIdeal.main_arg6)) (m ((c.tc : Thread Cert.EdgeIdeal.nD Cert.EdgeIdeal.τ).loc Cert.EdgeIdeal.main_arg7)) (m ((c.tc : Thread Cert.EdgeIdeal.nD Cert.EdgeIdeal.τ).loc Cert.EdgeIdeal.main_arg8)) (m ((c.tc : Thread Cert.EdgeIdeal.nD Cert.EdgeIdeal.τ).loc Cert.EdgeIdeal.main_arg9))) = (fun _ => 1#1)

def Pre_EdgeReferenceIdeal [hPre_finite_edges : Cert.Pre_finite_edges.Facts] (m : (ℓ : Loc Cert.EdgeReferenceIdeal.nD Cert.EdgeReferenceIdeal.τ Cert.EdgeReferenceIdeal.sig) → Buf (Elt Ideal) ℓ) : Prop :=
  ∀ c : Dev Cert.EdgeReferenceIdeal.nD,
    (Cert.Pre_finite_edges.fn (F := Ideal) (m ((c.tc : Thread Cert.EdgeReferenceIdeal.nD Cert.EdgeReferenceIdeal.τ).loc Cert.EdgeReferenceIdeal.main_arg0)) (m ((c.tc : Thread Cert.EdgeReferenceIdeal.nD Cert.EdgeReferenceIdeal.τ).loc Cert.EdgeReferenceIdeal.main_arg1)) (m ((c.tc : Thread Cert.EdgeReferenceIdeal.nD Cert.EdgeReferenceIdeal.τ).loc Cert.EdgeReferenceIdeal.main_arg2)) (m ((c.tc : Thread Cert.EdgeReferenceIdeal.nD Cert.EdgeReferenceIdeal.τ).loc Cert.EdgeReferenceIdeal.main_arg3)) (m ((c.tc : Thread Cert.EdgeReferenceIdeal.nD Cert.EdgeReferenceIdeal.τ).loc Cert.EdgeReferenceIdeal.main_arg4)) (m ((c.tc : Thread Cert.EdgeReferenceIdeal.nD Cert.EdgeReferenceIdeal.τ).loc Cert.EdgeReferenceIdeal.main_arg5)) (m ((c.tc : Thread Cert.EdgeReferenceIdeal.nD Cert.EdgeReferenceIdeal.τ).loc Cert.EdgeReferenceIdeal.main_arg6)) (m ((c.tc : Thread Cert.EdgeReferenceIdeal.nD Cert.EdgeReferenceIdeal.τ).loc Cert.EdgeReferenceIdeal.main_arg7)) (m ((c.tc : Thread Cert.EdgeReferenceIdeal.nD Cert.EdgeReferenceIdeal.τ).loc Cert.EdgeReferenceIdeal.main_arg8)) (m ((c.tc : Thread Cert.EdgeReferenceIdeal.nD Cert.EdgeReferenceIdeal.τ).loc Cert.EdgeReferenceIdeal.main_arg9))) = (fun _ => 1#1)

def Pre_Tail [hPre_finite_tail : Cert.Pre_finite_tail.Facts] (m : (ℓ : Loc Cert.Tail.nD Cert.Tail.τ Cert.Tail.sig) → Buf (Elt Bits) ℓ) : Prop :=
  ∀ c : Dev Cert.Tail.nD,
    (Cert.Pre_finite_tail.fn (F := Bits) (m ((c.tc : Thread Cert.Tail.nD Cert.Tail.τ).loc Cert.Tail.main_arg0)) (m ((c.tc : Thread Cert.Tail.nD Cert.Tail.τ).loc Cert.Tail.main_arg1)) (m ((c.tc : Thread Cert.Tail.nD Cert.Tail.τ).loc Cert.Tail.main_arg2)) (m ((c.tc : Thread Cert.Tail.nD Cert.Tail.τ).loc Cert.Tail.main_arg3)) (m ((c.tc : Thread Cert.Tail.nD Cert.Tail.τ).loc Cert.Tail.main_arg4)) (m ((c.tc : Thread Cert.Tail.nD Cert.Tail.τ).loc Cert.Tail.main_arg5)) (m ((c.tc : Thread Cert.Tail.nD Cert.Tail.τ).loc Cert.Tail.main_arg6)) (m ((c.tc : Thread Cert.Tail.nD Cert.Tail.τ).loc Cert.Tail.main_arg7)) (m ((c.tc : Thread Cert.Tail.nD Cert.Tail.τ).loc Cert.Tail.main_arg8)) (m ((c.tc : Thread Cert.Tail.nD Cert.Tail.τ).loc Cert.Tail.main_arg9)) (m ((c.tc : Thread Cert.Tail.nD Cert.Tail.τ).loc Cert.Tail.main_arg10)) (m ((c.tc : Thread Cert.Tail.nD Cert.Tail.τ).loc Cert.Tail.main_arg11)) (m ((c.tc : Thread Cert.Tail.nD Cert.Tail.τ).loc Cert.Tail.main_arg12)) (m ((c.tc : Thread Cert.Tail.nD Cert.Tail.τ).loc Cert.Tail.main_arg13)) (m ((c.tc : Thread Cert.Tail.nD Cert.Tail.τ).loc Cert.Tail.main_arg14)) (m ((c.tc : Thread Cert.Tail.nD Cert.Tail.τ).loc Cert.Tail.main_arg15)) (m ((c.tc : Thread Cert.Tail.nD Cert.Tail.τ).loc Cert.Tail.main_arg16)) (m ((c.tc : Thread Cert.Tail.nD Cert.Tail.τ).loc Cert.Tail.main_arg17)) (m ((c.tc : Thread Cert.Tail.nD Cert.Tail.τ).loc Cert.Tail.main_arg18)) (m ((c.tc : Thread Cert.Tail.nD Cert.Tail.τ).loc Cert.Tail.main_arg19))) = (fun _ => 1#1)

def Pre_TailIdeal [hPre_finite_tail : Cert.Pre_finite_tail.Facts] (m : (ℓ : Loc Cert.TailIdeal.nD Cert.TailIdeal.τ Cert.TailIdeal.sig) → Buf (Elt Ideal) ℓ) : Prop :=
  ∀ c : Dev Cert.TailIdeal.nD,
    (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14)) (m ((c.tc : Thread Cert.TailIdeal.nD Cert.TailIdeal.τ).loc Cert.TailIdeal.main_arg15)) (m ((c.tc : Thread Cert.TailIdeal.nD Cert.TailIdeal.τ).loc Cert.TailIdeal.main_arg16)) (m ((c.tc : Thread Cert.TailIdeal.nD Cert.TailIdeal.τ).loc Cert.TailIdeal.main_arg17)) (m ((c.tc : Thread Cert.TailIdeal.nD Cert.TailIdeal.τ).loc Cert.TailIdeal.main_arg18)) (m ((c.tc : Thread Cert.TailIdeal.nD Cert.TailIdeal.τ).loc Cert.TailIdeal.main_arg19))) = (fun _ => 1#1)

def Pre_TailReferenceIdeal [hPre_finite_tail : Cert.Pre_finite_tail.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10)) (m ((c.tc : Thread Cert.TailReferenceIdeal.nD Cert.TailReferenceIdeal.τ).loc Cert.TailReferenceIdeal.main_arg11)) (m ((c.tc : Thread Cert.TailReferenceIdeal.nD Cert.TailReferenceIdeal.τ).loc Cert.TailReferenceIdeal.main_arg12)) (m ((c.tc : Thread Cert.TailReferenceIdeal.nD Cert.TailReferenceIdeal.τ).loc Cert.TailReferenceIdeal.main_arg13)) (m ((c.tc : Thread Cert.TailReferenceIdeal.nD Cert.TailReferenceIdeal.τ).loc Cert.TailReferenceIdeal.main_arg14)) (m ((c.tc : Thread Cert.TailReferenceIdeal.nD Cert.TailReferenceIdeal.τ).loc Cert.TailReferenceIdeal.main_arg15)) (m ((c.tc : Thread Cert.TailReferenceIdeal.nD Cert.TailReferenceIdeal.τ).loc Cert.TailReferenceIdeal.main_arg16)) (m ((c.tc : Thread Cert.TailReferenceIdeal.nD Cert.TailReferenceIdeal.τ).loc Cert.TailReferenceIdeal.main_arg17)) (m ((c.tc : Thread Cert.TailReferenceIdeal.nD Cert.TailReferenceIdeal.τ).loc Cert.TailReferenceIdeal.main_arg18)) (m ((c.tc : Thread Cert.TailReferenceIdeal.nD Cert.TailReferenceIdeal.τ).loc Cert.TailReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] [hPre_named_nodes : Cert.Pre_named_nodes.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] [hPre_named_nodes : Cert.Pre_named_nodes.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_GatherReferenceIdeal [hGatherReferenceIdeal : Cert.GatherReferenceIdeal.Facts] [hPre_named_nodes : Cert.Pre_named_nodes.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2))
      ∧ r.2.sem = fun _ => 0)

def quiescent_GatherReference [hGatherReference : Cert.GatherReference.Facts] [hPre_named_nodes : Cert.Pre_named_nodes.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1)
      ∧ r.2.mem ((c.tc : Thread Cert.GatherReference.nD Cert.GatherReference.τ).loc Cert.GatherReference.main_arg2) = m ((c.tc : Thread Cert.GatherReference.nD Cert.GatherReference.τ).loc Cert.GatherReference.main_arg2))
      ∧ r.2.sem = fun _ => 0)

def quiescent_Records [hRecords : Cert.Records.Facts] [hPre_named_scans : Cert.Pre_named_scans.Facts] : Prop :=
  ∀ (m : (ℓ : Loc Cert.Records.nD Cert.Records.τ Cert.Records.sig) → Buf (Elt Bits) ℓ) (g : Dev Cert.Records.nD → PrngReg), Pre_Records m →
    θ_run (Cert.Records.defs (F := Bits)) (onTc (τ := Cert.Records.τ) (Cert.Records.main (F := Bits))) ⟨m, fun _ => 0, g⟩ (fun r => (∀ c : Dev Cert.Records.nD,
      r.2.mem ((c.tc : Thread Cert.Records.nD Cert.Records.τ).loc Cert.Records.main_arg0) = m ((c.tc : Thread Cert.Records.nD Cert.Records.τ).loc Cert.Records.main_arg0)
      ∧ r.2.mem ((c.tc : Thread Cert.Records.nD Cert.Records.τ).loc Cert.Records.main_arg1) = m ((c.tc : Thread Cert.Records.nD Cert.Records.τ).loc Cert.Records.main_arg1)
      ∧ r.2.mem ((c.tc : Thread Cert.Records.nD Cert.Records.τ).loc Cert.Records.main_arg2) = m ((c.tc : Thread Cert.Records.nD Cert.Records.τ).loc Cert.Records.main_arg2)
      ∧ r.2.mem ((c.tc : Thread Cert.Records.nD Cert.Records.τ).loc Cert.Records.main_arg3) = m ((c.tc : Thread Cert.Records.nD Cert.Records.τ).loc Cert.Records.main_arg3)
      ∧ r.2.mem ((c.tc : Thread Cert.Records.nD Cert.Records.τ).loc Cert.Records.main_arg4) = m ((c.tc : Thread Cert.Records.nD Cert.Records.τ).loc Cert.Records.main_arg4))
      ∧ r.2.sem = fun _ => 0)

def quiescent_RecordsIdeal [hRecordsIdeal : Cert.RecordsIdeal.Facts] [hPre_named_scans : Cert.Pre_named_scans.Facts] : Prop :=
  ∀ (m : (ℓ : Loc Cert.RecordsIdeal.nD Cert.RecordsIdeal.τ Cert.RecordsIdeal.sig) → Buf (Elt Ideal) ℓ) (g : Dev Cert.RecordsIdeal.nD → PrngReg), Pre_RecordsIdeal m →
    θ_run (Cert.RecordsIdeal.defs (F := Ideal)) (onTc (τ := Cert.RecordsIdeal.τ) (Cert.RecordsIdeal.main (F := Ideal))) ⟨m, fun _ => 0, g⟩ (fun r => (∀ c : Dev Cert.RecordsIdeal.nD,
      r.2.mem ((c.tc : Thread Cert.RecordsIdeal.nD Cert.RecordsIdeal.τ).loc Cert.RecordsIdeal.main_arg0) = m ((c.tc : Thread Cert.RecordsIdeal.nD Cert.RecordsIdeal.τ).loc Cert.RecordsIdeal.main_arg0)
      ∧ r.2.mem ((c.tc : Thread Cert.RecordsIdeal.nD Cert.RecordsIdeal.τ).loc Cert.RecordsIdeal.main_arg1) = m ((c.tc : Thread Cert.RecordsIdeal.nD Cert.RecordsIdeal.τ).loc Cert.RecordsIdeal.main_arg1)
      ∧ r.2.mem ((c.tc : Thread Cert.RecordsIdeal.nD Cert.RecordsIdeal.τ).loc Cert.RecordsIdeal.main_arg2) = m ((c.tc : Thread Cert.RecordsIdeal.nD Cert.RecordsIdeal.τ).loc Cert.RecordsIdeal.main_arg2)
      ∧ r.2.mem ((c.tc : Thread Cert.RecordsIdeal.nD Cert.RecordsIdeal.τ).loc Cert.RecordsIdeal.main_arg3) = m ((c.tc : Thread Cert.RecordsIdeal.nD Cert.RecordsIdeal.τ).loc Cert.RecordsIdeal.main_arg3)
      ∧ r.2.mem ((c.tc : Thread Cert.RecordsIdeal.nD Cert.RecordsIdeal.τ).loc Cert.RecordsIdeal.main_arg4) = m ((c.tc : Thread Cert.RecordsIdeal.nD Cert.RecordsIdeal.τ).loc Cert.RecordsIdeal.main_arg4))
      ∧ r.2.sem = fun _ => 0)

def quiescent_RecordsReferenceIdeal [hRecordsReferenceIdeal : Cert.RecordsReferenceIdeal.Facts] [hPre_named_scans : Cert.Pre_named_scans.Facts] : Prop :=
  ∀ (m : (ℓ : Loc Cert.RecordsReferenceIdeal.nD Cert.RecordsReferenceIdeal.τ Cert.RecordsReferenceIdeal.sig) → Buf (Elt Ideal) ℓ) (g : Dev Cert.RecordsReferenceIdeal.nD → PrngReg), Pre_RecordsReferenceIdeal m →
    θ_run (Cert.RecordsReferenceIdeal.defs (F := Ideal)) (onTc (τ := Cert.RecordsReferenceIdeal.τ) (Cert.RecordsReferenceIdeal.main (F := Ideal))) ⟨m, fun _ => 0, g⟩ (fun r => (∀ c : Dev Cert.RecordsReferenceIdeal.nD,
      r.2.mem ((c.tc : Thread Cert.RecordsReferenceIdeal.nD Cert.RecordsReferenceIdeal.τ).loc Cert.RecordsReferenceIdeal.main_arg0) = m ((c.tc : Thread Cert.RecordsReferenceIdeal.nD Cert.RecordsReferenceIdeal.τ).loc Cert.RecordsReferenceIdeal.main_arg0)
      ∧ r.2.mem ((c.tc : Thread Cert.RecordsReferenceIdeal.nD Cert.RecordsReferenceIdeal.τ).loc Cert.RecordsReferenceIdeal.main_arg1) = m ((c.tc : Thread Cert.RecordsReferenceIdeal.nD Cert.RecordsReferenceIdeal.τ).loc Cert.RecordsReferenceIdeal.main_arg1)
      ∧ r.2.mem ((c.tc : Thread Cert.RecordsReferenceIdeal.nD Cert.RecordsReferenceIdeal.τ).loc Cert.RecordsReferenceIdeal.main_arg2) = m ((c.tc : Thread Cert.RecordsReferenceIdeal.nD Cert.RecordsReferenceIdeal.τ).loc Cert.RecordsReferenceIdeal.main_arg2)
      ∧ r.2.mem ((c.tc : Thread Cert.RecordsReferenceIdeal.nD Cert.RecordsReferenceIdeal.τ).loc Cert.RecordsReferenceIdeal.main_arg3) = m ((c.tc : Thread Cert.RecordsReferenceIdeal.nD Cert.RecordsReferenceIdeal.τ).loc Cert.RecordsReferenceIdeal.main_arg3)
      ∧ r.2.mem ((c.tc : Thread Cert.RecordsReferenceIdeal.nD Cert.RecordsReferenceIdeal.τ).loc Cert.RecordsReferenceIdeal.main_arg4) = m ((c.tc : Thread Cert.RecordsReferenceIdeal.nD Cert.RecordsReferenceIdeal.τ).loc Cert.RecordsReferenceIdeal.main_arg4))
      ∧ r.2.sem = fun _ => 0)

def quiescent_Edge [hEdge : Cert.Edge.Facts] [hPre_finite_edges : Cert.Pre_finite_edges.Facts] : Prop :=
  ∀ (m : (ℓ : Loc Cert.Edge.nD Cert.Edge.τ Cert.Edge.sig) → Buf (Elt Bits) ℓ) (g : Dev Cert.Edge.nD → PrngReg), Pre_Edge m →
    θ_run (Cert.Edge.defs (F := Bits)) (onTc (τ := Cert.Edge.τ) (Cert.Edge.main (F := Bits))) ⟨m, fun _ => 0, g⟩ (fun r => (∀ c : Dev Cert.Edge.nD,
      r.2.mem ((c.tc : Thread Cert.Edge.nD Cert.Edge.τ).loc Cert.Edge.main_arg0) = m ((c.tc : Thread Cert.Edge.nD Cert.Edge.τ).loc Cert.Edge.main_arg0)
      ∧ r.2.mem ((c.tc : Thread Cert.Edge.nD Cert.Edge.τ).loc Cert.Edge.main_arg1) = m ((c.tc : Thread Cert.Edge.nD Cert.Edge.τ).loc Cert.Edge.main_arg1)
      ∧ r.2.mem ((c.tc : Thread Cert.Edge.nD Cert.Edge.τ).loc Cert.Edge.main_arg2) = m ((c.tc : Thread Cert.Edge.nD Cert.Edge.τ).loc Cert.Edge.main_arg2)
      ∧ r.2.mem ((c.tc : Thread Cert.Edge.nD Cert.Edge.τ).loc Cert.Edge.main_arg3) = m ((c.tc : Thread Cert.Edge.nD Cert.Edge.τ).loc Cert.Edge.main_arg3)
      ∧ r.2.mem ((c.tc : Thread Cert.Edge.nD Cert.Edge.τ).loc Cert.Edge.main_arg4) = m ((c.tc : Thread Cert.Edge.nD Cert.Edge.τ).loc Cert.Edge.main_arg4)
      ∧ r.2.mem ((c.tc : Thread Cert.Edge.nD Cert.Edge.τ).loc Cert.Edge.main_arg5) = m ((c.tc : Thread Cert.Edge.nD Cert.Edge.τ).loc Cert.Edge.main_arg5)
      ∧ r.2.mem ((c.tc : Thread Cert.Edge.nD Cert.Edge.τ).loc Cert.Edge.main_arg6) = m ((c.tc : Thread Cert.Edge.nD Cert.Edge.τ).loc Cert.Edge.main_arg6)
      ∧ r.2.mem ((c.tc : Thread Cert.Edge.nD Cert.Edge.τ).loc Cert.Edge.main_arg7) = m ((c.tc : Thread Cert.Edge.nD Cert.Edge.τ).loc Cert.Edge.main_arg7)
      ∧ r.2.mem ((c.tc : Thread Cert.Edge.nD Cert.Edge.τ).loc Cert.Edge.main_arg8) = m ((c.tc : Thread Cert.Edge.nD Cert.Edge.τ).loc Cert.Edge.main_arg8)
      ∧ r.2.mem ((c.tc : Thread Cert.Edge.nD Cert.Edge.τ).loc Cert.Edge.main_arg9) = m ((c.tc : Thread Cert.Edge.nD Cert.Edge.τ).loc Cert.Edge.main_arg9))
      ∧ r.2.sem = fun _ => 0)

def quiescent_EdgeIdeal [hEdgeIdeal : Cert.EdgeIdeal.Facts] [hPre_finite_edges : Cert.Pre_finite_edges.Facts] : Prop :=
  ∀ (m : (ℓ : Loc Cert.EdgeIdeal.nD Cert.EdgeIdeal.τ Cert.EdgeIdeal.sig) → Buf (Elt Ideal) ℓ) (g : Dev Cert.EdgeIdeal.nD → PrngReg), Pre_EdgeIdeal m →
    θ_run (Cert.EdgeIdeal.defs (F := Ideal)) (onTc (τ := Cert.EdgeIdeal.τ) (Cert.EdgeIdeal.main (F := Ideal))) ⟨m, fun _ => 0, g⟩ (fun r => (∀ c : Dev Cert.EdgeIdeal.nD,
      r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
      ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
      ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
      ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3)
      ∧ r.2.mem ((c.tc : Thread Cert.EdgeIdeal.nD Cert.EdgeIdeal.τ).loc Cert.EdgeIdeal.main_arg4) = m ((c.tc : Thread Cert.EdgeIdeal.nD Cert.EdgeIdeal.τ).loc Cert.EdgeIdeal.main_arg4)
      ∧ r.2.mem ((c.tc : Thread Cert.EdgeIdeal.nD Cert.EdgeIdeal.τ).loc Cert.EdgeIdeal.main_arg5) = m ((c.tc : Thread Cert.EdgeIdeal.nD Cert.EdgeIdeal.τ).loc Cert.EdgeIdeal.main_arg5)
      ∧ r.2.mem ((c.tc : Thread Cert.EdgeIdeal.nD Cert.EdgeIdeal.τ).loc Cert.EdgeIdeal.main_arg6) = m ((c.tc : Thread Cert.EdgeIdeal.nD Cert.EdgeIdeal.τ).loc Cert.EdgeIdeal.main_arg6)
      ∧ r.2.mem ((c.tc : Thread Cert.EdgeIdeal.nD Cert.EdgeIdeal.τ).loc Cert.EdgeIdeal.main_arg7) = m ((c.tc : Thread Cert.EdgeIdeal.nD Cert.EdgeIdeal.τ).loc Cert.EdgeIdeal.main_arg7)
      ∧ r.2.mem ((c.tc : Thread Cert.EdgeIdeal.nD Cert.EdgeIdeal.τ).loc Cert.EdgeIdeal.main_arg8) = m ((c.tc : Thread Cert.EdgeIdeal.nD Cert.EdgeIdeal.τ).loc Cert.EdgeIdeal.main_arg8)
      ∧ r.2.mem ((c.tc : Thread Cert.EdgeIdeal.nD Cert.EdgeIdeal.τ).loc Cert.EdgeIdeal.main_arg9) = m ((c.tc : Thread Cert.EdgeIdeal.nD Cert.EdgeIdeal.τ).loc Cert.EdgeIdeal.main_arg9))
      ∧ r.2.sem = fun _ => 0)

def quiescent_EdgeReferenceIdeal [hEdgeReferenceIdeal : Cert.EdgeReferenceIdeal.Facts] [hPre_finite_edges : Cert.Pre_finite_edges.Facts] : Prop :=
  ∀ (m : (ℓ : Loc Cert.EdgeReferenceIdeal.nD Cert.EdgeReferenceIdeal.τ Cert.EdgeReferenceIdeal.sig) → Buf (Elt Ideal) ℓ) (g : Dev Cert.EdgeReferenceIdeal.nD → PrngReg), Pre_EdgeReferenceIdeal m →
    θ_run (Cert.EdgeReferenceIdeal.defs (F := Ideal)) (onTc (τ := Cert.EdgeReferenceIdeal.τ) (Cert.EdgeReferenceIdeal.main (F := Ideal))) ⟨m, fun _ => 0, g⟩ (fun r => (∀ c : Dev Cert.EdgeReferenceIdeal.nD,
      r.2.mem ((c.tc : Thread Cert.EdgeReferenceIdeal.nD Cert.EdgeReferenceIdeal.τ).loc Cert.EdgeReferenceIdeal.main_arg0) = m ((c.tc : Thread Cert.EdgeReferenceIdeal.nD Cert.EdgeReferenceIdeal.τ).loc Cert.EdgeReferenceIdeal.main_arg0)
      ∧ r.2.mem ((c.tc : Thread Cert.EdgeReferenceIdeal.nD Cert.EdgeReferenceIdeal.τ).loc Cert.EdgeReferenceIdeal.main_arg1) = m ((c.tc : Thread Cert.EdgeReferenceIdeal.nD Cert.EdgeReferenceIdeal.τ).loc Cert.EdgeReferenceIdeal.main_arg1)
      ∧ r.2.mem ((c.tc : Thread Cert.EdgeReferenceIdeal.nD Cert.EdgeReferenceIdeal.τ).loc Cert.EdgeReferenceIdeal.main_arg2) = m ((c.tc : Thread Cert.EdgeReferenceIdeal.nD Cert.EdgeReferenceIdeal.τ).loc Cert.EdgeReferenceIdeal.main_arg2)
      ∧ r.2.mem ((c.tc : Thread Cert.EdgeReferenceIdeal.nD Cert.EdgeReferenceIdeal.τ).loc Cert.EdgeReferenceIdeal.main_arg3) = m ((c.tc : Thread Cert.EdgeReferenceIdeal.nD Cert.EdgeReferenceIdeal.τ).loc Cert.EdgeReferenceIdeal.main_arg3)
      ∧ r.2.mem ((c.tc : Thread Cert.EdgeReferenceIdeal.nD Cert.EdgeReferenceIdeal.τ).loc Cert.EdgeReferenceIdeal.main_arg4) = m ((c.tc : Thread Cert.EdgeReferenceIdeal.nD Cert.EdgeReferenceIdeal.τ).loc Cert.EdgeReferenceIdeal.main_arg4)
      ∧ r.2.mem ((c.tc : Thread Cert.EdgeReferenceIdeal.nD Cert.EdgeReferenceIdeal.τ).loc Cert.EdgeReferenceIdeal.main_arg5) = m ((c.tc : Thread Cert.EdgeReferenceIdeal.nD Cert.EdgeReferenceIdeal.τ).loc Cert.EdgeReferenceIdeal.main_arg5)
      ∧ r.2.mem ((c.tc : Thread Cert.EdgeReferenceIdeal.nD Cert.EdgeReferenceIdeal.τ).loc Cert.EdgeReferenceIdeal.main_arg6) = m ((c.tc : Thread Cert.EdgeReferenceIdeal.nD Cert.EdgeReferenceIdeal.τ).loc Cert.EdgeReferenceIdeal.main_arg6)
      ∧ r.2.mem ((c.tc : Thread Cert.EdgeReferenceIdeal.nD Cert.EdgeReferenceIdeal.τ).loc Cert.EdgeReferenceIdeal.main_arg7) = m ((c.tc : Thread Cert.EdgeReferenceIdeal.nD Cert.EdgeReferenceIdeal.τ).loc Cert.EdgeReferenceIdeal.main_arg7)
      ∧ r.2.mem ((c.tc : Thread Cert.EdgeReferenceIdeal.nD Cert.EdgeReferenceIdeal.τ).loc Cert.EdgeReferenceIdeal.main_arg8) = m ((c.tc : Thread Cert.EdgeReferenceIdeal.nD Cert.EdgeReferenceIdeal.τ).loc Cert.EdgeReferenceIdeal.main_arg8)
      ∧ r.2.mem ((c.tc : Thread Cert.EdgeReferenceIdeal.nD Cert.EdgeReferenceIdeal.τ).loc Cert.EdgeReferenceIdeal.main_arg9) = m ((c.tc : Thread Cert.EdgeReferenceIdeal.nD Cert.EdgeReferenceIdeal.τ).loc Cert.EdgeReferenceIdeal.main_arg9))
      ∧ r.2.sem = fun _ => 0)

def quiescent_Tail [hTail : Cert.Tail.Facts] [hPre_finite_tail : Cert.Pre_finite_tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15)
      ∧ r.2.mem ((c.tc : Thread Cert.Tail.nD Cert.Tail.τ).loc Cert.Tail.main_arg16) = m ((c.tc : Thread Cert.Tail.nD Cert.Tail.τ).loc Cert.Tail.main_arg16)
      ∧ r.2.mem ((c.tc : Thread Cert.Tail.nD Cert.Tail.τ).loc Cert.Tail.main_arg17) = m ((c.tc : Thread Cert.Tail.nD Cert.Tail.τ).loc Cert.Tail.main_arg17)
      ∧ r.2.mem ((c.tc : Thread Cert.Tail.nD Cert.Tail.τ).loc Cert.Tail.main_arg18) = m ((c.tc : Thread Cert.Tail.nD Cert.Tail.τ).loc Cert.Tail.main_arg18)
      ∧ r.2.mem ((c.tc : Thread Cert.Tail.nD Cert.Tail.τ).loc Cert.Tail.main_arg19) = m ((c.tc : Thread Cert.Tail.nD Cert.Tail.τ).loc Cert.Tail.main_arg19))
      ∧ r.2.sem = fun _ => 0)

def quiescent_TailIdeal [hTailIdeal : Cert.TailIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
      ∧ r.2.mem ((c.tc : Thread Cert.TailIdeal.nD Cert.TailIdeal.τ).loc Cert.TailIdeal.main_arg18) = m ((c.tc : Thread Cert.TailIdeal.nD Cert.TailIdeal.τ).loc Cert.TailIdeal.main_arg18)
      ∧ r.2.mem ((c.tc : Thread Cert.TailIdeal.nD Cert.TailIdeal.τ).loc Cert.TailIdeal.main_arg19) = m ((c.tc : Thread Cert.TailIdeal.nD Cert.TailIdeal.τ).loc Cert.TailIdeal.main_arg19))
      ∧ r.2.sem = fun _ => 0)

def quiescent_TailReferenceIdeal [hTailReferenceIdeal : Cert.TailReferenceIdeal.Facts] [hPre_finite_tail : Cert.Pre_finite_tail.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14)
      ∧ r.2.mem ((c.tc : Thread Cert.TailReferenceIdeal.nD Cert.TailReferenceIdeal.τ).loc Cert.TailReferenceIdeal.main_arg15) = m ((c.tc : Thread Cert.TailReferenceIdeal.nD Cert.TailReferenceIdeal.τ).loc Cert.TailReferenceIdeal.main_arg15)
      ∧ r.2.mem ((c.tc : Thread Cert.TailReferenceIdeal.nD Cert.TailReferenceIdeal.τ).loc Cert.TailReferenceIdeal.main_arg16) = m ((c.tc : Thread Cert.TailReferenceIdeal.nD Cert.TailReferenceIdeal.τ).loc Cert.TailReferenceIdeal.main_arg16)
      ∧ r.2.mem ((c.tc : Thread Cert.TailReferenceIdeal.nD Cert.TailReferenceIdeal.τ).loc Cert.TailReferenceIdeal.main_arg17) = m ((c.tc : Thread Cert.TailReferenceIdeal.nD Cert.TailReferenceIdeal.τ).loc Cert.TailReferenceIdeal.main_arg17)
      ∧ r.2.mem ((c.tc : Thread Cert.TailReferenceIdeal.nD Cert.TailReferenceIdeal.τ).loc Cert.TailReferenceIdeal.main_arg18) = m ((c.tc : Thread Cert.TailReferenceIdeal.nD Cert.TailReferenceIdeal.τ).loc Cert.TailReferenceIdeal.main_arg18)
      ∧ r.2.mem ((c.tc : Thread Cert.TailReferenceIdeal.nD Cert.TailReferenceIdeal.τ).loc Cert.TailReferenceIdeal.main_arg19) = m ((c.tc : Thread Cert.TailReferenceIdeal.nD Cert.TailReferenceIdeal.τ).loc Cert.TailReferenceIdeal.main_arg19))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Gather_GatherIdeal : Prop :=
  True

def algebraic_GatherIdeal_GatherReferenceIdeal [hGatherIdeal : Cert.GatherIdeal.Facts] [hGatherReferenceIdeal : Cert.GatherReferenceIdeal.Facts] [hPre_named_nodes : Cert.Pre_named_nodes.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)
      ∧ m' ((c.tc : Thread Cert.GatherReferenceIdeal.nD Cert.GatherReferenceIdeal.τ).loc Cert.GatherReferenceIdeal.main_arg2) = m ((c.tc : Thread Cert.GatherIdeal.nD Cert.GatherIdeal.τ).loc Cert.GatherIdeal.main_arg2)) →
    ∃ (v0 : (c : Dev Cert.GatherIdeal.nD) → Buf (Elt Ideal) ((c.tc : Thread Cert.GatherIdeal.nD Cert.GatherIdeal.τ).loc Cert.GatherIdeal.main_v0_0)) (v1 : (c : Dev Cert.GatherIdeal.nD) → Buf (Elt Ideal) ((c.tc : Thread Cert.GatherIdeal.nD Cert.GatherIdeal.τ).loc Cert.GatherIdeal.main_v0_1)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v0_0) = v0 c
          ∧ r.2.mem ((c.tc : Thread Cert.GatherIdeal.nD Cert.GatherIdeal.τ).loc Cert.GatherIdeal.main_v0_1) = v1 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v6) = v0 c
          ∧ r.2.mem ((c.tc : Thread Cert.GatherReferenceIdeal.nD Cert.GatherReferenceIdeal.τ).loc Cert.GatherReferenceIdeal.main_v13) = v1 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1)
          ∧ r.2.mem ((c.tc : Thread Cert.GatherReferenceIdeal.nD Cert.GatherReferenceIdeal.τ).loc Cert.GatherReferenceIdeal.main_arg2) = m' ((c.tc : Thread Cert.GatherReferenceIdeal.nD Cert.GatherReferenceIdeal.τ).loc Cert.GatherReferenceIdeal.main_arg2))

def bitexact_Gather_GatherReference [hGather : Cert.Gather.Facts] [hGatherReference : Cert.GatherReference.Facts] [hPre_named_nodes : Cert.Pre_named_nodes.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m' ((c.tc : Thread Cert.GatherReference.nD Cert.GatherReference.τ).loc Cert.GatherReference.main_arg0) = m ((c.tc : Thread Cert.Gather.nD Cert.Gather.τ).loc Cert.Gather.main_arg0)
      ∧ m' ((c.tc : Thread Cert.GatherReference.nD Cert.GatherReference.τ).loc Cert.GatherReference.main_arg1) = m ((c.tc : Thread Cert.Gather.nD Cert.Gather.τ).loc Cert.Gather.main_arg1)
      ∧ m' ((c.tc : Thread Cert.GatherReference.nD Cert.GatherReference.τ).loc Cert.GatherReference.main_arg2) = m ((c.tc : Thread Cert.Gather.nD Cert.Gather.τ).loc Cert.Gather.main_arg2)) →
    ∃ (v0 : (c : Dev Cert.Gather.nD) → Buf (Elt Bits) ((c.tc : Thread Cert.Gather.nD Cert.Gather.τ).loc Cert.Gather.main_v0_0)) (v1 : (c : Dev Cert.Gather.nD) → Buf (Elt Bits) ((c.tc : Thread Cert.Gather.nD Cert.Gather.τ).loc Cert.Gather.main_v0_1)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v0_0) = v0 c
          ∧ r.2.mem ((c.tc : Thread Cert.Gather.nD Cert.Gather.τ).loc Cert.Gather.main_v0_1) = v1 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2))
      ∧ θ_run (Cert.GatherReference.defs (F := Bits)) (onTc (τ := Cert.GatherReference.τ) (Cert.GatherReference.main (F := Bits))) ⟨m', fun _ => 0, g'⟩ (fun r => ∀ c : Dev Cert.GatherReference.nD,
          r.2.mem ((c.tc : Thread Cert.GatherReference.nD Cert.GatherReference.τ).loc Cert.GatherReference.main_v6) = v0 c
          ∧ r.2.mem ((c.tc : Thread Cert.GatherReference.nD Cert.GatherReference.τ).loc Cert.GatherReference.main_v13) = v1 c
          ∧ r.2.mem ((c.tc : Thread Cert.GatherReference.nD Cert.GatherReference.τ).loc Cert.GatherReference.main_arg0) = m' ((c.tc : Thread Cert.GatherReference.nD Cert.GatherReference.τ).loc Cert.GatherReference.main_arg0)
          ∧ r.2.mem ((c.tc : Thread Cert.GatherReference.nD Cert.GatherReference.τ).loc Cert.GatherReference.main_arg1) = m' ((c.tc : Thread Cert.GatherReference.nD Cert.GatherReference.τ).loc Cert.GatherReference.main_arg1)
          ∧ r.2.mem ((c.tc : Thread Cert.GatherReference.nD Cert.GatherReference.τ).loc Cert.GatherReference.main_arg2) = m' ((c.tc : Thread Cert.GatherReference.nD Cert.GatherReference.τ).loc Cert.GatherReference.main_arg2))

def preserves_Records_RecordsIdeal : Prop :=
  True

def algebraic_RecordsIdeal_RecordsReferenceIdeal [hRecordsIdeal : Cert.RecordsIdeal.Facts] [hRecordsReferenceIdeal : Cert.RecordsReferenceIdeal.Facts] [hPre_named_scans : Cert.Pre_named_scans.Facts] : Prop :=
  ∀ (m : (ℓ : Loc Cert.RecordsIdeal.nD Cert.RecordsIdeal.τ Cert.RecordsIdeal.sig) → Buf (Elt Ideal) ℓ) (g : Dev Cert.RecordsIdeal.nD → PrngReg)
    (m' : (ℓ : Loc Cert.RecordsReferenceIdeal.nD Cert.RecordsReferenceIdeal.τ Cert.RecordsReferenceIdeal.sig) → Buf (Elt Ideal) ℓ) (g' : Dev Cert.RecordsReferenceIdeal.nD → PrngReg), Pre_RecordsIdeal m →
    (∀ c : Dev Cert.RecordsIdeal.nD,
      m' ((c.tc : Thread Cert.RecordsReferenceIdeal.nD Cert.RecordsReferenceIdeal.τ).loc Cert.RecordsReferenceIdeal.main_arg0) = m ((c.tc : Thread Cert.RecordsIdeal.nD Cert.RecordsIdeal.τ).loc Cert.RecordsIdeal.main_arg0)
      ∧ m' ((c.tc : Thread Cert.RecordsReferenceIdeal.nD Cert.RecordsReferenceIdeal.τ).loc Cert.RecordsReferenceIdeal.main_arg1) = m ((c.tc : Thread Cert.RecordsIdeal.nD Cert.RecordsIdeal.τ).loc Cert.RecordsIdeal.main_arg1)
      ∧ m' ((c.tc : Thread Cert.RecordsReferenceIdeal.nD Cert.RecordsReferenceIdeal.τ).loc Cert.RecordsReferenceIdeal.main_arg2) = m ((c.tc : Thread Cert.RecordsIdeal.nD Cert.RecordsIdeal.τ).loc Cert.RecordsIdeal.main_arg2)
      ∧ m' ((c.tc : Thread Cert.RecordsReferenceIdeal.nD Cert.RecordsReferenceIdeal.τ).loc Cert.RecordsReferenceIdeal.main_arg3) = m ((c.tc : Thread Cert.RecordsIdeal.nD Cert.RecordsIdeal.τ).loc Cert.RecordsIdeal.main_arg3)
      ∧ m' ((c.tc : Thread Cert.RecordsReferenceIdeal.nD Cert.RecordsReferenceIdeal.τ).loc Cert.RecordsReferenceIdeal.main_arg4) = m ((c.tc : Thread Cert.RecordsIdeal.nD Cert.RecordsIdeal.τ).loc Cert.RecordsIdeal.main_arg4)) →
    ∃ (v0 : (c : Dev Cert.RecordsIdeal.nD) → Buf (Elt Ideal) ((c.tc : Thread Cert.RecordsIdeal.nD Cert.RecordsIdeal.τ).loc Cert.RecordsIdeal.main_v3)),
      θ_run (Cert.RecordsIdeal.defs (F := Ideal)) (onTc (τ := Cert.RecordsIdeal.τ) (Cert.RecordsIdeal.main (F := Ideal))) ⟨m, fun _ => 0, g⟩ (fun r => ∀ c : Dev Cert.RecordsIdeal.nD,
          r.2.mem ((c.tc : Thread Cert.RecordsIdeal.nD Cert.RecordsIdeal.τ).loc Cert.RecordsIdeal.main_v3) = v0 c
          ∧ r.2.mem ((c.tc : Thread Cert.RecordsIdeal.nD Cert.RecordsIdeal.τ).loc Cert.RecordsIdeal.main_arg0) = m ((c.tc : Thread Cert.RecordsIdeal.nD Cert.RecordsIdeal.τ).loc Cert.RecordsIdeal.main_arg0)
          ∧ r.2.mem ((c.tc : Thread Cert.RecordsIdeal.nD Cert.RecordsIdeal.τ).loc Cert.RecordsIdeal.main_arg1) = m ((c.tc : Thread Cert.RecordsIdeal.nD Cert.RecordsIdeal.τ).loc Cert.RecordsIdeal.main_arg1)
          ∧ r.2.mem ((c.tc : Thread Cert.RecordsIdeal.nD Cert.RecordsIdeal.τ).loc Cert.RecordsIdeal.main_arg2) = m ((c.tc : Thread Cert.RecordsIdeal.nD Cert.RecordsIdeal.τ).loc Cert.RecordsIdeal.main_arg2)
          ∧ r.2.mem ((c.tc : Thread Cert.RecordsIdeal.nD Cert.RecordsIdeal.τ).loc Cert.RecordsIdeal.main_arg3) = m ((c.tc : Thread Cert.RecordsIdeal.nD Cert.RecordsIdeal.τ).loc Cert.RecordsIdeal.main_arg3)
          ∧ r.2.mem ((c.tc : Thread Cert.RecordsIdeal.nD Cert.RecordsIdeal.τ).loc Cert.RecordsIdeal.main_arg4) = m ((c.tc : Thread Cert.RecordsIdeal.nD Cert.RecordsIdeal.τ).loc Cert.RecordsIdeal.main_arg4))
      ∧ θ_run (Cert.RecordsReferenceIdeal.defs (F := Ideal)) (onTc (τ := Cert.RecordsReferenceIdeal.τ) (Cert.RecordsReferenceIdeal.main (F := Ideal))) ⟨m', fun _ => 0, g'⟩ (fun r => ∀ c : Dev Cert.RecordsReferenceIdeal.nD,
          r.2.mem ((c.tc : Thread Cert.RecordsReferenceIdeal.nD Cert.RecordsReferenceIdeal.τ).loc Cert.RecordsReferenceIdeal.main_v13) = v0 c
          ∧ r.2.mem ((c.tc : Thread Cert.RecordsReferenceIdeal.nD Cert.RecordsReferenceIdeal.τ).loc Cert.RecordsReferenceIdeal.main_arg0) = m' ((c.tc : Thread Cert.RecordsReferenceIdeal.nD Cert.RecordsReferenceIdeal.τ).loc Cert.RecordsReferenceIdeal.main_arg0)
          ∧ r.2.mem ((c.tc : Thread Cert.RecordsReferenceIdeal.nD Cert.RecordsReferenceIdeal.τ).loc Cert.RecordsReferenceIdeal.main_arg1) = m' ((c.tc : Thread Cert.RecordsReferenceIdeal.nD Cert.RecordsReferenceIdeal.τ).loc Cert.RecordsReferenceIdeal.main_arg1)
          ∧ r.2.mem ((c.tc : Thread Cert.RecordsReferenceIdeal.nD Cert.RecordsReferenceIdeal.τ).loc Cert.RecordsReferenceIdeal.main_arg2) = m' ((c.tc : Thread Cert.RecordsReferenceIdeal.nD Cert.RecordsReferenceIdeal.τ).loc Cert.RecordsReferenceIdeal.main_arg2)
          ∧ r.2.mem ((c.tc : Thread Cert.RecordsReferenceIdeal.nD Cert.RecordsReferenceIdeal.τ).loc Cert.RecordsReferenceIdeal.main_arg3) = m' ((c.tc : Thread Cert.RecordsReferenceIdeal.nD Cert.RecordsReferenceIdeal.τ).loc Cert.RecordsReferenceIdeal.main_arg3)
          ∧ r.2.mem ((c.tc : Thread Cert.RecordsReferenceIdeal.nD Cert.RecordsReferenceIdeal.τ).loc Cert.RecordsReferenceIdeal.main_arg4) = m' ((c.tc : Thread Cert.RecordsReferenceIdeal.nD Cert.RecordsReferenceIdeal.τ).loc Cert.RecordsReferenceIdeal.main_arg4))

def preserves_Edge_EdgeIdeal : Prop :=
  True

def algebraic_EdgeIdeal_EdgeReferenceIdeal [hEdgeIdeal : Cert.EdgeIdeal.Facts] [hEdgeReferenceIdeal : Cert.EdgeReferenceIdeal.Facts] [hPre_finite_edges : Cert.Pre_finite_edges.Facts] : Prop :=
  ∀ (m : (ℓ : Loc Cert.EdgeIdeal.nD Cert.EdgeIdeal.τ Cert.EdgeIdeal.sig) → Buf (Elt Ideal) ℓ) (g : Dev Cert.EdgeIdeal.nD → PrngReg)
    (m' : (ℓ : Loc Cert.EdgeReferenceIdeal.nD Cert.EdgeReferenceIdeal.τ Cert.EdgeReferenceIdeal.sig) → Buf (Elt Ideal) ℓ) (g' : Dev Cert.EdgeReferenceIdeal.nD → PrngReg), Pre_EdgeIdeal m →
    (∀ c : Dev Cert.EdgeIdeal.nD,
      m' ((c.tc : Thread Cert.EdgeReferenceIdeal.nD Cert.EdgeReferenceIdeal.τ).loc Cert.EdgeReferenceIdeal.main_arg0) = m ((c.tc : Thread Cert.EdgeIdeal.nD Cert.EdgeIdeal.τ).loc Cert.EdgeIdeal.main_arg0)
      ∧ m' ((c.tc : Thread Cert.EdgeReferenceIdeal.nD Cert.EdgeReferenceIdeal.τ).loc Cert.EdgeReferenceIdeal.main_arg1) = m ((c.tc : Thread Cert.EdgeIdeal.nD Cert.EdgeIdeal.τ).loc Cert.EdgeIdeal.main_arg1)
      ∧ m' ((c.tc : Thread Cert.EdgeReferenceIdeal.nD Cert.EdgeReferenceIdeal.τ).loc Cert.EdgeReferenceIdeal.main_arg2) = m ((c.tc : Thread Cert.EdgeIdeal.nD Cert.EdgeIdeal.τ).loc Cert.EdgeIdeal.main_arg2)
      ∧ m' ((c.tc : Thread Cert.EdgeReferenceIdeal.nD Cert.EdgeReferenceIdeal.τ).loc Cert.EdgeReferenceIdeal.main_arg3) = m ((c.tc : Thread Cert.EdgeIdeal.nD Cert.EdgeIdeal.τ).loc Cert.EdgeIdeal.main_arg3)
      ∧ m' ((c.tc : Thread Cert.EdgeReferenceIdeal.nD Cert.EdgeReferenceIdeal.τ).loc Cert.EdgeReferenceIdeal.main_arg4) = m ((c.tc : Thread Cert.EdgeIdeal.nD Cert.EdgeIdeal.τ).loc Cert.EdgeIdeal.main_arg4)
      ∧ m' ((c.tc : Thread Cert.EdgeReferenceIdeal.nD Cert.EdgeReferenceIdeal.τ).loc Cert.EdgeReferenceIdeal.main_arg5) = m ((c.tc : Thread Cert.EdgeIdeal.nD Cert.EdgeIdeal.τ).loc Cert.EdgeIdeal.main_arg5)
      ∧ m' ((c.tc : Thread Cert.EdgeReferenceIdeal.nD Cert.EdgeReferenceIdeal.τ).loc Cert.EdgeReferenceIdeal.main_arg6) = m ((c.tc : Thread Cert.EdgeIdeal.nD Cert.EdgeIdeal.τ).loc Cert.EdgeIdeal.main_arg6)
      ∧ m' ((c.tc : Thread Cert.EdgeReferenceIdeal.nD Cert.EdgeReferenceIdeal.τ).loc Cert.EdgeReferenceIdeal.main_arg7) = m ((c.tc : Thread Cert.EdgeIdeal.nD Cert.EdgeIdeal.τ).loc Cert.EdgeIdeal.main_arg7)
      ∧ m' ((c.tc : Thread Cert.EdgeReferenceIdeal.nD Cert.EdgeReferenceIdeal.τ).loc Cert.EdgeReferenceIdeal.main_arg8) = m ((c.tc : Thread Cert.EdgeIdeal.nD Cert.EdgeIdeal.τ).loc Cert.EdgeIdeal.main_arg8)
      ∧ m' ((c.tc : Thread Cert.EdgeReferenceIdeal.nD Cert.EdgeReferenceIdeal.τ).loc Cert.EdgeReferenceIdeal.main_arg9) = m ((c.tc : Thread Cert.EdgeIdeal.nD Cert.EdgeIdeal.τ).loc Cert.EdgeIdeal.main_arg9)) →
    ∃ (v0 : (c : Dev Cert.EdgeIdeal.nD) → Buf (Elt Ideal) ((c.tc : Thread Cert.EdgeIdeal.nD Cert.EdgeIdeal.τ).loc Cert.EdgeIdeal.main_v15)),
      θ_run (Cert.EdgeIdeal.defs (F := Ideal)) (onTc (τ := Cert.EdgeIdeal.τ) (Cert.EdgeIdeal.main (F := Ideal))) ⟨m, fun _ => 0, g⟩ (fun r => ∀ c : Dev Cert.EdgeIdeal.nD,
          r.2.mem ((c.tc : Thread Cert.EdgeIdeal.nD Cert.EdgeIdeal.τ).loc Cert.EdgeIdeal.main_v15) = v0 c
          ∧ r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
          ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
          ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
          ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3)
          ∧ r.2.mem ((c.tc : Thread Cert.EdgeIdeal.nD Cert.EdgeIdeal.τ).loc Cert.EdgeIdeal.main_arg4) = m ((c.tc : Thread Cert.EdgeIdeal.nD Cert.EdgeIdeal.τ).loc Cert.EdgeIdeal.main_arg4)
          ∧ r.2.mem ((c.tc : Thread Cert.EdgeIdeal.nD Cert.EdgeIdeal.τ).loc Cert.EdgeIdeal.main_arg5) = m ((c.tc : Thread Cert.EdgeIdeal.nD Cert.EdgeIdeal.τ).loc Cert.EdgeIdeal.main_arg5)
          ∧ r.2.mem ((c.tc : Thread Cert.EdgeIdeal.nD Cert.EdgeIdeal.τ).loc Cert.EdgeIdeal.main_arg6) = m ((c.tc : Thread Cert.EdgeIdeal.nD Cert.EdgeIdeal.τ).loc Cert.EdgeIdeal.main_arg6)
          ∧ r.2.mem ((c.tc : Thread Cert.EdgeIdeal.nD Cert.EdgeIdeal.τ).loc Cert.EdgeIdeal.main_arg7) = m ((c.tc : Thread Cert.EdgeIdeal.nD Cert.EdgeIdeal.τ).loc Cert.EdgeIdeal.main_arg7)
          ∧ r.2.mem ((c.tc : Thread Cert.EdgeIdeal.nD Cert.EdgeIdeal.τ).loc Cert.EdgeIdeal.main_arg8) = m ((c.tc : Thread Cert.EdgeIdeal.nD Cert.EdgeIdeal.τ).loc Cert.EdgeIdeal.main_arg8)
          ∧ r.2.mem ((c.tc : Thread Cert.EdgeIdeal.nD Cert.EdgeIdeal.τ).loc Cert.EdgeIdeal.main_arg9) = m ((c.tc : Thread Cert.EdgeIdeal.nD Cert.EdgeIdeal.τ).loc Cert.EdgeIdeal.main_arg9))
      ∧ θ_run (Cert.EdgeReferenceIdeal.defs (F := Ideal)) (onTc (τ := Cert.EdgeReferenceIdeal.τ) (Cert.EdgeReferenceIdeal.main (F := Ideal))) ⟨m', fun _ => 0, g'⟩ (fun r => ∀ c : Dev Cert.EdgeReferenceIdeal.nD,
          r.2.mem ((c.tc : Thread Cert.EdgeReferenceIdeal.nD Cert.EdgeReferenceIdeal.τ).loc Cert.EdgeReferenceIdeal.main_v34) = v0 c
          ∧ r.2.mem ((c.tc : Thread Cert.EdgeReferenceIdeal.nD Cert.EdgeReferenceIdeal.τ).loc Cert.EdgeReferenceIdeal.main_arg0) = m' ((c.tc : Thread Cert.EdgeReferenceIdeal.nD Cert.EdgeReferenceIdeal.τ).loc Cert.EdgeReferenceIdeal.main_arg0)
          ∧ r.2.mem ((c.tc : Thread Cert.EdgeReferenceIdeal.nD Cert.EdgeReferenceIdeal.τ).loc Cert.EdgeReferenceIdeal.main_arg1) = m' ((c.tc : Thread Cert.EdgeReferenceIdeal.nD Cert.EdgeReferenceIdeal.τ).loc Cert.EdgeReferenceIdeal.main_arg1)
          ∧ r.2.mem ((c.tc : Thread Cert.EdgeReferenceIdeal.nD Cert.EdgeReferenceIdeal.τ).loc Cert.EdgeReferenceIdeal.main_arg2) = m' ((c.tc : Thread Cert.EdgeReferenceIdeal.nD Cert.EdgeReferenceIdeal.τ).loc Cert.EdgeReferenceIdeal.main_arg2)
          ∧ r.2.mem ((c.tc : Thread Cert.EdgeReferenceIdeal.nD Cert.EdgeReferenceIdeal.τ).loc Cert.EdgeReferenceIdeal.main_arg3) = m' ((c.tc : Thread Cert.EdgeReferenceIdeal.nD Cert.EdgeReferenceIdeal.τ).loc Cert.EdgeReferenceIdeal.main_arg3)
          ∧ r.2.mem ((c.tc : Thread Cert.EdgeReferenceIdeal.nD Cert.EdgeReferenceIdeal.τ).loc Cert.EdgeReferenceIdeal.main_arg4) = m' ((c.tc : Thread Cert.EdgeReferenceIdeal.nD Cert.EdgeReferenceIdeal.τ).loc Cert.EdgeReferenceIdeal.main_arg4)
          ∧ r.2.mem ((c.tc : Thread Cert.EdgeReferenceIdeal.nD Cert.EdgeReferenceIdeal.τ).loc Cert.EdgeReferenceIdeal.main_arg5) = m' ((c.tc : Thread Cert.EdgeReferenceIdeal.nD Cert.EdgeReferenceIdeal.τ).loc Cert.EdgeReferenceIdeal.main_arg5)
          ∧ r.2.mem ((c.tc : Thread Cert.EdgeReferenceIdeal.nD Cert.EdgeReferenceIdeal.τ).loc Cert.EdgeReferenceIdeal.main_arg6) = m' ((c.tc : Thread Cert.EdgeReferenceIdeal.nD Cert.EdgeReferenceIdeal.τ).loc Cert.EdgeReferenceIdeal.main_arg6)
          ∧ r.2.mem ((c.tc : Thread Cert.EdgeReferenceIdeal.nD Cert.EdgeReferenceIdeal.τ).loc Cert.EdgeReferenceIdeal.main_arg7) = m' ((c.tc : Thread Cert.EdgeReferenceIdeal.nD Cert.EdgeReferenceIdeal.τ).loc Cert.EdgeReferenceIdeal.main_arg7)
          ∧ r.2.mem ((c.tc : Thread Cert.EdgeReferenceIdeal.nD Cert.EdgeReferenceIdeal.τ).loc Cert.EdgeReferenceIdeal.main_arg8) = m' ((c.tc : Thread Cert.EdgeReferenceIdeal.nD Cert.EdgeReferenceIdeal.τ).loc Cert.EdgeReferenceIdeal.main_arg8)
          ∧ r.2.mem ((c.tc : Thread Cert.EdgeReferenceIdeal.nD Cert.EdgeReferenceIdeal.τ).loc Cert.EdgeReferenceIdeal.main_arg9) = m' ((c.tc : Thread Cert.EdgeReferenceIdeal.nD Cert.EdgeReferenceIdeal.τ).loc Cert.EdgeReferenceIdeal.main_arg9))

def preserves_Tail_TailIdeal : Prop :=
  True

def algebraic_TailIdeal_TailReferenceIdeal [hTailIdeal : Cert.TailIdeal.Facts] [hTailReferenceIdeal : Cert.TailReferenceIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)
      ∧ m' ((c.tc : Thread Cert.TailReferenceIdeal.nD Cert.TailReferenceIdeal.τ).loc Cert.TailReferenceIdeal.main_arg13) = m ((c.tc : Thread Cert.TailIdeal.nD Cert.TailIdeal.τ).loc Cert.TailIdeal.main_arg13)
      ∧ m' ((c.tc : Thread Cert.TailReferenceIdeal.nD Cert.TailReferenceIdeal.τ).loc Cert.TailReferenceIdeal.main_arg14) = m ((c.tc : Thread Cert.TailIdeal.nD Cert.TailIdeal.τ).loc Cert.TailIdeal.main_arg14)
      ∧ m' ((c.tc : Thread Cert.TailReferenceIdeal.nD Cert.TailReferenceIdeal.τ).loc Cert.TailReferenceIdeal.main_arg15) = m ((c.tc : Thread Cert.TailIdeal.nD Cert.TailIdeal.τ).loc Cert.TailIdeal.main_arg15)
      ∧ m' ((c.tc : Thread Cert.TailReferenceIdeal.nD Cert.TailReferenceIdeal.τ).loc Cert.TailReferenceIdeal.main_arg16) = m ((c.tc : Thread Cert.TailIdeal.nD Cert.TailIdeal.τ).loc Cert.TailIdeal.main_arg16)
      ∧ m' ((c.tc : Thread Cert.TailReferenceIdeal.nD Cert.TailReferenceIdeal.τ).loc Cert.TailReferenceIdeal.main_arg17) = m ((c.tc : Thread Cert.TailIdeal.nD Cert.TailIdeal.τ).loc Cert.TailIdeal.main_arg17)
      ∧ m' ((c.tc : Thread Cert.TailReferenceIdeal.nD Cert.TailReferenceIdeal.τ).loc Cert.TailReferenceIdeal.main_arg18) = m ((c.tc : Thread Cert.TailIdeal.nD Cert.TailIdeal.τ).loc Cert.TailIdeal.main_arg18)
      ∧ m' ((c.tc : Thread Cert.TailReferenceIdeal.nD Cert.TailReferenceIdeal.τ).loc Cert.TailReferenceIdeal.main_arg19) = m ((c.tc : Thread Cert.TailIdeal.nD Cert.TailIdeal.τ).loc Cert.TailIdeal.main_arg19)) →
    ∃ (v0 : (c : Dev Cert.TailIdeal.nD) → Buf (Elt Ideal) ((c.tc : Thread Cert.TailIdeal.nD Cert.TailIdeal.τ).loc Cert.TailIdeal.main_v44)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v44) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
          ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
          ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
          ∧ r.2.mem ((c.tc : Thread Cert.TailIdeal.nD Cert.TailIdeal.τ).loc Cert.TailIdeal.main_arg18) = m ((c.tc : Thread Cert.TailIdeal.nD Cert.TailIdeal.τ).loc Cert.TailIdeal.main_arg18)
          ∧ r.2.mem ((c.tc : Thread Cert.TailIdeal.nD Cert.TailIdeal.τ).loc Cert.TailIdeal.main_arg19) = m ((c.tc : Thread Cert.TailIdeal.nD Cert.TailIdeal.τ).loc Cert.TailIdeal.main_arg19))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v171) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12)
          ∧ r.2.mem ((c.tc : Thread Cert.TailReferenceIdeal.nD Cert.TailReferenceIdeal.τ).loc Cert.TailReferenceIdeal.main_arg13) = m' ((c.tc : Thread Cert.TailReferenceIdeal.nD Cert.TailReferenceIdeal.τ).loc Cert.TailReferenceIdeal.main_arg13)
          ∧ r.2.mem ((c.tc : Thread Cert.TailReferenceIdeal.nD Cert.TailReferenceIdeal.τ).loc Cert.TailReferenceIdeal.main_arg14) = m' ((c.tc : Thread Cert.TailReferenceIdeal.nD Cert.TailReferenceIdeal.τ).loc Cert.TailReferenceIdeal.main_arg14)
          ∧ r.2.mem ((c.tc : Thread Cert.TailReferenceIdeal.nD Cert.TailReferenceIdeal.τ).loc Cert.TailReferenceIdeal.main_arg15) = m' ((c.tc : Thread Cert.TailReferenceIdeal.nD Cert.TailReferenceIdeal.τ).loc Cert.TailReferenceIdeal.main_arg15)
          ∧ r.2.mem ((c.tc : Thread Cert.TailReferenceIdeal.nD Cert.TailReferenceIdeal.τ).loc Cert.TailReferenceIdeal.main_arg16) = m' ((c.tc : Thread Cert.TailReferenceIdeal.nD Cert.TailReferenceIdeal.τ).loc Cert.TailReferenceIdeal.main_arg16)
          ∧ r.2.mem ((c.tc : Thread Cert.TailReferenceIdeal.nD Cert.TailReferenceIdeal.τ).loc Cert.TailReferenceIdeal.main_arg17) = m' ((c.tc : Thread Cert.TailReferenceIdeal.nD Cert.TailReferenceIdeal.τ).loc Cert.TailReferenceIdeal.main_arg17)
          ∧ r.2.mem ((c.tc : Thread Cert.TailReferenceIdeal.nD Cert.TailReferenceIdeal.τ).loc Cert.TailReferenceIdeal.main_arg18) = m' ((c.tc : Thread Cert.TailReferenceIdeal.nD Cert.TailReferenceIdeal.τ).loc Cert.TailReferenceIdeal.main_arg18)
          ∧ r.2.mem ((c.tc : Thread Cert.TailReferenceIdeal.nD Cert.TailReferenceIdeal.τ).loc Cert.TailReferenceIdeal.main_arg19) = m' ((c.tc : Thread Cert.TailReferenceIdeal.nD Cert.TailReferenceIdeal.τ).loc Cert.TailReferenceIdeal.main_arg19))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hGatherReference : Cert.GatherReference.Facts) (hRecords : Cert.Records.Facts) (hRecordsIdeal : Cert.RecordsIdeal.Facts) (hRecordsReferenceIdeal : Cert.RecordsReferenceIdeal.Facts) (hEdge : Cert.Edge.Facts) (hEdgeIdeal : Cert.EdgeIdeal.Facts) (hEdgeReferenceIdeal : Cert.EdgeReferenceIdeal.Facts) (hTail : Cert.Tail.Facts) (hTailIdeal : Cert.TailIdeal.Facts) (hTailReferenceIdeal : Cert.TailReferenceIdeal.Facts) (hPre_named_nodes : Cert.Pre_named_nodes.Facts) (hPre_named_scans : Cert.Pre_named_scans.Facts) (hPre_finite_edges : Cert.Pre_finite_edges.Facts) (hPre_finite_tail : Cert.Pre_finite_tail.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather) (hPre_named_nodes := hPre_named_nodes)
    ∧ quiescent_GatherIdeal (hGatherIdeal := hGatherIdeal) (hPre_named_nodes := hPre_named_nodes)
    ∧ quiescent_GatherReferenceIdeal (hGatherReferenceIdeal := hGatherReferenceIdeal) (hPre_named_nodes := hPre_named_nodes)
    ∧ quiescent_GatherReference (hGatherReference := hGatherReference) (hPre_named_nodes := hPre_named_nodes)
    ∧ quiescent_Records (hRecords := hRecords) (hPre_named_scans := hPre_named_scans)
    ∧ quiescent_RecordsIdeal (hRecordsIdeal := hRecordsIdeal) (hPre_named_scans := hPre_named_scans)
    ∧ quiescent_RecordsReferenceIdeal (hRecordsReferenceIdeal := hRecordsReferenceIdeal) (hPre_named_scans := hPre_named_scans)
    ∧ quiescent_Edge (hEdge := hEdge) (hPre_finite_edges := hPre_finite_edges)
    ∧ quiescent_EdgeIdeal (hEdgeIdeal := hEdgeIdeal) (hPre_finite_edges := hPre_finite_edges)
    ∧ quiescent_EdgeReferenceIdeal (hEdgeReferenceIdeal := hEdgeReferenceIdeal) (hPre_finite_edges := hPre_finite_edges)
    ∧ quiescent_Tail (hTail := hTail) (hPre_finite_tail := hPre_finite_tail)
    ∧ quiescent_TailIdeal (hTailIdeal := hTailIdeal) (hPre_finite_tail := hPre_finite_tail)
    ∧ quiescent_TailReferenceIdeal (hTailReferenceIdeal := hTailReferenceIdeal) (hPre_finite_tail := hPre_finite_tail)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_GatherReferenceIdeal (hGatherIdeal := hGatherIdeal) (hGatherReferenceIdeal := hGatherReferenceIdeal) (hPre_named_nodes := hPre_named_nodes)
    ∧ bitexact_Gather_GatherReference (hGather := hGather) (hGatherReference := hGatherReference) (hPre_named_nodes := hPre_named_nodes)
    ∧ preserves_Records_RecordsIdeal
    ∧ algebraic_RecordsIdeal_RecordsReferenceIdeal (hRecordsIdeal := hRecordsIdeal) (hRecordsReferenceIdeal := hRecordsReferenceIdeal) (hPre_named_scans := hPre_named_scans)
    ∧ preserves_Edge_EdgeIdeal
    ∧ algebraic_EdgeIdeal_EdgeReferenceIdeal (hEdgeIdeal := hEdgeIdeal) (hEdgeReferenceIdeal := hEdgeReferenceIdeal) (hPre_finite_edges := hPre_finite_edges)
    ∧ preserves_Tail_TailIdeal
    ∧ algebraic_TailIdeal_TailReferenceIdeal (hTailIdeal := hTailIdeal) (hTailReferenceIdeal := hTailReferenceIdeal) (hPre_finite_tail := hPre_finite_tail)
-- ==== Pre_finite_edges.lean ====
abbrev S800000x16 : Shape := ⟨2, ![800000, 16]⟩
abbrev S12x64 : Shape := ⟨2, ![12, 64]⟩
abbrev S64 : Shape := ⟨1, ![64]⟩
abbrev S64x128 : Shape := ⟨2, ![64, 128]⟩
abbrev S128 : Shape := ⟨1, ![128]⟩
abbrev S800000x3 : Shape := ⟨2, ![800000, 3]⟩
abbrev S_ : Shape := ⟨0, ![]⟩
abbrev S3x64 : Shape := ⟨2, ![3, 64]⟩

class Facts : Prop where
  slices_S800000x16_S800000x3_0_9 : S800000x16.Slices ![0, 9] S800000x3
  bcast_S_S800000x3 : S_.BroadcastsInDim S800000x3 (![] : Fin 0 → Fin S800000x3.rank)
  reducesTo_S800000x3_S_d0_1 : S800000x3.ReducesTo [0, 1] S_
  h_S_ : 0 < S_.numel
  slices_S12x64_S3x64_9_0 : S12x64.Slices ![9, 0] S3x64
  bcast_S_S3x64 : S_.BroadcastsInDim S3x64 (![] : Fin 0 → Fin S3x64.rank)
  reducesTo_S3x64_S_d0_1 : S3x64.ReducesTo [0, 1] S_

variable [Facts]

def fn {F : FTy → Type} [FloatOps F] (main_arg0 : FVec F S800000x16 .f32) (main_arg1 : FVec F S800000x16 .f32) (main_arg2 : FVec F S12x64 .f32) (main_arg3 : FVec F S64 .f32) (main_arg4 : FVec F S64 .f32) (main_arg5 : FVec F S64 .f32) (main_arg6 : FVec F S64x128 .f32) (main_arg7 : FVec F S128 .f32) (main_arg8 : FVec F S128 .f32) (main_arg9 : FVec F S128 .f32) : IVec S_ 1 :=
  let main_v0 : FVec F S800000x3 .f32 := (extractStridedSlice S800000x3 ![0, 9] · slices_S800000x16_S800000x3_0_9) main_arg1
  let main_v1 : FVec F S800000x3 .f32 := Host.absf main_v0
  let main_cst : FVec F S_ .f32 := constant S_ .f32 0x7F800000#32
  let main_v2 : FVec F S800000x3 .f32 := broadcastInDim S800000x3 ![] bcast_S_S800000x3 main_cst
  let main_v3 : IVec S800000x3 1 := cmpf .olt main_v1 main_v2
  let main_c : IVec S_ 1 := constantI S_ 1 1#1
  let main_v4 : IVec S_ 1 := (fun x v => Host.reduce IntOp.andi x v reducesTo_S800000x3_S_d0_1 h_S_) main_v3 main_c
  let main_v5 : FVec F S3x64 .f32 := (extractStridedSlice S3x64 ![9, 0] · slices_S12x64_S3x64_9_0) main_arg2
  let main_v6 : FVec F S3x64 .f32 := Host.absf main_v5
  let main_cst_0 : FVec F S_ .f32 := constant S_ .f32 0x7F800000#32
  let main_v7 : FVec F S3x64 .f32 := broadcastInDim S3x64 ![] bcast_S_S3x64 main_cst_0
  let main_v8 : IVec S3x64 1 := cmpf .olt main_v6 main_v7
  let main_c_1 : IVec S_ 1 := constantI S_ 1 1#1
  let main_v9 : IVec S_ 1 := (fun x v => Host.reduce IntOp.andi x v reducesTo_S3x64_S_d0_1 h_S_) main_v8 main_c_1
  let main_v10 : IVec S_ 1 := andi main_v4 main_v9
  main_v10
-- ==== Pre_finite_tail.lean ====
abbrev S50000x128 : Shape := ⟨2, ![50000, 128]⟩
abbrev S50000 : Shape := ⟨1, ![50000]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S128x32 : Shape := ⟨2, ![128, 32]⟩
abbrev S32x128 : Shape := ⟨2, ![32, 128]⟩
abbrev S128x16 : Shape := ⟨2, ![128, 16]⟩
abbrev S16 : Shape := ⟨1, ![16]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v5 : IVec S_ 1) (main_v8 : IVec S_ 1) (main_v22 : IVec S_ 1) (main_v41 : IVec S_ 1) (main_v60 : IVec S_ 1) (main_v64 : IVec S_ 1) (main_v65 : FVec F S128 .f32) (main_cst_27 : FVec F S_ .f32) : IVec S_ 1 :=
  let main_v66 : FVec F S128 .f32 := broadcastInDim S128 ![] bcast_S_S128 main_cst_27
  let main_v67 : IVec S128 1 := cmpf .olt main_v65 main_v66
  let main_c_28 : IVec S_ 1 := constantI S_ 1 1#1
  let main_v68 : IVec S_ 1 := (fun x v => Host.reduce IntOp.andi x v reducesTo_S128_S_d0 h_S_) main_v67 main_c_28
  let main_v69 : IVec S_ 1 := andi main_v64 main_v68
  let main_v70 : IVec S_ 1 := andi main_v5 main_v8
  let main_v71 : IVec S_ 1 := andi main_v70 main_v22
  let main_v72 : IVec S_ 1 := andi main_v71 main_v41
  let main_v73 : IVec S_ 1 := andi main_v72 main_v60
  let main_v74 : IVec S_ 1 := andi main_v73 main_v69
  main_v74

def fn_part3 {F : FTy → Type} [FloatOps F] (main_arg11 : FVec F S512 .f32) (main_arg12 : FVec F S512 .f32) (main_arg13 : FVec F S512x128 .f32) (main_arg14 : FVec F S128 .f32) (main_v5 : IVec S_ 1) (main_v8 : IVec S_ 1) (main_v22 : IVec S_ 1) (main_v41 : IVec S_ 1) (main_v45 : IVec S_ 1) (main_v48 : IVec S512 1) (main_c_20 : IVec S_ 1) : IVec S_ 1 :=
  let main_v49 : IVec S_ 1 := (fun x v => Host.reduce IntOp.andi x v reducesTo_S512_S_d0 h_S_) main_v48 main_c_20
  let main_v50 : IVec S_ 1 := andi main_v45 main_v49
  let main_v51 : FVec F S512 .f32 := Host.absf main_arg11
  let main_cst_21 : FVec F S_ .f32 := constant S_ .f32 0x7F800000#32
  let main_v52 : FVec F S512 .f32 := broadcastInDim S512 ![] bcast_S_S512 main_cst_21
  let main_v53 : IVec S512 1 := cmpf .olt main_v51 main_v52
  let main_c_22 : IVec S_ 1 := constantI S_ 1 1#1
  let main_v54 : IVec S_ 1 := (fun x v => Host.reduce IntOp.andi x v reducesTo_S512_S_d0 h_S_) main_v53 main_c_22
  let main_v55 : IVec S_ 1 := andi main_v50 main_v54
  let main_v56 : FVec F S512 .f32 := Host.absf main_arg12
  let main_cst_23 : FVec F S_ .f32 := constant S_ .f32 0x7F800000#32
  let main_v57 : FVec F S512 .f32 := broadcastInDim S512 ![] bcast_S_S512 main_cst_23
  let main_v58 : IVec S512 1 := cmpf .olt main_v56 main_v57
  let main_c_24 : IVec S_ 1 := constantI S_ 1 1#1
  let main_v59 : IVec S_ 1 := (fun x v => Host.reduce IntOp.andi x v reducesTo_S512_S_d0 h_S_) main_v58 main_c_24
  let main_v60 : IVec S_ 1 := andi main_v55 main_v59
  let main_v61 : FVec F S512x128 .f32 := Host.absf main_arg13
  let main_cst_25 : FVec F S_ .f32 := constant S_ .f32 0x7F800000#32
  let main_v62 : FVec F S512x128 .f32 := broadcastInDim S512x128 ![] bcast_S_S512x128 main_cst_25
  let main_v63 : IVec S512x128 1 := cmpf .olt main_v61 main_v62
  let main_c_26 : IVec S_ 1 := constantI S_ 1 1#1
  let main_v64 : IVec S_ 1 := (fun x v => Host.reduce IntOp.andi x v reducesTo_S512x128_S_d0_1 h_S_) main_v63 main_c_26
  let main_v65 : FVec F S128 .f32 := Host.absf main_arg14
  let main_cst_27 : FVec F S_ .f32 := constant S_ .f32 0x7F800000#32
  fn_part4 (F := F) main_v5 main_v8 main_v22 main_v41 main_v60 main_v64 main_v65 main_cst_27

def fn_part2 {F : FTy → Type} [FloatOps F] (main_arg8 : FVec F S512 .f32) (main_arg9 : FVec F S512x512 .f32) (main_arg10 : FVec F S512 .f32) (main_arg11 : FVec F S512 .f32) (main_arg12 : FVec F S512 .f32) (main_arg13 : FVec F S512x128 .f32) (main_arg14 : FVec F S128 .f32) (main_v5 : IVec S_ 1) (main_v8 : IVec S_ 1) (main_v22 : IVec S_ 1) (main_v31 : IVec S_ 1) (main_v32 : FVec F S512 .f32) : IVec S_ 1 :=
  let main_cst_13 : FVec F S_ .f32 := constant S_ .f32 0x7F800000#32
  let main_v33 : FVec F S512 .f32 := broadcastInDim S512 ![] bcast_S_S512 main_cst_13
  let main_v34 : IVec S512 1 := cmpf .olt main_v32 main_v33
  let main_c_14 : IVec S_ 1 := constantI S_ 1 1#1
  let main_v35 : IVec S_ 1 := (fun x v => Host.reduce IntOp.andi x v reducesTo_S512_S_d0 h_S_) main_v34 main_c_14
  let main_v36 : IVec S_ 1 := andi main_v31 main_v35
  let main_v37 : FVec F S512 .f32 := Host.absf main_arg8
  let main_cst_15 : FVec F S_ .f32 := constant S_ .f32 0x7F800000#32
  let main_v38 : FVec F S512 .f32 := broadcastInDim S512 ![] bcast_S_S512 main_cst_15
  let main_v39 : IVec S512 1 := cmpf .olt main_v37 main_v38
  let main_c_16 : IVec S_ 1 := constantI S_ 1 1#1
  let main_v40 : IVec S_ 1 := (fun x v => Host.reduce IntOp.andi x v reducesTo_S512_S_d0 h_S_) main_v39 main_c_16
  let main_v41 : IVec S_ 1 := andi main_v36 main_v40
  let main_v42 : FVec F S512x512 .f32 := Host.absf main_arg9
  let main_cst_17 : FVec F S_ .f32 := constant S_ .f32 0x7F800000#32
  let main_v43 : FVec F S512x512 .f32 := broadcastInDim S512x512 ![] bcast_S_S512x512 main_cst_17
  let main_v44 : IVec S512x512 1 := cmpf .olt main_v42 main_v43
  let main_c_18 : IVec S_ 1 := constantI S_ 1 1#1
  let main_v45 : IVec S_ 1 := (fun x v => Host.reduce IntOp.andi x v reducesTo_S512x512_S_d0_1 h_S_) main_v44 main_c_18
  let main_v46 : FVec F S512 .f32 := Host.absf main_arg10
  let main_cst_19 : FVec F S_ .f32 := constant S_ .f32 0x7F800000#32
  let main_v47 : FVec F S512 .f32 := broadcastInDim S512 ![] bcast_S_S512 main_cst_19
  let main_v48 : IVec S512 1 := cmpf .olt main_v46 main_v47
  let main_c_20 : IVec S_ 1 := constantI S_ 1 1#1
  fn_part3 (F := F) main_arg11 main_arg12 main_arg13 main_arg14 main_v5 main_v8 main_v22 main_v41 main_v45 main_v48 main_c_20

def fn_part1 {F : FTy → Type} [FloatOps F] (main_arg4 : FVec F S512 .f32) (main_arg5 : FVec F S512 .f32) (main_arg6 : FVec F S512 .f32) (main_arg7 : FVec F S512 .f32) (main_arg8 : FVec F S512 .f32) (main_arg9 : FVec F S512x512 .f32) (main_arg10 : FVec F S512 .f32) (main_arg11 : FVec F S512 .f32) (main_arg12 : FVec F S512 .f32) (main_arg13 : FVec F S512x128 .f32) (main_arg14 : FVec F S128 .f32) (main_v5 : IVec S_ 1) (main_v8 : IVec S_ 1) (main_v12 : IVec S_ 1) (main_v15 : IVec S512 1) : IVec S_ 1 :=
  let main_c_6 : IVec S_ 1 := constantI S_ 1 1#1
  let main_v16 : IVec S_ 1 := (fun x v => Host.reduce IntOp.andi x v reducesTo_S512_S_d0 h_S_) main_v15 main_c_6
  let main_v17 : IVec S_ 1 := andi main_v12 main_v16
  let main_v18 : FVec F S512 .f32 := Host.absf main_arg4
  let main_cst_7 : FVec F S_ .f32 := constant S_ .f32 0x7F800000#32
  let main_v19 : FVec F S512 .f32 := broadcastInDim S512 ![] bcast_S_S512 main_cst_7
  let main_v20 : IVec S512 1 := cmpf .olt main_v18 main_v19
  let main_c_8 : IVec S_ 1 := constantI S_ 1 1#1
  let main_v21 : IVec S_ 1 := (fun x v => Host.reduce IntOp.andi x v reducesTo_S512_S_d0 h_S_) main_v20 main_c_8
  let main_v22 : IVec S_ 1 := andi main_v17 main_v21
  let main_v23 : FVec F S512 .f32 := Host.absf main_arg5
  let main_cst_9 : FVec F S_ .f32 := constant S_ .f32 0x7F800000#32
  let main_v24 : FVec F S512 .f32 := broadcastInDim S512 ![] bcast_S_S512 main_cst_9
  let main_v25 : IVec S512 1 := cmpf .olt main_v23 main_v24
  let main_c_10 : IVec S_ 1 := constantI S_ 1 1#1
  let main_v26 : IVec S_ 1 := (fun x v => Host.reduce IntOp.andi x v reducesTo_S512_S_d0 h_S_) main_v25 main_c_10
  let main_v27 : FVec F S512 .f32 := Host.absf main_arg6
  let main_cst_11 : FVec F S_ .f32 := constant S_ .f32 0x7F800000#32
  let main_v28 : FVec F S512 .f32 := broadcastInDim S512 ![] bcast_S_S512 main_cst_11
  let main_v29 : IVec S512 1 := cmpf .olt main_v27 main_v28
  let main_c_12 : IVec S_ 1 := constantI S_ 1 1#1
  let main_v30 : IVec S_ 1 := (fun x v => Host.reduce IntOp.andi x v reducesTo_S512_S_d0 h_S_) main_v29 main_c_12
  let main_v31 : IVec S_ 1 := andi main_v26 main_v30
  let main_v32 : FVec F S512 .f32 := Host.absf main_arg7
  fn_part2 (F := F) main_arg8 main_arg9 main_arg10 main_arg11 main_arg12 main_arg13 main_arg14 main_v5 main_v8 main_v22 main_v31 main_v32

def fn {F : FTy → Type} [FloatOps F] (main_arg0 : FVec F S50000x128 .f32) (main_arg1 : IVec S50000 32) (main_arg2 : FVec F S128x512 .f32) (main_arg3 : FVec F S512 .f32) (main_arg4 : FVec F S512 .f32) (main_arg5 : FVec F S512 .f32) (main_arg6 : FVec F S512 .f32) (main_arg7 : FVec F S512 .f32) (main_arg8 : FVec F S512 .f32) (main_arg9 : FVec F S512x512 .f32) (main_arg10 : FVec F S512 .f32) (main_arg11 : FVec F S512 .f32) (main_arg12 : FVec F S512 .f32) (main_arg13 : FVec F S512x128 .f32) (main_arg14 : FVec F S128 .f32) (main_arg15 : FVec F S128 .f32) (main_arg16 : FVec F S128x32 .f32) (main_arg17 : FVec F S32x128 .f32) (main_arg18 : FVec F S128x16 .f32) (main_arg19 : FVec F S16 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 4#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  let main_cst : FVec F S_ .f32 := constant S_ .f32 0x7F800000#32
  let main_v6 : FVec F S50000x128 .f32 := broadcastInDim S50000x128 ![] bcast_S_S50000x128 main_cst
  let main_v7 : IVec S50000x128 1 := cmpf .olt main_arg0 main_v6
  let main_c_2 : IVec S_ 1 := constantI S_ 1 1#1
  let main_v8 : IVec S_ 1 := (fun x v => Host.reduce IntOp.andi x v reducesTo_S50000x128_S_d0_1 h_S_) main_v7 main_c_2
  let main_v9 : FVec F S128x512 .f32 := Host.absf main_arg2
  let main_cst_3 : FVec F S_ .f32 := constant S_ .f32 0x7F800000#32
  let main_v10 : FVec F S128x512 .f32 := broadcastInDim S128x512 ![] bcast_S_S128x512 main_cst_3
  let main_v11 : IVec S128x512 1 := cmpf .olt main_v9 main_v10
  let main_c_4 : IVec S_ 1 := constantI S_ 1 1#1
  let main_v12 : IVec S_ 1 := (fun x v => Host.reduce IntOp.andi x v reducesTo_S128x512_S_d0_1 h_S_) main_v11 main_c_4
  let main_v13 : FVec F S512 .f32 := Host.absf main_arg3
  let main_cst_5 : FVec F S_ .f32 := constant S_ .f32 0x7F800000#32
  let main_v14 : FVec F S512 .f32 := broadcastInDim S512 ![] bcast_S_S512 main_cst_5
  let main_v15 : IVec S512 1 := cmpf .olt main_v13 main_v14
  fn_part1 (F := F) main_arg4 main_arg5 main_arg6 main_arg7 main_arg8 main_arg9 main_arg10 main_arg11 main_arg12 main_arg13 main_arg14 main_v5 main_v8 main_v12 main_v15
-- ==== Pre_named_nodes.lean ====
abbrev S50000x16 : Shape := ⟨2, ![50000, 16]⟩
abbrev S800000 : Shape := ⟨1, ![800000]⟩
abbrev S_ : Shape := ⟨0, ![]⟩

class Facts : Prop where
  bcast_S_S800000 : S_.BroadcastsInDim S800000 (![] : Fin 0 → Fin S800000.rank)

variable [Facts]

def fn {F : FTy → Type} [FloatOps F] (main_arg0 : FVec F S50000x16 .f32) (main_arg1 : IVec S800000 32) (main_arg2 : IVec S800000 32) : IVec S800000 1 :=
  let main_c : IVec S_ 32 := constantI S_ 32 0#32
  let main_v0 : IVec S800000 32 := broadcastInDim S800000 ![] bcast_S_S800000 main_c
  let main_v1 : IVec S800000 1 := cmpi .sge main_arg1 main_v0
  let main_c_0 : IVec S_ 32 := constantI S_ 32 50000#32
  let main_v2 : IVec S800000 32 := broadcastInDim S800000 ![] bcast_S_S800000 main_c_0
  let main_v3 : IVec S800000 1 := cmpi .slt main_arg1 main_v2
  let main_v4 : IVec S800000 1 := andi main_v1 main_v3
  let main_c_1 : IVec S_ 32 := constantI S_ 32 0#32
  let main_v5 : IVec S800000 32 := broadcastInDim S800000 ![] bcast_S_S800000 main_c_1
  let main_v6 : IVec S800000 1 := cmpi .sge main_arg2 main_v5
  let main_v7 : IVec S800000 1 := andi main_v4 main_v6
  let main_c_2 : IVec S_ 32 := constantI S_ 32 50000#32
  let main_v8 : IVec S800000 32 := broadcastInDim S800000 ![] bcast_S_S800000 main_c_2
  let main_v9 : IVec S800000 1 := cmpi .slt main_arg2 main_v8
  let main_v10 : IVec S800000 1 := andi main_v7 main_v9
  main_v10
-- ==== Pre_named_scans.lean ====
abbrev S50000x8 : Shape := ⟨2, ![50000, 8]⟩
abbrev S50000x3 : Shape := ⟨2, ![50000, 3]⟩
abbrev S50000 : Shape := ⟨1, ![50000]⟩
abbrev S4 : Shape := ⟨1, ![4]⟩
abbrev S_ : Shape := ⟨0, ![]⟩

class Facts : Prop where
  bcast_S_S50000 : S_.BroadcastsInDim S50000 (![] : Fin 0 → Fin S50000.rank)

variable [Facts]

def fn {F : FTy → Type} [FloatOps F] (main_arg0 : FVec F S50000x8 .f32) (main_arg1 : FVec F S50000x3 .f32) (main_arg2 : FVec F S50000 .f32) (main_arg3 : FVec F S4 .f32) (main_arg4 : IVec S50000 32) : IVec S50000 1 :=
  let main_c : IVec S_ 32 := constantI S_ 32 0#32
  let main_v0 : IVec S50000 32 := broadcastInDim S50000 ![] bcast_S_S50000 main_c
  let main_v1 : IVec S50000 1 := cmpi .sge main_arg4 main_v0
  let main_c_0 : IVec S_ 32 := constantI S_ 32 4#32
  let main_v2 : IVec S50000 32 := broadcastInDim S50000 ![] bcast_S_S50000 main_c_0
  let main_v3 : IVec S50000 1 := cmpi .slt main_arg4 main_v2
  let main_v4 : IVec S50000 1 := andi main_v1 main_v3
  main_v4
-- ==== Kernel.lean ====
abbrev S800000x128 : Shape := ⟨2, ![800000, 128]⟩
abbrev S800000 : Shape := ⟨1, ![800000]⟩
abbrev S50176x128 : Shape := ⟨2, ![50176, 128]⟩
abbrev S784x128 : Shape := ⟨2, ![784, 128]⟩
abbrev S2000 : Shape := ⟨1, ![2000]⟩
abbrev S2064 : Shape := ⟨1, ![2064]⟩
abbrev S48x128 : Shape := ⟨2, ![48, 128]⟩
abbrev S_ : Shape := ⟨0, ![]⟩
abbrev S16 : Shape := ⟨1, ![16]⟩
abbrev S1x16 : Shape := ⟨2, ![1, 16]⟩
abbrev S1 : Shape := ⟨1, ![1]⟩
abbrev S48 : Shape := ⟨1, ![48]⟩

abbrev nBuf : Table → Nat
  | .hbm => 3
  | .local .scVector .vmem => 5
  | _ => 0

abbrev bufTy : (tb : Table) → Fin (nBuf tb) → BufTy
  | .hbm, ⟨0, _⟩ => ⟨S800000x128, .f32⟩
  | .hbm, ⟨1, _⟩ => ⟨S800000, .i32⟩
  | .hbm, ⟨2, _⟩ => ⟨S50176x128, .f32⟩
  | .local .scVector .vmem, ⟨0, _⟩ => ⟨S784x128, .f32⟩
  | .local .scVector .vmem, ⟨1, _⟩ => ⟨S2000, .i32⟩
  | .local .scVector .vmem, ⟨2, _⟩ => ⟨S2064, .i32⟩
  | .local .scVector .vmem, ⟨3, _⟩ => ⟨S2064, .i32⟩
  | .local .scVector .vmem, ⟨4, _⟩ => ⟨S48x128, .f32⟩
  | _, _ => ⟨S800000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c129_i32 : BitVec 32 := 129#32
  let v3 : BitVec 32 := Scalar.addi c0_i32_0 c129_i32
  let c1_i32 : BitVec 32 := 1#32
  ⟨c0_i32_0, v3, c1_i32⟩
def k0_off1 (k0_t1 : Fin k0_t1_loop.trips) : Fin 1 → Nat :=
  let c0_i32_0 : BitVec 32 := 0#32
  let c1_i32 : BitVec 32 := 1#32
  let arg11 : BitVec 32 := Scf.iv c0_i32_0 c1_i32 k0_t1
  let c16_i32_12 : BitVec 32 := 16#32
  let v30 : BitVec 32 := Scalar.muli arg11 c16_i32_12
  let v31 : Index := Scalar.indexCast v30
  ![v31.toNat]
@[reducible] def k0_t2_loop : Scf.Loop 32 :=
  let c0_i32_3 : BitVec 32 := 0#32
  let c2_i32_4 : BitVec 32 := 2#32
  let v4 : BitVec 32 := Scalar.addi c0_i32_3 c2_i32_4
  let c1_i32_5 : BitVec 32 := 1#32
  ⟨c0_i32_3, v4, c1_i32_5⟩
@[reducible] def k0_t3_loop : Scf.Loop 32 :=
  let c0_i32_8 : BitVec 32 := 0#32
  let c784_i32_9 : BitVec 32 := 784#32
  let v8 : BitVec 32 := Scalar.addi c0_i32_8 c784_i32_9
  let c1_i32_10 : BitVec 32 := 1#32
  ⟨c0_i32_8, v8, c1_i32_10⟩
def k0_off2 (k0_t3 : Fin k0_t3_loop.trips) : Fin 2 → Nat :=
  let c0_i32_8 : BitVec 32 := 0#32
  let c1_i32_10 : BitVec 32 := 1#32
  let arg12 : BitVec 32 := Scf.iv c0_i32_8 c1_i32_10 k0_t3
  let v10 : Index := Scalar.indexCast arg12
  let c0 : Index := 0#32
  ![v10.toNat, 0]
def k0_off3 (k0_t3 : Fin k0_t3_loop.trips) : Fin 2 → Nat :=
  let c0_i32_8 : BitVec 32 := 0#32
  let c1_i32_10 : BitVec 32 := 1#32
  let arg12 : BitVec 32 := Scf.iv c0_i32_8 c1_i32_10 k0_t3
  let v12 : Index := Scalar.indexCast arg12
  let c16 : Index := 16#32
  ![v12.toNat, 16]
def k0_off4 (k0_t3 : Fin k0_t3_loop.trips) : Fin 2 → Nat :=
  let c0_i32_8 : BitVec 32 := 0#32
  let c1_i32_10 : BitVec 32 := 1#32
  let arg12 : BitVec 32 := Scf.iv c0_i32_8 c1_i32_10 k0_t3
  let v14 : Index := Scalar.indexCast arg12
  let c32 : Index := 32#32
  ![v14.toNat, 32]
def k0_off5 (k0_t3 : Fin k0_t3_loop.trips) : Fin 2 → Nat :=
  let c0_i32_8 : BitVec 32 := 0#32
  let c1_i32_10 : BitVec 32 := 1#32
  let arg12 : BitVec 32 := Scf.iv c0_i32_8 c1_i32_10 k0_t3
  let v16 : Index := Scalar.indexCast arg12
  let c48 : Index := 48#32
  ![v16.toNat, 48]
def k0_off6 (k0_t3 : Fin k0_t3_loop.trips) : Fin 2 → Nat :=
  let c0_i32_8 : BitVec 32 := 0#32
  let c1_i32_10 : BitVec 32 := 1#32
  let arg12 : BitVec 32 := Scf.iv c0_i32_8 c1_i32_10 k0_t3
  let v18 : Index := Scalar.indexCast arg12
  let c64 : Index := 64#32
  ![v18.toNat, 64]
def k0_off7 (k0_t3 : Fin k0_t3_loop.trips) : Fin 2 → Nat :=
  let c0_i32_8 : BitVec 32 := 0#32
  let c1_i32_10 : BitVec 32 := 1#32
  let arg12 : BitVec 32 := Scf.iv c0_i32_8 c1_i32_10 k0_t3
  let v20 : Index := Scalar.indexCast arg12
  let c80 : Index := 80#32
  ![v20.toNat, 80]
def k0_off8 (k0_t3 : Fin k0_t3_loop.trips) : Fin 2 → Nat :=
  let c0_i32_8 : BitVec 32 := 0#32
  let c1_i32_10 : BitVec 32 := 1#32
  let arg12 : BitVec 32 := Scf.iv c0_i32_8 c1_i32_10 k0_t3
  let v22 : Index := Scalar.indexCast arg12
  let c96 : Index := 96#32
  ![v22.toNat, 96]
def k0_off9 (k0_t3 : Fin k0_t3_loop.trips) : Fin 2 → Nat :=
  let c0_i32_8 : BitVec 32 := 0#32
  let c1_i32_10 : BitVec 32 := 1#32
  let arg12 : BitVec 32 := Scf.iv c0_i32_8 c1_i32_10 k0_t3
  let v24 : Index := Scalar.indexCast arg12
  let c112 : Index := 112#32
  ![v24.toNat, 112]
@[reducible] def k0_t4_loop : Scf.Loop 32 :=
  let c0_i32_13 : BitVec 32 := 0#32
  let c400_i32 : BitVec 32 := 400#32
  let v9 : BitVec 32 := Scalar.addi c0_i32_13 c400_i32
  let c1_i32_14 : BitVec 32 := 1#32
  ⟨c0_i32_13, v9, c1_i32_14⟩
def k0_off10 (k0_t4 : Fin k0_t4_loop.trips) : Fin 1 → Nat :=
  let c0_i32_13 : BitVec 32 := 0#32
  let c1_i32_14 : BitVec 32 := 1#32
  let arg12 : BitVec 32 := Scf.iv c0_i32_13 c1_i32_14 k0_t4
  let c2000_i32 : BitVec 32 := 2000#32
  let v10 : BitVec 32 := Scalar.muli arg12 c2000_i32
  ![v10.toNat]
@[reducible] def k0_t5_loop : Scf.Loop 32 :=
  let c0_i32_17 : BitVec 32 := 0#32
  let c125_i32 : BitVec 32 := 125#32
  let v11 : BitVec 32 := Scalar.addi c0_i32_17 c125_i32
  let c1_i32_18 : BitVec 32 := 1#32
  ⟨c0_i32_17, v11, c1_i32_18⟩
def k0_off11 (k0_t5 : Fin k0_t5_loop.trips) : Fin 1 → Nat :=
  let c0_i32_17 : BitVec 32 := 0#32
  let c1_i32_18 : BitVec 32 := 1#32
  let arg13 : BitVec 32 := Scf.iv c0_i32_17 c1_i32_18 k0_t5
  let c16_i32 : BitVec 32 := 16#32
  let v37 : BitVec 32 := Scalar.muli arg13 c16_i32
  let v38 : Index := Scalar.indexCast v37
  ![v38.toNat]

def k0_chk1 (v61 : IVec S16 32) : Prop :=
  (∀ a x, ((![v61] : Fin 1 → IVec S16 32) a x).toNat < S2064.size a) ∧
  (∀ a x, ((![v61] : Fin 1 → IVec S16 32) a x).toNat < S2064.size a)
theorem k0_idx1_inb : ∀ (v61 : IVec S16 32) (k0_hw1 : k0_chk1 v61), ∀ a x, ((![v61] : Fin 1 → IVec S16 32) a x).toNat < S2064.size a := fun v61 k0_hw1 => k0_hw1.1
theorem k0_idx2_inb : ∀ (v61 : IVec S16 32) (k0_hw1 : k0_chk1 v61), ∀ a x, ((![v61] : Fin 1 → IVec S16 32) a x).toNat < S2064.size a := fun v61 k0_hw1 => k0_hw1.2
@[reducible] def k0_t6_loop (v12 : BitVec 32) : Scf.Loop 32 :=
  let c0_i32_29 : BitVec 32 := 0#32
  let c48_i32 : BitVec 32 := 48#32
  let v13 : BitVec 32 := Scalar.addi v12 c48_i32
  let c1_i32_20 : BitVec 32 := 1#32
  let v14 : BitVec 32 := Scalar.subi v13 c1_i32_20
  let c0_i32_22 : BitVec 32 := 0#32
  let v16 : BitVec 1 := Scalar.cmpi .sgt v14 c0_i32_22
  let v17 : BitVec 32 := Scalar.extui v16
  let c0_i32_23 : BitVec 32 := 0#32
  let v18 : BitVec 1 := Scalar.cmpi .slt v14 c0_i32_23
  let v19 : BitVec 32 := Scalar.extui v18
  let v20 : BitVec 32 := Scalar.subi v17 v19
  let c48_i32_21 : BitVec 32 := 48#32
  let c0_i32_24 : BitVec 32 := 0#32
  let v21 : BitVec 1 := Scalar.cmpi .sgt c48_i32_21 c0_i32_24
  let v22 : BitVec 32 := Scalar.extui v21
  let c0_i32_25 : BitVec 32 := 0#32
  let v23 : BitVec 1 := Scalar.cmpi .slt c48_i32_21 c0_i32_25
  let v24 : BitVec 32 := Scalar.extui v23
  let v25 : BitVec 32 := Scalar.subi v22 v24
  let v26 : BitVec 1 := Scalar.cmpi .ne v20 v25
  let v27 : BitVec 32 := Scalar.remsi v14 c48_i32_21
  let c0_i32_26 : BitVec 32 := 0#32
  let v28 : BitVec 1 := Scalar.cmpi .ne v27 c0_i32_26
  let v29 : BitVec 1 := Scalar.andi v26 v28
  let v15 : BitVec 32 := Scalar.divsi v14 c48_i32_21
  let c1_i32_27 : BitVec 32 := 1#32
  let v30 : BitVec 32 := Scalar.subi v15 c1_i32_27
  let v31 : BitVec 32 := Scalar.select v29 v30 v15
  let v32 : BitVec 32 := Scalar.subi v31 c0_i32_29
  let c1_i32_30 : BitVec 32 := 1#32
  let v34 : BitVec 32 := Scalar.divsi v32 c1_i32_30
  let v35 : BitVec 32 := Scalar.muli v34 c1_i32_30
  let v36 : BitVec 32 := Scalar.addi c0_i32_29 v35
  let c1_i32_31 : BitVec 32 := 1#32
  ⟨c0_i32_29, v36, c1_i32_31⟩

def k0_off12 (v12 : BitVec 32) (k0_t6 : Fin (k0_t6_loop v12).trips) : Fin 1 → Nat :=
  let c0_i32_29 : BitVec 32 := 0#32
  let c1_i32_31 : BitVec 32 := 1#32
  let arg13 : BitVec 32 := Scf.iv c0_i32_29 c1_i32_31 k0_t6
  let c48_i32_33 : BitVec 32 := 48#32
  let v37 : BitVec 32 := Scalar.muli arg13 c48_i32_33
  ![v37.toNat]
@[reducible] def k0_t7_loop (v12 : BitVec 32) (k0_t6 : Fin (k0_t6_loop v12).trips) : Scf.Loop 32 :=
  let c0_i32_41 : BitVec 32 := 0#32
  let c48_i32_39 : BitVec 32 := 48#32
  let c0_i32_29 : BitVec 32 := 0#32
  let c1_i32_31 : BitVec 32 := 1#32
  let arg13 : BitVec 32 := Scf.iv c0_i32_29 c1_i32_31 k0_t6
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_43 : BitVec 32 := 1#32
  ⟨c0_i32_41, v49, c1_i32_43⟩
def k0_off13 (v12 : BitVec 32) (k0_t6 : Fin (k0_t6_loop v12).trips) (k0_t7 : Fin (k0_t7_loop v12 k0_t6).trips) : Fin 1 → Nat :=
  let c0_i32_29 : BitVec 32 := 0#32
  let c1_i32_31 : BitVec 32 := 1#32
  let arg13 : BitVec 32 := Scf.iv c0_i32_29 c1_i32_31 k0_t6
  let c48_i32_45 : BitVec 32 := 48#32
  let v50 : BitVec 32 := Scalar.muli arg13 c48_i32_45
  let c0_i32_41 : BitVec 32 := 0#32
  let c1_i32_43 : BitVec 32 := 1#32
  let arg14 : BitVec 32 := Scf.iv c0_i32_41 c1_i32_43 k0_t7
  let v51 : BitVec 32 := Scalar.addi v50 arg14
  let v52 : Index := Scalar.indexCast v51
  ![v52.toNat]
def k0_off14 (v55 : BitVec 32) : Fin 2 → Nat :=
  let v56 : Index := Scalar.indexCast v55
  let c0 : Index := 0#32
  ![v56.toNat, 0]

def k0_off15 (v12 : BitVec 32) (k0_t6 : Fin (k0_t6_loop v12).trips) (k0_t7 : Fin (k0_t7_loop v12 k0_t6).trips) : Fin 2 → Nat :=
  let c0_i32_41 : BitVec 32 := 0#32
  let c1_i32_43 : BitVec 32 := 1#32
  let arg14 : BitVec 32 := Scf.iv c0_i32_41 c1_i32_43 k0_t7
  let v58 : Index := Scalar.indexCast arg14
  let c0_46 : Index := 0#32
  ![v58.toNat, 0]
def k0_off16 (v55 : BitVec 32) : Fin 2 → Nat :=
  let v63 : Index := Scalar.indexCast v55
  let c16 : Index := 16#32
  ![v63.toNat, 16]
def k0_off17 (v12 : BitVec 32) (k0_t6 : Fin (k0_t6_loop v12).trips) (k0_t7 : Fin (k0_t7_loop v12 k0_t6).trips) : Fin 2 → Nat :=
  let c0_i32_41 : BitVec 32 := 0#32
  let c1_i32_43 : BitVec 32 := 1#32
  let arg14 : BitVec 32 := Scf.iv c0_i32_41 c1_i32_43 k0_t7
  let v65 : Index := Scalar.indexCast arg14
  let c16_48 : Index := 16#32
  ![v65.toNat, 16]
def k0_off18 (v55 : BitVec 32) : Fin 2 → Nat :=
  let v70 : Index := Scalar.indexCast v55
  let c32 : Index := 32#32
  ![v70.toNat, 32]
def k0_off19 (v12 : BitVec 32) (k0_t6 : Fin (k0_t6_loop v12).trips) (k0_t7 : Fin (k0_t7_loop v12 k0_t6).trips) : Fin 2 → Nat :=
  let c0_i32_41 : BitVec 32 := 0#32
  let c1_i32_43 : BitVec 32 := 1#32
  let arg14 : BitVec 32 := Scf.iv c0_i32_41 c1_i32_43 k0_t7
  let v72 : Index := Scalar.indexCast arg14
  let c32_50 : Index := 32#32
  ![v72.toNat, 32]
def k0_off20 (v55 : BitVec 32) : Fin 2 → Nat :=
  let v77 : Index := Scalar.indexCast v55
  let c48 : Index := 48#32
  ![v77.toNat, 48]
def k0_off21 (v12 : BitVec 32) (k0_t6 : Fin (k0_t6_loop v12).trips) (k0_t7 : Fin (k0_t7_loop v12 k0_t6).trips) : Fin 2 → Nat :=
  let c0_i32_41 : BitVec 32 := 0#32
  let c1_i32_43 : BitVec 32 := 1#32
  let arg14 : BitVec 32 := Scf.iv c0_i32_41 c1_i32_43 k0_t7
  let v79 : Index := Scalar.indexCast arg14
  let c48_52 : Index := 48#32
  ![v79.toNat, 48]
def k0_off22 (v55 : BitVec 32) : Fin 2 → Nat :=
  let v84 : Index := Scalar.indexCast v55
  let c64 : Index := 64#32
  ![v84.toNat, 64]
def k0_off23 (v12 : BitVec 32) (k0_t6 : Fin (k0_t6_loop v12).trips) (k0_t7 : Fin (k0_t7_loop v12 k0_t6).trips) : Fin 2 → Nat :=
  let c0_i32_41 : BitVec 32 := 0#32
  let c1_i32_43 : BitVec 32 := 1#32
  let arg14 : BitVec 32 := Scf.iv c0_i32_41 c1_i32_43 k0_t7
  let v86 : Index := Scalar.indexCast arg14
  let c64_54 : Index := 64#32
  ![v86.toNat, 64]
def k0_off24 (v55 : BitVec 32) : Fin 2 → Nat :=
  let v91 : Index := Scalar.indexCast v55
  let c80 : Index := 80#32
  ![v91.toNat, 80]
def k0_off25 (v12 : BitVec 32) (k0_t6 : Fin (k0_t6_loop v12).trips) (k0_t7 : Fin (k0_t7_loop v12 k0_t6).trips) : Fin 2 → Nat :=
  let c0_i32_41 : BitVec 32 := 0#32
  let c1_i32_43 : BitVec 32 := 1#32
  let arg14 : BitVec 32 := Scf.iv c0_i32_41 c1_i32_43 k0_t7
  let v93 : Index := Scalar.indexCast arg14
  let c80_56 : Index := 80#32
  ![v93.toNat, 80]
def k0_off26 (v55 : BitVec 32) : Fin 2 → Nat :=
  let v98 : Index := Scalar.indexCast v55
  let c96 : Index := 96#32
  ![v98.toNat, 96]
def k0_off27 (v12 : BitVec 32) (k0_t6 : Fin (k0_t6_loop v12).trips) (k0_t7 : Fin (k0_t7_loop v12 k0_t6).trips) : Fin 2 → Nat :=
  let c0_i32_41 : BitVec 32 := 0#32
  let c1_i32_43 : BitVec 32 := 1#32
  let arg14 : BitVec 32 := Scf.iv c0_i32_41 c1_i32_43 k0_t7
  let v100 : Index := Scalar.indexCast arg14
  let c96_58 : Index := 96#32
  ![v100.toNat, 96]
def k0_off28 (v55 : BitVec 32) : Fin 2 → Nat :=
  let v105 : Index := Scalar.indexCast v55
  let c112 : Index := 112#32
  ![v105.toNat, 112]

def k0_chk3 (v55 : BitVec 32) : Prop :=
  (∀ a, (k0_off14 v55) a + S1x16.size a ≤ S784x128.size a) ∧
  (∀ a, (k0_off16 v55) a + S1x16.size a ≤ S784x128.size a) ∧
  (∀ a, (k0_off18 v55) a + S1x16.size a ≤ S784x128.size a) ∧
  (∀ a, (k0_off20 v55) a + S1x16.size a ≤ S784x128.size a) ∧
  (∀ a, (k0_off22 v55) a + S1x16.size a ≤ S784x128.size a) ∧
  (∀ a, (k0_off24 v55) a + S1x16.size a ≤ S784x128.size a) ∧
  (∀ a, (k0_off26 v55) a + S1x16.size a ≤ S784x128.size a) ∧
  (∀ a, (k0_off28 v55) a + S1x16.size a ≤ S784x128.size a)
theorem k0_off14_inb : ∀ (v55 : BitVec 32) (k0_hw3 : k0_chk3 v55), ∀ a, (k0_off14 v55) a + S1x16.size a ≤ S784x128.size a := fun v55 k0_hw3 => k0_hw3.1
theorem k0_off16_inb : ∀ (v55 : BitVec 32) (k0_hw3 : k0_chk3 v55), ∀ a, (k0_off16 v55) a + S1x16.size a ≤ S784x128.size a := fun v55 k0_hw3 => k0_hw3.2.1
theorem k0_off18_inb : ∀ (v55 : BitVec 32) (k0_hw3 : k0_chk3 v55), ∀ a, (k0_off18 v55) a + S1x16.size a ≤ S784x128.size a := fun v55 k0_hw3 => k0_hw3.2.2.1
theorem k0_off20_inb : ∀ (v55 : BitVec 32) (k0_hw3 : k0_chk3 v55), ∀ a, (k0_off20 v55) a + S1x16.size a ≤ S784x128.size a := fun v55 k0_hw3 => k0_hw3.2.2.2.1
theorem k0_off22_inb : ∀ (v55 : BitVec 32) (k0_hw3 : k0_chk3 v55), ∀ a, (k0_off22 v55) a + S1x16.size a ≤ S784x128.size a := fun v55 k0_hw3 => k0_hw3.2.2.2.2.1
theorem k0_off24_inb : ∀ (v55 : BitVec 32) (k0_hw3 : k0_chk3 v55), ∀ a, (k0_off24 v55) a + S1x16.size a ≤ S784x128.size a := fun v55 k0_hw3 => k0_hw3.2.2.2.2.2.1
theorem k0_off26_inb : ∀ (v55 : BitVec 32) (k0_hw3 : k0_chk3 v55), ∀ a, (k0_off26 v55) a + S1x16.size a ≤ S784x128.size a := fun v55 k0_hw3 => k0_hw3.2.2.2.2.2.2.1
theorem k0_off28_inb : ∀ (v55 : BitVec 32) (k0_hw3 : k0_chk3 v55), ∀ a, (k0_off28 v55) a + S1x16.size a ≤ S784x128.size a := fun v55 k0_hw3 => k0_hw3.2.2.2.2.2.2.2

def k0_off29 (v12 : BitVec 32) (k0_t6 : Fin (k0_t6_loop v12).trips) (k0_t7 : Fin (k0_t7_loop v12 k0_t6).trips) : Fin 2 → Nat :=
  let c0_i32_41 : BitVec 32 := 0#32
  let c1_i32_43 : BitVec 32 := 1#32
  let arg14 : BitVec 32 := Scf.iv c0_i32_41 c1_i32_43 k0_t7
  let v107 : Index := Scalar.indexCast arg14
  let c112_60 : Index := 112#32
  ![v107.toNat, 112]
@[reducible] def k0_t8_loop (v12 : BitVec 32) (k0_t6 : Fin (k0_t6_loop v12).trips) : Scf.Loop 32 :=
  let c0_i32_41 : BitVec 32 := 0#32
  let c48_i32_39 : BitVec 32 := 48#32
  let c0_i32_29 : BitVec 32 := 0#32
  let c1_i32_31 : BitVec 32 := 1#32
  let arg13 : BitVec 32 := Scf.iv c0_i32_29 c1_i32_31 k0_t6
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let v46 : BitVec 32 := Scalar.addi c0_i32_41 v45
  let c1_i32_44 : BitVec 32 := 1#32
  ⟨v49, v46, c1_i32_44⟩
def k0_off30 (v12 : BitVec 32) (k0_t6 : Fin (k0_t6_loop v12).trips) (k0_t8 : Fin (k0_t8_loop v12 k0_t6).trips) : Fin 1 → Nat :=
  let c0_i32_29 : BitVec 32 := 0#32
  let c1_i32_31 : BitVec 32 := 1#32
  let arg13 : BitVec 32 := Scf.iv c0_i32_29 c1_i32_31 k0_t6
  let c48_i32_45 : BitVec 32 := 48#32
  let v50 : BitVec 32 := Scalar.muli arg13 c48_i32_45
  let c0_i32_41 : BitVec 32 := 0#32
  let c48_i32_39 : BitVec 32 := 48#32
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t8
  let v51 : BitVec 32 := Scalar.addi v50 arg14
  let v52 : Index := Scalar.indexCast v51
  ![v52.toNat]
def k0_off31 (v55 : BitVec 32) : Fin 2 → Nat :=
  let v56 : Index := Scalar.indexCast v55
  let c0 : Index := 0#32
  ![v56.toNat, 0]

def k0_off32 (v12 : BitVec 32) (k0_t6 : Fin (k0_t6_loop v12).trips) (k0_t8 : Fin (k0_t8_loop v12 k0_t6).trips) : Fin 2 → Nat :=
  let c0_i32_41 : BitVec 32 := 0#32
  let c48_i32_39 : BitVec 32 := 48#32
  let c0_i32_29 : BitVec 32 := 0#32
  let c1_i32_31 : BitVec 32 := 1#32
  let arg13 : BitVec 32 := Scf.iv c0_i32_29 c1_i32_31 k0_t6
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t8
  let v58 : Index := Scalar.indexCast arg14
  let c0_46 : Index := 0#32
  ![v58.toNat, 0]
def k0_off33 (v55 : BitVec 32) : Fin 2 → Nat :=
  let v63 : Index := Scalar.indexCast v55
  let c16 : Index := 16#32
  ![v63.toNat, 16]
def k0_off34 (v12 : BitVec 32) (k0_t6 : Fin (k0_t6_loop v12).trips) (k0_t8 : Fin (k0_t8_loop v12 k0_t6).trips) : Fin 2 → Nat :=
  let c0_i32_41 : BitVec 32 := 0#32
  let c48_i32_39 : BitVec 32 := 48#32
  let c0_i32_29 : BitVec 32 := 0#32
  let c1_i32_31 : BitVec 32 := 1#32
  let arg13 : BitVec 32 := Scf.iv c0_i32_29 c1_i32_31 k0_t6
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t8
  let v65 : Index := Scalar.indexCast arg14
  let c16_48 : Index := 16#32
  ![v65.toNat, 16]
def k0_off35 (v55 : BitVec 32) : Fin 2 → Nat :=
  let v70 : Index := Scalar.indexCast v55
  let c32 : Index := 32#32
  ![v70.toNat, 32]
def k0_off36 (v12 : BitVec 32) (k0_t6 : Fin (k0_t6_loop v12).trips) (k0_t8 : Fin (k0_t8_loop v12 k0_t6).trips) : Fin 2 → Nat :=
  let c0_i32_41 : BitVec 32 := 0#32
  let c48_i32_39 : BitVec 32 := 48#32
  let c0_i32_29 : BitVec 32 := 0#32
  let c1_i32_31 : BitVec 32 := 1#32
  let arg13 : BitVec 32 := Scf.iv c0_i32_29 c1_i32_31 k0_t6
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t8
  let v72 : Index := Scalar.indexCast arg14
  let c32_50 : Index := 32#32
  ![v72.toNat, 32]
def k0_off37 (v55 : BitVec 32) : Fin 2 → Nat :=
  let v77 : Index := Scalar.indexCast v55
  let c48 : Index := 48#32
  ![v77.toNat, 48]
def k0_off38 (v12 : BitVec 32) (k0_t6 : Fin (k0_t6_loop v12).trips) (k0_t8 : Fin (k0_t8_loop v12 k0_t6).trips) : Fin 2 → Nat :=
  let c0_i32_41 : BitVec 32 := 0#32
  let c48_i32_39 : BitVec 32 := 48#32
  let c0_i32_29 : BitVec 32 := 0#32
  let c1_i32_31 : BitVec 32 := 1#32
  let arg13 : BitVec 32 := Scf.iv c0_i32_29 c1_i32_31 k0_t6
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t8
  let v79 : Index := Scalar.indexCast arg14
  let c48_52 : Index := 48#32
  ![v79.toNat, 48]
def k0_off39 (v55 : BitVec 32) : Fin 2 → Nat :=
  let v84 : Index := Scalar.indexCast v55
  let c64 : Index := 64#32
  ![v84.toNat, 64]
def k0_off40 (v12 : BitVec 32) (k0_t6 : Fin (k0_t6_loop v12).trips) (k0_t8 : Fin (k0_t8_loop v12 k0_t6).trips) : Fin 2 → Nat :=
  let c0_i32_41 : BitVec 32 := 0#32
  let c48_i32_39 : BitVec 32 := 48#32
  let c0_i32_29 : BitVec 32 := 0#32
  let c1_i32_31 : BitVec 32 := 1#32
  let arg13 : BitVec 32 := Scf.iv c0_i32_29 c1_i32_31 k0_t6
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t8
  let v86 : Index := Scalar.indexCast arg14
  let c64_54 : Index := 64#32
  ![v86.toNat, 64]
def k0_off41 (v55 : BitVec 32) : Fin 2 → Nat :=
  let v91 : Index := Scalar.indexCast v55
  let c80 : Index := 80#32
  ![v91.toNat, 80]
def k0_off42 (v12 : BitVec 32) (k0_t6 : Fin (k0_t6_loop v12).trips) (k0_t8 : Fin (k0_t8_loop v12 k0_t6).trips) : Fin 2 → Nat :=
  let c0_i32_41 : BitVec 32 := 0#32
  let c48_i32_39 : BitVec 32 := 48#32
  let c0_i32_29 : BitVec 32 := 0#32
  let c1_i32_31 : BitVec 32 := 1#32
  let arg13 : BitVec 32 := Scf.iv c0_i32_29 c1_i32_31 k0_t6
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t8
  let v93 : Index := Scalar.indexCast arg14
  let c80_56 : Index := 80#32
  ![v93.toNat, 80]
def k0_off43 (v55 : BitVec 32) : Fin 2 → Nat :=
  let v98 : Index := Scalar.indexCast v55
  let c96 : Index := 96#32
  ![v98.toNat, 96]
def k0_off44 (v12 : BitVec 32) (k0_t6 : Fin (k0_t6_loop v12).trips) (k0_t8 : Fin (k0_t8_loop v12 k0_t6).trips) : Fin 2 → Nat :=
  let c0_i32_41 : BitVec 32 := 0#32
  let c48_i32_39 : BitVec 32 := 48#32
  let c0_i32_29 : BitVec 32 := 0#32
  let c1_i32_31 : BitVec 32 := 1#32
  let arg13 : BitVec 32 := Scf.iv c0_i32_29 c1_i32_31 k0_t6
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t8
  let v100 : Index := Scalar.indexCast arg14
  let c96_58 : Index := 96#32
  ![v100.toNat, 96]
def k0_off45 (v55 : BitVec 32) : Fin 2 → Nat :=
  let v105 : Index := Scalar.indexCast v55
  let c112 : Index := 112#32
  ![v105.toNat, 112]

def k0_chk4 (v55 : BitVec 32) : Prop :=
  (∀ a, (k0_off31 v55) a + S1x16.size a ≤ S784x128.size a) ∧
  (∀ a, (k0_off33 v55) a + S1x16.size a ≤ S784x128.size a) ∧
  (∀ a, (k0_off35 v55) a + S1x16.size a ≤ S784x128.size a) ∧
  (∀ a, (k0_off37 v55) a + S1x16.size a ≤ S784x128.size a) ∧
  (∀ a, (k0_off39 v55) a + S1x16.size a ≤ S784x128.size a) ∧
  (∀ a, (k0_off41 v55) a + S1x16.size a ≤ S784x128.size a) ∧
  (∀ a, (k0_off43 v55) a + S1x16.size a ≤ S784x128.size a) ∧
  (∀ a, (k0_off45 v55) a + S1x16.size a ≤ S784x128.size a)
theorem k0_off31_inb : ∀ (v55 : BitVec 32) (k0_hw4 : k0_chk4 v55), ∀ a, (k0_off31 v55) a + S1x16.size a ≤ S784x128.size a := fun v55 k0_hw4 => k0_hw4.1
theorem k0_off33_inb : ∀ (v55 : BitVec 32) (k0_hw4 : k0_chk4 v55), ∀ a, (k0_off33 v55) a + S1x16.size a ≤ S784x128.size a := fun v55 k0_hw4 => k0_hw4.2.1
theorem k0_off35_inb : ∀ (v55 : BitVec 32) (k0_hw4 : k0_chk4 v55), ∀ a, (k0_off35 v55) a + S1x16.size a ≤ S784x128.size a := fun v55 k0_hw4 => k0_hw4.2.2.1
theorem k0_off37_inb : ∀ (v55 : BitVec 32) (k0_hw4 : k0_chk4 v55), ∀ a, (k0_off37 v55) a + S1x16.size a ≤ S784x128.size a := fun v55 k0_hw4 => k0_hw4.2.2.2.1
theorem k0_off39_inb : ∀ (v55 : BitVec 32) (k0_hw4 : k0_chk4 v55), ∀ a, (k0_off39 v55) a + S1x16.size a ≤ S784x128.size a := fun v55 k0_hw4 => k0_hw4.2.2.2.2.1
theorem k0_off41_inb : ∀ (v55 : BitVec 32) (k0_hw4 : k0_chk4 v55), ∀ a, (k0_off41 v55) a + S1x16.size a ≤ S784x128.size a := fun v55 k0_hw4 => k0_hw4.2.2.2.2.2.1
theorem k0_off43_inb : ∀ (v55 : BitVec 32) (k0_hw4 : k0_chk4 v55), ∀ a, (k0_off43 v55) a + S1x16.size a ≤ S784x128.size a := fun v55 k0_hw4 => k0_hw4.2.2.2.2.2.2.1
theorem k0_off45_inb : ∀ (v55 : BitVec 32) (k0_hw4 : k0_chk4 v55), ∀ a, (k0_off45 v55) a + S1x16.size a ≤ S784x128.size a := fun v55 k0_hw4 => k0_hw4.2.2.2.2.2.2.2

def k0_off46 (v12 : BitVec 32) (k0_t6 : Fin (k0_t6_loop v12).trips) (k0_t8 : Fin (k0_t8_loop v12 k0_t6).trips) : Fin 2 → Nat :=
  let c0_i32_41 : BitVec 32 := 0#32
  let c48_i32_39 : BitVec 32 := 48#32
  let c0_i32_29 : BitVec 32 := 0#32
  let c1_i32_31 : BitVec 32 := 1#32
  let arg13 : BitVec 32 := Scf.iv c0_i32_29 c1_i32_31 k0_t6
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t8
  let v107 : Index := Scalar.indexCast arg14
  let c112_60 : Index := 112#32
  ![v107.toNat, 112]
@[reducible] def k0_t9_loop (v12 : BitVec 32) : Scf.Loop 32 :=
  let c0_i32_29 : BitVec 32 := 0#32
  let c48_i32 : BitVec 32 := 48#32
  let v13 : BitVec 32 := Scalar.addi v12 c48_i32
  let c1_i32_20 : BitVec 32 := 1#32
  let v14 : BitVec 32 := Scalar.subi v13 c1_i32_20
  let c0_i32_22 : BitVec 32 := 0#32
  let v16 : BitVec 1 := Scalar.cmpi .sgt v14 c0_i32_22
  let v17 : BitVec 32 := Scalar.extui v16
  let c0_i32_23 : BitVec 32 := 0#32
  let v18 : BitVec 1 := Scalar.cmpi .slt v14 c0_i32_23
  let v19 : BitVec 32 := Scalar.extui v18
  let v20 : BitVec 32 := Scalar.subi v17 v19
  let c48_i32_21 : BitVec 32 := 48#32
  let c0_i32_24 : BitVec 32 := 0#32
  let v21 : BitVec 1 := Scalar.cmpi .sgt c48_i32_21 c0_i32_24
  let v22 : BitVec 32 := Scalar.extui v21
  let c0_i32_25 : BitVec 32 := 0#32
  let v23 : BitVec 1 := Scalar.cmpi .slt c48_i32_21 c0_i32_25
  let v24 : BitVec 32 := Scalar.extui v23
  let v25 : BitVec 32 := Scalar.subi v22 v24
  let v26 : BitVec 1 := Scalar.cmpi .ne v20 v25
  let v27 : BitVec 32 := Scalar.remsi v14 c48_i32_21
  let c0_i32_26 : BitVec 32 := 0#32
  let v28 : BitVec 1 := Scalar.cmpi .ne v27 c0_i32_26
  let v29 : BitVec 1 := Scalar.andi v26 v28
  let v15 : BitVec 32 := Scalar.divsi v14 c48_i32_21
  let c1_i32_27 : BitVec 32 := 1#32
  let v30 : BitVec 32 := Scalar.subi v15 c1_i32_27
  let v31 : BitVec 32 := Scalar.select v29 v30 v15
  let v32 : BitVec 32 := Scalar.subi v31 c0_i32_29
  let c1_i32_30 : BitVec 32 := 1#32
  let v34 : BitVec 32 := Scalar.divsi v32 c1_i32_30
  let v35 : BitVec 32 := Scalar.muli v34 c1_i32_30
  let v36 : BitVec 32 := Scalar.addi c0_i32_29 v35
  let v33 : BitVec 32 := Scalar.addi c0_i32_29 v32
  let c1_i32_32 : BitVec 32 := 1#32
  ⟨v36, v33, c1_i32_32⟩
def k0_off47 (v12 : BitVec 32) (k0_t9 : Fin (k0_t9_loop v12).trips) : Fin 1 → Nat :=
  let c0_i32_29 : BitVec 32 := 0#32
  let c48_i32 : BitVec 32 := 48#32
  let v13 : BitVec 32 := Scalar.addi v12 c48_i32
  let c1_i32_20 : BitVec 32 := 1#32
  let v14 : BitVec 32 := Scalar.subi v13 c1_i32_20
  let c0_i32_22 : BitVec 32 := 0#32
  let v16 : BitVec 1 := Scalar.cmpi .sgt v14 c0_i32_22
  let v17 : BitVec 32 := Scalar.extui v16
  let c0_i32_23 : BitVec 32 := 0#32
  let v18 : BitVec 1 := Scalar.cmpi .slt v14 c0_i32_23
  let v19 : BitVec 32 := Scalar.extui v18
  let v20 : BitVec 32 := Scalar.subi v17 v19
  let c48_i32_21 : BitVec 32 := 48#32
  let c0_i32_24 : BitVec 32 := 0#32
  let v21 : BitVec 1 := Scalar.cmpi .sgt c48_i32_21 c0_i32_24
  let v22 : BitVec 32 := Scalar.extui v21
  let c0_i32_25 : BitVec 32 := 0#32
  let v23 : BitVec 1 := Scalar.cmpi .slt c48_i32_21 c0_i32_25
  let v24 : BitVec 32 := Scalar.extui v23
  let v25 : BitVec 32 := Scalar.subi v22 v24
  let v26 : BitVec 1 := Scalar.cmpi .ne v20 v25
  let v27 : BitVec 32 := Scalar.remsi v14 c48_i32_21
  let c0_i32_26 : BitVec 32 := 0#32
  let v28 : BitVec 1 := Scalar.cmpi .ne v27 c0_i32_26
  let v29 : BitVec 1 := Scalar.andi v26 v28
  let v15 : BitVec 32 := Scalar.divsi v14 c48_i32_21
  let c1_i32_27 : BitVec 32 := 1#32
  let v30 : BitVec 32 := Scalar.subi v15 c1_i32_27
  let v31 : BitVec 32 := Scalar.select v29 v30 v15
  let v32 : BitVec 32 := Scalar.subi v31 c0_i32_29
  let c1_i32_30 : BitVec 32 := 1#32
  let v34 : BitVec 32 := Scalar.divsi v32 c1_i32_30
  let v35 : BitVec 32 := Scalar.muli v34 c1_i32_30
  let v36 : BitVec 32 := Scalar.addi c0_i32_29 v35
  let c1_i32_32 : BitVec 32 := 1#32
  let arg13 : BitVec 32 := Scf.iv v36 c1_i32_32 k0_t9
  let c48_i32_33 : BitVec 32 := 48#32
  let v37 : BitVec 32 := Scalar.muli arg13 c48_i32_33
  ![v37.toNat]
@[reducible] def k0_t10_loop (v12 : BitVec 32) (k0_t9 : Fin (k0_t9_loop v12).trips) : Scf.Loop 32 :=
  let c0_i32_41 : BitVec 32 := 0#32
  let c48_i32_39 : BitVec 32 := 48#32
  let c0_i32_29 : BitVec 32 := 0#32
  let c48_i32 : BitVec 32 := 48#32
  let v13 : BitVec 32 := Scalar.addi v12 c48_i32
  let c1_i32_20 : BitVec 32 := 1#32
  let v14 : BitVec 32 := Scalar.subi v13 c1_i32_20
  let c0_i32_22 : BitVec 32 := 0#32
  let v16 : BitVec 1 := Scalar.cmpi .sgt v14 c0_i32_22
  let v17 : BitVec 32 := Scalar.extui v16
  let c0_i32_23 : BitVec 32 := 0#32
  let v18 : BitVec 1 := Scalar.cmpi .slt v14 c0_i32_23
  let v19 : BitVec 32 := Scalar.extui v18
  let v20 : BitVec 32 := Scalar.subi v17 v19
  let c48_i32_21 : BitVec 32 := 48#32
  let c0_i32_24 : BitVec 32 := 0#32
  let v21 : BitVec 1 := Scalar.cmpi .sgt c48_i32_21 c0_i32_24
  let v22 : BitVec 32 := Scalar.extui v21
  let c0_i32_25 : BitVec 32 := 0#32
  let v23 : BitVec 1 := Scalar.cmpi .slt c48_i32_21 c0_i32_25
  let v24 : BitVec 32 := Scalar.extui v23
  let v25 : BitVec 32 := Scalar.subi v22 v24
  let v26 : BitVec 1 := Scalar.cmpi .ne v20 v25
  let v27 : BitVec 32 := Scalar.remsi v14 c48_i32_21
  let c0_i32_26 : BitVec 32 := 0#32
  let v28 : BitVec 1 := Scalar.cmpi .ne v27 c0_i32_26
  let v29 : BitVec 1 := Scalar.andi v26 v28
  let v15 : BitVec 32 := Scalar.divsi v14 c48_i32_21
  let c1_i32_27 : BitVec 32 := 1#32
  let v30 : BitVec 32 := Scalar.subi v15 c1_i32_27
  let v31 : BitVec 32 := Scalar.select v29 v30 v15
  let v32 : BitVec 32 := Scalar.subi v31 c0_i32_29
  let c1_i32_30 : BitVec 32 := 1#32
  let v34 : BitVec 32 := Scalar.divsi v32 c1_i32_30
  let v35 : BitVec 32 := Scalar.muli v34 c1_i32_30
  let v36 : BitVec 32 := Scalar.addi c0_i32_29 v35
  let c1_i32_32 : BitVec 32 := 1#32
  let arg13 : BitVec 32 := Scf.iv v36 c1_i32_32 k0_t9
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_43 : BitVec 32 := 1#32
  ⟨c0_i32_41, v49, c1_i32_43⟩
def k0_off48 (v12 : BitVec 32) (k0_t9 : Fin (k0_t9_loop v12).trips) (k0_t10 : Fin (k0_t10_loop v12 k0_t9).trips) : Fin 1 → Nat :=
  let c0_i32_29 : BitVec 32 := 0#32
  let c48_i32 : BitVec 32 := 48#32
  let v13 : BitVec 32 := Scalar.addi v12 c48_i32
  let c1_i32_20 : BitVec 32 := 1#32
  let v14 : BitVec 32 := Scalar.subi v13 c1_i32_20
  let c0_i32_22 : BitVec 32 := 0#32
  let v16 : BitVec 1 := Scalar.cmpi .sgt v14 c0_i32_22
  let v17 : BitVec 32 := Scalar.extui v16
  let c0_i32_23 : BitVec 32 := 0#32
  let v18 : BitVec 1 := Scalar.cmpi .slt v14 c0_i32_23
  let v19 : BitVec 32 := Scalar.extui v18
  let v20 : BitVec 32 := Scalar.subi v17 v19
  let c48_i32_21 : BitVec 32 := 48#32
  let c0_i32_24 : BitVec 32 := 0#32
  let v21 : BitVec 1 := Scalar.cmpi .sgt c48_i32_21 c0_i32_24
  let v22 : BitVec 32 := Scalar.extui v21
  let c0_i32_25 : BitVec 32 := 0#32
  let v23 : BitVec 1 := Scalar.cmpi .slt c48_i32_21 c0_i32_25
  let v24 : BitVec 32 := Scalar.extui v23
  let v25 : BitVec 32 := Scalar.subi v22 v24
  let v26 : BitVec 1 := Scalar.cmpi .ne v20 v25
  let v27 : BitVec 32 := Scalar.remsi v14 c48_i32_21
  let c0_i32_26 : BitVec 32 := 0#32
  let v28 : BitVec 1 := Scalar.cmpi .ne v27 c0_i32_26
  let v29 : BitVec 1 := Scalar.andi v26 v28
  let v15 : BitVec 32 := Scalar.divsi v14 c48_i32_21
  let c1_i32_27 : BitVec 32 := 1#32
  let v30 : BitVec 32 := Scalar.subi v15 c1_i32_27
  let v31 : BitVec 32 := Scalar.select v29 v30 v15
  let v32 : BitVec 32 := Scalar.subi v31 c0_i32_29
  let c1_i32_30 : BitVec 32 := 1#32
  let v34 : BitVec 32 := Scalar.divsi v32 c1_i32_30
  let v35 : BitVec 32 := Scalar.muli v34 c1_i32_30
  let v36 : BitVec 32 := Scalar.addi c0_i32_29 v35
  let c1_i32_32 : BitVec 32 := 1#32
  let arg13 : BitVec 32 := Scf.iv v36 c1_i32_32 k0_t9
  let c48_i32_45 : BitVec 32 := 48#32
  let v50 : BitVec 32 := Scalar.muli arg13 c48_i32_45
  let c0_i32_41 : BitVec 32 := 0#32
  let c1_i32_43 : BitVec 32 := 1#32
  let arg14 : BitVec 32 := Scf.iv c0_i32_41 c1_i32_43 k0_t10
  let v51 : BitVec 32 := Scalar.addi v50 arg14
  let v52 : Index := Scalar.indexCast v51
  ![v52.toNat]
def k0_off49 (v55 : BitVec 32) : Fin 2 → Nat :=
  let v56 : Index := Scalar.indexCast v55
  let c0 : Index := 0#32
  ![v56.toNat, 0]

def k0_off50 (v12 : BitVec 32) (k0_t9 : Fin (k0_t9_loop v12).trips) (k0_t10 : Fin (k0_t10_loop v12 k0_t9).trips) : Fin 2 → Nat :=
  let c0_i32_41 : BitVec 32 := 0#32
  let c1_i32_43 : BitVec 32 := 1#32
  let arg14 : BitVec 32 := Scf.iv c0_i32_41 c1_i32_43 k0_t10
  let v58 : Index := Scalar.indexCast arg14
  let c0_46 : Index := 0#32
  ![v58.toNat, 0]
def k0_off51 (v55 : BitVec 32) : Fin 2 → Nat :=
  let v63 : Index := Scalar.indexCast v55
  let c16 : Index := 16#32
  ![v63.toNat, 16]
def k0_off52 (v12 : BitVec 32) (k0_t9 : Fin (k0_t9_loop v12).trips) (k0_t10 : Fin (k0_t10_loop v12 k0_t9).trips) : Fin 2 → Nat :=
  let c0_i32_41 : BitVec 32 := 0#32
  let c1_i32_43 : BitVec 32 := 1#32
  let arg14 : BitVec 32 := Scf.iv c0_i32_41 c1_i32_43 k0_t10
  let v65 : Index := Scalar.indexCast arg14
  let c16_48 : Index := 16#32
  ![v65.toNat, 16]
def k0_off53 (v55 : BitVec 32) : Fin 2 → Nat :=
  let v70 : Index := Scalar.indexCast v55
  let c32 : Index := 32#32
  ![v70.toNat, 32]
def k0_off54 (v12 : BitVec 32) (k0_t9 : Fin (k0_t9_loop v12).trips) (k0_t10 : Fin (k0_t10_loop v12 k0_t9).trips) : Fin 2 → Nat :=
  let c0_i32_41 : BitVec 32 := 0#32
  let c1_i32_43 : BitVec 32 := 1#32
  let arg14 : BitVec 32 := Scf.iv c0_i32_41 c1_i32_43 k0_t10
  let v72 : Index := Scalar.indexCast arg14
  let c32_50 : Index := 32#32
  ![v72.toNat, 32]
def k0_off55 (v55 : BitVec 32) : Fin 2 → Nat :=
  let v77 : Index := Scalar.indexCast v55
  let c48 : Index := 48#32
  ![v77.toNat, 48]
def k0_off56 (v12 : BitVec 32) (k0_t9 : Fin (k0_t9_loop v12).trips) (k0_t10 : Fin (k0_t10_loop v12 k0_t9).trips) : Fin 2 → Nat :=
  let c0_i32_41 : BitVec 32 := 0#32
  let c1_i32_43 : BitVec 32 := 1#32
  let arg14 : BitVec 32 := Scf.iv c0_i32_41 c1_i32_43 k0_t10
  let v79 : Index := Scalar.indexCast arg14
  let c48_52 : Index := 48#32
  ![v79.toNat, 48]
def k0_off57 (v55 : BitVec 32) : Fin 2 → Nat :=
  let v84 : Index := Scalar.indexCast v55
  let c64 : Index := 64#32
  ![v84.toNat, 64]
def k0_off58 (v12 : BitVec 32) (k0_t9 : Fin (k0_t9_loop v12).trips) (k0_t10 : Fin (k0_t10_loop v12 k0_t9).trips) : Fin 2 → Nat :=
  let c0_i32_41 : BitVec 32 := 0#32
  let c1_i32_43 : BitVec 32 := 1#32
  let arg14 : BitVec 32 := Scf.iv c0_i32_41 c1_i32_43 k0_t10
  let v86 : Index := Scalar.indexCast arg14
  let c64_54 : Index := 64#32
  ![v86.toNat, 64]
def k0_off59 (v55 : BitVec 32) : Fin 2 → Nat :=
  let v91 : Index := Scalar.indexCast v55
  let c80 : Index := 80#32
  ![v91.toNat, 80]
def k0_off60 (v12 : BitVec 32) (k0_t9 : Fin (k0_t9_loop v12).trips) (k0_t10 : Fin (k0_t10_loop v12 k0_t9).trips) : Fin 2 → Nat :=
  let c0_i32_41 : BitVec 32 := 0#32
  let c1_i32_43 : BitVec 32 := 1#32
  let arg14 : BitVec 32 := Scf.iv c0_i32_41 c1_i32_43 k0_t10
  let v93 : Index := Scalar.indexCast arg14
  let c80_56 : Index := 80#32
  ![v93.toNat, 80]
def k0_off61 (v55 : BitVec 32) : Fin 2 → Nat :=
  let v98 : Index := Scalar.indexCast v55
  let c96 : Index := 96#32
  ![v98.toNat, 96]
def k0_off62 (v12 : BitVec 32) (k0_t9 : Fin (k0_t9_loop v12).trips) (k0_t10 : Fin (k0_t10_loop v12 k0_t9).trips) : Fin 2 → Nat :=
  let c0_i32_41 : BitVec 32 := 0#32
  let c1_i32_43 : BitVec 32 := 1#32
  let arg14 : BitVec 32 := Scf.iv c0_i32_41 c1_i32_43 k0_t10
  let v100 : Index := Scalar.indexCast arg14
  let c96_58 : Index := 96#32
  ![v100.toNat, 96]
def k0_off63 (v55 : BitVec 32) : Fin 2 → Nat :=
  let v105 : Index := Scalar.indexCast v55
  let c112 : Index := 112#32
  ![v105.toNat, 112]

def k0_chk5 (v55 : BitVec 32) : Prop :=
  (∀ a, (k0_off49 v55) a + S1x16.size a ≤ S784x128.size a) ∧
  (∀ a, (k0_off51 v55) a + S1x16.size a ≤ S784x128.size a) ∧
  (∀ a, (k0_off53 v55) a + S1x16.size a ≤ S784x128.size a) ∧
  (∀ a, (k0_off55 v55) a + S1x16.size a ≤ S784x128.size a) ∧
  (∀ a, (k0_off57 v55) a + S1x16.size a ≤ S784x128.size a) ∧
  (∀ a, (k0_off59 v55) a + S1x16.size a ≤ S784x128.size a) ∧
  (∀ a, (k0_off61 v55) a + S1x16.size a ≤ S784x128.size a) ∧
  (∀ a, (k0_off63 v55) a + S1x16.size a ≤ S784x128.size a)
theorem k0_off49_inb : ∀ (v55 : BitVec 32) (k0_hw5 : k0_chk5 v55), ∀ a, (k0_off49 v55) a + S1x16.size a ≤ S784x128.size a := fun v55 k0_hw5 => k0_hw5.1
theorem k0_off51_inb : ∀ (v55 : BitVec 32) (k0_hw5 : k0_chk5 v55), ∀ a, (k0_off51 v55) a + S1x16.size a ≤ S784x128.size a := fun v55 k0_hw5 => k0_hw5.2.1
theorem k0_off53_inb : ∀ (v55 : BitVec 32) (k0_hw5 : k0_chk5 v55), ∀ a, (k0_off53 v55) a + S1x16.size a ≤ S784x128.size a := fun v55 k0_hw5 => k0_hw5.2.2.1
theorem k0_off55_inb : ∀ (v55 : BitVec 32) (k0_hw5 : k0_chk5 v55), ∀ a, (k0_off55 v55) a + S1x16.size a ≤ S784x128.size a := fun v55 k0_hw5 => k0_hw5.2.2.2.1
theorem k0_off57_inb : ∀ (v55 : BitVec 32) (k0_hw5 : k0_chk5 v55), ∀ a, (k0_off57 v55) a + S1x16.size a ≤ S784x128.size a := fun v55 k0_hw5 => k0_hw5.2.2.2.2.1
theorem k0_off59_inb : ∀ (v55 : BitVec 32) (k0_hw5 : k0_chk5 v55), ∀ a, (k0_off59 v55) a + S1x16.size a ≤ S784x128.size a := fun v55 k0_hw5 => k0_hw5.2.2.2.2.2.1
theorem k0_off61_inb : ∀ (v55 : BitVec 32) (k0_hw5 : k0_chk5 v55), ∀ a, (k0_off61 v55) a + S1x16.size a ≤ S784x128.size a := fun v55 k0_hw5 => k0_hw5.2.2.2.2.2.2.1
theorem k0_off63_inb : ∀ (v55 : BitVec 32) (k0_hw5 : k0_chk5 v55), ∀ a, (k0_off63 v55) a + S1x16.size a ≤ S784x128.size a := fun v55 k0_hw5 => k0_hw5.2.2.2.2.2.2.2

def k0_off64 (v12 : BitVec 32) (k0_t9 : Fin (k0_t9_loop v12).trips) (k0_t10 : Fin (k0_t10_loop v12 k0_t9).trips) : Fin 2 → Nat :=
  let c0_i32_41 : BitVec 32 := 0#32
  let c1_i32_43 : BitVec 32 := 1#32
  let arg14 : BitVec 32 := Scf.iv c0_i32_41 c1_i32_43 k0_t10
  let v107 : Index := Scalar.indexCast arg14
  let c112_60 : Index := 112#32
  ![v107.toNat, 112]
@[reducible] def k0_t11_loop (v12 : BitVec 32) (k0_t9 : Fin (k0_t9_loop v12).trips) : Scf.Loop 32 :=
  let c0_i32_41 : BitVec 32 := 0#32
  let c48_i32_39 : BitVec 32 := 48#32
  let c0_i32_29 : BitVec 32 := 0#32
  let c48_i32 : BitVec 32 := 48#32
  let v13 : BitVec 32 := Scalar.addi v12 c48_i32
  let c1_i32_20 : BitVec 32 := 1#32
  let v14 : BitVec 32 := Scalar.subi v13 c1_i32_20
  let c0_i32_22 : BitVec 32 := 0#32
  let v16 : BitVec 1 := Scalar.cmpi .sgt v14 c0_i32_22
  let v17 : BitVec 32 := Scalar.extui v16
  let c0_i32_23 : BitVec 32 := 0#32
  let v18 : BitVec 1 := Scalar.cmpi .slt v14 c0_i32_23
  let v19 : BitVec 32 := Scalar.extui v18
  let v20 : BitVec 32 := Scalar.subi v17 v19
  let c48_i32_21 : BitVec 32 := 48#32
  let c0_i32_24 : BitVec 32 := 0#32
  let v21 : BitVec 1 := Scalar.cmpi .sgt c48_i32_21 c0_i32_24
  let v22 : BitVec 32 := Scalar.extui v21
  let c0_i32_25 : BitVec 32 := 0#32
  let v23 : BitVec 1 := Scalar.cmpi .slt c48_i32_21 c0_i32_25
  let v24 : BitVec 32 := Scalar.extui v23
  let v25 : BitVec 32 := Scalar.subi v22 v24
  let v26 : BitVec 1 := Scalar.cmpi .ne v20 v25
  let v27 : BitVec 32 := Scalar.remsi v14 c48_i32_21
  let c0_i32_26 : BitVec 32 := 0#32
  let v28 : BitVec 1 := Scalar.cmpi .ne v27 c0_i32_26
  let v29 : BitVec 1 := Scalar.andi v26 v28
  let v15 : BitVec 32 := Scalar.divsi v14 c48_i32_21
  let c1_i32_27 : BitVec 32 := 1#32
  let v30 : BitVec 32 := Scalar.subi v15 c1_i32_27
  let v31 : BitVec 32 := Scalar.select v29 v30 v15
  let v32 : BitVec 32 := Scalar.subi v31 c0_i32_29
  let c1_i32_30 : BitVec 32 := 1#32
  let v34 : BitVec 32 := Scalar.divsi v32 c1_i32_30
  let v35 : BitVec 32 := Scalar.muli v34 c1_i32_30
  let v36 : BitVec 32 := Scalar.addi c0_i32_29 v35
  let c1_i32_32 : BitVec 32 := 1#32
  let arg13 : BitVec 32 := Scf.iv v36 c1_i32_32 k0_t9
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let v46 : BitVec 32 := Scalar.addi c0_i32_41 v45
  let c1_i32_44 : BitVec 32 := 1#32
  ⟨v49, v46, c1_i32_44⟩
def k0_off65 (v12 : BitVec 32) (k0_t9 : Fin (k0_t9_loop v12).trips) (k0_t11 : Fin (k0_t11_loop v12 k0_t9).trips) : Fin 1 → Nat :=
  let c0_i32_29 : BitVec 32 := 0#32
  let c48_i32 : BitVec 32 := 48#32
  let v13 : BitVec 32 := Scalar.addi v12 c48_i32
  let c1_i32_20 : BitVec 32 := 1#32
  let v14 : BitVec 32 := Scalar.subi v13 c1_i32_20
  let c0_i32_22 : BitVec 32 := 0#32
  let v16 : BitVec 1 := Scalar.cmpi .sgt v14 c0_i32_22
  let v17 : BitVec 32 := Scalar.extui v16
  let c0_i32_23 : BitVec 32 := 0#32
  let v18 : BitVec 1 := Scalar.cmpi .slt v14 c0_i32_23
  let v19 : BitVec 32 := Scalar.extui v18
  let v20 : BitVec 32 := Scalar.subi v17 v19
  let c48_i32_21 : BitVec 32 := 48#32
  let c0_i32_24 : BitVec 32 := 0#32
  let v21 : BitVec 1 := Scalar.cmpi .sgt c48_i32_21 c0_i32_24
  let v22 : BitVec 32 := Scalar.extui v21
  let c0_i32_25 : BitVec 32 := 0#32
  let v23 : BitVec 1 := Scalar.cmpi .slt c48_i32_21 c0_i32_25
  let v24 : BitVec 32 := Scalar.extui v23
  let v25 : BitVec 32 := Scalar.subi v22 v24
  let v26 : BitVec 1 := Scalar.cmpi .ne v20 v25
  let v27 : BitVec 32 := Scalar.remsi v14 c48_i32_21
  let c0_i32_26 : BitVec 32 := 0#32
  let v28 : BitVec 1 := Scalar.cmpi .ne v27 c0_i32_26
  let v29 : BitVec 1 := Scalar.andi v26 v28
  let v15 : BitVec 32 := Scalar.divsi v14 c48_i32_21
  let c1_i32_27 : BitVec 32 := 1#32
  let v30 : BitVec 32 := Scalar.subi v15 c1_i32_27
  let v31 : BitVec 32 := Scalar.select v29 v30 v15
  let v32 : BitVec 32 := Scalar.subi v31 c0_i32_29
  let c1_i32_30 : BitVec 32 := 1#32
  let v34 : BitVec 32 := Scalar.divsi v32 c1_i32_30
  let v35 : BitVec 32 := Scalar.muli v34 c1_i32_30
  let v36 : BitVec 32 := Scalar.addi c0_i32_29 v35
  let c1_i32_32 : BitVec 32 := 1#32
  let arg13 : BitVec 32 := Scf.iv v36 c1_i32_32 k0_t9
  let c48_i32_45 : BitVec 32 := 48#32
  let v50 : BitVec 32 := Scalar.muli arg13 c48_i32_45
  let c0_i32_41 : BitVec 32 := 0#32
  let c48_i32_39 : BitVec 32 := 48#32
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t11
  let v51 : BitVec 32 := Scalar.addi v50 arg14
  let v52 : Index := Scalar.indexCast v51
  ![v52.toNat]
def k0_off66 (v55 : BitVec 32) : Fin 2 → Nat :=
  let v56 : Index := Scalar.indexCast v55
  let c0 : Index := 0#32
  ![v56.toNat, 0]

def k0_off67 (v12 : BitVec 32) (k0_t9 : Fin (k0_t9_loop v12).trips) (k0_t11 : Fin (k0_t11_loop v12 k0_t9).trips) : Fin 2 → Nat :=
  let c0_i32_41 : BitVec 32 := 0#32
  let c48_i32_39 : BitVec 32 := 48#32
  let c0_i32_29 : BitVec 32 := 0#32
  let c48_i32 : BitVec 32 := 48#32
  let v13 : BitVec 32 := Scalar.addi v12 c48_i32
  let c1_i32_20 : BitVec 32 := 1#32
  let v14 : BitVec 32 := Scalar.subi v13 c1_i32_20
  let c0_i32_22 : BitVec 32 := 0#32
  let v16 : BitVec 1 := Scalar.cmpi .sgt v14 c0_i32_22
  let v17 : BitVec 32 := Scalar.extui v16
  let c0_i32_23 : BitVec 32 := 0#32
  let v18 : BitVec 1 := Scalar.cmpi .slt v14 c0_i32_23
  let v19 : BitVec 32 := Scalar.extui v18
  let v20 : BitVec 32 := Scalar.subi v17 v19
  let c48_i32_21 : BitVec 32 := 48#32
  let c0_i32_24 : BitVec 32 := 0#32
  let v21 : BitVec 1 := Scalar.cmpi .sgt c48_i32_21 c0_i32_24
  let v22 : BitVec 32 := Scalar.extui v21
  let c0_i32_25 : BitVec 32 := 0#32
  let v23 : BitVec 1 := Scalar.cmpi .slt c48_i32_21 c0_i32_25
  let v24 : BitVec 32 := Scalar.extui v23
  let v25 : BitVec 32 := Scalar.subi v22 v24
  let v26 : BitVec 1 := Scalar.cmpi .ne v20 v25
  let v27 : BitVec 32 := Scalar.remsi v14 c48_i32_21
  let c0_i32_26 : BitVec 32 := 0#32
  let v28 : BitVec 1 := Scalar.cmpi .ne v27 c0_i32_26
  let v29 : BitVec 1 := Scalar.andi v26 v28
  let v15 : BitVec 32 := Scalar.divsi v14 c48_i32_21
  let c1_i32_27 : BitVec 32 := 1#32
  let v30 : BitVec 32 := Scalar.subi v15 c1_i32_27
  let v31 : BitVec 32 := Scalar.select v29 v30 v15
  let v32 : BitVec 32 := Scalar.subi v31 c0_i32_29
  let c1_i32_30 : BitVec 32 := 1#32
  let v34 : BitVec 32 := Scalar.divsi v32 c1_i32_30
  let v35 : BitVec 32 := Scalar.muli v34 c1_i32_30
  let v36 : BitVec 32 := Scalar.addi c0_i32_29 v35
  let c1_i32_32 : BitVec 32 := 1#32
  let arg13 : BitVec 32 := Scf.iv v36 c1_i32_32 k0_t9
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t11
  let v58 : Index := Scalar.indexCast arg14
  let c0_46 : Index := 0#32
  ![v58.toNat, 0]
def k0_off68 (v55 : BitVec 32) : Fin 2 → Nat :=
  let v63 : Index := Scalar.indexCast v55
  let c16 : Index := 16#32
  ![v63.toNat, 16]
def k0_off69 (v12 : BitVec 32) (k0_t9 : Fin (k0_t9_loop v12).trips) (k0_t11 : Fin (k0_t11_loop v12 k0_t9).trips) : Fin 2 → Nat :=
  let c0_i32_41 : BitVec 32 := 0#32
  let c48_i32_39 : BitVec 32 := 48#32
  let c0_i32_29 : BitVec 32 := 0#32
  let c48_i32 : BitVec 32 := 48#32
  let v13 : BitVec 32 := Scalar.addi v12 c48_i32
  let c1_i32_20 : BitVec 32 := 1#32
  let v14 : BitVec 32 := Scalar.subi v13 c1_i32_20
  let c0_i32_22 : BitVec 32 := 0#32
  let v16 : BitVec 1 := Scalar.cmpi .sgt v14 c0_i32_22
  let v17 : BitVec 32 := Scalar.extui v16
  let c0_i32_23 : BitVec 32 := 0#32
  let v18 : BitVec 1 := Scalar.cmpi .slt v14 c0_i32_23
  let v19 : BitVec 32 := Scalar.extui v18
  let v20 : BitVec 32 := Scalar.subi v17 v19
  let c48_i32_21 : BitVec 32 := 48#32
  let c0_i32_24 : BitVec 32 := 0#32
  let v21 : BitVec 1 := Scalar.cmpi .sgt c48_i32_21 c0_i32_24
  let v22 : BitVec 32 := Scalar.extui v21
  let c0_i32_25 : BitVec 32 := 0#32
  let v23 : BitVec 1 := Scalar.cmpi .slt c48_i32_21 c0_i32_25
  let v24 : BitVec 32 := Scalar.extui v23
  let v25 : BitVec 32 := Scalar.subi v22 v24
  let v26 : BitVec 1 := Scalar.cmpi .ne v20 v25
  let v27 : BitVec 32 := Scalar.remsi v14 c48_i32_21
  let c0_i32_26 : BitVec 32 := 0#32
  let v28 : BitVec 1 := Scalar.cmpi .ne v27 c0_i32_26
  let v29 : BitVec 1 := Scalar.andi v26 v28
  let v15 : BitVec 32 := Scalar.divsi v14 c48_i32_21
  let c1_i32_27 : BitVec 32 := 1#32
  let v30 : BitVec 32 := Scalar.subi v15 c1_i32_27
  let v31 : BitVec 32 := Scalar.select v29 v30 v15
  let v32 : BitVec 32 := Scalar.subi v31 c0_i32_29
  let c1_i32_30 : BitVec 32 := 1#32
  let v34 : BitVec 32 := Scalar.divsi v32 c1_i32_30
  let v35 : BitVec 32 := Scalar.muli v34 c1_i32_30
  let v36 : BitVec 32 := Scalar.addi c0_i32_29 v35
  let c1_i32_32 : BitVec 32 := 1#32
  let arg13 : BitVec 32 := Scf.iv v36 c1_i32_32 k0_t9
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t11
  let v65 : Index := Scalar.indexCast arg14
  let c16_48 : Index := 16#32
  ![v65.toNat, 16]
def k0_off70 (v55 : BitVec 32) : Fin 2 → Nat :=
  let v70 : Index := Scalar.indexCast v55
  let c32 : Index := 32#32
  ![v70.toNat, 32]
def k0_off71 (v12 : BitVec 32) (k0_t9 : Fin (k0_t9_loop v12).trips) (k0_t11 : Fin (k0_t11_loop v12 k0_t9).trips) : Fin 2 → Nat :=
  let c0_i32_41 : BitVec 32 := 0#32
  let c48_i32_39 : BitVec 32 := 48#32
  let c0_i32_29 : BitVec 32 := 0#32
  let c48_i32 : BitVec 32 := 48#32
  let v13 : BitVec 32 := Scalar.addi v12 c48_i32
  let c1_i32_20 : BitVec 32 := 1#32
  let v14 : BitVec 32 := Scalar.subi v13 c1_i32_20
  let c0_i32_22 : BitVec 32 := 0#32
  let v16 : BitVec 1 := Scalar.cmpi .sgt v14 c0_i32_22
  let v17 : BitVec 32 := Scalar.extui v16
  let c0_i32_23 : BitVec 32 := 0#32
  let v18 : BitVec 1 := Scalar.cmpi .slt v14 c0_i32_23
  let v19 : BitVec 32 := Scalar.extui v18
  let v20 : BitVec 32 := Scalar.subi v17 v19
  let c48_i32_21 : BitVec 32 := 48#32
  let c0_i32_24 : BitVec 32 := 0#32
  let v21 : BitVec 1 := Scalar.cmpi .sgt c48_i32_21 c0_i32_24
  let v22 : BitVec 32 := Scalar.extui v21
  let c0_i32_25 : BitVec 32 := 0#32
  let v23 : BitVec 1 := Scalar.cmpi .slt c48_i32_21 c0_i32_25
  let v24 : BitVec 32 := Scalar.extui v23
  let v25 : BitVec 32 := Scalar.subi v22 v24
  let v26 : BitVec 1 := Scalar.cmpi .ne v20 v25
  let v27 : BitVec 32 := Scalar.remsi v14 c48_i32_21
  let c0_i32_26 : BitVec 32 := 0#32
  let v28 : BitVec 1 := Scalar.cmpi .ne v27 c0_i32_26
  let v29 : BitVec 1 := Scalar.andi v26 v28
  let v15 : BitVec 32 := Scalar.divsi v14 c48_i32_21
  let c1_i32_27 : BitVec 32 := 1#32
  let v30 : BitVec 32 := Scalar.subi v15 c1_i32_27
  let v31 : BitVec 32 := Scalar.select v29 v30 v15
  let v32 : BitVec 32 := Scalar.subi v31 c0_i32_29
  let c1_i32_30 : BitVec 32 := 1#32
  let v34 : BitVec 32 := Scalar.divsi v32 c1_i32_30
  let v35 : BitVec 32 := Scalar.muli v34 c1_i32_30
  let v36 : BitVec 32 := Scalar.addi c0_i32_29 v35
  let c1_i32_32 : BitVec 32 := 1#32
  let arg13 : BitVec 32 := Scf.iv v36 c1_i32_32 k0_t9
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t11
  let v72 : Index := Scalar.indexCast arg14
  let c32_50 : Index := 32#32
  ![v72.toNat, 32]
def k0_off72 (v55 : BitVec 32) : Fin 2 → Nat :=
  let v77 : Index := Scalar.indexCast v55
  let c48 : Index := 48#32
  ![v77.toNat, 48]
def k0_off73 (v12 : BitVec 32) (k0_t9 : Fin (k0_t9_loop v12).trips) (k0_t11 : Fin (k0_t11_loop v12 k0_t9).trips) : Fin 2 → Nat :=
  let c0_i32_41 : BitVec 32 := 0#32
  let c48_i32_39 : BitVec 32 := 48#32
  let c0_i32_29 : BitVec 32 := 0#32
  let c48_i32 : BitVec 32 := 48#32
  let v13 : BitVec 32 := Scalar.addi v12 c48_i32
  let c1_i32_20 : BitVec 32 := 1#32
  let v14 : BitVec 32 := Scalar.subi v13 c1_i32_20
  let c0_i32_22 : BitVec 32 := 0#32
  let v16 : BitVec 1 := Scalar.cmpi .sgt v14 c0_i32_22
  let v17 : BitVec 32 := Scalar.extui v16
  let c0_i32_23 : BitVec 32 := 0#32
  let v18 : BitVec 1 := Scalar.cmpi .slt v14 c0_i32_23
  let v19 : BitVec 32 := Scalar.extui v18
  let v20 : BitVec 32 := Scalar.subi v17 v19
  let c48_i32_21 : BitVec 32 := 48#32
  let c0_i32_24 : BitVec 32 := 0#32
  let v21 : BitVec 1 := Scalar.cmpi .sgt c48_i32_21 c0_i32_24
  let v22 : BitVec 32 := Scalar.extui v21
  let c0_i32_25 : BitVec 32 := 0#32
  let v23 : BitVec 1 := Scalar.cmpi .slt c48_i32_21 c0_i32_25
  let v24 : BitVec 32 := Scalar.extui v23
  let v25 : BitVec 32 := Scalar.subi v22 v24
  let v26 : BitVec 1 := Scalar.cmpi .ne v20 v25
  let v27 : BitVec 32 := Scalar.remsi v14 c48_i32_21
  let c0_i32_26 : BitVec 32 := 0#32
  let v28 : BitVec 1 := Scalar.cmpi .ne v27 c0_i32_26
  let v29 : BitVec 1 := Scalar.andi v26 v28
  let v15 : BitVec 32 := Scalar.divsi v14 c48_i32_21
  let c1_i32_27 : BitVec 32 := 1#32
  let v30 : BitVec 32 := Scalar.subi v15 c1_i32_27
  let v31 : BitVec 32 := Scalar.select v29 v30 v15
  let v32 : BitVec 32 := Scalar.subi v31 c0_i32_29
  let c1_i32_30 : BitVec 32 := 1#32
  let v34 : BitVec 32 := Scalar.divsi v32 c1_i32_30
  let v35 : BitVec 32 := Scalar.muli v34 c1_i32_30
  let v36 : BitVec 32 := Scalar.addi c0_i32_29 v35
  let c1_i32_32 : BitVec 32 := 1#32
  let arg13 : BitVec 32 := Scf.iv v36 c1_i32_32 k0_t9
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t11
  let v79 : Index := Scalar.indexCast arg14
  let c48_52 : Index := 48#32
  ![v79.toNat, 48]
def k0_off74 (v55 : BitVec 32) : Fin 2 → Nat :=
  let v84 : Index := Scalar.indexCast v55
  let c64 : Index := 64#32
  ![v84.toNat, 64]
def k0_off75 (v12 : BitVec 32) (k0_t9 : Fin (k0_t9_loop v12).trips) (k0_t11 : Fin (k0_t11_loop v12 k0_t9).trips) : Fin 2 → Nat :=
  let c0_i32_41 : BitVec 32 := 0#32
  let c48_i32_39 : BitVec 32 := 48#32
  let c0_i32_29 : BitVec 32 := 0#32
  let c48_i32 : BitVec 32 := 48#32
  let v13 : BitVec 32 := Scalar.addi v12 c48_i32
  let c1_i32_20 : BitVec 32 := 1#32
  let v14 : BitVec 32 := Scalar.subi v13 c1_i32_20
  let c0_i32_22 : BitVec 32 := 0#32
  let v16 : BitVec 1 := Scalar.cmpi .sgt v14 c0_i32_22
  let v17 : BitVec 32 := Scalar.extui v16
  let c0_i32_23 : BitVec 32 := 0#32
  let v18 : BitVec 1 := Scalar.cmpi .slt v14 c0_i32_23
  let v19 : BitVec 32 := Scalar.extui v18
  let v20 : BitVec 32 := Scalar.subi v17 v19
  let c48_i32_21 : BitVec 32 := 48#32
  let c0_i32_24 : BitVec 32 := 0#32
  let v21 : BitVec 1 := Scalar.cmpi .sgt c48_i32_21 c0_i32_24
  let v22 : BitVec 32 := Scalar.extui v21
  let c0_i32_25 : BitVec 32 := 0#32
  let v23 : BitVec 1 := Scalar.cmpi .slt c48_i32_21 c0_i32_25
  let v24 : BitVec 32 := Scalar.extui v23
  let v25 : BitVec 32 := Scalar.subi v22 v24
  let v26 : BitVec 1 := Scalar.cmpi .ne v20 v25
  let v27 : BitVec 32 := Scalar.remsi v14 c48_i32_21
  let c0_i32_26 : BitVec 32 := 0#32
  let v28 : BitVec 1 := Scalar.cmpi .ne v27 c0_i32_26
  let v29 : BitVec 1 := Scalar.andi v26 v28
  let v15 : BitVec 32 := Scalar.divsi v14 c48_i32_21
  let c1_i32_27 : BitVec 32 := 1#32
  let v30 : BitVec 32 := Scalar.subi v15 c1_i32_27
  let v31 : BitVec 32 := Scalar.select v29 v30 v15
  let v32 : BitVec 32 := Scalar.subi v31 c0_i32_29
  let c1_i32_30 : BitVec 32 := 1#32
  let v34 : BitVec 32 := Scalar.divsi v32 c1_i32_30
  let v35 : BitVec 32 := Scalar.muli v34 c1_i32_30
  let v36 : BitVec 32 := Scalar.addi c0_i32_29 v35
  let c1_i32_32 : BitVec 32 := 1#32
  let arg13 : BitVec 32 := Scf.iv v36 c1_i32_32 k0_t9
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t11
  let v86 : Index := Scalar.indexCast arg14
  let c64_54 : Index := 64#32
  ![v86.toNat, 64]
def k0_off76 (v55 : BitVec 32) : Fin 2 → Nat :=
  let v91 : Index := Scalar.indexCast v55
  let c80 : Index := 80#32
  ![v91.toNat, 80]
def k0_off77 (v12 : BitVec 32) (k0_t9 : Fin (k0_t9_loop v12).trips) (k0_t11 : Fin (k0_t11_loop v12 k0_t9).trips) : Fin 2 → Nat :=
  let c0_i32_41 : BitVec 32 := 0#32
  let c48_i32_39 : BitVec 32 := 48#32
  let c0_i32_29 : BitVec 32 := 0#32
  let c48_i32 : BitVec 32 := 48#32
  let v13 : BitVec 32 := Scalar.addi v12 c48_i32
  let c1_i32_20 : BitVec 32 := 1#32
  let v14 : BitVec 32 := Scalar.subi v13 c1_i32_20
  let c0_i32_22 : BitVec 32 := 0#32
  let v16 : BitVec 1 := Scalar.cmpi .sgt v14 c0_i32_22
  let v17 : BitVec 32 := Scalar.extui v16
  let c0_i32_23 : BitVec 32 := 0#32
  let v18 : BitVec 1 := Scalar.cmpi .slt v14 c0_i32_23
  let v19 : BitVec 32 := Scalar.extui v18
  let v20 : BitVec 32 := Scalar.subi v17 v19
  let c48_i32_21 : BitVec 32 := 48#32
  let c0_i32_24 : BitVec 32 := 0#32
  let v21 : BitVec 1 := Scalar.cmpi .sgt c48_i32_21 c0_i32_24
  let v22 : BitVec 32 := Scalar.extui v21
  let c0_i32_25 : BitVec 32 := 0#32
  let v23 : BitVec 1 := Scalar.cmpi .slt c48_i32_21 c0_i32_25
  let v24 : BitVec 32 := Scalar.extui v23
  let v25 : BitVec 32 := Scalar.subi v22 v24
  let v26 : BitVec 1 := Scalar.cmpi .ne v20 v25
  let v27 : BitVec 32 := Scalar.remsi v14 c48_i32_21
  let c0_i32_26 : BitVec 32 := 0#32
  let v28 : BitVec 1 := Scalar.cmpi .ne v27 c0_i32_26
  let v29 : BitVec 1 := Scalar.andi v26 v28
  let v15 : BitVec 32 := Scalar.divsi v14 c48_i32_21
  let c1_i32_27 : BitVec 32 := 1#32
  let v30 : BitVec 32 := Scalar.subi v15 c1_i32_27
  let v31 : BitVec 32 := Scalar.select v29 v30 v15
  let v32 : BitVec 32 := Scalar.subi v31 c0_i32_29
  let c1_i32_30 : BitVec 32 := 1#32
  let v34 : BitVec 32 := Scalar.divsi v32 c1_i32_30
  let v35 : BitVec 32 := Scalar.muli v34 c1_i32_30
  let v36 : BitVec 32 := Scalar.addi c0_i32_29 v35
  let c1_i32_32 : BitVec 32 := 1#32
  let arg13 : BitVec 32 := Scf.iv v36 c1_i32_32 k0_t9
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t11
  let v93 : Index := Scalar.indexCast arg14
  let c80_56 : Index := 80#32
  ![v93.toNat, 80]
def k0_off78 (v55 : BitVec 32) : Fin 2 → Nat :=
  let v98 : Index := Scalar.indexCast v55
  let c96 : Index := 96#32
  ![v98.toNat, 96]
def k0_off79 (v12 : BitVec 32) (k0_t9 : Fin (k0_t9_loop v12).trips) (k0_t11 : Fin (k0_t11_loop v12 k0_t9).trips) : Fin 2 → Nat :=
  let c0_i32_41 : BitVec 32 := 0#32
  let c48_i32_39 : BitVec 32 := 48#32
  let c0_i32_29 : BitVec 32 := 0#32
  let c48_i32 : BitVec 32 := 48#32
  let v13 : BitVec 32 := Scalar.addi v12 c48_i32
  let c1_i32_20 : BitVec 32 := 1#32
  let v14 : BitVec 32 := Scalar.subi v13 c1_i32_20
  let c0_i32_22 : BitVec 32 := 0#32
  let v16 : BitVec 1 := Scalar.cmpi .sgt v14 c0_i32_22
  let v17 : BitVec 32 := Scalar.extui v16
  let c0_i32_23 : BitVec 32 := 0#32
  let v18 : BitVec 1 := Scalar.cmpi .slt v14 c0_i32_23
  let v19 : BitVec 32 := Scalar.extui v18
  let v20 : BitVec 32 := Scalar.subi v17 v19
  let c48_i32_21 : BitVec 32 := 48#32
  let c0_i32_24 : BitVec 32 := 0#32
  let v21 : BitVec 1 := Scalar.cmpi .sgt c48_i32_21 c0_i32_24
  let v22 : BitVec 32 := Scalar.extui v21
  let c0_i32_25 : BitVec 32 := 0#32
  let v23 : BitVec 1 := Scalar.cmpi .slt c48_i32_21 c0_i32_25
  let v24 : BitVec 32 := Scalar.extui v23
  let v25 : BitVec 32 := Scalar.subi v22 v24
  let v26 : BitVec 1 := Scalar.cmpi .ne v20 v25
  let v27 : BitVec 32 := Scalar.remsi v14 c48_i32_21
  let c0_i32_26 : BitVec 32 := 0#32
  let v28 : BitVec 1 := Scalar.cmpi .ne v27 c0_i32_26
  let v29 : BitVec 1 := Scalar.andi v26 v28
  let v15 : BitVec 32 := Scalar.divsi v14 c48_i32_21
  let c1_i32_27 : BitVec 32 := 1#32
  let v30 : BitVec 32 := Scalar.subi v15 c1_i32_27
  let v31 : BitVec 32 := Scalar.select v29 v30 v15
  let v32 : BitVec 32 := Scalar.subi v31 c0_i32_29
  let c1_i32_30 : BitVec 32 := 1#32
  let v34 : BitVec 32 := Scalar.divsi v32 c1_i32_30
  let v35 : BitVec 32 := Scalar.muli v34 c1_i32_30
  let v36 : BitVec 32 := Scalar.addi c0_i32_29 v35
  let c1_i32_32 : BitVec 32 := 1#32
  let arg13 : BitVec 32 := Scf.iv v36 c1_i32_32 k0_t9
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t11
  let v100 : Index := Scalar.indexCast arg14
  let c96_58 : Index := 96#32
  ![v100.toNat, 96]
def k0_off80 (v55 : BitVec 32) : Fin 2 → Nat :=
  let v105 : Index := Scalar.indexCast v55
  let c112 : Index := 112#32
  ![v105.toNat, 112]

def k0_chk6 (v55 : BitVec 32) : Prop :=
  (∀ a, (k0_off66 v55) a + S1x16.size a ≤ S784x128.size a) ∧
  (∀ a, (k0_off68 v55) a + S1x16.size a ≤ S784x128.size a) ∧
  (∀ a, (k0_off70 v55) a + S1x16.size a ≤ S784x128.size a) ∧
  (∀ a, (k0_off72 v55) a + S1x16.size a ≤ S784x128.size a) ∧
  (∀ a, (k0_off74 v55) a + S1x16.size a ≤ S784x128.size a) ∧
  (∀ a, (k0_off76 v55) a + S1x16.size a ≤ S784x128.size a) ∧
  (∀ a, (k0_off78 v55) a + S1x16.size a ≤ S784x128.size a) ∧
  (∀ a, (k0_off80 v55) a + S1x16.size a ≤ S784x128.size a)
theorem k0_off66_inb : ∀ (v55 : BitVec 32) (k0_hw6 : k0_chk6 v55), ∀ a, (k0_off66 v55) a + S1x16.size a ≤ S784x128.size a := fun v55 k0_hw6 => k0_hw6.1
theorem k0_off68_inb : ∀ (v55 : BitVec 32) (k0_hw6 : k0_chk6 v55), ∀ a, (k0_off68 v55) a + S1x16.size a ≤ S784x128.size a := fun v55 k0_hw6 => k0_hw6.2.1
theorem k0_off70_inb : ∀ (v55 : BitVec 32) (k0_hw6 : k0_chk6 v55), ∀ a, (k0_off70 v55) a + S1x16.size a ≤ S784x128.size a := fun v55 k0_hw6 => k0_hw6.2.2.1
theorem k0_off72_inb : ∀ (v55 : BitVec 32) (k0_hw6 : k0_chk6 v55), ∀ a, (k0_off72 v55) a + S1x16.size a ≤ S784x128.size a := fun v55 k0_hw6 => k0_hw6.2.2.2.1
theorem k0_off74_inb : ∀ (v55 : BitVec 32) (k0_hw6 : k0_chk6 v55), ∀ a, (k0_off74 v55) a + S1x16.size a ≤ S784x128.size a := fun v55 k0_hw6 => k0_hw6.2.2.2.2.1
theorem k0_off76_inb : ∀ (v55 : BitVec 32) (k0_hw6 : k0_chk6 v55), ∀ a, (k0_off76 v55) a + S1x16.size a ≤ S784x128.size a := fun v55 k0_hw6 => k0_hw6.2.2.2.2.2.1
theorem k0_off78_inb : ∀ (v55 : BitVec 32) (k0_hw6 : k0_chk6 v55), ∀ a, (k0_off78 v55) a + S1x16.size a ≤ S784x128.size a := fun v55 k0_hw6 => k0_hw6.2.2.2.2.2.2.1
theorem k0_off80_inb : ∀ (v55 : BitVec 32) (k0_hw6 : k0_chk6 v55), ∀ a, (k0_off80 v55) a + S1x16.size a ≤ S784x128.size a := fun v55 k0_hw6 => k0_hw6.2.2.2.2.2.2.2

def k0_off81 (v12 : BitVec 32) (k0_t9 : Fin (k0_t9_loop v12).trips) (k0_t11 : Fin (k0_t11_loop v12 k0_t9).trips) : Fin 2 → Nat :=
  let c0_i32_41 : BitVec 32 := 0#32
  let c48_i32_39 : BitVec 32 := 48#32
  let c0_i32_29 : BitVec 32 := 0#32
  let c48_i32 : BitVec 32 := 48#32
  let v13 : BitVec 32 := Scalar.addi v12 c48_i32
  let c1_i32_20 : BitVec 32 := 1#32
  let v14 : BitVec 32 := Scalar.subi v13 c1_i32_20
  let c0_i32_22 : BitVec 32 := 0#32
  let v16 : BitVec 1 := Scalar.cmpi .sgt v14 c0_i32_22
  let v17 : BitVec 32 := Scalar.extui v16
  let c0_i32_23 : BitVec 32 := 0#32
  let v18 : BitVec 1 := Scalar.cmpi .slt v14 c0_i32_23
  let v19 : BitVec 32 := Scalar.extui v18
  let v20 : BitVec 32 := Scalar.subi v17 v19
  let c48_i32_21 : BitVec 32 := 48#32
  let c0_i32_24 : BitVec 32 := 0#32
  let v21 : BitVec 1 := Scalar.cmpi .sgt c48_i32_21 c0_i32_24
  let v22 : BitVec 32 := Scalar.extui v21
  let c0_i32_25 : BitVec 32 := 0#32
  let v23 : BitVec 1 := Scalar.cmpi .slt c48_i32_21 c0_i32_25
  let v24 : BitVec 32 := Scalar.extui v23
  let v25 : BitVec 32 := Scalar.subi v22 v24
  let v26 : BitVec 1 := Scalar.cmpi .ne v20 v25
  let v27 : BitVec 32 := Scalar.remsi v14 c48_i32_21
  let c0_i32_26 : BitVec 32 := 0#32
  let v28 : BitVec 1 := Scalar.cmpi .ne v27 c0_i32_26
  let v29 : BitVec 1 := Scalar.andi v26 v28
  let v15 : BitVec 32 := Scalar.divsi v14 c48_i32_21
  let c1_i32_27 : BitVec 32 := 1#32
  let v30 : BitVec 32 := Scalar.subi v15 c1_i32_27
  let v31 : BitVec 32 := Scalar.select v29 v30 v15
  let v32 : BitVec 32 := Scalar.subi v31 c0_i32_29
  let c1_i32_30 : BitVec 32 := 1#32
  let v34 : BitVec 32 := Scalar.divsi v32 c1_i32_30
  let v35 : BitVec 32 := Scalar.muli v34 c1_i32_30
  let v36 : BitVec 32 := Scalar.addi c0_i32_29 v35
  let c1_i32_32 : BitVec 32 := 1#32
  let arg13 : BitVec 32 := Scf.iv v36 c1_i32_32 k0_t9
  let c48_i32_38 : BitVec 32 := 48#32
  let v42 : BitVec 32 := Scalar.muli arg13 c48_i32_38
  let v43 : BitVec 32 := Scalar.subi v12 v42
  let v44 : BitVec 32 := Scalar.minsi c48_i32_39 v43
  let v45 : BitVec 32 := Scalar.subi v44 c0_i32_41
  let c1_i32_42 : BitVec 32 := 1#32
  let v47 : BitVec 32 := Scalar.divsi v45 c1_i32_42
  let v48 : BitVec 32 := Scalar.muli v47 c1_i32_42
  let v49 : BitVec 32 := Scalar.addi c0_i32_41 v48
  let c1_i32_44 : BitVec 32 := 1#32
  let arg14 : BitVec 32 := Scf.iv v49 c1_i32_44 k0_t11
  let v107 : Index := Scalar.indexCast arg14
  let c112_60 : Index := 112#32
  ![v107.toNat, 112]

def k0_chk2_0 (v12 : BitVec 32) : Prop :=
  ((k0_t6_loop v12).OK) ∧
  (∀ k0_t6 : Fin (k0_t6_loop v12).trips, ∀ a, (k0_off12 v12 k0_t6) a + S48.size a ≤ S2064.size a) ∧
  (∀ k0_t6 : Fin (k0_t6_loop v12).trips, (k0_t7_loop v12 k0_t6).OK) ∧
  (∀ (k0_t6 : Fin (k0_t6_loop v12).trips) (k0_t7 : Fin (k0_t7_loop v12 k0_t6).trips), ∀ a, (k0_off13 v12 k0_t6 k0_t7) a + S16.size a ≤ S2064.size a) ∧
  (∀ (k0_t6 : Fin (k0_t6_loop v12).trips) (k0_t7 : Fin (k0_t7_loop v12 k0_t6).trips), ∀ a, (k0_off15 v12 k0_t6 k0_t7) a + S1x16.size a ≤ S48x128.size a) ∧
  (∀ (k0_t6 : Fin (k0_t6_loop v12).trips) (k0_t7 : Fin (k0_t7_loop v12 k0_t6).trips), ∀ a, (k0_off17 v12 k0_t6 k0_t7) a + S1x16.size a ≤ S48x128.size a) ∧
  (∀ (k0_t6 : Fin (k0_t6_loop v12).trips) (k0_t7 : Fin (k0_t7_loop v12 k0_t6).trips), ∀ a, (k0_off19 v12 k0_t6 k0_t7) a + S1x16.size a ≤ S48x128.size a) ∧
  (∀ (k0_t6 : Fin (k0_t6_loop v12).trips) (k0_t7 : Fin (k0_t7_loop v12 k0_t6).trips), ∀ a, (k0_off21 v12 k0_t6 k0_t7) a + S1x16.size a ≤ S48x128.size a) ∧
  (∀ (k0_t6 : Fin (k0_t6_loop v12).trips) (k0_t7 : Fin (k0_t7_loop v12 k0_t6).trips), ∀ a, (k0_off23 v12 k0_t6 k0_t7) a + S1x16.size a ≤ S48x128.size a) ∧
  (∀ (k0_t6 : Fin (k0_t6_loop v12).trips) (k0_t7 : Fin (k0_t7_loop v12 k0_t6).trips), ∀ a, (k0_off25 v12 k0_t6 k0_t7) a + S1x16.size a ≤ S48x128.size a) ∧
  (∀ (k0_t6 : Fin (k0_t6_loop v12).trips) (k0_t7 : Fin (k0_t7_loop v12 k0_t6).trips), ∀ a, (k0_off27 v12 k0_t6 k0_t7) a + S1x16.size a ≤ S48x128.size a) ∧
  (∀ (k0_t6 : Fin (k0_t6_loop v12).trips) (k0_t7 : Fin (k0_t7_loop v12 k0_t6).trips), ∀ a, (k0_off29 v12 k0_t6 k0_t7) a + S1x16.size a ≤ S48x128.size a) ∧
  (∀ k0_t6 : Fin (k0_t6_loop v12).trips, (k0_t8_loop v12 k0_t6).OK) ∧
  (∀ (k0_t6 : Fin (k0_t6_loop v12).trips) (k0_t8 : Fin (k0_t8_loop v12 k0_t6).trips), ∀ a, (k0_off30 v12 k0_t6 k0_t8) a + S16.size a ≤ S2064.size a) ∧
  (∀ (k0_t6 : Fin (k0_t6_loop v12).trips) (k0_t8 : Fin (k0_t8_loop v12 k0_t6).trips), ∀ a, (k0_off32 v12 k0_t6 k0_t8) a + S1x16.size a ≤ S48x128.size a) ∧
  (∀ (k0_t6 : Fin (k0_t6_loop v12).trips) (k0_t8 : Fin (k0_t8_loop v12 k0_t6).trips), ∀ a, (k0_off34 v12 k0_t6 k0_t8) a + S1x16.size a ≤ S48x128.size a) ∧
  (∀ (k0_t6 : Fin (k0_t6_loop v12).trips) (k0_t8 : Fin (k0_t8_loop v12 k0_t6).trips), ∀ a, (k0_off36 v12 k0_t6 k0_t8) a + S1x16.size a ≤ S48x128.size a) ∧
  (∀ (k0_t6 : Fin (k0_t6_loop v12).trips) (k0_t8 : Fin (k0_t8_loop v12 k0_t6).trips), ∀ a, (k0_off38 v12 k0_t6 k0_t8) a + S1x16.size a ≤ S48x128.size a) ∧
  (∀ (k0_t6 : Fin (k0_t6_loop v12).trips) (k0_t8 : Fin (k0_t8_loop v12 k0_t6).trips), ∀ a, (k0_off40 v12 k0_t6 k0_t8) a + S1x16.size a ≤ S48x128.size a) ∧
  (∀ (k0_t6 : Fin (k0_t6_loop v12).trips) (k0_t8 : Fin (k0_t8_loop v12 k0_t6).trips), ∀ a, (k0_off42 v12 k0_t6 k0_t8) a + S1x16.size a ≤ S48x128.size a) ∧
  (∀ (k0_t6 : Fin (k0_t6_loop v12).trips) (k0_t8 : Fin (k0_t8_loop v12 k0_t6).trips), ∀ a, (k0_off44 v12 k0_t6 k0_t8) a + S1x16.size a ≤ S48x128.size a) ∧
  (∀ (k0_t6 : Fin (k0_t6_loop v12).trips) (k0_t8 : Fin (k0_t8_loop v12 k0_t6).trips), ∀ a, (k0_off46 v12 k0_t6 k0_t8) a + S1x16.size a ≤ S48x128.size a) ∧
  ((k0_t9_loop v12).OK) ∧
  (∀ k0_t9 : Fin (k0_t9_loop v12).trips, ∀ a, (k0_off47 v12 k0_t9) a + S48.size a ≤ S2064.size a) ∧
  (∀ k0_t9 : Fin (k0_t9_loop v12).trips, (k0_t10_loop v12 k0_t9).OK) ∧
  (∀ (k0_t9 : Fin (k0_t9_loop v12).trips) (k0_t10 : Fin (k0_t10_loop v12 k0_t9).trips), ∀ a, (k0_off48 v12 k0_t9 k0_t10) a + S16.size a ≤ S2064.size a) ∧
  (∀ (k0_t9 : Fin (k0_t9_loop v12).trips) (k0_t10 : Fin (k0_t10_loop v12 k0_t9).trips), ∀ a, (k0_off50 v12 k0_t9 k0_t10) a + S1x16.size a ≤ S48x128.size a) ∧
  (∀ (k0_t9 : Fin (k0_t9_loop v12).trips) (k0_t10 : Fin (k0_t10_loop v12 k0_t9).trips), ∀ a, (k0_off52 v12 k0_t9 k0_t10) a + S1x16.size a ≤ S48x128.size a) ∧
  (∀ (k0_t9 : Fin (k0_t9_loop v12).trips) (k0_t10 : Fin (k0_t10_loop v12 k0_t9).trips), ∀ a, (k0_off54 v12 k0_t9 k0_t10) a + S1x16.size a ≤ S48x128.size a) ∧
  (∀ (k0_t9 : Fin (k0_t9_loop v12).trips) (k0_t10 : Fin (k0_t10_loop v12 k0_t9).trips), ∀ a, (k0_off56 v12 k0_t9 k0_t10) a + S1x16.size a ≤ S48x128.size a) ∧
  (∀ (k0_t9 : Fin (k0_t9_loop v12).trips) (k0_t10 : Fin (k0_t10_loop v12 k0_t9).trips), ∀ a, (k0_off58 v12 k0_t9 k0_t10) a + S1x16.size a ≤ S48x128.size a) ∧
  (∀ (k0_t9 : Fin (k0_t9_loop v12).trips) (k0_t10 : Fin (k0_t10_loop v12 k0_t9).trips), ∀ a, (k0_off60 v12 k0_t9 k0_t10) a + S1x16.size a ≤ S48x128.size a)
def k0_chk2_1 (v12 : BitVec 32) : Prop :=
  (∀ (k0_t9 : Fin (k0_t9_loop v12).trips) (k0_t10 : Fin (k0_t10_loop v12 k0_t9).trips), ∀ a, (k0_off62 v12 k0_t9 k0_t10) a + S1x16.size a ≤ S48x128.size a) ∧
  (∀ (k0_t9 : Fin (k0_t9_loop v12).trips) (k0_t10 : Fin (k0_t10_loop v12 k0_t9).trips), ∀ a, (k0_off64 v12 k0_t9 k0_t10) a + S1x16.size a ≤ S48x128.size a) ∧
  (∀ k0_t9 : Fin (k0_t9_loop v12).trips, (k0_t11_loop v12 k0_t9).OK) ∧
  (∀ (k0_t9 : Fin (k0_t9_loop v12).trips) (k0_t11 : Fin (k0_t11_loop v12 k0_t9).trips), ∀ a, (k0_off65 v12 k0_t9 k0_t11) a + S16.size a ≤ S2064.size a) ∧
  (∀ (k0_t9 : Fin (k0_t9_loop v12).trips) (k0_t11 : Fin (k0_t11_loop v12 k0_t9).trips), ∀ a, (k0_off67 v12 k0_t9 k0_t11) a + S1x16.size a ≤ S48x128.size a) ∧
  (∀ (k0_t9 : Fin (k0_t9_loop v12).trips) (k0_t11 : Fin (k0_t11_loop v12 k0_t9).trips), ∀ a, (k0_off69 v12 k0_t9 k0_t11) a + S1x16.size a ≤ S48x128.size a) ∧
  (∀ (k0_t9 : Fin (k0_t9_loop v12).trips) (k0_t11 : Fin (k0_t11_loop v12 k0_t9).trips), ∀ a, (k0_off71 v12 k0_t9 k0_t11) a + S1x16.size a ≤ S48x128.size a) ∧
  (∀ (k0_t9 : Fin (k0_t9_loop v12).trips) (k0_t11 : Fin (k0_t11_loop v12 k0_t9).trips), ∀ a, (k0_off73 v12 k0_t9 k0_t11) a + S1x16.size a ≤ S48x128.size a) ∧
  (∀ (k0_t9 : Fin (k0_t9_loop v12).trips) (k0_t11 : Fin (k0_t11_loop v12 k0_t9).trips), ∀ a, (k0_off75 v12 k0_t9 k0_t11) a + S1x16.size a ≤ S48x128.size a) ∧
  (∀ (k0_t9 : Fin (k0_t9_loop v12).trips) (k0_t11 : Fin (k0_t11_loop v12 k0_t9).trips), ∀ a, (k0_off77 v12 k0_t9 k0_t11) a + S1x16.size a ≤ S48x128.size a) ∧
  (∀ (k0_t9 : Fin (k0_t9_loop v12).trips) (k0_t11 : Fin (k0_t11_loop v12 k0_t9).trips), ∀ a, (k0_off79 v12 k0_t9 k0_t11) a + S1x16.size a ≤ S48x128.size a) ∧
  (∀ (k0_t9 : Fin (k0_t9_loop v12).trips) (k0_t11 : Fin (k0_t11_loop v12 k0_t9).trips), ∀ a, (k0_off81 v12 k0_t9 k0_t11) a + S1x16.size a ≤ S48x128.size a)
def k0_chk2 (v12 : BitVec 32) : Prop :=
  k0_chk2_0 v12 ∧
  k0_chk2_1 v12
theorem k0_t6_ok : ∀ (v12 : BitVec 32) (k0_hw2 : k0_chk2 v12), (k0_t6_loop v12).OK := fun v12 k0_hw2 => k0_hw2.1.1
theorem k0_off12_inb : ∀ (v12 : BitVec 32) (k0_hw2 : k0_chk2 v12) (k0_t6 : Fin (k0_t6_loop v12).trips), ∀ a, (k0_off12 v12 k0_t6) a + S48.size a ≤ S2064.size a := fun v12 k0_hw2 k0_t6 => k0_hw2.1.2.1 k0_t6
theorem k0_t7_ok : ∀ (v12 : BitVec 32) (k0_hw2 : k0_chk2 v12) (k0_t6 : Fin (k0_t6_loop v12).trips), (k0_t7_loop v12 k0_t6).OK := fun v12 k0_hw2 k0_t6 => k0_hw2.1.2.2.1 k0_t6
theorem k0_off13_inb : ∀ (v12 : BitVec 32) (k0_hw2 : k0_chk2 v12) (k0_t6 : Fin (k0_t6_loop v12).trips) (k0_t7 : Fin (k0_t7_loop v12 k0_t6).trips), ∀ a, (k0_off13 v12 k0_t6 k0_t7) a + S16.size a ≤ S2064.size a := fun v12 k0_hw2 k0_t6 k0_t7 => k0_hw2.1.2.2.2.1 k0_t6 k0_t7
theorem k0_off15_inb : ∀ (v12 : BitVec 32) (k0_hw2 : k0_chk2 v12) (k0_t6 : Fin (k0_t6_loop v12).trips) (k0_t7 : Fin (k0_t7_loop v12 k0_t6).trips), ∀ a, (k0_off15 v12 k0_t6 k0_t7) a + S1x16.size a ≤ S48x128.size a := fun v12 k0_hw2 k0_t6 k0_t7 => k0_hw2.1.2.2.2.2.1 k0_t6 k0_t7
theorem k0_off17_inb : ∀ (v12 : BitVec 32) (k0_hw2 : k0_chk2 v12) (k0_t6 : Fin (k0_t6_loop v12).trips) (k0_t7 : Fin (k0_t7_loop v12 k0_t6).trips), ∀ a, (k0_off17 v12 k0_t6 k0_t7) a + S1x16.size a ≤ S48x128.size a := fun v12 k0_hw2 k0_t6 k0_t7 => k0_hw2.1.2.2.2.2.2.1 k0_t6 k0_t7
theorem k0_off19_inb : ∀ (v12 : BitVec 32) (k0_hw2 : k0_chk2 v12) (k0_t6 : Fin (k0_t6_loop v12).trips) (k0_t7 : Fin (k0_t7_loop v12 k0_t6).trips), ∀ a, (k0_off19 v12 k0_t6 k0_t7) a + S1x16.size a ≤ S48x128.size a := fun v12 k0_hw2 k0_t6 k0_t7 => k0_hw2.1.2.2.2.2.2.2.1 k0_t6 k0_t7
theorem k0_off21_inb : ∀ (v12 : BitVec 32) (k0_hw2 : k0_chk2 v12) (k0_t6 : Fin (k0_t6_loop v12).trips) (k0_t7 : Fin (k0_t7_loop v12 k0_t6).trips), ∀ a, (k0_off21 v12 k0_t6 k0_t7) a + S1x16.size a ≤ S48x128.size a := fun v12 k0_hw2 k0_t6 k0_t7 => k0_hw2.1.2.2.2.2.2.2.2.1 k0_t6 k0_t7
theorem k0_off23_inb : ∀ (v12 : BitVec 32) (k0_hw2 : k0_chk2 v12) (k0_t6 : Fin (k0_t6_loop v12).trips) (k0_t7 : Fin (k0_t7_loop v12 k0_t6).trips), ∀ a, (k0_off23 v12 k0_t6 k0_t7) a + S1x16.size a ≤ S48x128.size a := fun v12 k0_hw2 k0_t6 k0_t7 => k0_hw2.1.2.2.2.2.2.2.2.2.1 k0_t6 k0_t7
theorem k0_off25_inb : ∀ (v12 : BitVec 32) (k0_hw2 : k0_chk2 v12) (k0_t6 : Fin (k0_t6_loop v12).trips) (k0_t7 : Fin (k0_t7_loop v12 k0_t6).trips), ∀ a, (k0_off25 v12 k0_t6 k0_t7) a + S1x16.size a ≤ S48x128.size a := fun v12 k0_hw2 k0_t6 k0_t7 => k0_hw2.1.2.2.2.2.2.2.2.2.2.1 k0_t6 k0_t7
theorem k0_off27_inb : ∀ (v12 : BitVec 32) (k0_hw2 : k0_chk2 v12) (k0_t6 : Fin (k0_t6_loop v12).trips) (k0_t7 : Fin (k0_t7_loop v12 k0_t6).trips), ∀ a, (k0_off27 v12 k0_t6 k0_t7) a + S1x16.size a ≤ S48x128.size a := fun v12 k0_hw2 k0_t6 k0_t7 => k0_hw2.1.2.2.2.2.2.2.2.2.2.2.1 k0_t6 k0_t7
theorem k0_off29_inb : ∀ (v12 : BitVec 32) (k0_hw2 : k0_chk2 v12) (k0_t6 : Fin (k0_t6_loop v12).trips) (k0_t7 : Fin (k0_t7_loop v12 k0_t6).trips), ∀ a, (k0_off29 v12 k0_t6 k0_t7) a + S1x16.size a ≤ S48x128.size a := fun v12 k0_hw2 k0_t6 k0_t7 => k0_hw2.1.2.2.2.2.2.2.2.2.2.2.2.1 k0_t6 k0_t7
theorem k0_t8_ok : ∀ (v12 : BitVec 32) (k0_hw2 : k0_chk2 v12) (k0_t6 : Fin (k0_t6_loop v12).trips), (k0_t8_loop v12 k0_t6).OK := fun v12 k0_hw2 k0_t6 => k0_hw2.1.2.2.2.2.2.2.2.2.2.2.2.2.1 k0_t6
theorem k0_off30_inb : ∀ (v12 : BitVec 32) (k0_hw2 : k0_chk2 v12) (k0_t6 : Fin (k0_t6_loop v12).trips) (k0_t8 : Fin (k0_t8_loop v12 k0_t6).trips), ∀ a, (k0_off30 v12 k0_t6 k0_t8) a + S16.size a ≤ S2064.size a := fun v12 k0_hw2 k0_t6 k0_t8 => k0_hw2.1.2.2.2.2.2.2.2.2.2.2.2.2.2.1 k0_t6 k0_t8
theorem k0_off32_inb : ∀ (v12 : BitVec 32) (k0_hw2 : k0_chk2 v12) (k0_t6 : Fin (k0_t6_loop v12).trips) (k0_t8 : Fin (k0_t8_loop v12 k0_t6).trips), ∀ a, (k0_off32 v12 k0_t6 k0_t8) a + S1x16.size a ≤ S48x128.size a := fun v12 k0_hw2 k0_t6 k0_t8 => k0_hw2.1.2.2.2.2.2.2.2.2.2.2.2.2.2.2.1 k0_t6 k0_t8
theorem k0_off34_inb : ∀ (v12 : BitVec 32) (k0_hw2 : k0_chk2 v12) (k0_t6 : Fin (k0_t6_loop v12).trips) (k0_t8 : Fin (k0_t8_loop v12 k0_t6).trips), ∀ a, (k0_off34 v12 k0_t6 k0_t8) a + S1x16.size a ≤ S48x128.size a := fun v12 k0_hw2 k0_t6 k0_t8 => k0_hw2.1.2.2.2.2.2.2.2.2.2.2.2.2.2.2.2.1 k0_t6 k0_t8
theorem k0_off36_inb : ∀ (v12 : BitVec 32) (k0_hw2 : k0_chk2 v12) (k0_t6 : Fin (k0_t6_loop v12).trips) (k0_t8 : Fin (k0_t8_loop v12 k0_t6).trips), ∀ a, (k0_off36 v12 k0_t6 k0_t8) a + S1x16.size a ≤ S48x128.size a := fun v12 k0_hw2 k0_t6 k0_t8 => k0_hw2.1.2.2.2.2.2.2.2.2.2.2.2.2.2.2.2.2.1 k0_t6 k0_t8
theorem k0_off38_inb : ∀ (v12 : BitVec 32) (k0_hw2 : k0_chk2 v12) (k0_t6 : Fin (k0_t6_loop v12).trips) (k0_t8 : Fin (k0_t8_loop v12 k0_t6).trips), ∀ a, (k0_off38 v12 k0_t6 k0_t8) a + S1x16.size a ≤ S48x128.size a := fun v12 k0_hw2 k0_t6 k0_t8 => k0_hw2.1.2.2.2.2.2.2.2.2.2.2.2.2.2.2.2.2.2.1 k0_t6 k0_t8
theorem k0_off40_inb : ∀ (v12 : BitVec 32) (k0_hw2 : k0_chk2 v12) (k0_t6 : Fin (k0_t6_loop v12).trips) (k0_t8 : Fin (k0_t8_loop v12 k0_t6).trips), ∀ a, (k0_off40 v12 k0_t6 k0_t8) a + S1x16.size a ≤ S48x128.size a := fun v12 k0_hw2 k0_t6 k0_t8 => k0_hw2.1.2.2.2.2.2.2.2.2.2.2.2.2.2.2.2.2.2.2.1 k0_t6 k0_t8
theorem k0_off42_inb : ∀ (v12 : BitVec 32) (k0_hw2 : k0_chk2 v12) (k0_t6 : Fin (k0_t6_loop v12).trips) (k0_t8 : Fin (k0_t8_loop v12 k0_t6).trips), ∀ a, (k0_off42 v12 k0_t6 k0_t8) a + S1x16.size a ≤ S48x128.size a := fun v12 k0_hw2 k0_t6 k0_t8 => k0_hw2.1.2.2.2.2.2.2.2.2.2.2.2.2.2.2.2.2.2.2.2.1 k0_t6 k0_t8
theorem k0_off44_inb : ∀ (v12 : BitVec 32) (k0_hw2 : k0_chk2 v12) (k0_t6 : Fin (k0_t6_loop v12).trips) (k0_t8 : Fin (k0_t8_loop v12 k0_t6).trips), ∀ a, (k0_off44 v12 k0_t6 k0_t8) a + S1x16.size a ≤ S48x128.size a := fun v12 k0_hw2 k0_t6 k0_t8 => k0_hw2.1.2.2.2.2.2.2.2.2.2.2.2.2.2.2.2.2.2.2.2.2.1 k0_t6 k0_t8
theorem k0_off46_inb : ∀ (v12 : BitVec 32) (k0_hw2 : k0_chk2 v12) (k0_t6 : Fin (k0_t6_loop v12).trips) (k0_t8 : Fin (k0_t8_loop v12 k0_t6).trips), ∀ a, (k0_off46 v12 k0_t6 k0_t8) a + S1x16.size a ≤ S48x128.size a := fun v12 k0_hw2 k0_t6 k0_t8 => k0_hw2.1.2.2.2.2.2.2.2.2.2.2.2.2.2.2.2.2.2.2.2.2.2.1 k0_t6 k0_t8
theorem k0_t9_ok : ∀ (v12 : BitVec 32) (k0_hw2 : k0_chk2 v12), (k0_t9_loop v12).OK := fun v12 k0_hw2 => k0_hw2.1.2.2.2.2.2.2.2.2.2.2.2.2.2.2.2.2.2.2.2.2.2.2.1
theorem k0_off47_inb : ∀ (v12 : BitVec 32) (k0_hw2 : k0_chk2 v12) (k0_t9 : Fin (k0_t9_loop v12).trips), ∀ a, (k0_off47 v12 k0_t9) a + S48.size a ≤ S2064.size a := fun v12 k0_hw2 k0_t9 => k0_hw2.1.2.2.2.2.2.2.2.2.2.2.2.2.2.2.2.2.2.2.2.2.2.2.2.1 k0_t9
theorem k0_t10_ok : ∀ (v12 : BitVec 32) (k0_hw2 : k0_chk2 v12) (k0_t9 : Fin (k0_t9_loop v12).trips), (k0_t10_loop v12 k0_t9).OK := fun v12 k0_hw2 k0_t9 => k0_hw2.1.2.2.2.2.2.2.2.2.2.2.2.2.2.2.2.2.2.2.2.2.2.2.2.2.1 k0_t9
theorem k0_off48_inb : ∀ (v12 : BitVec 32) (k0_hw2 : k0_chk2 v12) (k0_t9 : Fin (k0_t9_loop v12).trips) (k0_t10 : Fin (k0_t10_loop v12 k0_t9).trips), ∀ a, (k0_off48 v12 k0_t9 k0_t10) a + S16.size a ≤ S2064.size a := fun v12 k0_hw2 k0_t9 k0_t10 => k0_hw2.1.2.2.2.2.2.2.2.2.2.2.2.2.2.2.2.2.2.2.2.2.2.2.2.2.2.1 k0_t9 k0_t10
theorem k0_off50_inb : ∀ (v12 : BitVec 32) (k0_hw2 : k0_chk2 v12) (k0_t9 : Fin (k0_t9_loop v12).trips) (k0_t10 : Fin (k0_t10_loop v12 k0_t9).trips), ∀ a, (k0_off50 v12 k0_t9 k0_t10) a + S1x16.size a ≤ S48x128.size a := fun v12 k0_hw2 k0_t9 k0_t10 => k0_hw2.1.2.2.2.2.2.2.2.2.2.2.2.2.2.2.2.2.2.2.2.2.2.2.2.2.2.2.1 k0_t9 k0_t10
theorem k0_off52_inb : ∀ (v12 : BitVec 32) (k0_hw2 : k0_chk2 v12) (k0_t9 : Fin (k0_t9_loop v12).trips) (k0_t10 : Fin (k0_t10_loop v12 k0_t9).trips), ∀ a, (k0_off52 v12 k0_t9 k0_t10) a + S1x16.size a ≤ S48x128.size a := fun v12 k0_hw2 k0_t9 k0_t10 => k0_hw2.1.2.2.2.2.2.2.2.2.2.2.2.2.2.2.2.2.2.2.2.2.2.2.2.2.2.2.2.1 k0_t9 k0_t10
theorem k0_off54_inb : ∀ (v12 : BitVec 32) (k0_hw2 : k0_chk2 v12) (k0_t9 : Fin (k0_t9_loop v12).trips) (k0_t10 : Fin (k0_t10_loop v12 k0_t9).trips), ∀ a, (k0_off54 v12 k0_t9 k0_t10) a + S1x16.size a ≤ S48x128.size a := fun v12 k0_hw2 k0_t9 k0_t10 => k0_hw2.1.2.2.2.2.2.2.2.2.2.2.2.2.2.2.2.2.2.2.2.2.2.2.2.2.2.2.2.2.1 k0_t9 k0_t10
theorem k0_off56_inb : ∀ (v12 : BitVec 32) (k0_hw2 : k0_chk2 v12) (k0_t9 : Fin (k0_t9_loop v12).trips) (k0_t10 : Fin (k0_t10_loop v12 k0_t9).trips), ∀ a, (k0_off56 v12 k0_t9 k0_t10) a + S1x16.size a ≤ S48x128.size a := fun v12 k0_hw2 k0_t9 k0_t10 => k0_hw2.1.2.2.2.2.2.2.2.2.2.2.2.2.2.2.2.2.2.2.2.2.2.2.2.2.2.2.2.2.2.1 k0_t9 k0_t10
theorem k0_off58_inb : ∀ (v12 : BitVec 32) (k0_hw2 : k0_chk2 v12) (k0_t9 : Fin (k0_t9_loop v12).trips) (k0_t10 : Fin (k0_t10_loop v12 k0_t9).trips), ∀ a, (k0_off58 v12 k0_t9 k0_t10) a + S1x16.size a ≤ S48x128.size a := fun v12 k0_hw2 k0_t9 k0_t10 => k0_hw2.1.2.2.2.2.2.2.2.2.2.2.2.2.2.2.2.2.2.2.2.2.2.2.2.2.2.2.2.2.2.2.1 k0_t9 k0_t10
theorem k0_off60_inb : ∀ (v12 : BitVec 32) (k0_hw2 : k0_chk2 v12) (k0_t9 : Fin (k0_t9_loop v12).trips) (k0_t10 : Fin (k0_t10_loop v12 k0_t9).trips), ∀ a, (k0_off60 v12 k0_t9 k0_t10) a + S1x16.size a ≤ S48x128.size a := fun v12 k0_hw2 k0_t9 k0_t10 => k0_hw2.1.2.2.2.2.2.2.2.2.2.2.2.2.2.2.2.2.2.2.2.2.2.2.2.2.2.2.2.2.2.2.2 k0_t9 k0_t10
theorem k0_off62_inb : ∀ (v12 : BitVec 32) (k0_hw2 : k0_chk2 v12) (k0_t9 : Fin (k0_t9_loop v12).trips) (k0_t10 : Fin (k0_t10_loop v12 k0_t9).trips), ∀ a, (k0_off62 v12 k0_t9 k0_t10) a + S1x16.size a ≤ S48x128.size a := fun v12 k0_hw2 k0_t9 k0_t10 => k0_hw2.2.1 k0_t9 k0_t10
theorem k0_off64_inb : ∀ (v12 : BitVec 32) (k0_hw2 : k0_chk2 v12) (k0_t9 : Fin (k0_t9_loop v12).trips) (k0_t10 : Fin (k0_t10_loop v12 k0_t9).trips), ∀ a, (k0_off64 v12 k0_t9 k0_t10) a + S1x16.size a ≤ S48x128.size a := fun v12 k0_hw2 k0_t9 k0_t10 => k0_hw2.2.2.1 k0_t9 k0_t10
theorem k0_t11_ok : ∀ (v12 : BitVec 32) (k0_hw2 : k0_chk2 v12) (k0_t9 : Fin (k0_t9_loop v12).trips), (k0_t11_loop v12 k0_t9).OK := fun v12 k0_hw2 k0_t9 => k0_hw2.2.2.2.1 k0_t9
theorem k0_off65_inb : ∀ (v12 : BitVec 32) (k0_hw2 : k0_chk2 v12) (k0_t9 : Fin (k0_t9_loop v12).trips) (k0_t11 : Fin (k0_t11_loop v12 k0_t9).trips), ∀ a, (k0_off65 v12 k0_t9 k0_t11) a + S16.size a ≤ S2064.size a := fun v12 k0_hw2 k0_t9 k0_t11 => k0_hw2.2.2.2.2.1 k0_t9 k0_t11
theorem k0_off67_inb : ∀ (v12 : BitVec 32) (k0_hw2 : k0_chk2 v12) (k0_t9 : Fin (k0_t9_loop v12).trips) (k0_t11 : Fin (k0_t11_loop v12 k0_t9).trips), ∀ a, (k0_off67 v12 k0_t9 k0_t11) a + S1x16.size a ≤ S48x128.size a := fun v12 k0_hw2 k0_t9 k0_t11 => k0_hw2.2.2.2.2.2.1 k0_t9 k0_t11
theorem k0_off69_inb : ∀ (v12 : BitVec 32) (k0_hw2 : k0_chk2 v12) (k0_t9 : Fin (k0_t9_loop v12).trips) (k0_t11 : Fin (k0_t11_loop v12 k0_t9).trips), ∀ a, (k0_off69 v12 k0_t9 k0_t11) a + S1x16.size a ≤ S48x128.size a := fun v12 k0_hw2 k0_t9 k0_t11 => k0_hw2.2.2.2.2.2.2.1 k0_t9 k0_t11
theorem k0_off71_inb : ∀ (v12 : BitVec 32) (k0_hw2 : k0_chk2 v12) (k0_t9 : Fin (k0_t9_loop v12).trips) (k0_t11 : Fin (k0_t11_loop v12 k0_t9).trips), ∀ a, (k0_off71 v12 k0_t9 k0_t11) a + S1x16.size a ≤ S48x128.size a := fun v12 k0_hw2 k0_t9 k0_t11 => k0_hw2.2.2.2.2.2.2.2.1 k0_t9 k0_t11
theorem k0_off73_inb : ∀ (v12 : BitVec 32) (k0_hw2 : k0_chk2 v12) (k0_t9 : Fin (k0_t9_loop v12).trips) (k0_t11 : Fin (k0_t11_loop v12 k0_t9).trips), ∀ a, (k0_off73 v12 k0_t9 k0_t11) a + S1x16.size a ≤ S48x128.size a := fun v12 k0_hw2 k0_t9 k0_t11 => k0_hw2.2.2.2.2.2.2.2.2.1 k0_t9 k0_t11
theorem k0_off75_inb : ∀ (v12 : BitVec 32) (k0_hw2 : k0_chk2 v12) (k0_t9 : Fin (k0_t9_loop v12).trips) (k0_t11 : Fin (k0_t11_loop v12 k0_t9).trips), ∀ a, (k0_off75 v12 k0_t9 k0_t11) a + S1x16.size a ≤ S48x128.size a := fun v12 k0_hw2 k0_t9 k0_t11 => k0_hw2.2.2.2.2.2.2.2.2.2.1 k0_t9 k0_t11
theorem k0_off77_inb : ∀ (v12 : BitVec 32) (k0_hw2 : k0_chk2 v12) (k0_t9 : Fin (k0_t9_loop v12).trips) (k0_t11 : Fin (k0_t11_loop v12 k0_t9).trips), ∀ a, (k0_off77 v12 k0_t9 k0_t11) a + S1x16.size a ≤ S48x128.size a := fun v12 k0_hw2 k0_t9 k0_t11 => k0_hw2.2.2.2.2.2.2.2.2.2.2.1 k0_t9 k0_t11
theorem k0_off79_inb : ∀ (v12 : BitVec 32) (k0_hw2 : k0_chk2 v12) (k0_t9 : Fin (k0_t9_loop v12).trips) (k0_t11 : Fin (k0_t11_loop v12 k0_t9).trips), ∀ a, (k0_off79 v12 k0_t9 k0_t11) a + S1x16.size a ≤ S48x128.size a := fun v12 k0_hw2 k0_t9 k0_t11 => k0_hw2.2.2.2.2.2.2.2.2.2.2.2.1 k0_t9 k0_t11
theorem k0_off81_inb : ∀ (v12 : BitVec 32) (k0_hw2 : k0_chk2 v12) (k0_t9 : Fin (k0_t9_loop v12).trips) (k0_t11 : Fin (k0_t11_loop v12 k0_t9).trips), ∀ a, (k0_off81 v12 k0_t9 k0_t11) a + S1x16.size a ≤ S48x128.size a := fun v12 k0_hw2 k0_t9 k0_t11 => k0_hw2.2.2.2.2.2.2.2.2.2.2.2.2 k0_t9 k0_t11

def k0_off82 (i : grid0.Coords) (k0_t2 : Fin k0_t2_loop.trips) : Fin 2 → Nat :=
  let c0_i32_3 : BitVec 32 := 0#32
  let c1_i32_5 : BitVec 32 := 1#32
  let arg11 : BitVec 32 := Scf.iv c0_i32_3 c1_i32_5 k0_t2
  let c32_i32 : BitVec 32 := 32#32
  let v5 : BitVec 32 := Scalar.muli arg11 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c784_i32 : BitVec 32 := 784#32
  let v7 : BitVec 32 := Scalar.muli v6 c784_i32
  let c0_i32_16_r1 : BitVec 32 := 0#32
  ![v7.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S800000x128 : Shape := ⟨2, ![800000, 128]⟩
abbrev S800000 : Shape := ⟨1, ![800000]⟩
abbrev S50176 : Shape := ⟨1, ![50176]⟩
abbrev S1x800000 : Shape := ⟨2, ![1, 800000]⟩
abbrev S50176x1 : Shape := ⟨2, ![50176, 1]⟩
abbrev S50176x800000 : Shape := ⟨2, ![50176, 800000]⟩
abbrev S50176x800000x1 : Shape := ⟨3, ![50176, 800000, 1]⟩
abbrev S1x800000x128 : Shape := ⟨3, ![1, 800000, 128]⟩
abbrev S_ : Shape := ⟨0, ![]⟩
abbrev S50176x800000x128 : Shape := ⟨3, ![50176, 800000, 128]⟩
abbrev S50176x128 : Shape := ⟨2, ![50176, 128]⟩

abbrev nBuf : Space → Nat
  | .hbm => 21
  | .vmem => 0
  | .smem => 0
  | _ => 0

abbrev bufTy : (tb : Table) → Fin (tcTables nBuf tb) → BufTy
  | .hbm, ⟨0, _⟩ => ⟨S800000x128, .f32⟩
  | .hbm, ⟨1, _⟩ => ⟨S800000, .i32⟩
  | .hbm, ⟨2, _⟩ => ⟨S50176, .i32⟩
  | .hbm, ⟨3, _⟩ => ⟨S1x800000, .i32⟩
  | .hbm, ⟨4, _⟩ => ⟨S50176x1, .i32⟩
  | .hbm, ⟨5, _⟩ => ⟨S50176x800000, .i32⟩
  | .hbm, ⟨6, _⟩ => ⟨S50176x800000, .i32⟩
  | .hbm, ⟨7, _⟩ => ⟨S50176x800000, .i1⟩
  | .hbm, ⟨8, _⟩ => ⟨S50176x800000x1, .i1⟩
  | .hbm, ⟨9, _⟩ => ⟨S1x800000x128, .f32⟩
  | .hbm, ⟨10, _⟩ => ⟨S_, .f32⟩
  | .hbm, ⟨11, _⟩ => ⟨S_, .f32⟩
  | .hbm, ⟨12, _⟩ => ⟨S50176x800000x128, .i1⟩
  | .hbm, ⟨13, _⟩ => ⟨S50176x800000x128, .f32⟩
  | .hbm, ⟨14, _⟩ => ⟨S50176x800000x128, .f32⟩
  | .hbm, ⟨15, _⟩ => ⟨S50176x800000x128, .f32⟩
  | .hbm, ⟨16, _⟩ => ⟨S_, .f32⟩
  | .hbm, ⟨17, _⟩ => ⟨S50176x128, .f32⟩
  | .hbm, ⟨18, _⟩ => ⟨S_, .f32⟩
  | .hbm, ⟨19, _⟩ => ⟨S50176x128, .f32⟩
  | .hbm, ⟨20, _⟩ => ⟨S50176x128, .f32⟩
  | _, _ => ⟨S800000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Gather.lean ====
abbrev S50000x16 : Shape := ⟨2, ![50000, 16]⟩
abbrev S800000 : Shape := ⟨1, ![800000]⟩
abbrev S800000x16 : Shape := ⟨2, ![800000, 16]⟩
abbrev S1000 : Shape := ⟨1, ![1000]⟩
abbrev S1000x16 : Shape := ⟨2, ![1000, 16]⟩
abbrev S_ : Shape := ⟨0, ![]⟩

abbrev nBuf : Table → Nat
  | .hbm => 5
  | .local .scVector .vmem => 4
  | _ => 0

abbrev bufTy : (tb : Table) → Fin (nBuf tb) → BufTy
  | .hbm, ⟨0, _⟩ => ⟨S50000x16, .f32⟩
  | .hbm, ⟨1, _⟩ => ⟨S800000, .i32⟩
  | .hbm, ⟨2, _⟩ => ⟨S800000, .i32⟩
  | .hbm, ⟨3, _⟩ => ⟨S800000x16, .f32⟩
  | .hbm, ⟨4, _⟩ => ⟨S800000x16, .f32⟩
  | .local .scVector .vmem, ⟨0, _⟩ => ⟨S1000, .i32⟩
  | .local .scVector .vmem, ⟨1, _⟩ => ⟨S1000x16, .f32⟩
  | .local .scVector .vmem, ⟨2, _⟩ => ⟨S1000, .i32⟩
  | .local .scVector .vmem, ⟨3, _⟩ => ⟨S1000x16, .f32⟩
  | _, _ => ⟨S50000x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 3, rfl⟩
abbrev main_v0_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c25_i32 : BitVec 32 := 25#32
  let v3 : BitVec 32 := Scalar.addi c0_i32_0 c25_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25000_i32 : BitVec 32 := 25000#32
  let v2 : BitVec 32 := Scalar.muli v1 c25000_i32
  let c0_i32_0 : BitVec 32 := 0#32
  let c1_i32 : BitVec 32 := 1#32
  let arg13 : BitVec 32 := Scf.iv c0_i32_0 c1_i32 k0_t1
  let c1000_i32 : BitVec 32 := 1000#32
  let v4 : BitVec 32 := Scalar.muli arg13 c1000_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25000_i32 : BitVec 32 := 25000#32
  let v2 : BitVec 32 := Scalar.muli v1 c25000_i32
  let c0_i32_0 : BitVec 32 := 0#32
  let c1_i32 : BitVec 32 := 1#32
  let arg13 : BitVec 32 := Scf.iv c0_i32_0 c1_i32 k0_t1
  let c1000_i32 : BitVec 32 := 1000#32
  let v4 : BitVec 32 := Scalar.muli arg13 c1000_i32
  let v5 : BitVec 32 := Scalar.addi v2 v4
  let c0_i32_10_r2 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReference.lean ====
abbrev S50000x16 : Shape := ⟨2, ![50000, 16]⟩
abbrev S800000 : Shape := ⟨1, ![800000]⟩
abbrev S_ : Shape := ⟨0, ![]⟩
abbrev S800000x1 : Shape := ⟨2, ![800000, 1]⟩
abbrev S800000x16 : Shape := ⟨2, ![800000, 16]⟩

abbrev nBuf : Space → Nat
  | .hbm => 21
  | .vmem => 0
  | .smem => 0
  | _ => 0

abbrev bufTy : (tb : Table) → Fin (tcTables nBuf tb) → BufTy
  | .hbm, ⟨0, _⟩ => ⟨S50000x16, .f32⟩
  | .hbm, ⟨1, _⟩ => ⟨S800000, .i32⟩
  | .hbm, ⟨2, _⟩ => ⟨S800000, .i32⟩
  | .hbm, ⟨3, _⟩ => ⟨S_, .i32⟩
  | .hbm, ⟨4, _⟩ => ⟨S800000, .i32⟩
  | .hbm, ⟨5, _⟩ => ⟨S800000, .i1⟩
  | .hbm, ⟨6, _⟩ => ⟨S_, .i32⟩
  | .hbm, ⟨7, _⟩ => ⟨S800000, .i32⟩
  | .hbm, ⟨8, _⟩ => ⟨S800000, .i32⟩
  | .hbm, ⟨9, _⟩ => ⟨S800000, .i32⟩
  | .hbm, ⟨10, _⟩ => ⟨S800000x1, .i32⟩
  | .hbm, ⟨11, _⟩ => ⟨S800000x16, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x16, .f32⟩
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Records.lean ====
abbrev S50000x8 : Shape := ⟨2, ![50000, 8]⟩
abbrev S50000x3 : Shape := ⟨2, ![50000, 3]⟩
abbrev S50000 : Shape := ⟨1, ![50000]⟩
abbrev S4 : Shape := ⟨1, ![4]⟩
abbrev S50000x1 : Shape := ⟨2, ![50000, 1]⟩
abbrev S4x1 : Shape := ⟨2, ![4, 1]⟩
abbrev S50000x16 : Shape := ⟨2, ![50000, 16]⟩
abbrev S5000x8 : Shape := ⟨2, ![5000, 8]⟩
abbrev S5000x1 : Shape := ⟨2, ![5000, 1]⟩
abbrev S5000x3 : Shape := ⟨2, ![5000, 3]⟩
abbrev S5000x16 : Shape := ⟨2, ![5000, 16]⟩
abbrev S5000x4 : Shape := ⟨2, ![5000, 4]⟩

abbrev nBuf : Space → Nat
  | .hbm => 9
  | .vmem => 11
  | .smem => 0
  | _ => 0

abbrev bufTy : (tb : Table) → Fin (tcTables nBuf tb) → BufTy
  | .hbm, ⟨0, _⟩ => ⟨S50000x8, .f32⟩
  | .hbm, ⟨1, _⟩ => ⟨S50000x3, .f32⟩
  | .hbm, ⟨2, _⟩ => ⟨S50000, .f32⟩
  | .hbm, ⟨3, _⟩ => ⟨S4, .f32⟩
  | .hbm, ⟨4, _⟩ => ⟨S50000, .i32⟩
  | .hbm, ⟨5, _⟩ => ⟨S50000x1, .f32⟩
  | .hbm, ⟨6, _⟩ => ⟨S50000x1, .i32⟩
  | .hbm, ⟨7, _⟩ => ⟨S4x1, .f32⟩
  | .hbm, ⟨8, _⟩ => ⟨S50000x16, .f32⟩
  | .local _ .vmem, ⟨0, _⟩ => ⟨S5000x8, .f32⟩
  | .local _ .vmem, ⟨1, _⟩ => ⟨S5000x8, .f32⟩
  | .local _ .vmem, ⟨2, _⟩ => ⟨S5000x1, .f32⟩
  | .local _ .vmem, ⟨3, _⟩ => ⟨S5000x1, .f32⟩
  | .local _ .vmem, ⟨4, _⟩ => ⟨S5000x3, .f32⟩
  | .local _ .vmem, ⟨5, _⟩ => ⟨S5000x3, .f32⟩
  | .local _ .vmem, ⟨6, _⟩ => ⟨S5000x1, .i32⟩
  | .local _ .vmem, ⟨7, _⟩ => ⟨S5000x1, .i32⟩
  | .local _ .vmem, ⟨8, _⟩ => ⟨S4x1, .f32⟩
  | .local _ .vmem, ⟨9, _⟩ => ⟨S5000x16, .f32⟩
  | .local _ .vmem, ⟨10, _⟩ => ⟨S5000x16, .f32⟩
  | _, _ => ⟨S50000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RecordsReferenceIdeal.lean ====
abbrev S50000x8 : Shape := ⟨2, ![50000, 8]⟩
abbrev S50000x3 : Shape := ⟨2, ![50000, 3]⟩
abbrev S50000 : Shape := ⟨1, ![50000]⟩
abbrev S4 : Shape := ⟨1, ![4]⟩
abbrev S50000x1 : Shape := ⟨2, ![50000, 1]⟩
abbrev S50000x9 : Shape := ⟨2, ![50000, 9]⟩
abbrev S_ : Shape := ⟨0, ![]⟩
abbrev S50000x4 : Shape := ⟨2, ![50000, 4]⟩
abbrev S50000x16 : Shape := ⟨2, ![50000, 16]⟩

abbrev nBuf : Space → Nat
  | .hbm => 22
  | .vmem => 0
  | .smem => 0
  | _ => 0

abbrev bufTy : (tb : Table) → Fin (tcTables nBuf tb) → BufTy
  | .hbm, ⟨0, _⟩ => ⟨S50000x8, .f32⟩
  | .hbm, ⟨1, _⟩ => ⟨S50000x3, .f32⟩
  | .hbm, ⟨2, _⟩ => ⟨S50000, .f32⟩
  | .hbm, ⟨3, _⟩ => ⟨S4, .f32⟩
  | .hbm, ⟨4, _⟩ => ⟨S50000, .i32⟩
  | .hbm, ⟨5, _⟩ => ⟨S50000x1, .f32⟩
  | .hbm, ⟨6, _⟩ => ⟨S50000x9, .f32⟩
  | .hbm, ⟨7, _⟩ => ⟨S_, .i32⟩
  | .hbm, ⟨8, _⟩ => ⟨S50000, .i32⟩
  | .hbm, ⟨9, _⟩ => ⟨S50000, .i1⟩
  | .hbm, ⟨10, _⟩ => ⟨S_, .i32⟩
  | .hbm, ⟨11, _⟩ => ⟨S50000, .i32⟩
  | .hbm, ⟨12, _⟩ => ⟨S50000, .i32⟩
  | .hbm, ⟨13, _⟩ => ⟨S50000, .i32⟩
  | .hbm, ⟨14, _⟩ => ⟨S50000x1, .i32⟩
  | .hbm, ⟨15, _⟩ => ⟨S50000, .f32⟩
  | .hbm, ⟨16, _⟩ => ⟨S50000x1, .f32⟩
  | .hbm, ⟨17, _⟩ => ⟨S50000x3, .f32⟩
  | .hbm, ⟨18, _⟩ => ⟨S50000x3, .f32⟩
  | .hbm, ⟨19, _⟩ => ⟨S_, .f32⟩
  | .hbm, ⟨20, _⟩ => ⟨S50000x4, .f32⟩
  | .hbm, ⟨21, _⟩ => ⟨S50000x16, .f32⟩
  | _, _ => ⟨S50000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Edge.lean ====
abbrev S800000x16 : Shape := ⟨2, ![800000, 16]⟩
abbrev S12x64 : Shape := ⟨2, ![12, 64]⟩
abbrev S64 : Shape := ⟨1, ![64]⟩
abbrev S64x128 : Shape := ⟨2, ![64, 128]⟩
abbrev S128 : Shape := ⟨1, ![128]⟩
abbrev S_ : Shape := ⟨0, ![]⟩
abbrev S4x64 : Shape := ⟨2, ![4, 64]⟩
abbrev S16x64 : Shape := ⟨2, ![16, 64]⟩
abbrev S9x64 : Shape := ⟨2, ![9, 64]⟩
abbrev S3x64 : Shape := ⟨2, ![3, 64]⟩
abbrev S1x64 : Shape := ⟨2, ![1, 64]⟩
abbrev S1x128 : Shape := ⟨2, ![1, 128]⟩
abbrev S3x128 : Shape := ⟨2, ![3, 128]⟩
abbrev S800000x128 : Shape := ⟨2, ![800000, 128]⟩
abbrev S4000x16 : Shape := ⟨2, ![4000, 16]⟩
abbrev S4000x128 : Shape := ⟨2, ![4000, 128]⟩
abbrev S4000x64 : Shape := ⟨2, ![4000, 64]⟩

abbrev nBuf : Space → Nat
  | .hbm => 29
  | .vmem => 11
  | .smem => 0
  | _ => 0

abbrev bufTy : (tb : Table) → Fin (tcTables nBuf tb) → BufTy
  | .hbm, ⟨0, _⟩ => ⟨S800000x16, .f32⟩
  | .hbm, ⟨1, _⟩ => ⟨S800000x16, .f32⟩
  | .hbm, ⟨2, _⟩ => ⟨S12x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S4x64, .f32⟩
  | .hbm, ⟨12, _⟩ => ⟨S16x64, .f32⟩
  | .hbm, ⟨13, _⟩ => ⟨S_, .f32⟩
  | .hbm, ⟨14, _⟩ => ⟨S9x64, .f32⟩
  | .hbm, ⟨15, _⟩ => ⟨S3x64, .f32⟩
  | .hbm, ⟨16, _⟩ => ⟨S3x64, .f32⟩
  | .hbm, ⟨17, _⟩ => ⟨S_, .f32⟩
  | .hbm, ⟨18, _⟩ => ⟨S4x64, .f32⟩
  | .hbm, ⟨19, _⟩ => ⟨S16x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S3x64, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S3x128, .f32⟩
  | .hbm, ⟨28, _⟩ => ⟨S800000x128, .f32⟩
  | .local _ .vmem, ⟨0, _⟩ => ⟨S4000x16, .f32⟩
  | .local _ .vmem, ⟨1, _⟩ => ⟨S4000x16, .f32⟩
  | .local _ .vmem, ⟨2, _⟩ => ⟨S4000x16, .f32⟩
  | .local _ .vmem, ⟨3, _⟩ => ⟨S4000x16, .f32⟩
  | .local _ .vmem, ⟨4, _⟩ => ⟨S16x64, .f32⟩
  | .local _ .vmem, ⟨5, _⟩ => ⟨S16x64, .f32⟩
  | .local _ .vmem, ⟨6, _⟩ => ⟨S3x64, .f32⟩
  | .local _ .vmem, ⟨7, _⟩ => ⟨S64x128, .f32⟩
  | .local _ .vmem, ⟨8, _⟩ => ⟨S3x128, .f32⟩
  | .local _ .vmem, ⟨9, _⟩ => ⟨S4000x128, .f32⟩
  | .local _ .vmem, ⟨10, _⟩ => ⟨S4000x128, .f32⟩
  | _, _ => ⟨S800000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EdgeReferenceIdeal.lean ====
abbrev S800000x16 : Shape := ⟨2, ![800000, 16]⟩
abbrev S12x64 : Shape := ⟨2, ![12, 64]⟩
abbrev S64 : Shape := ⟨1, ![64]⟩
abbrev S64x128 : Shape := ⟨2, ![64, 128]⟩
abbrev S128 : Shape := ⟨1, ![128]⟩
abbrev S800000x9 : Shape := ⟨2, ![800000, 9]⟩
abbrev S800000x3 : Shape := ⟨2, ![800000, 3]⟩
abbrev S800000x12 : Shape := ⟨2, ![800000, 12]⟩
abbrev S800000x64 : Shape := ⟨2, ![800000, 64]⟩
abbrev S1x64 : Shape := ⟨2, ![1, 64]⟩
abbrev S_ : Shape := ⟨0, ![]⟩
abbrev S800000x128 : Shape := ⟨2, ![800000, 128]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S800000x16, .f32⟩
  | .hbm, ⟨1, _⟩ => ⟨S800000x16, .f32⟩
  | .hbm, ⟨2, _⟩ => ⟨S12x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S800000x9, .f32⟩
  | .hbm, ⟨11, _⟩ => ⟨S800000x3, .f32⟩
  | .hbm, ⟨12, _⟩ => ⟨S800000x3, .f32⟩
  | .hbm, ⟨13, _⟩ => ⟨S800000x3, .f32⟩
  | .hbm, ⟨14, _⟩ => ⟨S800000x12, .f32⟩
  | .hbm, ⟨15, _⟩ => ⟨S800000x64, .f32⟩
  | .hbm, ⟨16, _⟩ => ⟨S1x64, .f32⟩
  | .hbm, ⟨17, _⟩ => ⟨S800000x64, .f32⟩
  | .hbm, ⟨18, _⟩ => ⟨S800000x64, .f32⟩
  | .hbm, ⟨19, _⟩ => ⟨S_, .f32⟩
  | .hbm, ⟨20, _⟩ => ⟨S800000x64, .f32⟩
  | .hbm, ⟨21, _⟩ => ⟨S800000x64, .i1⟩
  | .hbm, ⟨22, _⟩ => ⟨S_, .f32⟩
  | .hbm, ⟨23, _⟩ => ⟨S800000x64, .f32⟩
  | .hbm, ⟨24, _⟩ => ⟨S800000x64, .f32⟩
  | .hbm, ⟨25, _⟩ => ⟨S800000x64, .f32⟩
  | .hbm, ⟨26, _⟩ => ⟨S1x64, .f32⟩
  | .hbm, ⟨27, _⟩ => ⟨S800000x64, .f32⟩
  | .hbm, ⟨28, _⟩ => ⟨S800000x64, .f32⟩
  | .hbm, ⟨29, _⟩ => ⟨S1x64, .f32⟩
  | .hbm, ⟨30, _⟩ => ⟨S800000x64, .f32⟩
  | .hbm, ⟨31, _⟩ => ⟨S800000x64, .f32⟩
  | .hbm, ⟨32, _⟩ => ⟨S800000x128, .f32⟩
  | .hbm, ⟨33, _⟩ => ⟨S1x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S800000x128, .f32⟩
  | .hbm, ⟨38, _⟩ => ⟨S800000x128, .i1⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S1x128, .f32⟩
  | .hbm, ⟨44, _⟩ => ⟨S800000x128, .f32⟩
  | .hbm, ⟨45, _⟩ => ⟨S800000x128, .f32⟩
  | .hbm, ⟨46, _⟩ => ⟨S1x128, .f32⟩
  | .hbm, ⟨47, _⟩ => ⟨S800000x128, .f32⟩
  | .hbm, ⟨48, _⟩ => ⟨S800000x128, .f32⟩
  | _, _ => ⟨S800000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Tail.lean ====
abbrev S50000x128 : Shape := ⟨2, ![50000, 128]⟩
abbrev S50000 : Shape := ⟨1, ![50000]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S128x32 : Shape := ⟨2, ![128, 32]⟩
abbrev S32x128 : Shape := ⟨2, ![32, 128]⟩
abbrev S128x16 : Shape := ⟨2, ![128, 16]⟩
abbrev S16 : Shape := ⟨1, ![16]⟩
abbrev S50000x1 : Shape := ⟨2, ![50000, 1]⟩
abbrev S512x1 : Shape := ⟨2, ![512, 1]⟩
abbrev S_ : Shape := ⟨0, ![]⟩
abbrev S32 : Shape := ⟨1, ![32]⟩
abbrev S1x32 : Shape := ⟨2, ![1, 32]⟩
abbrev S512x32 : Shape := ⟨2, ![512, 32]⟩
abbrev S128x1 : Shape := ⟨2, ![128, 1]⟩
abbrev S32x512 : Shape := ⟨2, ![32, 512]⟩
abbrev S50000x512 : Shape := ⟨2, ![50000, 512]⟩
abbrev S2x32 : Shape := ⟨2, ![2, 32]⟩
abbrev S2000x128 : Shape := ⟨2, ![2000, 128]⟩
abbrev S2000x512 : Shape := ⟨2, ![2000, 512]⟩
abbrev S2000x32 : Shape := ⟨2, ![2000, 32]⟩
abbrev S1x512 : Shape := ⟨2, ![1, 512]⟩
abbrev S2x512 : Shape := ⟨2, ![2, 512]⟩
abbrev S1x128 : Shape := ⟨2, ![1, 128]⟩
abbrev S2x128 : Shape := ⟨2, ![2, 128]⟩
abbrev S8x128 : Shape := ⟨2, ![8, 128]⟩
abbrev S2000x1 : Shape := ⟨2, ![2000, 1]⟩
abbrev S2000x4 : Shape := ⟨2, ![2000, 4]⟩
abbrev S4x128 : Shape := ⟨2, ![4, 128]⟩
abbrev S1x16 : Shape := ⟨2, ![1, 16]⟩
abbrev S50000x16 : Shape := ⟨2, ![50000, 16]⟩
abbrev S2000x16 : Shape := ⟨2, ![2000, 16]⟩
abbrev S4x32 : Shape := ⟨2, ![4, 32]⟩

abbrev nBuf : Space → Nat
  | .hbm => 105
  | .vmem => 62
  | .smem => 0
  | _ => 0

abbrev bufTy : (tb : Table) → Fin (tcTables nBuf tb) → BufTy
  | .hbm, ⟨0, _⟩ => ⟨S50000x128, .f32⟩
  | .hbm, ⟨1, _⟩ => ⟨S50000, .i32⟩
  | .hbm, ⟨2, _⟩ => ⟨S128x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x128, .f32⟩
  | .hbm, ⟨14, _⟩ => ⟨S128, .f32⟩
  | .hbm, ⟨15, _⟩ => ⟨S128, .f32⟩
  | .hbm, ⟨16, _⟩ => ⟨S128x32, .f32⟩
  | .hbm, ⟨17, _⟩ => ⟨S32x128, .f32⟩
  | .hbm, ⟨18, _⟩ => ⟨S128x16, .f32⟩
  | .hbm, ⟨19, _⟩ => ⟨S16, .f32⟩
  | .hbm, ⟨20, _⟩ => ⟨S50000x1, .i32⟩
  | .hbm, ⟨21, _⟩ => ⟨S512, .i32⟩
  | .hbm, ⟨22, _⟩ => ⟨S512x1, .i32⟩
  | .hbm, ⟨23, _⟩ => ⟨S_, .i32⟩
  | .hbm, ⟨24, _⟩ => ⟨S_, .i32⟩
  | .hbm, ⟨25, _⟩ => ⟨S512x1, .i32⟩
  | .hbm, ⟨26, _⟩ => ⟨S512x1, .i32⟩
  | .hbm, ⟨27, _⟩ => ⟨S512x1, .i32⟩
  | .hbm, ⟨28, _⟩ => ⟨S_, .i32⟩
  | .hbm, ⟨29, _⟩ => ⟨S512x1, .i32⟩
  | .hbm, ⟨30, _⟩ => ⟨S512x1, .i1⟩
  | .hbm, ⟨31, _⟩ => ⟨S512x1, .i32⟩
  | .hbm, ⟨32, _⟩ => ⟨S512x1, .i32⟩
  | .hbm, ⟨33, _⟩ => ⟨S_, .i32⟩
  | .hbm, ⟨34, _⟩ => ⟨S512x1, .i32⟩
  | .hbm, ⟨35, _⟩ => ⟨S512x1, .i1⟩
  | .hbm, ⟨36, _⟩ => ⟨S512x1, .i1⟩
  | .hbm, ⟨37, _⟩ => ⟨S_, .i32⟩
  | .hbm, ⟨38, _⟩ => ⟨S512x1, .i32⟩
  | .hbm, ⟨39, _⟩ => ⟨S512x1, .i32⟩
  | .hbm, ⟨40, _⟩ => ⟨S512x1, .i32⟩
  | .hbm, ⟨41, _⟩ => ⟨S32, .i32⟩
  | .hbm, ⟨42, _⟩ => ⟨S1x32, .i32⟩
  | .hbm, ⟨43, _⟩ => ⟨S512x32, .i32⟩
  | .hbm, ⟨44, _⟩ => ⟨S512x32, .i32⟩
  | .hbm, ⟨45, _⟩ => ⟨S512x32, .i1⟩
  | .hbm, ⟨46, _⟩ => ⟨S512x32, .f32⟩
  | .hbm, ⟨47, _⟩ => ⟨S128, .i32⟩
  | .hbm, ⟨48, _⟩ => ⟨S128x1, .i32⟩
  | .hbm, ⟨49, _⟩ => ⟨S_, .i32⟩
  | .hbm, ⟨50, _⟩ => ⟨S_, .i32⟩
  | .hbm, ⟨51, _⟩ => ⟨S128x1, .i32⟩
  | .hbm, ⟨52, _⟩ => ⟨S128x1, .i32⟩
  | .hbm, ⟨53, _⟩ => ⟨S128x1, .i32⟩
  | .hbm, ⟨54, _⟩ => ⟨S_, .i32⟩
  | .hbm, ⟨55, _⟩ => ⟨S128x1, .i32⟩
  | .hbm, ⟨56, _⟩ => ⟨S128x1, .i1⟩
  | .hbm, ⟨57, _⟩ => ⟨S128x1, .i32⟩
  | .hbm, ⟨58, _⟩ => ⟨S128x1, .i32⟩
  | .hbm, ⟨59, _⟩ => ⟨S_, .i32⟩
  | .hbm, ⟨60, _⟩ => ⟨S128x1, .i32⟩
  | .hbm, ⟨61, _⟩ => ⟨S128x1, .i1⟩
  | .hbm, ⟨62, _⟩ => ⟨S128x1, .i1⟩
  | .hbm, ⟨63, _⟩ => ⟨S_, .i32⟩
  | .hbm, ⟨64, _⟩ => ⟨S128x1, .i32⟩
  | .hbm, ⟨65, _⟩ => ⟨S128x1, .i32⟩
  | .hbm, ⟨66, _⟩ => ⟨S128x1, .i32⟩
  | .hbm, ⟨67, _⟩ => ⟨S32, .i32⟩
  | .hbm, ⟨68, _⟩ => ⟨S1x32, .i32⟩
  | .hbm, ⟨69, _⟩ => ⟨S128x32, .i32⟩
  | .hbm, ⟨70, _⟩ => ⟨S128x32, .i32⟩
  | .hbm, ⟨71, _⟩ => ⟨S128x32, .i1⟩
  | .hbm, ⟨72, _⟩ => ⟨S128x32, .f32⟩
  | .hbm, ⟨73, _⟩ => ⟨S32x512, .f32⟩
  | .hbm, ⟨74, _⟩ => ⟨S32x128, .f32⟩
  | .hbm, ⟨75, _⟩ => ⟨S50000x512, .f32⟩
  | .hbm, ⟨76, _⟩ => ⟨S2x32, .f32⟩
  | .hbm, ⟨77, _⟩ => ⟨S1x512, .f32⟩
  | .hbm, ⟨78, _⟩ => ⟨S1x512, .f32⟩
  | .hbm, ⟨79, _⟩ => ⟨S2x512, .f32⟩
  | .hbm, ⟨80, _⟩ => ⟨S1x512, .f32⟩
  | .hbm, ⟨81, _⟩ => ⟨S1x512, .f32⟩
  | .hbm, ⟨82, _⟩ => ⟨S2x512, .f32⟩
  | .hbm, ⟨83, _⟩ => ⟨S50000x512, .f32⟩
  | .hbm, ⟨84, _⟩ => ⟨S2x32, .f32⟩
  | .hbm, ⟨85, _⟩ => ⟨S1x512, .f32⟩
  | .hbm, ⟨86, _⟩ => ⟨S1x512, .f32⟩
  | .hbm, ⟨87, _⟩ => ⟨S2x512, .f32⟩
  | .hbm, ⟨88, _⟩ => ⟨S1x512, .f32⟩
  | .hbm, ⟨89, _⟩ => ⟨S50000x512, .f32⟩
  | .hbm, ⟨90, _⟩ => ⟨S2x32, .f32⟩
  | .hbm, ⟨91, _⟩ => ⟨S1x512, .f32⟩
  | .hbm, ⟨92, _⟩ => ⟨S1x512, .f32⟩
  | .hbm, ⟨93, _⟩ => ⟨S2x512, .f32⟩
  | .hbm, ⟨94, _⟩ => ⟨S_, .f32⟩
  | .hbm, ⟨95, _⟩ => ⟨S1x128, .f32⟩
  | .hbm, ⟨96, _⟩ => ⟨S50000x128, .f32⟩
  | .hbm, ⟨97, _⟩ => ⟨S2x32, .f32⟩
  | .hbm, ⟨98, _⟩ => ⟨S1x128, .f32⟩
  | .hbm, ⟨99, _⟩ => ⟨S1x128, .f32⟩
  | .hbm, ⟨100, _⟩ => ⟨S2x128, .f32⟩
  | .hbm, ⟨101, _⟩ => ⟨S50000x128, .f32⟩
  | .hbm, ⟨102, _⟩ => ⟨S8x128, .f32⟩
  | .hbm, ⟨103, _⟩ => ⟨S1x16, .f32⟩
  | .hbm, ⟨104, _⟩ => ⟨S50000x16, .f32⟩
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S512x32, .f32⟩
  | .local _ .vmem, ⟨4, _⟩ => ⟨S2000x512, .f32⟩
  | .local _ .vmem, ⟨5, _⟩ => ⟨S2000x512, .f32⟩
  | .local _ .vmem, ⟨6, _⟩ => ⟨S2x32, .f32⟩
  | .local _ .vmem, ⟨7, _⟩ => ⟨S2000x512, .f32⟩
  | .local _ .vmem, ⟨8, _⟩ => ⟨S2000x512, .f32⟩
  | .local _ .vmem, ⟨9, _⟩ => ⟨S2x32, .f32⟩
  | .local _ .vmem, ⟨10, _⟩ => ⟨S32x512, .f32⟩
  | .local _ .vmem, ⟨11, _⟩ => ⟨S2x512, .f32⟩
  | .local _ .vmem, ⟨12, _⟩ => ⟨S2x512, .f32⟩
  | .local _ .vmem, ⟨13, _⟩ => ⟨S512x32, .f32⟩
  | .local _ .vmem, ⟨14, _⟩ => ⟨S2000x512, .f32⟩
  | .local _ .vmem, ⟨15, _⟩ => ⟨S2000x512, .f32⟩
  | .local _ .vmem, ⟨16, _⟩ => ⟨S2x32, .f32⟩
  | .local _ .vmem, ⟨17, _⟩ => ⟨S2000x512, .f32⟩
  | .local _ .vmem, ⟨18, _⟩ => ⟨S2000x512, .f32⟩
  | .local _ .vmem, ⟨19, _⟩ => ⟨S2x32, .f32⟩
  | .local _ .vmem, ⟨20, _⟩ => ⟨S32x512, .f32⟩
  | .local _ .vmem, ⟨21, _⟩ => ⟨S2x512, .f32⟩
  | .local _ .vmem, ⟨22, _⟩ => ⟨S512x512, .f32⟩
  | .local _ .vmem, ⟨23, _⟩ => ⟨S1x512, .f32⟩
  | .local _ .vmem, ⟨24, _⟩ => ⟨S512x32, .f32⟩
  | .local _ .vmem, ⟨25, _⟩ => ⟨S2000x512, .f32⟩
  | .local _ .vmem, ⟨26, _⟩ => ⟨S2000x512, .f32⟩
  | .local _ .vmem, ⟨27, _⟩ => ⟨S2x32, .f32⟩
  | .local _ .vmem, ⟨28, _⟩ => ⟨S2000x512, .f32⟩
  | .local _ .vmem, ⟨29, _⟩ => ⟨S2000x512, .f32⟩
  | .local _ .vmem, ⟨30, _⟩ => ⟨S2x32, .f32⟩
  | .local _ .vmem, ⟨31, _⟩ => ⟨S32x512, .f32⟩
  | .local _ .vmem, ⟨32, _⟩ => ⟨S2x512, .f32⟩
  | .local _ .vmem, ⟨33, _⟩ => ⟨S512x128, .f32⟩
  | .local _ .vmem, ⟨34, _⟩ => ⟨S1x128, .f32⟩
  | .local _ .vmem, ⟨35, _⟩ => ⟨S128x32, .f32⟩
  | .local _ .vmem, ⟨36, _⟩ => ⟨S2000x128, .f32⟩
  | .local _ .vmem, ⟨37, _⟩ => ⟨S2000x128, .f32⟩
  | .local _ .vmem, ⟨38, _⟩ => ⟨S2x32, .f32⟩
  | .local _ .vmem, ⟨39, _⟩ => ⟨S2000x128, .f32⟩
  | .local _ .vmem, ⟨40, _⟩ => ⟨S2000x128, .f32⟩
  | .local _ .vmem, ⟨41, _⟩ => ⟨S2x32, .f32⟩
  | .local _ .vmem, ⟨42, _⟩ => ⟨S32x128, .f32⟩
  | .local _ .vmem, ⟨43, _⟩ => ⟨S2x128, .f32⟩
  | .local _ .vmem, ⟨44, _⟩ => ⟨S2000x128, .f32⟩
  | .local _ .vmem, ⟨45, _⟩ => ⟨S2000x128, .f32⟩
  | .local _ .vmem, ⟨46, _⟩ => ⟨S2000x1, .i32⟩
  | .local _ .vmem, ⟨47, _⟩ => ⟨S2000x1, .i32⟩
  | .local _ .vmem, ⟨48, _⟩ => ⟨S2000x128, .f32⟩
  | .local _ .vmem, ⟨49, _⟩ => ⟨S2000x128, .f32⟩
  | .local _ .vmem, ⟨50, _⟩ => ⟨S8x128, .f32⟩
  | .local _ .vmem, ⟨51, _⟩ => ⟨S2000x128, .f32⟩
  | .local _ .vmem, ⟨52, _⟩ => ⟨S2000x128, .f32⟩
  | .local _ .vmem, ⟨53, _⟩ => ⟨S8x128, .f32⟩
  | .local _ .vmem, ⟨54, _⟩ => ⟨S2000x1, .i32⟩
  | .local _ .vmem, ⟨55, _⟩ => ⟨S2000x1, .i32⟩
  | .local _ .vmem, ⟨56, _⟩ => ⟨S128x32, .f32⟩
  | .local _ .vmem, ⟨57, _⟩ => ⟨S32x128, .f32⟩
  | .local _ .vmem, ⟨58, _⟩ => ⟨S128x16, .f32⟩
  | .local _ .vmem, ⟨59, _⟩ => ⟨S1x16, .f32⟩
  | .local _ .vmem, ⟨60, _⟩ => ⟨S2000x16, .f32⟩
  | .local _ .vmem, ⟨61, _⟩ => ⟨S2000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_c_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21_0 : Ref sig .tc := ⟨.hbm, 75, rfl⟩
abbrev main_v21_1 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28_0 : Ref sig .tc := ⟨.hbm, 83, rfl⟩
abbrev main_v28_1 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33_0 : Ref sig .tc := ⟨.hbm, 89, rfl⟩
abbrev main_v33_1 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_cst : Ref sig .tc := ⟨.hbm, 94, rfl⟩
abbrev main_v37 : Ref sig .tc := ⟨.hbm, 95, rfl⟩
abbrev main_v38_0 : Ref sig .tc := ⟨.hbm, 96, rfl⟩
abbrev main_v38_1 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42_0 : Ref sig .tc := ⟨.hbm, 101, rfl⟩
abbrev main_v42_1 : Ref sig .tc := ⟨.hbm, 102, rfl⟩
abbrev main_v43 : Ref sig .tc := ⟨.hbm, 103, rfl⟩
abbrev main_v44 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc2_stg8_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc3_stg8_0 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg4_1 : Ref sig .tc := ⟨.vmem, 45, rfl⟩
abbrev cc4_stg5_0 : Ref sig .tc := ⟨.vmem, 46, rfl⟩
abbrev cc4_stg5_1 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg6_0 : Ref sig .tc := ⟨.vmem, 59, rfl⟩
abbrev cc5_stg7_0 : Ref sig .tc := ⟨.vmem, 60, rfl⟩
abbrev cc5_stg7_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26
abbrev cc2_sem8_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37
abbrev cc3_sem8_0 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem4_1 : DmaSem sig := 45
abbrev cc4_sem5_0 : DmaSem sig := 46
abbrev cc4_sem5_1 : DmaSem sig := 47
abbrev cc4_sem6_0 : DmaSem sig := 48
abbrev cc4_sem6_1 : DmaSem sig := 49
abbrev cc4_sem7_0 : DmaSem sig := 50
abbrev cc5_sem0_0 : DmaSem sig := 51
abbrev cc5_sem0_1 : DmaSem sig := 52
abbrev cc5_sem1_0 : DmaSem sig := 53
abbrev cc5_sem2_0 : DmaSem sig := 54
abbrev cc5_sem2_1 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem7_0 : DmaSem sig := 60
abbrev cc5_sem7_1 : DmaSem sig := 61

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S2x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S2x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x1 .i32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S8x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x1 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S32x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x16 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x16 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x16 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]
-- ==== TailReferenceIdeal.lean ====
abbrev S50000x128 : Shape := ⟨2, ![50000, 128]⟩
abbrev S50000 : Shape := ⟨1, ![50000]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S128x32 : Shape := ⟨2, ![128, 32]⟩
abbrev S32x128 : Shape := ⟨2, ![32, 128]⟩
abbrev S128x16 : Shape := ⟨2, ![128, 16]⟩
abbrev S16 : Shape := ⟨1, ![16]⟩
abbrev S_ : Shape := ⟨0, ![]⟩
abbrev S50000x512 : Shape := ⟨2, ![50000, 512]⟩
abbrev S50000x32x16 : Shape := ⟨3, ![50000, 32, 16]⟩
abbrev S32 : Shape := ⟨1, ![32]⟩
abbrev S1x32x1 : Shape := ⟨3, ![1, 32, 1]⟩
abbrev S1x512 : Shape := ⟨2, ![1, 512]⟩
abbrev S50000x32x4 : Shape := ⟨3, ![50000, 32, 4]⟩
abbrev S1x128 : Shape := ⟨2, ![1, 128]⟩
abbrev S50000x1 : Shape := ⟨2, ![50000, 1]⟩
abbrev S4 : Shape := ⟨1, ![4]⟩
abbrev S1x4 : Shape := ⟨2, ![1, 4]⟩
abbrev S50000x4 : Shape := ⟨2, ![50000, 4]⟩
abbrev S50000x4x1 : Shape := ⟨3, ![50000, 4, 1]⟩
abbrev S50000x1x128 : Shape := ⟨3, ![50000, 1, 128]⟩
abbrev S50000x4x128 : Shape := ⟨3, ![50000, 4, 128]⟩
abbrev S4x128 : Shape := ⟨2, ![4, 128]⟩
abbrev S4x1 : Shape := ⟨2, ![4, 1]⟩
abbrev S4x32 : Shape := ⟨2, ![4, 32]⟩
abbrev S50000x16 : Shape := ⟨2, ![50000, 16]⟩
abbrev S1x16 : Shape := ⟨2, ![1, 16]⟩

abbrev nBuf : Space → Nat
  | .hbm => 241
  | .vmem => 0
  | .smem => 0
  | _ => 0

abbrev hbmTy0_0 (i : Nat) : BufTy := match i % 128 with
  | 0 => ⟨S50000x128, .f32⟩
  | 1 => ⟨S50000, .i32⟩
  | 2 => ⟨S128x512, .f32⟩
  | 3 => ⟨S512, .f32⟩
  | 4 => ⟨S512, .f32⟩
  | 5 => ⟨S512, .f32⟩
  | 6 => ⟨S512, .f32⟩
  | 7 => ⟨S512, .f32⟩
  | 8 => ⟨S512, .f32⟩
  | 9 => ⟨S512x512, .f32⟩
  | 10 => ⟨S512, .f32⟩
  | 11 => ⟨S512, .f32⟩
  | 12 => ⟨S512, .f32⟩
  | 13 => ⟨S512x128, .f32⟩
  | 14 => ⟨S128, .f32⟩
  | 15 => ⟨S128, .f32⟩
  | 16 => ⟨S128x32, .f32⟩
  | 17 => ⟨S32x128, .f32⟩
  | 18 => ⟨S128x16, .f32⟩
  | 19 => ⟨S16, .f32⟩
  | 20 => ⟨S_, .f32⟩
  | 21 => ⟨S50000x128, .f32⟩
  | 22 => ⟨S50000x128, .i1⟩
  | 23 => ⟨S_, .f32⟩
  | 24 => ⟨S_, .f32⟩
  | 25 => ⟨S50000x128, .f32⟩
  | 26 => ⟨S50000x128, .f32⟩
  | 27 => ⟨S50000x512, .f32⟩
  | 28 => ⟨S50000x32x16, .f32⟩
  | 29 => ⟨S_, .f32⟩
  | 30 => ⟨S32, .f32⟩
  | 31 => ⟨S1x32x1, .f32⟩
  | 32 => ⟨S_, .f32⟩
  | 33 => ⟨S1x32x1, .f32⟩
  | 34 => ⟨S1x32x1, .f32⟩
  | 35 => ⟨S50000x32x16, .f32⟩
  | 36 => ⟨S50000x32x16, .f32⟩
  | 37 => ⟨S50000x32x16, .f32⟩
  | 38 => ⟨S_, .f32⟩
  | 39 => ⟨S32, .f32⟩
  | 40 => ⟨S1x32x1, .f32⟩
  | 41 => ⟨S_, .f32⟩
  | 42 => ⟨S1x32x1, .f32⟩
  | 43 => ⟨S1x32x1, .f32⟩
  | 44 => ⟨S_, .f32⟩
  | 45 => ⟨S1x32x1, .f32⟩
  | 46 => ⟨S1x32x1, .f32⟩
  | 47 => ⟨S1x32x1, .f32⟩
  | 48 => ⟨S50000x32x16, .f32⟩
  | 49 => ⟨S50000x32x16, .f32⟩
  | 50 => ⟨S50000x512, .f32⟩
  | 51 => ⟨S1x512, .f32⟩
  | 52 => ⟨S50000x512, .f32⟩
  | 53 => ⟨S50000x512, .f32⟩
  | 54 => ⟨S1x512, .f32⟩
  | 55 => ⟨S50000x512, .f32⟩
  | 56 => ⟨S50000x512, .f32⟩
  | 57 => ⟨S_, .f32⟩
  | 58 => ⟨S50000x512, .f32⟩
  | 59 => ⟨S50000x512, .i1⟩
  | 60 => ⟨S_, .f32⟩
  | 61 => ⟨S50000x512, .f32⟩
  | 62 => ⟨S50000x512, .f32⟩
  | 63 => ⟨S50000x512, .f32⟩
  | 64 => ⟨S1x512, .f32⟩
  | 65 => ⟨S50000x512, .f32⟩
  | 66 => ⟨S50000x512, .f32⟩
  | 67 => ⟨S1x512, .f32⟩
  | 68 => ⟨S50000x512, .f32⟩
  | 69 => ⟨S50000x512, .f32⟩
  | 70 => ⟨S50000x32x16, .f32⟩
  | 71 => ⟨S_, .f32⟩
  | 72 => ⟨S32, .f32⟩
  | 73 => ⟨S1x32x1, .f32⟩
  | 74 => ⟨S_, .f32⟩
  | 75 => ⟨S1x32x1, .f32⟩
  | 76 => ⟨S1x32x1, .f32⟩
  | 77 => ⟨S50000x32x16, .f32⟩
  | 78 => ⟨S50000x32x16, .f32⟩
  | 79 => ⟨S50000x32x16, .f32⟩
  | 80 => ⟨S_, .f32⟩
  | 81 => ⟨S32, .f32⟩
  | 82 => ⟨S1x32x1, .f32⟩
  | 83 => ⟨S_, .f32⟩
  | 84 => ⟨S1x32x1, .f32⟩
  | 85 => ⟨S1x32x1, .f32⟩
  | 86 => ⟨S_, .f32⟩
  | 87 => ⟨S1x32x1, .f32⟩
  | 88 => ⟨S1x32x1, .f32⟩
  | 89 => ⟨S1x32x1, .f32⟩
  | 90 => ⟨S50000x32x16, .f32⟩
  | 91 => ⟨S50000x32x16, .f32⟩
  | 92 => ⟨S50000x512, .f32⟩
  | 93 => ⟨S1x512, .f32⟩
  | 94 => ⟨S50000x512, .f32⟩
  | 95 => ⟨S50000x512, .f32⟩
  | 96 => ⟨S1x512, .f32⟩
  | 97 => ⟨S50000x512, .f32⟩
  | 98 => ⟨S50000x512, .f32⟩
  | 99 => ⟨S_, .f32⟩
  | 100 => ⟨S50000x512, .f32⟩
  | 101 => ⟨S50000x512, .i1⟩
  | 102 => ⟨S_, .f32⟩
  | 103 => ⟨S50000x512, .f32⟩
  | 104 => ⟨S50000x512, .f32⟩
  | 105 => ⟨S50000x512, .f32⟩
  | 106 => ⟨S50000x512, .f32⟩
  | 107 => ⟨S1x512, .f32⟩
  | 108 => ⟨S50000x512, .f32⟩
  | 109 => ⟨S50000x512, .f32⟩
  | 110 => ⟨S50000x32x16, .f32⟩
  | 111 => ⟨S_, .f32⟩
  | 112 => ⟨S32, .f32⟩
  | 113 => ⟨S1x32x1, .f32⟩
  | 114 => ⟨S_, .f32⟩
  | 115 => ⟨S1x32x1, .f32⟩
  | 116 => ⟨S1x32x1, .f32⟩
  | 117 => ⟨S50000x32x16, .f32⟩
  | 118 => ⟨S50000x32x16, .f32⟩
  | 119 => ⟨S50000x32x16, .f32⟩
  | 120 => ⟨S_, .f32⟩
  | 121 => ⟨S32, .f32⟩
  | 122 => ⟨S1x32x1, .f32⟩
  | 123 => ⟨S_, .f32⟩
  | 124 => ⟨S1x32x1, .f32⟩
  | 125 => ⟨S1x32x1, .f32⟩
  | 126 => ⟨S_, .f32⟩
  | 127 => ⟨S1x32x1, .f32⟩
  | _ => ⟨S50000x128, .f32⟩

abbrev hbmTy0_1 (i : Nat) : BufTy := match i % 128 with
  | 0 => ⟨S1x32x1, .f32⟩
  | 1 => ⟨S1x32x1, .f32⟩
  | 2 => ⟨S50000x32x16, .f32⟩
  | 3 => ⟨S50000x32x16, .f32⟩
  | 4 => ⟨S50000x512, .f32⟩
  | 5 => ⟨S1x512, .f32⟩
  | 6 => ⟨S50000x512, .f32⟩
  | 7 => ⟨S50000x512, .f32⟩
  | 8 => ⟨S1x512, .f32⟩
  | 9 => ⟨S50000x512, .f32⟩
  | 10 => ⟨S50000x512, .f32⟩
  | 11 => ⟨S_, .f32⟩
  | 12 => ⟨S50000x512, .f32⟩
  | 13 => ⟨S50000x512, .i1⟩
  | 14 => ⟨S_, .f32⟩
  | 15 => ⟨S50000x512, .f32⟩
  | 16 => ⟨S50000x512, .f32⟩
  | 17 => ⟨S50000x512, .f32⟩
  | 18 => ⟨S50000x128, .f32⟩
  | 19 => ⟨S50000x32x4, .f32⟩
  | 20 => ⟨S_, .f32⟩
  | 21 => ⟨S32, .f32⟩
  | 22 => ⟨S1x32x1, .f32⟩
  | 23 => ⟨S_, .f32⟩
  | 24 => ⟨S1x32x1, .f32⟩
  | 25 => ⟨S1x32x1, .f32⟩
  | 26 => ⟨S50000x32x4, .f32⟩
  | 27 => ⟨S50000x32x4, .f32⟩
  | 28 => ⟨S50000x32x4, .f32⟩
  | 29 => ⟨S_, .f32⟩
  | 30 => ⟨S32, .f32⟩
  | 31 => ⟨S1x32x1, .f32⟩
  | 32 => ⟨S_, .f32⟩
  | 33 => ⟨S1x32x1, .f32⟩
  | 34 => ⟨S1x32x1, .f32⟩
  | 35 => ⟨S_, .f32⟩
  | 36 => ⟨S1x32x1, .f32⟩
  | 37 => ⟨S1x32x1, .f32⟩
  | 38 => ⟨S1x32x1, .f32⟩
  | 39 => ⟨S50000x32x4, .f32⟩
  | 40 => ⟨S50000x32x4, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S50000x128, .f32⟩
  | 49 => ⟨S_, .f32⟩
  | 50 => ⟨S50000x128, .f32⟩
  | 51 => ⟨S50000x128, .i1⟩
  | 52 => ⟨S_, .f32⟩
  | 53 => ⟨S50000x128, .f32⟩
  | 54 => ⟨S50000x128, .f32⟩
  | 55 => ⟨S50000x128, .f32⟩
  | 56 => ⟨S50000x1, .i32⟩
  | 57 => ⟨S4, .i32⟩
  | 58 => ⟨S1x4, .i32⟩
  | 59 => ⟨S50000x4, .i32⟩
  | 60 => ⟨S50000x4, .i32⟩
  | 61 => ⟨S50000x4, .i1⟩
  | 62 => ⟨S_, .f32⟩
  | 63 => ⟨S_, .f32⟩
  | 64 => ⟨S50000x4, .f32⟩
  | 65 => ⟨S50000x4, .f32⟩
  | 66 => ⟨S50000x4, .f32⟩
  | 67 => ⟨S50000x4, .f32⟩
  | 68 => ⟨S_, .f32⟩
  | 69 => ⟨S4, .f32⟩
  | 70 => ⟨S50000x4x1, .i1⟩
  | 71 => ⟨S50000x1x128, .f32⟩
  | 72 => ⟨S_, .f32⟩
  | 73 => ⟨S_, .f32⟩
  | 74 => ⟨S50000x4x128, .i1⟩
  | 75 => ⟨S50000x4x128, .f32⟩
  | 76 => ⟨S50000x4x128, .f32⟩
  | 77 => ⟨S50000x4x128, .f32⟩
  | 78 => ⟨S_, .f32⟩
  | 79 => ⟨S4x128, .f32⟩
  | 80 => ⟨S_, .f32⟩
  | 81 => ⟨S4, .f32⟩
  | 82 => ⟨S4, .f32⟩
  | 83 => ⟨S4x1, .f32⟩
  | 84 => ⟨S4x128, .f32⟩
  | 85 => ⟨S4x128, .f32⟩
  | 86 => ⟨S4x32, .f32⟩
  | 87 => ⟨S_, .f32⟩
  | 88 => ⟨S4x32, .f32⟩
  | 89 => ⟨S4x32, .f32⟩
  | 90 => ⟨S4x128, .f32⟩
  | 91 => ⟨S4x128, .f32⟩
  | 92 => ⟨S4x128, .f32⟩
  | 93 => ⟨S_, .f32⟩
  | 94 => ⟨S4x128, .f32⟩
  | 95 => ⟨S4x128, .f32⟩
  | 96 => ⟨S_, .f32⟩
  | 97 => ⟨S4x128, .f32⟩
  | 98 => ⟨S4x128, .f32⟩
  | 99 => ⟨S_, .i32⟩
  | 100 => ⟨S50000, .i32⟩
  | 101 => ⟨S50000, .i1⟩
  | 102 => ⟨S_, .i32⟩
  | 103 => ⟨S50000, .i32⟩
  | 104 => ⟨S50000, .i32⟩
  | 105 => ⟨S50000, .i32⟩
  | 106 => ⟨S50000x1, .i32⟩
  | 107 => ⟨S50000x128, .f32⟩
  | 108 => ⟨S50000x128, .f32⟩
  | 109 => ⟨S50000x16, .f32⟩
  | 110 => ⟨S1x16, .f32⟩
  | 111 => ⟨S50000x16, .f32⟩
  | 112 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst_1 : Ref sig .tc := ⟨.hbm, 29, rfl⟩
abbrev main_v5 : Ref sig .tc := ⟨.hbm, 30, rfl⟩
abbrev main_v6 : Ref sig .tc := ⟨.hbm, 31, rfl⟩
abbrev main_cst_2 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_3 : Ref sig .tc := ⟨.hbm, 38, rfl⟩
abbrev main_v12 : Ref sig .tc := ⟨.hbm, 39, rfl⟩
abbrev main_v13 : Ref sig .tc := ⟨.hbm, 40, rfl⟩
abbrev main_cst_4 : Ref sig .tc := ⟨.hbm, 41, rfl⟩
abbrev main_v14 : Ref sig .tc := ⟨.hbm, 42, rfl⟩
abbrev main_v15 : Ref sig .tc := ⟨.hbm, 43, rfl⟩
abbrev main_cst_5 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_6 : Ref sig .tc := ⟨.hbm, 57, rfl⟩
abbrev main_v28 : Ref sig .tc := ⟨.hbm, 58, rfl⟩
abbrev main_v29 : Ref sig .tc := ⟨.hbm, 59, rfl⟩
abbrev main_cst_7 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_8 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_10 : Ref sig .tc := ⟨.hbm, 80, rfl⟩
abbrev main_v47 : Ref sig .tc := ⟨.hbm, 81, rfl⟩
abbrev main_v48 : Ref sig .tc := ⟨.hbm, 82, rfl⟩
abbrev main_cst_11 : Ref sig .tc := ⟨.hbm, 83, rfl⟩
abbrev main_v49 : Ref sig .tc := ⟨.hbm, 84, rfl⟩
abbrev main_v50 : Ref sig .tc := ⟨.hbm, 85, rfl⟩
abbrev main_cst_12 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_13 : Ref sig .tc := ⟨.hbm, 99, rfl⟩
abbrev main_v63 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_15 : Ref sig .tc := ⟨.hbm, 111, rfl⟩
abbrev main_v73 : Ref sig .tc := ⟨.hbm, 112, rfl⟩
abbrev main_v74 : Ref sig .tc := ⟨.hbm, 113, rfl⟩
abbrev main_cst_16 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_17 : Ref sig .tc := ⟨.hbm, 120, rfl⟩
abbrev main_v80 : Ref sig .tc := ⟨.hbm, 121, rfl⟩
abbrev main_v81 : Ref sig .tc := ⟨.hbm, 122, rfl⟩
abbrev main_cst_18 : Ref sig .tc := ⟨.hbm, 123, rfl⟩
abbrev main_v82 : Ref sig .tc := ⟨.hbm, 124, rfl⟩
abbrev main_v83 : Ref sig .tc := ⟨.hbm, 125, rfl⟩
abbrev main_cst_19 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_v97 : Ref sig .tc := ⟨.hbm, 141, rfl⟩
abbrev main_cst_21 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_22 : Ref sig .tc := ⟨.hbm, 148, rfl⟩
abbrev main_v103 : Ref sig .tc := ⟨.hbm, 149, rfl⟩
abbrev main_v104 : Ref sig .tc := ⟨.hbm, 150, rfl⟩
abbrev main_cst_23 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_24 : Ref sig .tc := ⟨.hbm, 157, rfl⟩
abbrev main_v110 : Ref sig .tc := ⟨.hbm, 158, rfl⟩
abbrev main_v111 : Ref sig .tc := ⟨.hbm, 159, rfl⟩
abbrev main_cst_25 : Ref sig .tc := ⟨.hbm, 160, rfl⟩
abbrev main_v112 : Ref sig .tc := ⟨.hbm, 161, rfl⟩
abbrev main_v113 : Ref sig .tc := ⟨.hbm, 162, rfl⟩
abbrev main_cst_26 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_27 : Ref sig .tc := ⟨.hbm, 177, rfl⟩
abbrev main_v127 : Ref sig .tc := ⟨.hbm, 178, rfl⟩
abbrev main_v128 : Ref sig .tc := ⟨.hbm, 179, rfl⟩
abbrev main_cst_28 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_29 : Ref sig .tc := ⟨.hbm, 190, rfl⟩
abbrev main_cst_30 : Ref sig .tc := ⟨.hbm, 191, rfl⟩
abbrev main_call5_v0 : Ref sig .tc := ⟨.hbm, 192, rfl⟩
abbrev main_call5_v1 : Ref sig .tc := ⟨.hbm, 193, rfl⟩
abbrev main_v138 : Ref sig .tc := ⟨.hbm, 194, rfl⟩
abbrev main_v139 : Ref sig .tc := ⟨.hbm, 195, rfl⟩
abbrev main_cst_31 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_cst_32 : Ref sig .tc := ⟨.hbm, 200, rfl⟩
abbrev main_call6_v0 : Ref sig .tc := ⟨.hbm, 201, rfl⟩
abbrev main_call6_v1 : Ref sig .tc := ⟨.hbm, 202, rfl⟩
abbrev main_call6_v2 : Ref sig .tc := ⟨.hbm, 203, rfl⟩
abbrev main_call6_v3 : Ref sig .tc := ⟨.hbm, 204, rfl⟩
abbrev main_v143 : Ref sig .tc := ⟨.hbm, 205, rfl⟩
abbrev main_cst_33 : Ref sig .tc := ⟨.hbm, 206, rfl⟩
abbrev main_v144 : Ref sig .tc := ⟨.hbm, 207, rfl⟩
abbrev main_cst_34 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_cst_35 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_cst_36 : Ref sig .tc := ⟨.hbm, 221, rfl⟩
abbrev main_v156 : Ref sig .tc := ⟨.hbm, 222, rfl⟩
abbrev main_v157 : Ref sig .tc := ⟨.hbm, 223, rfl⟩
abbrev main_cst_37 : Ref sig .tc := ⟨.hbm, 224, rfl⟩
abbrev main_v158 : Ref sig .tc := ⟨.hbm, 225, rfl⟩
abbrev main_v159 : Ref sig .tc := ⟨.hbm, 226, rfl⟩
abbrev main_c : Ref sig .tc := ⟨.hbm, 227, rfl⟩
abbrev main_v160 : Ref sig .tc := ⟨.hbm, 228, rfl⟩
abbrev main_v161 : Ref sig .tc := ⟨.hbm, 229, rfl⟩
abbrev main_c_38 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩

abbrev nD : Nat := 1
abbrev τ : Topo := Topo.v7x

variable {F : FTy → Type} [FloatOps F]
-- ==== Proof.Spec.lean ====
/-
  What the kernel computes, written over naturals: the running maximum of the rows of the edges that name a node, the edges of
  one chunk that fall in a tile's block of nodes, and the counting facts that tie a compacted list of those edges to the chunk.
-/
module

public import proofs.«01_k».proof.Proof.Gen.KernelIdeal
public import Idealize.ShloMosaic.Lib.ValueIdxCore
public import Mathlib.Data.Nat.Count

@[expose] public section

noncomputable section

namespace Cert.Proof.SegMax

open Cert.KernelIdeal
open Idealize.ShloMosaic
open Idealize.ShloMosaic.ValueIdx (ix1 ix2)

variable {F : FTy → Type} [FloatOps F]

/-- The fill: what a node that no edge names keeps. -/
def fill : F .f32 := Scalar.ofBits .f32 0xFF61B1E6#32

/-- The running maximum of column `c` at node `n` over the first edges: the fill, then the rows of the edges whose
    destination word is `n`, in order. -/
def accum (X : S800000x128.Idx → F .f32) (D : S800000.Idx → BitVec 32) (n : ℕ) (c : Fin 128) : ℕ → F .f32
  | 0 => fill
  | e + 1 =>
    if h : e < 800000 then
      if (D (ix1 ⟨e, h⟩)).toNat = n then FloatOps.maximumf (accum X D n c e) (X (ix2 ⟨e, h⟩ c)) else accum X D n c e
    else accum X D n c e

/-- The destination word of edge `e`; past the last edge, a word that names no node. -/
def dw (D : S800000.Idx → BitVec 32) (e : ℕ) : BitVec 32 := if h : e < 800000 then D (ix1 ⟨e, h⟩) else 0xFFFFFFFF#32

theorem dw_of_lt (D : S800000.Idx → BitVec 32) {e : ℕ} (h : e < 800000) : dw D e = D (ix1 ⟨e, h⟩) := dif_pos h

/-- Edge `off + k` falls in the block of 784 nodes from `base` on. -/
def hit (D : S800000.Idx → BitVec 32) (base : BitVec 32) (off k : ℕ) : Prop := (dw D (off + k) - base).toNat < 784

instance (D : S800000.Idx → BitVec 32) (base : BitVec 32) (off : ℕ) : DecidablePred (hit D base off) :=
  fun _ => inferInstanceAs (Decidable (_ < _))

/-- How many of the chunk's first `k` edges fall in the block. -/
abbrev cnt (D : S800000.Idx → BitVec 32) (base : BitVec 32) (off k : ℕ) : ℕ := Nat.count (hit D base off) k

variable {D : S800000.Idx → BitVec 32} {base : BitVec 32} {off : ℕ}

theorem cnt_le (k : ℕ) : cnt D base off k ≤ k := Nat.count_le _

theorem cnt_mono {k k' : ℕ} (h : k ≤ k') : cnt D base off k ≤ cnt D base off k' := Nat.count_monotone _ h

theorem cnt_succ_hit {k : ℕ} (h : hit D base off k) : cnt D base off (k + 1) = cnt D base off k + 1 := by
  unfold cnt; rw [Nat.count_succ, if_pos h]

theorem cnt_succ_miss {k : ℕ} (h : ¬ hit D base off k) : cnt D base off (k + 1) = cnt D base off k := by
  unfold cnt; rw [Nat.count_succ, if_neg h]; rfl

theorem cnt_lt {k k' : ℕ} (h : hit D base off k) (hk : k < k') : cnt D base off k < cnt D base off k' :=
  Nat.count_strict_mono h hk

/-- The `j`-th edge of the chunk that falls in the block. -/
theorem exists_hit {K j : ℕ} (h : j < cnt D base off K) : ∃ k, k < K ∧ hit D base off k ∧ cnt D base off k = j := by
  induction K with
  | zero => simp at h
  | succ K ih =>
    by_cases hK : hit D base off K
    · rw [cnt_succ_hit hK] at h
      rcases Nat.lt_succ_iff_lt_or_eq.mp h with h' | h'
      · obtain ⟨k, hk, hp, hc⟩ := ih h'; exact ⟨k, by omega, hp, hc⟩
      · exact ⟨K, by omega, hK, h'.symm⟩
    · rw [cnt_succ_miss hK] at h
      obtain ⟨k, hk, hp, hc⟩ := ih h; exact ⟨k, by omega, hp, hc⟩

variable {X : S800000x128.Idx → F .f32} {c : Fin 128}

/-- An edge outside the block leaves every node of the block as it was, -/
theorem accum_miss {b r k : ℕ} (hb : base = BitVec.ofNat 32 b) (hb' : b ≤ 50176 - 784) (hr : r < 784)
    (h : ¬ hit D base off k) : accum X D (b + r) c (off + k + 1) = accum X D (b + r) c (off + k) := by
  show (if h : off + k < 800000 then _ else _) = _
  split_ifs with he hd
  · exfalso; apply h; unfold hit; rw [dw_of_lt D he, hb]
    generalize D (ix1 ⟨off + k, he⟩) = w at hd
    bv_omega
  · rfl
  · rfl

/-- one that falls in the block updates the node it names, -/
theorem accum_hit {b k : ℕ} (hb : base = BitVec.ofNat 32 b) (hb' : b ≤ 50176 - 784) (he : off + k < 800000)
    (h : hit D base off k) : accum X D (b + (dw D (off + k) - base).toNat) c (off + k + 1)
      = FloatOps.maximumf (accum X D (b + (dw D (off + k) - base).toNat) c (off + k)) (X (ix2 ⟨off + k, he⟩ c)) := by
  unfold hit at h
  show (if h : off + k < 800000 then _ else _) = _
  rw [dif_pos he, if_pos]
  rw [dw_of_lt D he, hb] at h ⊢
  generalize D (ix1 ⟨off + k, he⟩) = w at h ⊢
  bv_omega

/-- and no other node of the block. -/
theorem accum_other {b r k : ℕ} (hb : base = BitVec.ofNat 32 b) (hb' : b ≤ 50176 - 784) (hr : r < 784)
    (h : r ≠ (dw D (off + k) - base).toNat) : accum X D (b + r) c (off + k + 1) = accum X D (b + r) c (off + k) := by
  show (if h : off + k < 800000 then _ else _) = _
  split_ifs with he hd
  · exfalso; apply h; rw [dw_of_lt D he, hb]
    generalize D (ix1 ⟨off + k, he⟩) = w at hd
    bv_omega
  · rfl
  · rfl

/-- Between two places of the chunk with the same count the block does not change. -/
theorem accum_eq_of_cnt {b r : ℕ} (hb : base = BitVec.ofNat 32 b) (hb' : b ≤ 50176 - 784) (hr : r < 784) {k : ℕ} :
    ∀ {k' : ℕ}, k ≤ k' → cnt D base off k = cnt D base off k' →
      accum X D (b + r) c (off + k) = accum X D (b + r) c (off + k') := by
  intro k' hk
  induction k', hk using Nat.le_induction with
  | base => intro _; rfl
  | succ k' hk ih =>
    intro h
    by_cases hp : hit D base off k'
    · exfalso
      have h1 := cnt_succ_hit hp
      have h2 := cnt_mono (D := D) (base := base) (off := off) hk
      omega
    · rw [cnt_succ_miss hp] at h
      rw [ih h]; exact (accum_miss hb hb' hr hp).symm

/-- The block after its first `j` compacted edges: every place of the chunk with count `j` tells the same rows. -/
def BlockAt (X : S800000x128.Idx → F .f32) (D : S800000.Idx → BitVec 32) (b off j : ℕ) (A : S784x128.Idx → F .f32) : Prop :=
  ∀ k, k ≤ 2000 → cnt D (BitVec.ofNat 32 b) off k = j → ∀ (r : Fin 784) (c : Fin 128), A (ix2 r c) = accum X D (b + r.val) c (off + k)

/-- Folding compacted edge `j`, of row `x` and node row `w`, into the block. -/
theorem BlockAt.step {b j k : ℕ} (hb' : b ≤ 50176 - 784) (hoff : off + 2000 ≤ 800000) {A A' : S784x128.Idx → F .f32}
    (hA : BlockAt X D b off j A) (hk : k < 2000) (hp : hit D (BitVec.ofNat 32 b) off k) (hj : cnt D (BitVec.ofNat 32 b) off k = j)
    (hA' : ∀ (r : Fin 784) (c : Fin 128), A' (ix2 r c)
      = if r.val = (dw D (off + k) - BitVec.ofNat 32 b).toNat then FloatOps.maximumf (A (ix2 r c)) (X (ix2 ⟨off + k, by omega⟩ c)) else A (ix2 r c)) :
    BlockAt X D b off (j + 1) A' := by
  intro k' hk' hj' r c
  have hlt : k < k' := by
    by_contra hn
    have := cnt_mono (D := D) (base := BitVec.ofNat 32 b) (off := off) (Nat.le_of_not_lt hn)
    omega
  rw [← accum_eq_of_cnt (k := k + 1) rfl hb' r.isLt hlt (by rw [cnt_succ_hit hp]; omega), hA' r c, hA k (by omega) hj r c]
  split_ifs with h
  · have := accum_hit (X := X) (c := c) rfl hb' (by omega) hp
    rw [← h] at this
    exact this.symm
  · exact (accum_other rfl hb' r.isLt h).symm

/-- A fresh chunk starts from the block at the chunk's start, -/
theorem BlockAt.start {b : ℕ} (hb' : b ≤ 50176 - 784) {A : S784x128.Idx → F .f32}
    (hA : ∀ (r : Fin 784) (c : Fin 128), A (ix2 r c) = accum X D (b + r.val) c off) : BlockAt X D b off 0 A := by
  intro k _ hj r c
  rw [hA r c]
  exact accum_eq_of_cnt (k := 0) rfl hb' r.isLt (Nat.zero_le k) (by rw [hj]; rfl)

/-- and ends at the block after the chunk. -/
theorem BlockAt.stop {b j : ℕ} {A : S784x128.Idx → F .f32} (hA : BlockAt X D b off j A)
    (hj : j = cnt D (BitVec.ofNat 32 b) off 2000) (r : Fin 784) (c : Fin 128) : A (ix2 r c) = accum X D (b + r.val) c (off + 2000) :=
  hA 2000 le_rfl hj.symm r c

end Cert.Proof.SegMax

end
-- ==== Proof.Setup.lean ====
/-
  The launch's vocabulary: the machine the handshakes run on, the arrays and the tile's own buffers and cells as its body names
  them, the block of result rows a tile's pass writes, and what a tile's task takes and gives back.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Spec

@[expose] public section

set_option maxRecDepth 16384

noncomputable section

namespace Cert.Proof.SegMax

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## The program and its algebra -/

abbrev ΛP : Labels := Pipeline.Sig Λ₀ (Fin 0) fun p => (pcfgs (F := F) p).Adm
abbrev K : SparseCore.Cfg τ sig (ΛP (F := F)) 1 := sc (F := F)
abbrev DF [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the tile's buffers -/

variable (m : (ℓ : Loc nD τ sig) → Buf (Elt F) ℓ)

/-- The edges' rows, their destination words and the result, as locations of device `d`. -/
abbrev xLoc (d : Dev nD) : Loc nD τ sig := (SparseCore.T d).loc main_arg0
abbrev dLoc (d : Dev nD) : Loc nD τ sig := (SparseCore.T d).loc main_arg1
abbrev oLoc (d : Dev nD) : Loc nD τ sig := (SparseCore.T d).loc main_v0

abbrev xV : Memref sig .scVector .hbm S800000x128 .f32 := Memref.whole main_arg0_scv
abbrev dV : Memref sig .scVector .hbm S800000 .i32 := Memref.whole main_arg1_scv
abbrev oV : Memref sig .scVector .hbm S50176x128 .f32 := Memref.whole main_v0_scv
abbrev aV : Memref sig .scVector .vmem S784x128 .f32 := Memref.whole cc0_scratch0
abbrev wV : Memref sig .scVector .vmem S2000 .i32 := Memref.whole cc0_scratch1
abbrev lV : Memref sig .scVector .vmem S2064 .i32 := Memref.whole cc0_scratch2
abbrev rV : Memref sig .scVector .vmem S2064 .i32 := Memref.whole cc0_scratch3
abbrev gV : Memref sig .scVector .vmem S48x128 .f32 := Memref.whole cc0_scratch4

/-- The result's 64 blocks of 784 rows. -/
theorem hdiv : 64 ∣ S50176x128.size 0 := ⟨784, rfl⟩
abbrev blk (i : Fin 64) : Rect S50176x128 := Rect.part (s := S50176x128) (a₀ := 0) hdiv i
abbrev blkSet (i : Fin 64) : Finset S50176x128.Idx := ((oV).view.slice (blk i)).set

/-! ## One tile -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem t2_trips : k0_t2_loop.trips = 2 := by decide
theorem L0_lt (L : grid0.Coords) : (L 0).val < 2 := (L 0).isLt
theorem L1_lt (L : grid0.Coords) : (L 1).val < 16 := (L 1).isLt

/-- The block a tile's pass works on. -/
def bix (L : grid0.Coords) (p : Fin k0_t2_loop.trips) : Fin 64 :=
  ⟨32 * p.val + 2 * (L 1).val + (L 0).val, by
    have := L0_lt L; have := L1_lt L; have := lt_of_lt_of_eq p.isLt t2_trips; omega⟩

/-- The block's first node. -/
def baseN (L : grid0.Coords) (p : Fin k0_t2_loop.trips) : ℕ := 784 * (bix L p).val

theorem baseN_le (L : grid0.Coords) (p : Fin k0_t2_loop.trips) : baseN L p ≤ 50176 - 784 := by
  have := (bix L p).isLt; unfold baseN; omega

/-- The block as the body spells it. -/
abbrev oRectK (L : grid0.Coords) (p : Fin k0_t2_loop.trips) : Rect S50176x128 := Rect.unit (s := S50176x128) (k0_off82 L p) S784x128.size (k0_off82_inb L p)
abbrev oBlkK (L : grid0.Coords) (p : Fin k0_t2_loop.trips) : Memref sig .scVector .hbm S784x128 .f32 := (oV).slice (oRectK L p) (fun _ => rfl)

theorem oRectK_eq (L : grid0.Coords) (p : Fin k0_t2_loop.trips) : oRectK L p = blk (bix L p) := by
  unfold oRectK blk Rect.part Rect.block
  congr 1 <;> funext a
  · rw [k0_off82_eq]
    match a with
    | 0 => simp [Shape.partIx, Shape.partSize, bix]; omega
    | 1 => simp [Shape.partIx, Shape.partSize]
  · match a with
    | 0 => simp [Shape.partSize]
    | 1 => simp [Shape.partSize]

theorem set_oBlkK (L : grid0.Coords) (p : Fin k0_t2_loop.trips) : (oBlkK L p).view.set = blkSet (bix L p) := by
  show ((oV).view.slice (oRectK L p)).set = ((oV).view.slice (blk (bix L p))).set
  exact oRectK_eq L p ▸ rfl

section Pts

variable (d : Dev nD) (L : grid0.Coords)

theorem pts_oBlkK (p : Fin k0_t2_loop.trips) (f : Buf (Elt F) (oLoc d)) :
    ((oBlkK L p).view.loc (thr d L) ↦[(oBlkK L p).view.set]{fullShare} f : sProp 𝕄) = oLoc d ↦[blkSet (bix L p)]{fullShare} f := by
  rw [set_oBlkK]
theorem pts_xV (q : PosShare TreeShare) (f : Buf (Elt F) (xLoc d)) : ((xV).view.loc (thr d L) ↦{q} f : sProp 𝕄) = xLoc d ↦{q} f := rfl
theorem pts_dV (q : PosShare TreeShare) (f : Buf (Elt F) (dLoc d)) : ((dV).view.loc (thr d L) ↦{q} f : sProp 𝕄) = dLoc d ↦{q} f := rfl

/-- The three copies' cells: the edge rows' gather, the destination words' fetch, the block's write-out. -/
abbrev cG : GSem nD τ sig := (thr d L, .dma cc0_scratch5.sem)
abbrev cW : GSem nD τ sig := (thr d L, .dma cc0_scoped0.sem)
abbrev cO : GSem nD τ sig := (thr d L, .dma cc0_scoped1.sem)

theorem ownSems0_V :
    (ownSems0 (thr d L) : sProp 𝕄)
      = iprop(semVal (cG d L) 0 ∗ semVal (cW d L) 0 ∗ semVal (cO d L) 0
          ∗ bigSep ((((ownCells (thr d L)).erase (cG d L)).erase (cW d L)).erase (cO d L)) fun g => semVal g 0) := by
  unfold SparseCore.Cfg.ownSems0
  rw [SparseCore.bigSep_erase' ((mem_ownCells (g := cG d L)).mpr ⟨rfl, by
      show (SemLoc.dma cc0_scratch5.sem : SemLoc sig).isScoped .scVector = true; decide⟩),
    SparseCore.bigSep_erase' (Finset.mem_erase.mpr ⟨by simp [cG, cW]; decide, (mem_ownCells (g := cW d L)).mpr ⟨rfl, by
      show (SemLoc.dma cc0_scoped0.sem : SemLoc sig).isScoped .scVector = true; decide⟩⟩),
    SparseCore.bigSep_erase' (Finset.mem_erase.mpr ⟨by simp [cW, cO]; decide, Finset.mem_erase.mpr ⟨by simp [cG, cO]; decide,
      (mem_ownCells (g := cO d L)).mpr ⟨rfl, by show (SemLoc.dma cc0_scoped1.sem : SemLoc sig).isScoped .scVector = true; decide⟩⟩⟩)]

/-- The tile's own buffers are its five scratches, each at some contents, and the rest. -/
theorem ownBufs_V :
    (ownBufs (thr d L) : sProp 𝕄)
      = iprop((∃ f, (aV).view.loc (thr d L) ↦{fullShare} f) ∗ (∃ f, (wV).view.loc (thr d L) ↦{fullShare} f) ∗ (∃ f, (lV).view.loc (thr d L) ↦{fullShare} f)
          ∗ (∃ f, (rV).view.loc (thr d L) ↦{fullShare} f) ∗ (∃ f, (gV).view.loc (thr d L) ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  have own : ∀ r : Ref sig .scVector, ((Proc.scVector (cV L) (jV L)).devRef r).owner = .proc (Proc.scVector (cV L) (jV L)) →
      (Proc.scVector (cV L) (jV L)).devRef r ∈ ownRefs (τ := τ) (sig := sig) (.scVector (cV L) (jV L)) :=
    fun r h => SparseCore.Cfg.mem_ownRefs_of_owner (p := Proc.scVector (cV L) (jV L)) h
  have ne : ∀ r r' : Ref sig .scVector, r ≠ r' → (Proc.scVector (cV L) (jV L)).devRef r ≠ (Proc.scVector (cV L) (jV L)).devRef (τ := τ) r' :=
    fun r r' h e => h (Proc.devRef_injective _ e)
  unfold SparseCore.Cfg.ownBufs
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide), Finset.mem_erase.mpr ⟨ne cc0_scratch2 cc0_scratch0 (by decide), own cc0_scratch2 rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), own cc0_scratch3 rfl⟩⟩⟩),
    SparseCore.bigSep_erase' (Finset.mem_erase.mpr ⟨ne cc0_scratch4 cc0_scratch3 (by decide), Finset.mem_erase.mpr ⟨ne cc0_scratch4 cc0_scratch2 (by decide),
      Finset.mem_erase.mpr ⟨ne cc0_scratch4 cc0_scratch1 (by decide), Finset.mem_erase.mpr ⟨ne cc0_scratch4 cc0_scratch0 (by decide), own cc0_scratch4 rfl⟩⟩⟩⟩)]

end Pts

end Cert.Proof.SegMax

end
-- ==== Proof.Pieces.lean ====
/-
  Reading back what a trip stores: a row of 128 columns written sixteen at a time, sixteen list words written at once, and the
  spread word every slot of the list of edges starts from.
-/
module

public import proofs.«01_k».proof.Proof.Setup
public import Idealize.ShloMosaic.Lib.VecWindow
public import Idealize.ShloMosaic.Lib.LaneScatter.Casts

@[expose] public section

set_option maxRecDepth 16384

noncomputable section

namespace Cert.Proof.SegMax

open Cert.KernelIdeal Cert.KernelIdeal.Gen
open Idealize.ShloMosaic
open Idealize.ShloMosaic.ValueIdx (ix1 ix2 eq_ix1 eq_ix2)

variable {F : FTy → Type} [FloatOps F]

/-! ## A row written sixteen columns at a time -/

/-- `G` is `f` but for row `ρ`'s first `16 q` columns, which hold `w`. -/
def Cols {R : ℕ} (f : (⟨2, ![R, 128]⟩ : Shape).Idx → F .f32) (ρ : ℕ) (w : Fin 128 → F .f32) (q : ℕ) (G : (⟨2, ![R, 128]⟩ : Shape).Idx → F .f32) : Prop :=
  ∀ (r : Fin R) (c : Fin 128), G (ix2 r c) = if r.val = ρ ∧ c.val < 16 * q then w c else f (ix2 r c)

theorem Cols.start {R : ℕ} (f : (⟨2, ![R, 128]⟩ : Shape).Idx → F .f32) (ρ : ℕ) (w : Fin 128 → F .f32) : Cols f ρ w 0 f := by
  intro r c; rw [if_neg (by omega)]

/-- Sixteen columns of `S1x16`. -/
theorem group_ix (x : S1x16.Idx) : ∃ l : Fin 16, x = ix2 (0 : Fin 1) l := by
  refine ⟨x 1, ?_⟩
  have h := eq_ix2 x
  rw [h]
  congr 1
  exact Subsingleton.elim (α := Fin 1) _ _

/-- One more group of sixteen columns stored: `pay` is the row's next sixteen words. -/
theorem Cols.next {R : ℕ} {κ : Kind} {sp : Space} {f : (⟨2, ![R, 128]⟩ : Shape).Idx → F .f32} {ρ q : ℕ} {w : Fin 128 → F .f32}
    (v : View sig κ sp ⟨2, ![R, 128]⟩ .f32) (base : v.ty.Contents (Elt F)) (L : List (View.Piece (Elt F) ⟨2, ![R, 128]⟩ .f32))
    {off : Fin 2 → ℕ} (inb : ∀ a, off a + S1x16.size a ≤ (⟨2, ![R, 128]⟩ : Shape).size a)
    (pay : S1x16.Idx → F .f32)
    (hG : Cols f ρ w q (v.read (Elt F) (v.writes (Elt F) base L))) (hoff : off = ![ρ, 16 * q])
    (hpay : ∀ l : Fin 16, ∀ c : Fin 128, c.val = 16 * q + l.val → pay (ix2 (0 : Fin 1) l) = w c) :
    Cols f ρ w (q + 1) (v.read (Elt F) (v.writes (Elt F) base (⟨Rect.unit (s := ⟨2, ![R, 128]⟩) off S1x16.size inb, pay⟩ :: L))) := by
  intro r c
  by_cases h : r.val = ρ ∧ 16 * q ≤ c.val ∧ c.val < 16 * (q + 1)
  · rw [if_pos ⟨h.1, h.2.2⟩]
    rw [View.read_writes_cons_unit_of_mem v base inb pay L (ix2 r c) (ix2 (0 : Fin 1) (⟨c.val - 16 * q, by omega⟩ : Fin 16)) hoff (by
      intro a
      match a with
      | ⟨0, _⟩ => show r.val = ρ + 0; omega
      | ⟨1, _⟩ => show c.val = 16 * q + (c.val - 16 * q); omega)]
    exact hpay _ c (by show c.val = 16 * q + (c.val - 16 * q); omega)
  · have hG' := hG r c
    by_cases hr : r.val = ρ
    · rw [View.read_writes_cons_unit_of_not_mem v base inb pay L (ix2 r c) hoff (1 : Fin 2) (by
        show c.val < 16 * q ∨ 16 * q + 16 ≤ c.val; omega), hG']
      exact if_congr (by omega) rfl rfl
    · rw [View.read_writes_cons_unit_of_not_mem v base inb pay L (ix2 r c) hoff (0 : Fin 2) (by
        show r.val < ρ ∨ ρ + 1 ≤ r.val; omega), hG', if_neg (by omega), if_neg (by omega)]

theorem Cols.done {R : ℕ} {f G : (⟨2, ![R, 128]⟩ : Shape).Idx → F .f32} {ρ : ℕ} {w : Fin 128 → F .f32} (h : Cols f ρ w 8 G) (r : Fin R) (c : Fin 128) :
    G (ix2 r c) = if r.val = ρ then w c else f (ix2 r c) := by
  have := c.isLt
  rw [h r c]
  exact if_congr (by omega) rfl rfl

/-! ## The spread words -/

theorem spread_lt (a : BitVec 32) :
    (if (BitVec.ofBool ((a.srem 800000#32).slt 0#32) ^^^ 0#1) &&& BitVec.ofBool (a.srem 800000#32 != 0#32) = 1#1
      then a.srem 800000#32 + 800000#32 else a.srem 800000#32).toNat < 800000 := by
  generalize hr : a.srem 800000#32 = r
  have h : r.toInt = a.toInt.tmod 800000 := by rw [← hr, BitVec.toInt_srem]; rfl
  have h1 := Int.tmod_lt_of_pos a.toInt (show (0 : Int) < 800000 by omega)
  have h2 := Int.lt_tmod_of_pos a.toInt (show (0 : Int) < 800000 by omega)
  rw [← h] at h1 h2
  have hd : r.toInt = (r.toNat : Int) ∨ r.toInt = (r.toNat : Int) - 4294967296 := by
    rw [BitVec.toInt_eq_toNat_cond]; split <;> [left; right] <;> omega
  by_cases hneg : r.toInt < 0
  · have hslt : r.slt 0#32 = true := by rw [BitVec.slt]; simpa using hneg
    have hne : (r != 0#32) = true := by
      rw [bne_iff_ne]; rintro rfl; simp at hneg
    rw [hslt, hne, if_pos (by decide), BitVec.toNat_add]
    have := r.isLt
    simp only [BitVec.toNat_ofNat]
    omega
  · have hslt : r.slt 0#32 = false := by rw [BitVec.slt]; simpa using hneg
    rw [hslt, if_neg (by cases (r != 0#32) <;> decide)]
    have := r.isLt
    omega

theorem spread_vec (v : IVec S16 32) (x : S16.Idx) :
    (select (andi (xori (cmpi .slt (remsi v (broadcast S16 800000#32)) (broadcast S16 0#32)) (broadcastTo S16 (broadcast S16 0#1) broadcasts_S16_S16))
        (cmpi .ne (remsi v (broadcast S16 800000#32)) (broadcast S16 0#32)))
      (addi (remsi v (broadcast S16 800000#32)) (broadcast S16 800000#32)) (remsi v (broadcast S16 800000#32)) x).toNat < 800000 := by
  have hr : remsi v (broadcast S16 800000#32) x = (v x).srem 800000#32 :=
    if_neg (fun h => h.elim (show ¬ (800000#32 : BitVec 32) = 0 by decide) fun h => absurd h.2 (show ¬ (800000#32 : BitVec 32) = -1 by decide))
  show (if IntOp.andi (IntOp.xori (IntOp.cmpi .slt (remsi v (broadcast S16 800000#32) x) 0#32) 0#1)
      (IntOp.cmpi .ne (remsi v (broadcast S16 800000#32) x) 0#32) = 1 then IntOp.addi (remsi v (broadcast S16 800000#32) x) 800000#32
      else remsi v (broadcast S16 800000#32) x).toNat < 800000
  rw [hr]
  exact spread_lt (v x)

theorem spread_pay (L : grid0.Coords) (k : Fin k0_t1_loop.trips) (x : S16.Idx) : (k0_pay2 L k x).toNat < 800000 := by
  have h : Scalar.select (Scalar.cmpi .eq 800000#32 0#32) 1#32 800000#32 = 800000#32 := by decide
  have h' : Scalar.cmpi .slt 800000#32 0#32 = 0#1 := by decide
  unfold k0_pay2
  simp only [h, h']
  exact spread_vec _ x

end Cert.Proof.SegMax

end
-- ==== Proof.Lanes.lean ====
/-
  One trip of the scan over a chunk, on words: the sixteen lanes' mask, its running sum, the places it gives the lanes, and what
  the two indexed stores leave in the compacted lists.
-/
module

public import proofs.«01_k».proof.Proof.Spec

@[expose] public section

set_option maxRecDepth 16384

noncomputable section

namespace Cert.Proof.SegMax

open Cert.KernelIdeal Cert.KernelIdeal.Gen
open Idealize.ShloMosaic
open Idealize.ShloMosaic.ValueIdx (ix1 ix2 eq_ix1)

/-! ## The running sum of the mask -/

/-- The sum of the first `j + 1` lanes' words. -/
def pre (v : IVec S16 32) : ℕ → BitVec 32
  | 0 => v (ix1 0)
  | j + 1 => if h : j + 1 < 16 then pre v j + v (ix1 ⟨j + 1, h⟩) else pre v j

theorem scan_eq (v : IVec S16 32) (j : Fin 16) : scan .sum v (ix1 j) = pre v j.val := by
  have hl : ∀ k : Fin 16, (Shape.ofLane k : S16.Idx) = ix1 k := fun k => by
    funext a; match a with | ⟨0, _⟩ => rfl
  have hL : ∀ j : Fin 15, ((List.finRange 16).filter fun k : Fin 16 => decide (0 < k.val ∧ k.val ≤ j.val + 1))
      = ((List.finRange 16).filter fun k : Fin 16 => decide (0 < k.val ∧ k.val ≤ j.val)) ++ [⟨j.val + 1, by omega⟩] := by decide
  have key : ∀ j : ℕ, j < 16 → ((List.finRange 16).filter fun k : Fin 16 => decide (0 < k.val ∧ k.val ≤ j)).foldl
      (fun r k => r + v (ix1 k)) (v (ix1 0)) = pre v j := by
    intro j hj
    induction j with
    | zero => rfl
    | succ j ih =>
      rw [hL ⟨j, by omega⟩, List.foldl_append, ih (by omega)]
      show _ = if h : j + 1 < 16 then _ else _
      rw [dif_pos hj]; rfl
  rw [← key j.val j.isLt]
  show ((List.finRange 16).filter fun k : Fin 16 => decide (0 < k.val ∧ k.val ≤ j.val)).foldl
      (fun r k => r + v (Shape.ofLane k)) (v (Shape.ofLane (0 : Fin 16))) = _
  have hs : (fun (r : BitVec 32) (k : Fin 16) => r + v (Shape.ofLane k)) = fun r k => r + v (ix1 k) := by
    funext r k; rw [hl k]
  rw [hl 0]
  exact congrArg (fun f => List.foldl f (v (ix1 0)) ((List.finRange 16).filter fun k : Fin 16 => decide (0 < k.val ∧ k.val ≤ j.val))) hs

/-- Over words that are one where `p` holds and zero elsewhere the running sum counts. -/
theorem pre_count (v : IVec S16 32) (p : ℕ → Prop) [DecidablePred p]
    (hv : ∀ i : Fin 16, v (ix1 i) = if p i.val then 1#32 else 0#32) (j : ℕ) (hj : j < 16) :
    pre v j = BitVec.ofNat 32 (Nat.count p (j + 1)) := by
  induction j with
  | zero =>
    show v (ix1 0) = _
    rw [hv 0, Nat.count_succ]
    show (if p 0 then _ else _) = _
    split_ifs <;> rfl
  | succ j ih =>
    show (if h : j + 1 < 16 then _ else _) = _
    rw [dif_pos hj, ih (by omega), hv ⟨j + 1, hj⟩, Nat.count_succ p (j + 1)]
    show _ + (if p (j + 1) then _ else _) = _
    split_ifs
    · rw [BitVec.ofNat_add]
    · simp

/-! ## The mask -/

theorem mask_iff (x : BitVec 32) :
    IntOp.andi (IntOp.cmpi .sge x 0#32) (IntOp.cmpi .slt x 784#32) = 1#1 ↔ x.toNat < 784 := by
  have h1 : ∀ a b : Bool, BitVec.ofBool a &&& BitVec.ofBool b = 1#1 ↔ (a = true ∧ b = true) := by decide
  simp only [IntOp.andi, IntOp.cmpi, h1, BitVec.sle_iff_toInt_le, BitVec.slt_iff_toInt_lt, BitVec.toInt_eq_toNat_cond]
  simp only [BitVec.toNat_ofNat]
  have := x.isLt
  omega

/-! ## Indexed stores, lane by lane -/

/-- A fold over the lanes in order keeps an invariant told by how many lanes are done. -/
theorem foldl_finRange_inv {β : Type} (Inv : ℕ → β → Prop) : ∀ (n : ℕ) (f : β → Fin n → β) (b : β), Inv 0 b →
    (∀ (k : Fin n) (b : β), Inv k.val b → Inv (k.val + 1) (f b k)) → Inv n ((List.finRange n).foldl f b)
  | 0, _, _, h0, _ => by simpa using h0
  | n + 1, f, b, h0, hs => by
    rw [List.finRange_succ_last, List.foldl_append, List.foldl_map]
    exact hs (Fin.last n) _ (foldl_finRange_inv Inv n (fun b k => f b k.castSucc) b h0 fun k b h => hs k.castSucc b h)

/-! ## The trip's vectors -/

variable {D : S800000.Idx → BitVec 32} {base : BitVec 32} {off : ℕ}

/-- The lanes whose word falls in the block. -/
abbrev maskV (w : IVec S16 32) (base : BitVec 32) : IVec S16 1 :=
  andi (cmpi .sge (subi w (broadcast S16 base)) (broadcast S16 0#32)) (cmpi .slt (subi w (broadcast S16 base)) (broadcast S16 784#32))

/-- The mask's running sum. -/
abbrev sumV (w : IVec S16 32) (base : BitVec 32) : IVec S16 32 := scan .sum (extui 32 (maskV w base) natLt_1_32)

/-- The place each lane goes to: its rank among the kept edges, or the dump place. -/
abbrev posV (w : IVec S16 32) (base c : BitVec 32) : IVec S16 32 :=
  select (maskV w base) (subi (addi (broadcast S16 c) (sumV w base)) (broadcast S16 1#32)) (broadcast S16 2048#32)

/-- The trip's words: lanes `16 t …` of the chunk. -/
def IsTrip (D : S800000.Idx → BitVec 32) (off t : ℕ) (w : IVec S16 32) : Prop :=
  ∀ i : Fin 16, w (ix1 i) = dw D (off + (16 * t + i.val))

theorem maskV_iff {t : ℕ} {w : IVec S16 32} (hw : IsTrip D off t w) (i : Fin 16) :
    maskV w base (ix1 i) = 1#1 ↔ hit D base off (16 * t + i.val) := by
  show IntOp.andi (IntOp.cmpi .sge (w (ix1 i) - base) 0#32) (IntOp.cmpi .slt (w (ix1 i) - base) 784#32) = 1#1 ↔ _
  rw [mask_iff, hw i]; rfl

theorem sumV_eq {t : ℕ} {w : IVec S16 32} (hw : IsTrip D off t w) (i : Fin 16) :
    sumV w base (ix1 i) = BitVec.ofNat 32 (Nat.count (fun k => hit D base off (16 * t + k)) (i.val + 1)) := by
  unfold sumV
  rw [scan_eq, pre_count _ (fun k => hit D base off (16 * t + k)) _ _ i.isLt]
  intro k
  show (maskV w base (ix1 k)).setWidth 32 = _
  have h := maskV_iff (base := base) hw k
  split_ifs with hk
  · rw [h.mpr hk]; rfl
  · rw [ValueIdx.eq_zero_of_ne_one fun e => hk (h.mp e)]; rfl

theorem cnt_add (a k : ℕ) : cnt D base off (a + k) = cnt D base off a + Nat.count (fun i => hit D base off (a + i)) k :=
  Nat.count_add _ a k

/-- The count after the trip. -/
theorem next_cnt {t : ℕ} {w : IVec S16 32} (hw : IsTrip D off t w) :
    BitVec.ofNat 32 (cnt D base off (16 * t)) + sumV w base (ix1 15) = BitVec.ofNat 32 (cnt D base off (16 * (t + 1))) := by
  rw [sumV_eq hw 15, ← BitVec.ofNat_add, Nat.mul_succ, cnt_add]; rfl

theorem posV_eq {t : ℕ} {w : IVec S16 32} (hw : IsTrip D off t w) (i : Fin 16) :
    posV w base (BitVec.ofNat 32 (cnt D base off (16 * t))) (ix1 i)
      = if hit D base off (16 * t + i.val) then BitVec.ofNat 32 (cnt D base off (16 * t + i.val)) else 2048#32 := by
  have h := maskV_iff (base := base) hw i
  show Scalar.select (maskV w base (ix1 i)) (BitVec.ofNat 32 (cnt D base off (16 * t)) + sumV w base (ix1 i) - 1#32) 2048#32 = _
  split_ifs with hk
  · rw [h.mpr hk, ValueIdx.select_one, sumV_eq hw i, ← BitVec.ofNat_add, Nat.count_succ, if_pos hk, ← Nat.add_assoc, ← cnt_add,
      BitVec.ofNat_add, BitVec.add_sub_cancel]
  · rw [ValueIdx.eq_zero_of_ne_one fun e => hk (h.mp e), ValueIdx.select_zero]

theorem posV_toNat {t : ℕ} (ht : t < 125) {w : IVec S16 32} (hw : IsTrip D off t w) (i : Fin 16) :
    (posV w base (BitVec.ofNat 32 (cnt D base off (16 * t))) (ix1 i)).toNat
      = if hit D base off (16 * t + i.val) then cnt D base off (16 * t + i.val) else 2048 := by
  have := cnt_le (D := D) (base := base) (off := off) (16 * t + i.val)
  have := i.isLt
  rw [posV_eq hw i]
  split_ifs
  · rw [BitVec.toNat_ofNat]; omega
  · rfl

/-- Every place is inside the lists: the trip's check. -/
theorem posV_chk {t : ℕ} (ht : t < 125) {w : IVec S16 32} (hw : IsTrip D off t w) :
    k0_chk1 (posV w base (BitVec.ofNat 32 (cnt D base off (16 * t)))) := by
  have h : ∀ a x, ((![posV w base (BitVec.ofNat 32 (cnt D base off (16 * t)))] : Fin 1 → IVec S16 32) a x).toNat < S2064.size a := by
    intro a x
    match a with
    | ⟨0, _⟩ =>
      obtain ⟨i, rfl⟩ : ∃ i : Fin 16, x = ix1 i := ⟨x 0, eq_ix1 x⟩
      show (posV w base (BitVec.ofNat 32 (cnt D base off (16 * t))) (ix1 i)).toNat < 2064
      have := cnt_le (D := D) (base := base) (off := off) (16 * t + i.val)
      have := i.isLt
      rw [posV_toNat ht hw]
      split_ifs <;> omega
  exact ⟨h, h⟩

/-! ## The compacted lists -/

/-- The first `n` edges of the chunk have their value `V` in the list, each kept edge at its rank. -/
def ListOK (D : S800000.Idx → BitVec 32) (base : BitVec 32) (off : ℕ) (V : ℕ → BitVec 32) (n : ℕ) (g : S2064.Idx → BitVec 32) : Prop :=
  ∀ k, k < n → hit D base off k → ∀ y : S2064.Idx, (y 0).val = cnt D base off k → g y = V k

/-- The indexed store, its lanes at the trip's places and their values the chunk's: sixteen edges more are listed. -/
theorem ListOK.store {F : FTy → Type} [FloatOps F] {V : ℕ → BitVec 32} {t : ℕ} (ht : t < 125) {w v : IVec S16 32} (hw : IsTrip D off t w)
    (hv : ∀ i : Fin 16, v (ix1 i) = V (16 * t + i.val)) {g : S2064.Idx → BitVec 32} (hg : ListOK D base off V (16 * t) g)
    (h : ∀ a x, ((![posV w base (BitVec.ofNat 32 (cnt D base off (16 * t)))] : Fin 1 → IVec S16 32) a x).toNat < S2064.size a) :
    ListOK D base off V (16 * (t + 1))
      (storeIdx (F := F) (s := S2064) (e := .i32) (d := ![16]) g ![posV w base (BitVec.ofNat 32 (cnt D base off (16 * t)))] v (fun _ => 1#1) false h) := by
  have hl : ∀ k : Fin 16, (Shape.ofLane k : S16.Idx) = ix1 k := fun k => by
    funext a; match a with | ⟨0, _⟩ => rfl
  unfold storeIdx
  rw [Nat.mul_succ]
  refine foldl_finRange_inv (fun n g => ListOK D base off V (16 * t + n) g) 16 _ g hg ?_
  intro i g hg k hk hp y hy
  have hi := i.isLt
  have hyi : (∀ a, (y a).val = (idxAt ![posV w base (BitVec.ofNat 32 (cnt D base off (16 * t)))] h (Shape.ofLane i) a).val)
      ↔ (y 0).val = if hit D base off (16 * t + i.val) then cnt D base off (16 * t + i.val) else 2048 := by
    rw [← posV_toNat ht hw i, ← hl i]
    constructor
    · intro e; exact e 0
    · intro e a; match a with | ⟨0, _⟩ => exact e
  simp only [if_true, Bool.false_eq_true, if_false]
  show (if (∀ a, (y a).val = (idxAt ![posV w base (BitVec.ofNat 32 (cnt D base off (16 * t)))] h (Shape.ofLane i) a).val)
    then v (Shape.ofLane i) else g y) = V k
  simp only [hyi]
  rw [hl i, hv i, hy]
  have hck := cnt_le (D := D) (base := base) (off := off) k
  by_cases hki : k = 16 * t + i.val
  · subst hki; rw [if_pos hp, if_pos rfl]
  · have hk' : k < 16 * t + i.val := by omega
    rw [if_neg]
    · exact hg k hk' hp y hy
    · have := cnt_lt hp hk'
      split_ifs <;> omega

/-- An indexed store of values that all satisfy a bound keeps the bound everywhere. -/
theorem storeIdx_all {F : FTy → Type} [FloatOps F] (Q : BitVec 32 → Prop) {idxs : Fin 1 → IVec S16 32} {v : IVec S16 32} {g : S2064.Idx → BitVec 32}
    (h : ∀ a x, (idxs a x).toNat < S2064.size a) (hv : ∀ x, Q (v x)) (hg : ∀ y, Q (g y)) :
    ∀ y, Q (storeIdx (F := F) (s := S2064) (e := .i32) (d := ![16]) g idxs v (fun _ => 1#1) false h y) := by
  unfold storeIdx
  refine foldl_finRange_inv (fun _ (g : S2064.Idx → BitVec 32) => ∀ y, Q (g y)) 16 _ g hg ?_
  intro i g hg y
  simp only [if_true, Bool.false_eq_true, if_false]
  show Q (if (∀ a, (y a).val = (idxAt idxs h (Shape.ofLane i) a).val) then v (Shape.ofLane i) else g y)
  split_ifs
  · exact hv _
  · exact hg y

end Cert.Proof.SegMax

end
-- ==== Proof.Scan.lean ====
/-
  The scan of a chunk: sixteen destination words a trip, the kept ones listed at their running count with their edges' numbers.
-/
module

public import proofs.«01_k».proof.Proof.Setup
public import proofs.«01_k».proof.Proof.Pieces
public import proofs.«01_k».proof.Proof.Lanes

@[expose] public section

set_option maxRecDepth 16384

noncomputable section

namespace Cert.Proof.SegMax

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

variable (d : Dev nD) (L : grid0.Coords)

variable (D : Buf (Elt F) (dLoc d))

/-- The block's first node, as the kernel computes it. -/
def baseW (L : grid0.Coords) (p : Fin k0_t2_loop.trips) : BitVec 32 :=
  Scalar.muli (Scalar.addi (Scalar.muli (Scf.iv 0#32 1#32 p.val) 32#32) (Scalar.addi (Scalar.muli (BitVec.ofNat 32 (L 1).val) 2#32) (BitVec.ofNat 32 (L 0).val))) 784#32

theorem baseW_eq (L : grid0.Coords) (p : Fin k0_t2_loop.trips) : baseW L p = BitVec.ofNat 32 (baseN L p) := by
  have h0 := L0_lt L
  have h1 := L1_lt L
  have h2 := lt_of_lt_of_eq p.isLt t2_trips
  have e : baseN L p = 784 * (32 * p.val + 2 * (L 1).val + (L 0).val) := rfl
  have hi : Scf.iv 0#32 1#32 p.val = BitVec.ofNat 32 p.val := by
    show 0#32 + BitVec.ofNat 32 p.val * 1#32 = _
    rw [BitVec.zero_add, BitVec.mul_one]
  unfold baseW
  rw [hi, e]
  show (BitVec.ofNat 32 p.val * 32#32 + (BitVec.ofNat 32 (L 1).val * 2#32 + BitVec.ofNat 32 (L 0).val)) * 784#32 = _
  apply BitVec.eq_of_toNat_eq
  simp only [BitVec.toNat_mul, BitVec.toNat_add, BitVec.toNat_ofNat]
  omega

/-- A load of a unit window of a whole buffer, read at one place. -/
theorem load_at {s : Shape} {e : EltTy} {sp : Space} (v : View sig .scVector sp s e) (f : v.ty.Contents (Elt F)) {off off' size : Fin s.rank → ℕ} (inb : ∀ a, off a + size a ≤ s.size a)
    (x : (Rect.unit off size inb).toLoadRect.shape.Idx) (y : s.Idx) (ho : off = off') (h : ∀ a, (y a).val = off' a + (x a).val) :
    View.readAt (Elt F) v (Rect.unit off size inb).toLoadRect f x = v.read (Elt F) f y := by
  subst ho
  rw [View.readAt_apply]
  congr 1
  funext a
  apply Fin.ext
  rw [h a]
  show off a + 1 * (x a).val = _
  omega

/-- The edges' numbers a trip lists. -/
theorem pay5_eq (ch : Fin k0_t4_loop.trips) (k : Fin k0_t5_loop.trips) (i : Fin 16) :
    k0_pay5 ch k (ix1 i) = BitVec.ofNat 32 (2000 * ch.val + (16 * k.val + i.val)) := by
  have hi : ∀ n : ℕ, Scf.iv 0#32 1#32 n = BitVec.ofNat 32 n := by
    intro n
    show 0#32 + BitVec.ofNat 32 n * 1#32 = _
    rw [BitVec.zero_add, BitVec.mul_one]
  have hiota : iota .scVector S16 32 [0] iota_S16_d0_w32_scVector (ix1 i) = BitVec.ofNat 32 i.val := by
    revert i; decide
  unfold k0_pay5
  show (Scf.iv 0#32 1#32 ch.val * 2000#32 + Scf.iv 0#32 1#32 k.val * 16#32) + iota .scVector S16 32 [0] iota_S16_d0_w32_scVector (ix1 i) = _
  rw [hi, hi, hiota]
  apply BitVec.eq_of_toNat_eq
  simp only [BitVec.toNat_mul, BitVec.toNat_add, BitVec.toNat_ofNat]
  have := ch.isLt
  have := k.isLt
  omega

theorem pay3_at (p : Fin k0_t2_loop.trips) (w : Vec F S16 .i32) (i : Fin 16) : k0_pay3 (F := F) L p w (ix1 i) = w (ix1 i) - baseW L p := rfl

theorem pay7_eq (p : Fin k0_t2_loop.trips) (c : BitVec 32) (w : Vec F S16 .i32) : k0_pay7 (F := F) L p c w = posV w (baseW L p) c := rfl

theorem pay8_eq (p : Fin k0_t2_loop.trips) (w : Vec F S16 .i32) : extractAt ![0] (k0_pay8 (F := F) L p w) inpos_S1_p0 = sumV w (baseW L p) (ix1 15) := by
  exact congrArg (k0_pay6 (F := F) L p w) (by funext a; match a with | ⟨0, _⟩ => rfl : _ = ix1 15)

/-- The trip's indexed store into a list, the positions given by name. -/
theorem list_step {base : BitVec 32} {off : ℕ} {V : ℕ → BitVec 32} {t : ℕ} (ht : t < 125) {w v pos : IVec S16 32} (hw : IsTrip D off t w)
    (hpos : pos = posV w base (BitVec.ofNat 32 (cnt D base off (16 * t))))
    (hv : ∀ i : Fin 16, v (ix1 i) = V (16 * t + i.val)) {g : S2064.Idx → BitVec 32} (hg : ListOK D base off V (16 * t) g)
    (h : ∀ a x, ((![pos] : Fin 1 → IVec S16 32) a x).toNat < S2064.size a) :
    ListOK D base off V (16 * (t + 1)) (storeIdx (F := F) (s := S2064) (e := .i32) (d := ![16]) g ![pos] v (fun _ => 1#1) false h) := by
  subst hpos
  exact ListOK.store ht hw hv hg h

omit [FloatOps F] in
theorem pts_lV_whole (f : Buf (Elt F) ((lV).view.loc (thr d L))) :
    (((lV).access (.whole S2064)).loc (thr d L) ↦[((lV).access (.whole S2064)).set]{fullShare} f : sProp 𝕄) = (lV).view.loc (thr d L) ↦{fullShare} f := by
  rw [show ((lV).access (.whole S2064)).set = Finset.univ from Memref.set_access_whole (cc0_scratch2 : Ref sig .scVector)]

omit [FloatOps F] in
theorem pts_rV_whole (f : Buf (Elt F) ((rV).view.loc (thr d L))) :
    (((rV).access (.whole S2064)).loc (thr d L) ↦[((rV).access (.whole S2064)).set]{fullShare} f : sProp 𝕄) = (rV).view.loc (thr d L) ↦{fullShare} f := by
  rw [show ((rV).access (.whole S2064)).set = Finset.univ from Memref.set_access_whole (cc0_scratch3 : Ref sig .scVector)]

abbrev body5 (p : Fin k0_t2_loop.trips) (ch : Fin k0_t4_loop.trips) := k0_t5_body (F := F) L xV (Memref.isWhole_whole _) dV (Memref.isWhole_whole _) oV (Memref.isWhole_whole _) aV (Memref.isWhole_whole _)
  wV (Memref.isWhole_whole _) lV (Memref.isWhole_whole _) rV (Memref.isWhole_whole _) gV (Memref.isWhole_whole _) cc0_scratch5 cc0_scoped0 cc0_scoped1 p ch

/-- After `t` trips the kept edges of the chunk's first `16 t` are listed. -/
def inv5 (p : Fin k0_t2_loop.trips) (ch : Fin k0_t4_loop.trips) (fw : Buf (Elt F) ((wV).view.loc (thr d L))) (t : ℕ) (n : BitVec 32) : sProp 𝕄 :=
  iprop(⌜n = BitVec.ofNat 32 (cnt D (baseW L p) (2000 * ch.val) (16 * t))⌝ ∗ ((wV).view.loc (thr d L) ↦{fullShare} fw)
    ∗ (∃ fl : Buf (Elt F) ((lV).view.loc (thr d L)), ⌜ListOK D (baseW L p) (2000 * ch.val) (fun k => dw D (2000 * ch.val + k) - baseW L p) (16 * t) fl⌝ ∗ ((lV).view.loc (thr d L) ↦{fullShare} fl))
    ∗ (∃ fr : Buf (Elt F) ((rV).view.loc (thr d L)), ⌜ListOK D (baseW L p) (2000 * ch.val) (fun k => BitVec.ofNat 32 (2000 * ch.val + k)) (16 * t) fr
        ∧ ∀ y : S2064.Idx, BitVec.toNat (fr y) < 800000⌝ ∗ ((rV).view.loc (thr d L) ↦{fullShare} fr)))

theorem t5_trip (p : Fin k0_t2_loop.trips) (ch : Fin k0_t4_loop.trips) (fw : Buf (Elt F) ((wV).view.loc (thr d L)))
    (hfw : ∀ i : Fin 2000, fw (ix1 i) = dw D (2000 * ch.val + i.val)) (k : Fin k0_t5_loop.trips) (n : BitVec 32) :
    inv5 (F := F) d L D p ch fw k.val n ⊢ wp frame (wpE (defs₀ (F := F)) 𝒱₀ (thr d L) none) Set.univ (body5 L p ch k n) fun a => inv5 d L D p ch fw (k.val + 1) a := by
  unfold inv5 body5
  iintro ⟨%hn, Hw, ⟨%fl, %hfl, Hl⟩, ⟨%fr, %hfr, Hr⟩⟩
  subst hn
  have hk := lt_of_lt_of_eq k.isLt (show k0_t5_loop.trips = 125 by decide)
  have htrip : ∀ w : IVec S16 32, w = View.readAt (Elt F) (wV).view (Rect.unit (s := S2000) (k0_off11 k) S16.size (k0_off11_inb k)).toLoadRect fw → IsTrip D (2000 * ch.val) k.val w := by
    rintro w rfl i
    have hi := i.isLt
    refine (load_at (wV).view fw (k0_off11_inb k) (ix1 i) (ix1 (⟨16 * k.val + i.val, by omega⟩ : Fin 2000)) (k0_off11_eq k)
      (fun a => by match a with | ⟨0, _⟩ => rfl)).trans ?_
    exact hfw ⟨16 * k.val + i.val, by omega⟩
  sl_unfold [k0_t5_body]
  sl_exec
  have ht := htrip _ rfl
  unfold t5_trip.sl.v61
  generalize View.readAt (Elt F) (wV).view (Rect.unit (s := S2000) (k0_off11 k) S16.size (k0_off11_inb k)).toLoadRect fw = w at ht
  have hchk := posV_chk (base := baseW L p) hk ht
  rw [← pay7_eq] at hchk
  rw [wp_assume_of _ _ _ _ hchk]
  ihave Hl := (Entails.of_eq (pts_lV_whole d L fl).symm) $$ Hl
  iapply (SparseCore.wp_vectorStoreIdx 𝒱₀ (thr d L) none Set.univ (base := lV)) $$ Hl
  iintro Hl
  ihave Hr := (Entails.of_eq (pts_rV_whole d L fr).symm) $$ Hr
  iapply (SparseCore.wp_vectorStoreIdx 𝒱₀ (thr d L) none Set.univ (base := rV)) $$ Hr
  iintro Hr
  ihave Hl := (Entails.of_eq (pts_lV_whole d L _)) $$ Hl
  ihave Hr := (Entails.of_eq (pts_rV_whole d L _)) $$ Hr
  dsimp only
  sl_step
  isplitr
  · ipureintro
    rw [pay8_eq]
    exact next_cnt ht
  isplitl [Hw]; · iexact Hw
  isplitl [Hl]
  · iexists _
    isplitr
    swap; · iexact Hl
    ipureintro
    rw [show View.write (Elt F) ((lV).access (.whole S2064)) fl _ Finset.univ = _ from Memref.write_access_whole_univ (Elt F) (cc0_scratch2 : Ref sig .scVector) fl _]
    rw [show View.read (Elt F) ((lV).access (.whole S2064)) fl = fl from Memref.read_access_whole (Elt F) (cc0_scratch2 : Ref sig .scVector) fl]
    exact list_step d D hk ht (pay7_eq L p _ w) (fun i => by rw [pay3_at, ht i]) hfl _
  · iexists _
    isplitr
    swap; · iexact Hr
    ipureintro
    rw [show View.write (Elt F) ((rV).access (.whole S2064)) fr _ Finset.univ = _ from Memref.write_access_whole_univ (Elt F) (cc0_scratch3 : Ref sig .scVector) fr _]
    rw [show View.read (Elt F) ((rV).access (.whole S2064)) fr = fr from Memref.read_access_whole (Elt F) (cc0_scratch3 : Ref sig .scVector) fr]
    refine ⟨list_step d D hk ht (pay7_eq L p _ w) (fun i => pay5_eq ch k i) hfr.1 _, ?_⟩
    refine storeIdx_all (F := F) (fun x => x.toNat < 800000) _ (fun x => ?_) hfr.2
    obtain ⟨i, rfl⟩ : ∃ i : Fin 16, x = ix1 i := ⟨x 0, ValueIdx.eq_ix1 x⟩
    have hi := i.isLt
    have hc := lt_of_lt_of_eq ch.isLt (show k0_t4_loop.trips = 400 by decide)
    rw [pay5_eq, BitVec.toNat_ofNat, Nat.mod_eq_of_lt (by omega)]
    omega

end Cert.Proof.SegMax

end
-- ==== Proof.Words.lean ====
/-
  The batch loops' bounds and offsets, at the count of a chunk's kept edges: how many batches there are, how many edges each has,
  where each reads; and the checks the kernel states of that count and of a node row.
-/
module

public import proofs.«01_k».proof.Proof.Gen.KernelIdeal
public import Idealize.ShloMosaic.Lib.LoopRemainder

@[expose] public section

set_option maxRecDepth 16384

noncomputable section

namespace Cert.Proof.SegMax

open Cert.KernelIdeal Cert.KernelIdeal.Gen
open Idealize.ShloMosaic

section Batches

variable {v : BitVec 32} {n : ℕ} (hv : v = BitVec.ofNat 32 n) (hn : n ≤ 2000)

include hv hn

/-- The batch loop's bound is the number of batches of 48, the last one partial. -/
theorem t6_ub : Affine.IsInt (k0_t6_loop v).ub (((n : Int) + 47) / 48) := by
  subst hv
  have h0 : Affine.IsInt 0#32 0 := Affine.ofNat _ (by omega)
  have h1 : Affine.IsInt 1#32 1 := Affine.ofNat _ (by omega)
  have h48 : Affine.IsInt 48#32 48 := Affine.ofNat _ (by omega)
  have h12 : Affine.IsInt (BitVec.ofNat 32 n) (n : Int) := Affine.ofNat _ (by omega)
  have h13 : Affine.IsInt _ ((n : Int) + 48) := Affine.addi h12 h48 (by omega)
  have h14 : Affine.IsInt _ ((n : Int) + 47) := Affine.subi h13 h1 (by omega)
  have h15 : Affine.IsInt _ (((n : Int) + 47) / 48) := Affine.divsi h14 h48 (by omega)
  have h17 : Affine.IsInt _ 1 := Affine.extui_holds (Affine.sgt_holds h14 h0 (by omega)) rfl
  have h19 : Affine.IsInt _ 0 := Affine.extui_fails (Affine.slt_fails h14 h0 (by omega)) rfl
  have h20 : Affine.IsInt _ 1 := Affine.subi h17 h19 (by omega)
  have h22 : Affine.IsInt _ 1 := Affine.extui_holds (Affine.sgt_holds h48 h0 (by omega)) rfl
  have h24 : Affine.IsInt _ 0 := Affine.extui_fails (Affine.slt_fails h48 h0 (by omega)) rfl
  have h25 : Affine.IsInt _ 1 := Affine.subi h22 h24 (by omega)
  have h26 := Affine.ne_fails h20 h25 rfl
  have h27 : Affine.IsInt _ (((n : Int) + 47) % 48) := Affine.remsi h14 h48 (by omega)
  have h29 := Affine.andi_fails_left h26 (Affine.cmpi_term .ne h27 h0)
  have h30 : Affine.IsInt _ (((n : Int) + 47) / 48 - 1) := Affine.subi h15 h1 (by omega)
  have h31 : Affine.IsInt _ (((n : Int) + 47) / 48) := Affine.select_fails h29 h30 h15 rfl
  have h32 : Affine.IsInt _ (((n : Int) + 47) / 48) := Affine.subi h31 h0 (by omega)
  have h34 : Affine.IsInt _ (((n : Int) + 47) / 48) := Affine.divsi h32 h1 (by omega)
  have h35 : Affine.IsInt _ (((n : Int) + 47) / 48) := Affine.muli h34 h1 (by omega)
  exact Affine.addi h0 h35 (by omega)

theorem t6_trips : (k0_t6_loop v).trips = (n + 47) / 48 :=
  Affine.trips_eq (Affine.ofNat 0 (by omega) : Affine.IsInt 0#32 0) (t6_ub hv hn) (Affine.ofNat 1 (by omega) : Affine.IsInt 1#32 1) _ (by omega)

theorem t6_ok : (k0_t6_loop v).OK :=
  Affine.ok (Affine.ofNat 0 (by omega) : Affine.IsInt 0#32 0) (t6_ub hv hn) (Affine.ofNat 1 (by omega) : Affine.IsInt 1#32 1) (by omega)

theorem batch_lt (b : Fin (k0_t6_loop v).trips) : 48 * b.val < n := by
  have h := lt_of_lt_of_eq b.isLt (t6_trips hv hn)
  omega

theorem batch_iv (b : Fin (k0_t6_loop v).trips) : Affine.IsInt (Scf.iv 0#32 1#32 b.val) (b.val : Int) := by
  have := batch_lt hv hn b
  exact Affine.iv (Affine.ofNat 0 (by omega) : Affine.IsInt 0#32 0) (Affine.ofNat 1 (by omega) : Affine.IsInt 1#32 1) b.val (by omega)

theorem batch_start (b : Fin (k0_t6_loop v).trips) : Affine.IsInt (Scalar.muli (Scf.iv 0#32 1#32 b.val) 48#32) (48 * (b.val : Int)) := by
  have := batch_lt hv hn b
  exact Affine.muli (batch_iv hv hn b) (Affine.ofNat 48 (by omega) : Affine.IsInt 48#32 48) (by omega)

theorem off12_eq (b : Fin (k0_t6_loop v).trips) : k0_off12 v b = ![48 * b.val] :=
  Affine.vec_cons (batch_start hv hn b) (by omega) <| Affine.vec_nil

/-- Batch `b`'s own bound: 48 edges, or what is left. -/
theorem t7_ub (b : Fin (k0_t6_loop v).trips) : Affine.IsInt (k0_t7_loop v b).ub (min 48 ((n : Int) - 48 * b.val)) := by
  have hlt := batch_lt hv hn b
  have h0 : Affine.IsInt 0#32 0 := Affine.ofNat _ (by omega)
  have h1 : Affine.IsInt 1#32 1 := Affine.ofNat _ (by omega)
  have h48 : Affine.IsInt 48#32 48 := Affine.ofNat _ (by omega)
  have h12 : Affine.IsInt v (n : Int) := by rw [hv]; exact Affine.ofNat _ (by omega)
  have h43 : Affine.IsInt _ ((n : Int) - 48 * b.val) := Affine.subi h12 (batch_start hv hn b) (by omega)
  have h44 : Affine.IsInt _ (min 48 ((n : Int) - 48 * b.val)) := Affine.minsi h48 h43 rfl
  have h45 : Affine.IsInt _ (min 48 ((n : Int) - 48 * b.val)) := Affine.subi h44 h0 (by omega)
  have h47 : Affine.IsInt _ (min 48 ((n : Int) - 48 * b.val)) := Affine.divsi h45 h1 (by omega)
  have h48' : Affine.IsInt _ (min 48 ((n : Int) - 48 * b.val)) := Affine.muli h47 h1 (by omega)
  exact Affine.addi h0 h48' (by omega)

theorem t7_trips (b : Fin (k0_t6_loop v).trips) : (k0_t7_loop v b).trips = min 48 (n - 48 * b.val) := by
  have hlt := batch_lt hv hn b
  exact Affine.trips_eq (Affine.ofNat 0 (by omega) : Affine.IsInt 0#32 0) (t7_ub hv hn b) (Affine.ofNat 1 (by omega) : Affine.IsInt 1#32 1) _ (by omega)

theorem t7_ok (b : Fin (k0_t6_loop v).trips) : (k0_t7_loop v b).OK := by
  have hlt := batch_lt hv hn b
  exact Affine.ok (Affine.ofNat 0 (by omega) : Affine.IsInt 0#32 0) (t7_ub hv hn b) (Affine.ofNat 1 (by omega) : Affine.IsInt 1#32 1) (by omega)

theorem edge_lt (b : Fin (k0_t6_loop v).trips) (k : Fin (k0_t7_loop v b).trips) : k.val < 48 ∧ 48 * b.val + k.val < n := by
  have h := lt_of_lt_of_eq k.isLt (t7_trips hv hn b)
  have := batch_lt hv hn b
  omega

theorem edge_iv (b : Fin (k0_t6_loop v).trips) (k : Fin (k0_t7_loop v b).trips) : Affine.IsInt (Scf.iv 0#32 1#32 k.val) (k.val : Int) := by
  have := edge_lt hv hn b k
  exact Affine.iv (Affine.ofNat 0 (by omega) : Affine.IsInt 0#32 0) (Affine.ofNat 1 (by omega) : Affine.IsInt 1#32 1) k.val (by omega)

theorem off13_eq (b : Fin (k0_t6_loop v).trips) (k : Fin (k0_t7_loop v b).trips) : k0_off13 v b k = ![48 * b.val + k.val] := by
  have h : Affine.IsInt _ (48 * (b.val : Int) + k.val) := Affine.addi (batch_start hv hn b) (edge_iv hv hn b k) (by
    have := edge_lt hv hn b k; omega)
  exact Affine.vec_cons h (by omega) <| Affine.vec_nil

/-- The eight column groups of an edge's row. -/
theorem row_off {w : BitVec 32} {k q : ℕ} (h : Affine.IsInt w (k : Int)) : (![w.toNat, q] : Fin 2 → ℕ) = ![k, q] :=
  Affine.vec_cons h rfl rfl

theorem off15_eq (b : Fin (k0_t6_loop v).trips) (k : Fin (k0_t7_loop v b).trips) : k0_off15 v b k = ![k.val, 0] := row_off hv hn (edge_iv hv hn b k)
theorem off17_eq (b : Fin (k0_t6_loop v).trips) (k : Fin (k0_t7_loop v b).trips) : k0_off17 v b k = ![k.val, 16] := row_off hv hn (edge_iv hv hn b k)
theorem off19_eq (b : Fin (k0_t6_loop v).trips) (k : Fin (k0_t7_loop v b).trips) : k0_off19 v b k = ![k.val, 32] := row_off hv hn (edge_iv hv hn b k)
theorem off21_eq (b : Fin (k0_t6_loop v).trips) (k : Fin (k0_t7_loop v b).trips) : k0_off21 v b k = ![k.val, 48] := row_off hv hn (edge_iv hv hn b k)
theorem off23_eq (b : Fin (k0_t6_loop v).trips) (k : Fin (k0_t7_loop v b).trips) : k0_off23 v b k = ![k.val, 64] := row_off hv hn (edge_iv hv hn b k)
theorem off25_eq (b : Fin (k0_t6_loop v).trips) (k : Fin (k0_t7_loop v b).trips) : k0_off25 v b k = ![k.val, 80] := row_off hv hn (edge_iv hv hn b k)
theorem off27_eq (b : Fin (k0_t6_loop v).trips) (k : Fin (k0_t7_loop v b).trips) : k0_off27 v b k = ![k.val, 96] := row_off hv hn (edge_iv hv hn b k)
theorem off29_eq (b : Fin (k0_t6_loop v).trips) (k : Fin (k0_t7_loop v b).trips) : k0_off29 v b k = ![k.val, 112] := row_off hv hn (edge_iv hv hn b k)

omit hv hn in
/-- A group of sixteen columns of one row lies inside a block of `R` rows of 128. -/
theorem group_inb {R r q : ℕ} {o : Fin 2 → ℕ} (ho : o = ![r, q]) (hr : r < R) (hq : q + 16 ≤ 128) :
    ∀ a, o a + S1x16.size a ≤ (⟨2, ![R, 128]⟩ : Shape).size a := by
  subst ho; intro a
  match a with
  | ⟨0, _⟩ => show r + 1 ≤ R; omega
  | ⟨1, _⟩ => show q + 16 ≤ 128; omega

/-- Every fact the kernel checks of the count holds. -/
theorem chk2_of : k0_chk2 v := by
  have grp : ∀ (b : Fin (k0_t6_loop v).trips) (k : Fin (k0_t7_loop v b).trips) {o : Fin 2 → ℕ} (q : ℕ), o = ![k.val, q] → q + 16 ≤ 128 →
      ∀ a, o a + S1x16.size a ≤ S48x128.size a := fun b k o q ho hq => group_inb (R := 48) ho (edge_lt hv hn b k).1 hq
  refine ⟨⟨t6_ok hv hn, fun b => ?_, fun b => t7_ok hv hn b, fun b k => ?_,
    fun b k => grp b k 0 (off15_eq hv hn b k) (by omega), fun b k => grp b k 16 (off17_eq hv hn b k) (by omega),
    fun b k => grp b k 32 (off19_eq hv hn b k) (by omega), fun b k => grp b k 48 (off21_eq hv hn b k) (by omega),
    fun b k => grp b k 64 (off23_eq hv hn b k) (by omega), fun b k => grp b k 80 (off25_eq hv hn b k) (by omega),
    fun b k => grp b k 96 (off27_eq hv hn b k) (by omega), fun b k => grp b k 112 (off29_eq hv hn b k) (by omega),
    fun b => Scf.rem_ok _ _, ?_, ?_, ?_, ?_, ?_, ?_, ?_, ?_, ?_, Scf.rem_ok _ _, ?_, ?_, ?_, ?_, ?_, ?_, ?_, ?_, ?_⟩, ?_⟩
  · rw [off12_eq hv hn b]; intro a
    have := batch_lt hv hn b
    match a with | ⟨0, _⟩ => show 48 * b.val + 48 ≤ 2064; omega
  · rw [off13_eq hv hn b k]; intro a
    have := edge_lt hv hn b k
    match a with | ⟨0, _⟩ => show 48 * b.val + k.val + 16 ≤ 2064; omega
  iterate 9 exact fun _ k => (Scf.rem_no_trip _ _ k).elim
  iterate 9 exact fun b => (Scf.rem_no_trip _ _ b).elim
  refine ⟨?_, ?_, ?_, ?_, ?_, ?_, ?_, ?_, ?_, ?_, ?_, ?_⟩
  iterate 12 exact fun b => (Scf.rem_no_trip _ _ b).elim

end Batches

/-- A node row inside the block passes its check. -/
theorem chk3_of {w : BitVec 32} (h : w.toNat < 784) : k0_chk3 w :=
  ⟨group_inb rfl h (by omega), group_inb rfl h (by omega), group_inb rfl h (by omega), group_inb rfl h (by omega),
    group_inb rfl h (by omega), group_inb rfl h (by omega), group_inb rfl h (by omega), group_inb rfl h (by omega)⟩

end Cert.Proof.SegMax

end
-- ==== Proof.Rmw.lean ====
/-
  One kept edge: its row folded into the block at its node's row, eight groups of sixteen columns.
-/
module

public import proofs.«01_k».proof.Proof.Setup
public import proofs.«01_k».proof.Proof.Pieces
public import proofs.«01_k».proof.Proof.Scan
public import proofs.«01_k».proof.Proof.Words

@[expose] public section

set_option maxRecDepth 16384

noncomputable section

namespace Cert.Proof.SegMax

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

variable (d : Dev nD) (L : grid0.Coords)

variable (D : Buf (Elt F) (dLoc d))

variable (D : Buf (Elt F) (dLoc d))
variable (X : Buf (Elt F) (xLoc d))

abbrev body7 {v : BitVec 32} (hw : k0_chk2 v) (b : Fin (k0_t6_loop v).trips) (a13 : BitVec 32) := k0_t7_body (F := F) L xV (Memref.isWhole_whole _) dV (Memref.isWhole_whole _) oV (Memref.isWhole_whole _) aV (Memref.isWhole_whole _)
  wV (Memref.isWhole_whole _) lV (Memref.isWhole_whole _) rV (Memref.isWhole_whole _) gV (Memref.isWhole_whole _) cc0_scratch5 cc0_scoped0 cc0_scoped1 v hw b a13

/-- The batch's first kept edges are folded into the block; the list of nodes and the batch's rows are at hand. -/
def inv7 (B off b : ℕ) (fl : Buf (Elt F) ((lV).view.loc (thr d L))) (fg : Buf (Elt F) ((gV).view.loc (thr d L))) (t : ℕ) (_ : PUnit) : sProp 𝕄 :=
  iprop((∃ A : Buf (Elt F) ((aV).view.loc (thr d L)), ⌜BlockAt X D B off (48 * b + t) A⌝ ∗ ((aV).view.loc (thr d L) ↦{fullShare} A))
    ∗ ((lV).view.loc (thr d L) ↦{fullShare} fl) ∗ ((gV).view.loc (thr d L) ↦{fullShare} fg))

/-- One group of columns: its sixteen entries of row `ρ` become their maximum with the edge's. -/
theorem fold_group {A : Buf (Elt F) ((aV).view.loc (thr d L))} {fg : Buf (Elt F) ((gV).view.loc (thr d L))} (ρ : Fin 784) (kk : Fin 48) {q : ℕ} (hq : q < 8)
    {P : List (View.Piece (Elt F) S784x128 .f32)}
    (hP : Cols A ρ.val (fun c => FloatOps.maximumf (A (ix2 ρ c)) (fg (ix2 kk c))) q ((aV).view.read (Elt F) ((aV).view.writes (Elt F) A P)))
    {o1 o2 : Fin 2 → ℕ} (i1 : ∀ a, o1 a + S1x16.size a ≤ S784x128.size a) (i2 : ∀ a, o2 a + S1x16.size a ≤ S48x128.size a)
    (h1 : o1 = ![ρ.val, 16 * q]) (h2 : o2 = ![kk.val, 16 * q]) :
    Cols A ρ.val (fun c => FloatOps.maximumf (A (ix2 ρ c)) (fg (ix2 kk c))) (q + 1)
      ((aV).view.read (Elt F) ((aV).view.writes (Elt F) A (⟨Rect.unit (s := S784x128) o1 S1x16.size i1,
        shapeCast S1x16 (maximumf (shapeCast S16 (View.readAt (Elt F) (aV).view (Rect.unit (s := S784x128) o1 S1x16.size i1).toLoadRect ((aV).view.writes (Elt F) A P)) shapeCasts_S1x16_S16)
          (shapeCast S16 (View.readAt (Elt F) (gV).view (Rect.unit (s := S48x128) o2 S1x16.size i2).toLoadRect fg) shapeCasts_S1x16_S16)) shapeCasts_S16_S1x16⟩ :: P))) := by
  refine hP.next (aV).view A P i1 _ h1 ?_
  intro l c hc
  have hl := l.isLt
  have ea : View.readAt (Elt F) (aV).view (Rect.unit (s := S784x128) o1 S1x16.size i1).toLoadRect ((aV).view.writes (Elt F) A P) (ix2 (0 : Fin 1) l) = A (ix2 ρ c) := by
    refine (load_at (aV).view _ i1 (ix2 (0 : Fin 1) l) (ix2 ρ c) h1 (fun a => by match a with | ⟨0, _⟩ => rfl | ⟨1, _⟩ => exact hc)).trans ?_
    rw [hP ρ c, if_neg (by omega)]
  have eg : View.readAt (Elt F) (gV).view (Rect.unit (s := S48x128) o2 S1x16.size i2).toLoadRect fg (ix2 (0 : Fin 1) l) = fg (ix2 kk c) :=
    load_at (gV).view _ i2 (ix2 (0 : Fin 1) l) (ix2 kk c) h2 (fun a => by match a with | ⟨0, _⟩ => rfl | ⟨1, _⟩ => exact hc)
  rw [← ea, ← eg]
  generalize View.readAt (Elt F) (aV).view (Rect.unit (s := S784x128) o1 S1x16.size i1).toLoadRect ((aV).view.writes (Elt F) A P) = u
  generalize View.readAt (Elt F) (gV).view (Rect.unit (s := S48x128) o2 S1x16.size i2).toLoadRect fg = w
  refine (LaneScatter.cast_row_apply (Ln := 16) _ shapeCasts_S16_S1x16 (ix2 (0 : Fin 1) l)).trans ?_
  refine congrArg₂ FloatOps.maximumf ((LaneScatter.cast_vec_apply (Ln := 16) u shapeCasts_S1x16_S16 _).trans (congrArg u ?_))
    ((LaneScatter.cast_vec_apply (Ln := 16) w shapeCasts_S1x16_S16 _).trans (congrArg w ?_))
  all_goals funext a; match a with | ⟨0, _⟩ => rfl | ⟨1, _⟩ => rfl

theorem node_lane (w : Vec F S16 .i32) : extractAt ![0] (k0_pay9 (F := F) w) inpos_S1_p0 = k0_pay9 (F := F) w (ix1 (0 : Fin 1)) :=
  congrArg (k0_pay9 (F := F) w) (by funext a; match a with | ⟨0, _⟩ => rfl)

theorem pay9_at (w : Vec F S16 .i32) : k0_pay9 (F := F) w (ix1 (0 : Fin 1)) = w (ix1 (0 : Fin 16)) :=
  congrArg w (by funext a; match a with | ⟨0, _⟩ => rfl)

theorem t7_trip (B off n : ℕ) (hB : B ≤ 50176 - 784) (hoff : off + 2000 ≤ 800000) {v : BitVec 32} (hv : v = BitVec.ofNat 32 n) (hn : n = cnt D (BitVec.ofNat 32 B) off 2000)
    (hn' : n ≤ 2000) (hw : k0_chk2 v) (b : Fin (k0_t6_loop v).trips) (a13 : BitVec 32)
    (fl : Buf (Elt F) ((lV).view.loc (thr d L))) (fg : Buf (Elt F) ((gV).view.loc (thr d L)))
    (hfl : ListOK D (BitVec.ofNat 32 B) off (fun k => dw D (off + k) - BitVec.ofNat 32 B) 2000 fl)
    (hfg : ∀ (k kk : ℕ) (hk : k < 2000) (hkk : kk < 48), hit D (BitVec.ofNat 32 B) off k → cnt D (BitVec.ofNat 32 B) off k = 48 * b.val + kk →
      ∀ c : Fin 128, fg (ix2 (⟨kk, hkk⟩ : Fin 48) c) = X (ix2 (⟨off + k, by omega⟩ : Fin 800000) c))
    (k : Fin (k0_t7_loop v b).trips) :
    inv7 (F := F) d L D X B off b.val fl fg k.val ⟨⟩ ⊢ wp frame (wpE (defs₀ (F := F)) 𝒱₀ (thr d L) none) Set.univ (body7 L hw b a13 k ⟨⟩) fun a => inv7 d L D X B off b.val fl fg (k.val + 1) a := by
  have hlt := edge_lt hv hn' b k
  obtain ⟨e, he, hit, hcnt⟩ := exists_hit (D := D) (base := BitVec.ofNat 32 B) (off := off) (K := 2000) (j := 48 * b.val + k.val) (by omega)
  have hnode : k0_pay9 (View.readAt (Elt F) (lV).view (Rect.unit (s := S2064) (k0_off13 v b k) S16.size (k0_off13_inb v hw b k)).toLoadRect fl) (ix1 (0 : Fin 1)) = dw D (off + e) - BitVec.ofNat 32 B := by
    refine (pay9_at (F := F) _).trans ?_
    refine (load_at (lV).view fl (k0_off13_inb v hw b k) (ix1 (0 : Fin 16)) (ix1 (⟨48 * b.val + k.val, by omega⟩ : Fin 2064)) (off13_eq hv hn' b k)
      (fun a => by match a with | ⟨0, _⟩ => rfl)).trans ?_
    exact hfl e he hit _ hcnt.symm
  unfold inv7 body7
  iintro ⟨⟨%A, %hA, Ha⟩, Hl, Hg⟩
  sl_unfold [k0_t7_body]
  sl_unfold [k0_part1]
  sl_exec
  have hx : t7_trip.sl.v55 d L hw b fl k = dw D (off + e) - BitVec.ofNat 32 B := (node_lane _).trans hnode
  have hx3 : k0_chk3 (t7_trip.sl.v55 d L hw b fl k) := chk3_of (by rw [hx]; exact hit)
  rw [wp_assume_of _ _ _ _ hx3]
  sl_exec
  sl_step
  have hxt : (t7_trip.sl.v55 d L hw b fl k).toNat < 784 := by rw [hx]; exact hit
  have s0 := Cols.start (F := F) (R := 784) A (t7_trip.sl.v55 d L hw b fl k).toNat
    (fun c => FloatOps.maximumf (A (ix2 (⟨(t7_trip.sl.v55 d L hw b fl k).toNat, hxt⟩ : Fin 784) c)) (fg (ix2 (⟨k.val, hlt.1⟩ : Fin 48) c)))
  have s1 := fold_group (P := []) d L ⟨_, hxt⟩ ⟨_, hlt.1⟩ (by omega) s0 (k0_off14_inb _ hx3) (k0_off15_inb v hw b k) rfl (off15_eq hv hn' b k)
  have s2 := fold_group (P := t7_trip.sl.Ha_1 d L hw b fl fg k A hx3) d L ⟨_, hxt⟩ ⟨_, hlt.1⟩ (by omega) s1 (k0_off16_inb _ hx3) (k0_off17_inb v hw b k) rfl (off17_eq hv hn' b k)
  have s3 := fold_group (P := t7_trip.sl.Ha_2 d L hw b fl fg k A hx3) d L ⟨_, hxt⟩ ⟨_, hlt.1⟩ (by omega) s2 (k0_off18_inb _ hx3) (k0_off19_inb v hw b k) rfl (off19_eq hv hn' b k)
  have s4 := fold_group (P := t7_trip.sl.Ha_3 d L hw b fl fg k A hx3) d L ⟨_, hxt⟩ ⟨_, hlt.1⟩ (by omega) s3 (k0_off20_inb _ hx3) (k0_off21_inb v hw b k) rfl (off21_eq hv hn' b k)
  have s5 := fold_group (P := t7_trip.sl.Ha_4 d L hw b fl fg k A hx3) d L ⟨_, hxt⟩ ⟨_, hlt.1⟩ (by omega) s4 (k0_off22_inb _ hx3) (k0_off23_inb v hw b k) rfl (off23_eq hv hn' b k)
  have s6 := fold_group (P := t7_trip.sl.Ha_5 d L hw b fl fg k A hx3) d L ⟨_, hxt⟩ ⟨_, hlt.1⟩ (by omega) s5 (k0_off24_inb _ hx3) (k0_off25_inb v hw b k) rfl (off25_eq hv hn' b k)
  have s7 := fold_group (P := t7_trip.sl.Ha_6 d L hw b fl fg k A hx3) d L ⟨_, hxt⟩ ⟨_, hlt.1⟩ (by omega) s6 (k0_off26_inb _ hx3) (k0_off27_inb v hw b k) rfl (off27_eq hv hn' b k)
  have s8 := fold_group (P := t7_trip.sl.Ha_7 d L hw b fl fg k A hx3) d L ⟨_, hxt⟩ ⟨_, hlt.1⟩ (by omega) s7 (k0_off28_inb _ hx3) (k0_off29_inb v hw b k) rfl (off29_eq hv hn' b k)
  isplitl [Ha]
  · iexists _
    isplitr
    swap; · iexact Ha
    ipureintro
    refine BlockAt.step hB hoff hA he hit hcnt ?_
    intro r c
    refine (s8.done r c).trans ?_
    have hxn : (t7_trip.sl.v55 d L hw b fl k).toNat = (dw D (off + e) - BitVec.ofNat 32 B).toNat := congrArg BitVec.toNat hx
    by_cases hr : r.val = (dw D (off + e) - BitVec.ofNat 32 B).toNat
    · rw [if_pos hr, if_pos (hr.trans hxn.symm), hfg e k.val he hlt.1 hit hcnt c]
      exact congrArg (fun r => FloatOps.maximumf (A (ix2 r c)) _) (Fin.ext (hxn.trans hr.symm))
    · rw [if_neg hr, if_neg (fun h => hr (h.trans hxn))]
  isplitl [Hl]; · iexact Hl
  · iexact Hg

end Cert.Proof.SegMax

end
-- ==== Proof.Batch.lean ====
/-
  A batch of kept edges: up to 48 rows of the table gathered by their edges' numbers, then folded one by one.
-/
module

public import proofs.«01_k».proof.Proof.Setup
public import proofs.«01_k».proof.Proof.Pieces
public import proofs.«01_k».proof.Proof.Rmw

@[expose] public section

set_option maxRecDepth 16384

noncomputable section

namespace Cert.Proof.SegMax

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

variable (d : Dev nD) (L : grid0.Coords)

variable (D : Buf (Elt F) (dLoc d))

variable (D : Buf (Elt F) (dLoc d))
variable (X : Buf (Elt F) (xLoc d)) (q : PosShare TreeShare)

/-- The waits recorded so far are the body's own. -/
def waits (O : CellTallies nD τ sig (HIx 1)) (W : Waits sig (HIx 1)) : sProp 𝕄 :=
  iprop(∃ W', ⌜∀ p ∈ W', p ∈ W ∨ p.2 = none ∨ p.2 = some (0 : Fin 1)⌝ ∗ owes (thr d L) O W')

abbrev body6 {v : BitVec 32} (hw : k0_chk2 v) := k0_t6_body (F := F) L xV (Memref.isWhole_whole _) dV (Memref.isWhole_whole _) oV (Memref.isWhole_whole _) aV (Memref.isWhole_whole _)
  wV (Memref.isWhole_whole _) lV (Memref.isWhole_whole _) rV (Memref.isWhole_whole _) gV (Memref.isWhole_whole _) cc0_scratch5 cc0_scoped0 cc0_scoped1 v hw

/-- The first `b` batches of the `n` kept edges are folded into the block. -/
def inv6 (O : CellTallies nD τ sig (HIx 1)) (W : Waits sig (HIx 1)) (B off n : ℕ) (fl : Buf (Elt F) ((lV).view.loc (thr d L))) (fr : Buf (Elt F) ((rV).view.loc (thr d L))) (b : ℕ) (_ : PUnit) : sProp 𝕄 :=
  iprop(Transfers.MayWaits (thr d L) (default : HIx 1) O ∗ ((xV).view.loc (thr d L) ↦{q} X)
    ∗ (∃ A : Buf (Elt F) ((aV).view.loc (thr d L)), ⌜BlockAt X D B off (min (48 * b) n) A⌝ ∗ ((aV).view.loc (thr d L) ↦{fullShare} A))
    ∗ ((lV).view.loc (thr d L) ↦{fullShare} fl) ∗ ((rV).view.loc (thr d L) ↦{fullShare} fr) ∗ (∃ f, (gV).view.loc (thr d L) ↦{fullShare} f)
    ∗ semVal (cG d L) 0 ∗ waits d L O W)

theorem row_of (r : Fin 48 → Fin 800000) (kk : Fin 48) (c : Fin 128) : (Shape.Gathers.idx gathers_S800000x128_S48x128 r (ix2 kk c) (0 : Fin 2)).val = (r kk).val :=
  congrArg Fin.val (Shape.Gathers.idx_axis gathers_S800000x128_S48x128 r (ix2 kk c))

theorem col_of (r : Fin 48 → Fin 800000) (kk : Fin 48) (c : Fin 128) : (Shape.Gathers.idx gathers_S800000x128_S48x128 r (ix2 kk c) (1 : Fin 2)).val = c.val :=
  Shape.Gathers.idx_of_ne gathers_S800000x128_S48x128 r (ix2 kk c) (1 : Fin 2) (by decide)

/-- Row `kk` of the gathered rows is the table's row that the list's entry `o + kk` names. -/
theorem gather_at (fr : Buf (Elt F) ((rV).view.loc (thr d L))) {off : Fin 1 → ℕ} (o : ℕ) (inb : ∀ a, off a + S48.size a ≤ S2064.size a) (ho : off = ![o])
    (hr0 : ∀ a, (Rect.unit (s := S800000x128) ![0, 0] S800000x128.size inb_S800000x128_S800000x128_0_0).stride a = 1)
    (hr : ∀ a, (Rect.unit (s := S2064) off S48.size inb).stride a = 1) (hn : S48.numel = 48)
    (hin : ∀ x, (((rV).slice (Rect.unit (s := S2064) off S48.size inb) hr).view.read (Elt F) fr x).toNat < 800000)
    (kk : Fin 48) (c : Fin 128) (y : S2064.Idx) (hy : (y 0).val = o + kk.val) (e : Fin 800000) (he : (fr y).toNat = e.val) :
    SparseCore.gatherPayload gathers_S800000x128_S48x128
      (((xV).slice (Rect.unit (s := S800000x128) ![0, 0] S800000x128.size inb_S800000x128_S800000x128_0_0) hr0).view.read (Elt F) X)
      (SparseCore.rows (o := 48) (z := 800000) (((rV).slice (Rect.unit (s := S2064) off S48.size inb) hr).view.read (Elt F) fr) hn hin) (ix2 kk c)
      = X (ix2 e c) := by
  subst ho
  have hrow : SparseCore.rows (o := 48) (z := 800000) (((rV).slice (Rect.unit (s := S2064) ![o] S48.size inb) hr).view.read (Elt F) fr) hn hin kk = e := by
    apply Fin.ext
    refine Eq.trans ?_ he
    have hs : S48.rowMajor.symm (kk.cast hn.symm) = ix1 kk :=
      (S48.rowMajor.symm_apply_eq).2 (Fin.ext (by rw [Shape.rowMajor_val_one]; rfl))
    show (((rV).slice (Rect.unit (s := S2064) ![o] S48.size inb) hr).view.read (Elt F) fr (S48.rowMajor.symm (kk.cast hn.symm))).toNat = _
    rw [hs]
    refine congrArg (fun y : S2064.Idx => (fr y).toNat) ?_
    funext a
    match a with
    | ⟨0, _⟩ => exact Fin.ext (by rw [show (y ⟨0, _⟩).val = o + kk.val from hy]; show o + 1 * kk.val = _; omega)
  unfold SparseCore.gatherPayload
  refine congrArg X ?_
  funext a
  match a with
  | ⟨0, _⟩ =>
    refine Fin.ext ?_
    have h0 := row_of (SparseCore.rows (o := 48) (z := 800000) (((rV).slice (Rect.unit (s := S2064) ![o] S48.size inb) hr).view.read (Elt F) fr) hn hin) kk c
    rw [hrow] at h0
    exact (show ∀ n : ℕ, 0 + 1 * n = n by omega) _ |>.trans h0
  | ⟨1, _⟩ =>
    refine Fin.ext ?_
    exact (show ∀ n : ℕ, 0 + 1 * n = n by omega) _ |>.trans (col_of _ kk c)

theorem t6_trip (O : CellTallies nD τ sig (HIx 1)) (W : Waits sig (HIx 1)) (B off n : ℕ) (hB : B ≤ 50176 - 784) (hoff : off + 2000 ≤ 800000) {v : BitVec 32} (hv : v = BitVec.ofNat 32 n)
    (hn : n = cnt D (BitVec.ofNat 32 B) off 2000) (hn' : n ≤ 2000) (hw : k0_chk2 v)
    (fl : Buf (Elt F) ((lV).view.loc (thr d L))) (fr : Buf (Elt F) ((rV).view.loc (thr d L)))
    (hfl : ListOK D (BitVec.ofNat 32 B) off (fun k => dw D (off + k) - BitVec.ofNat 32 B) 2000 fl)
    (hfr : ListOK D (BitVec.ofNat 32 B) off (fun k => BitVec.ofNat 32 (off + k)) 2000 fr) (hfr' : ∀ y : S2064.Idx, BitVec.toNat (fr y) < 800000)
    (b : Fin (k0_t6_loop v).trips) :
    inv6 (F := F) d L D X q O W B off n fl fr b.val ⟨⟩ ⊢ wp frame (wpE (defs₀ (F := F)) 𝒱₀ (thr d L) none) Set.univ (body6 L hw b ⟨⟩) fun a => inv6 d L D X q O W B off n fl fr (b.val + 1) a := by
  have hlt := batch_lt hv hn' b
  unfold inv6 body6 waits
  iintro ⟨Hmw, Hx, ⟨%A, %hA, Ha⟩, Hl, Hr, ⟨%fg, Hg⟩, HsG, ⟨%W', %hW, HO⟩⟩
  have hin : ∀ x, (((rV).slice (Rect.unit (s := S2064) (k0_off12 v b) S48.size (k0_off12_inb v hw b)) (fun _ => rfl)).view.read (Elt F) fr x).toNat < S800000x128.size 0 := fun x => hfr' _
  sl_unfold [k0_t6_body]
  sl_exec
  sl_for (inv7 d L D X B off b.val fl ((gV).view.writes (Elt F) (gV).view.junk [⟨Rect.whole S48x128, t6_trip.sl.gather0 d L X hw fr b hin⟩])) $$ [Ha Hl Hg]
  case region =>
    intro k _
    refine t7_trip d L D X B off n hB hoff hv hn hn' hw b _ fl _ hfl ?_ k
    intro k kk hk hkk hit hcnt c
    refine (congrFun (View.read_writes_whole (Val := Elt F) (gV).view _ _) _).trans ?_
    exact gather_at d L X fr (48 * b.val) (k0_off12_inb v hw b) (off12_eq hv hn' b) _ _ _ hin ⟨kk, hkk⟩ c
      (ix1 (⟨48 * b.val + kk, by have := cnt_le (D := D) (base := BitVec.ofNat 32 B) (off := off) k; omega⟩ : Fin 2064)) rfl ⟨off + k, by omega⟩
      (by rw [hfr k hk hit _ hcnt.symm, BitVec.toNat_ofNat]; exact Nat.mod_eq_of_lt (by omega))
  · unfold inv7
    isplitl [Ha]
    · iexists _
      isplitr
      swap; · iexact Ha
      ipureintro
      rw [show 48 * b.val + 0 = min (48 * b.val) n by omega]
      exact hA
    isplitl [Hl]; · iexact Hl
    · iexact Hg
  iintro %_ HI
  unfold inv7
  icases HI with ⟨⟨%A', %hA', Ha⟩, Hl, Hg⟩
  sl_exec
  sl_step
  iframe
  isplitl [Ha]
  · iexists _
    isplitr
    swap; · iexact Ha
    ipureintro
    have e := t7_trips hv hn' b
    unfold Scf.Loop.trips at e
    rw [e] at hA'
    rw [show min (48 * (b.val + 1)) n = 48 * b.val + min 48 (n - 48 * b.val) by omega]
    exact hA'
  isplitl [Hg]; · iexists _; iexact Hg
  isplitl [HsG]; · iexact HsG
  iexists _
  isplitr
  swap; · iexact HO
  ipureintro
  intro p hp
  rcases Finset.mem_insert.mp hp with rfl | hp
  · exact Or.inr (Or.inl rfl)
  · exact hW p hp

end Cert.Proof.SegMax

end
-- ==== Proof.Chunk.lean ====
/-
  A chunk of 2000 destination words: fetched, scanned, its kept edges folded into the block batch by batch.
-/
module

public import proofs.«01_k».proof.Proof.Setup
public import proofs.«01_k».proof.Proof.Pieces
public import proofs.«01_k».proof.Proof.Batch

@[expose] public section

set_option maxRecDepth 16384

noncomputable section

namespace Cert.Proof.SegMax

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

variable (d : Dev nD) (L : grid0.Coords)

variable (D : Buf (Elt F) (dLoc d))

variable (D : Buf (Elt F) (dLoc d))
variable (X : Buf (Elt F) (xLoc d)) (q : PosShare TreeShare)

abbrev body4 (p : Fin k0_t2_loop.trips) := k0_t4_body (F := F) L xV (Memref.isWhole_whole _) dV (Memref.isWhole_whole _) oV (Memref.isWhole_whole _) aV (Memref.isWhole_whole _)
  wV (Memref.isWhole_whole _) lV (Memref.isWhole_whole _) rV (Memref.isWhole_whole _) gV (Memref.isWhole_whole _) cc0_scratch5 cc0_scoped0 cc0_scoped1 p

/-- The edges of the first `t` chunks are folded into the block. -/
def inv4 (O : CellTallies nD τ sig (HIx 1)) (W : Waits sig (HIx 1)) (B t : ℕ) (_ : PUnit) : sProp 𝕄 :=
  iprop(Transfers.MayWaits (thr d L) (default : HIx 1) O ∗ ((xV).view.loc (thr d L) ↦{q} X) ∗ ((dV).view.loc (thr d L) ↦{q} D)
    ∗ (∃ A : Buf (Elt F) ((aV).view.loc (thr d L)), ⌜∀ (r : Fin 784) (c : Fin 128), A (ix2 r c) = accum X D (B + r.val) c (2000 * t)⌝ ∗ ((aV).view.loc (thr d L) ↦{fullShare} A))
    ∗ (∃ f, (wV).view.loc (thr d L) ↦{fullShare} f) ∗ (∃ f, (lV).view.loc (thr d L) ↦{fullShare} f)
    ∗ (∃ f : Buf (Elt F) ((rV).view.loc (thr d L)), ⌜∀ y : S2064.Idx, BitVec.toNat (f y) < 800000⌝ ∗ ((rV).view.loc (thr d L) ↦{fullShare} f))
    ∗ (∃ f, (gV).view.loc (thr d L) ↦{fullShare} f)
    ∗ semVal (cG d L) 0 ∗ semVal (cW d L) 0 ∗ waits d L O W)

/-- A lane of the fetched chunk. -/
theorem fetch_at (fw : Buf (Elt F) ((wV).view.loc (thr d L))) {off : Fin 1 → ℕ} (o : ℕ) (inb : ∀ a, off a + S2000.size a ≤ S800000.size a) (ho : off = ![o]) (hr : ∀ a, (Rect.unit (s := S800000) off S2000.size inb).stride a = 1)
    (i : Fin 2000) (h : o + i.val < 800000) :
    View.write (Elt F) (wV).view fw (((dV).slice (Rect.unit (s := S800000) off S2000.size inb) hr).view.read (Elt F) D) Finset.univ (ix1 i) = D (ix1 ⟨o + i.val, h⟩) := by
  subst ho
  rw [View.write_whole_univ]
  refine congrArg D (funext fun a => Fin.ext ?_)
  have ha : a = (0 : Fin 1) := Subsingleton.elim (α := Fin 1) _ _
  subst ha
  exact congrArg (o + ·) (Nat.one_mul _)

theorem off10_eq (ch : Fin k0_t4_loop.trips) : k0_off10 ch = ![2000 * ch.val] := by
  rw [k0_off10_eq]

theorem t4_trip (O : CellTallies nD τ sig (HIx 1)) (W : Waits sig (HIx 1)) (p : Fin k0_t2_loop.trips) (ch : Fin k0_t4_loop.trips) :
    inv4 (F := F) d L D X q O W (baseN L p) ch.val ⟨⟩ ⊢ wp frame (wpE (defs₀ (F := F)) 𝒱₀ (thr d L) none) Set.univ (body4 L p ch ⟨⟩) fun a => inv4 d L D X q O W (baseN L p) (ch.val + 1) a := by
  have hch := lt_of_lt_of_eq ch.isLt (show k0_t4_loop.trips = 400 by decide)
  have hB : baseN L p ≤ 50176 - 784 := baseN_le L p
  have hbase := baseW_eq L p
  unfold inv4 body4 waits
  iintro ⟨Hmw, Hx, Hd, ⟨%A, %hA, Ha⟩, ⟨%fw, Hw⟩, ⟨%fl, Hl⟩, ⟨%fr, %hfr, Hr⟩, ⟨%fg, Hg⟩, HsG, HsW, ⟨%W', %hW, HO⟩⟩
  sl_unfold [k0_t4_body]
  sl_exec
  have hfw : ∀ i : Fin 2000, View.write (Elt F) (wV).view fw (t4_trip.sl.dma0 d D ch) Finset.univ (ix1 i) = dw D (2000 * ch.val + i.val) := fun i => by
    rw [dw_of_lt D (show 2000 * ch.val + i.val < 800000 by omega)]
    exact fetch_at d L D fw _ (k0_off10_inb ch) (off10_eq ch) _ i _
  sl_for (inv5 d L D p ch (View.write (Elt F) (wV).view fw (t4_trip.sl.dma0 d D ch) Finset.univ)) $$ [Hw Hl Hr]
  case region =>
    intro k n
    exact t5_trip d L D p ch _ hfw k n
  · unfold inv5
    isplitr
    · ipureintro; rfl
    isplitl [Hw]; · iexact Hw
    isplitl [Hl]
    · iexists fl
      isplitr
      · ipureintro; intro k hk; exact absurd hk (by omega)
      iexact Hl
    · iexists fr
      isplitr
      · ipureintro; exact ⟨fun k hk => absurd hk (by omega), hfr⟩
      iexact Hr
  iintro %n HI
  unfold inv5
  rw [show 16 * Scf.trips k0_t5_loop.lb k0_t5_loop.ub k0_t5_loop.st = 2000 by decide, hbase]
  icases HI with ⟨%hn, Hw, ⟨%fl', %hfl', Hl⟩, ⟨%fr', %hfr', Hr⟩⟩
  have hle := cnt_le (D := D) (base := BitVec.ofNat 32 (baseN L p)) (off := 2000 * ch.val) 2000
  have hw2 : k0_chk2 n := chk2_of hn hle
  sl_exec
  sl_for (inv6 d L D X q O W (baseN L p) (2000 * ch.val) (cnt D (BitVec.ofNat 32 (baseN L p)) (2000 * ch.val) 2000) fl' fr') $$ [Hmw Hx Ha Hl Hr Hg HsG HO]
  case region =>
    intro b _
    exact t6_trip d L D X q O W (baseN L p) (2000 * ch.val) _ hB (by omega) hn rfl hle hw2 fl' fr' hfl' hfr'.1 hfr'.2 b
  · unfold inv6 waits
    isplitl [Hmw]; · iexact Hmw
    isplitl [Hx]; · iexact Hx
    isplitl [Ha]
    · iexists A
      isplitr
      · ipureintro
        rw [Nat.mul_zero, Nat.zero_min]
        exact BlockAt.start hB hA
      iexact Ha
    isplitl [Hl]; · iexact Hl
    isplitl [Hr]; · iexact Hr
    isplitl [Hg]; · iexists _; iexact Hg
    isplitl [HsG]; · iexact HsG
    iexists _
    isplitr
    swap; · iexact HO
    ipureintro
    intro p hp
    rcases Finset.mem_insert.mp hp with rfl | hp
    · exact Or.inr (Or.inl rfl)
    · exact hW p hp
  iintro %_ HI
  unfold inv6 waits
  icases HI with ⟨Hmw, Hx, ⟨%A', %hA', Ha⟩, Hl, Hr, ⟨%fg', Hg⟩, HsG, ⟨%W'', %hW'', HO⟩⟩
  have e := t6_trips hn hle
  unfold Scf.Loop.trips at e
  rw [e, Nat.min_eq_right (by omega)] at hA'
  sl_exec
  sl_step
  isplitl [Hmw]; · iexact Hmw
  isplitl [Hx]; · iexact Hx
  isplitl [Hd]; · iexact Hd
  isplitl [Ha]
  · iexists A'
    isplitr
    · ipureintro
      exact fun r c => BlockAt.stop hA' rfl r c
    iexact Ha
  isplitl [Hw]; · iexists _; iexact Hw
  isplitl [Hl]; · iexists fl'; iexact Hl
  isplitl [Hr]
  · iexists fr'
    isplitr
    · ipureintro; exact hfr'.2
    iexact Hr
  isplitl [Hg]; · iexists fg'; iexact Hg
  isplitl [HsG]; · iexact HsG
  isplitl [HsW]; · iexact HsW
  iexists W''
  isplitr
  swap; · iexact HO
  ipureintro
  exact hW''

end Cert.Proof.SegMax

end
-- ==== Proof.Fills.lean ====
/-
  The two loops that only fill: the list of edges with spread words, the block's rows with the fill.
-/
module

public import proofs.«01_k».proof.Proof.Setup
public import proofs.«01_k».proof.Proof.Pieces

@[expose] public section

set_option maxRecDepth 16384

noncomputable section

namespace Cert.Proof.SegMax

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

variable (d : Dev nD) (L : grid0.Coords)

/-- A tile's loop bodies, at the buffers its task is called with. -/
abbrev body1 := k0_t1_body (F := F) L xV (Memref.isWhole_whole _) dV (Memref.isWhole_whole _) oV (Memref.isWhole_whole _) aV (Memref.isWhole_whole _)
  wV (Memref.isWhole_whole _) lV (Memref.isWhole_whole _) rV (Memref.isWhole_whole _) gV (Memref.isWhole_whole _) cc0_scratch5 cc0_scoped0 cc0_scoped1
abbrev body3 := k0_t3_body (F := F) L xV (Memref.isWhole_whole _) dV (Memref.isWhole_whole _) oV (Memref.isWhole_whole _) aV (Memref.isWhole_whole _)
  wV (Memref.isWhole_whole _) lV (Memref.isWhole_whole _) rV (Memref.isWhole_whole _) gV (Memref.isWhole_whole _) cc0_scratch5 cc0_scoped0 cc0_scoped1

/-- The list's first `16 k` words name edges. -/
def inv1 (k : ℕ) (_ : PUnit) : sProp 𝕄 :=
  iprop(∃ f : Buf (Elt F) ((rV).view.loc (thr d L)), ⌜∀ y : S2064.Idx, (y 0).val < 16 * k → BitVec.toNat (f y) < 800000⌝ ∗ ((rV).view.loc (thr d L) ↦{fullShare} f))

theorem t1_trip (k : Fin k0_t1_loop.trips) :
    inv1 (F := F) d L k.val ⟨⟩ ⊢ wp frame (wpE (defs₀ (F := F)) 𝒱₀ (thr d L) none) Set.univ (body1 L k ⟨⟩) fun a => inv1 d L (k.val + 1) a := by
  unfold inv1 body1
  iintro ⟨%f, %hf, Hr⟩
  sl_unfold [k0_t1_body]
  sl_exec
  sl_step
  iexists _
  isplitr
  swap; · iexact Hr
  ipureintro
  intro y hy
  have hk := lt_of_lt_of_eq k.isLt (show k0_t1_loop.trips = 129 by decide)
  by_cases h : 16 * k.val ≤ (y 0).val
  · have e := View.read_writes_cons_unit_of_mem (Val := Elt F) (rV).view f (k0_off1_inb k) (k0_pay2 L k) [] y
      (ix1 (⟨(y 0).val - 16 * k.val, by omega⟩ : Fin 16)) (k0_off1_eq k) (by
        intro a; match a with | ⟨0, _⟩ => show (y 0).val = 16 * k.val + ((y 0).val - 16 * k.val); omega)
    exact lt_of_eq_of_lt (congrArg BitVec.toNat e) (spread_pay L k _)
  · have e := View.read_writes_cons_unit_of_not_mem (Val := Elt F) (rV).view f (k0_off1_inb k) (k0_pay2 L k) [] y (k0_off1_eq k) (0 : Fin 1) (by
      left; show (y 0).val < 16 * k.val; omega)
    exact lt_of_eq_of_lt (congrArg BitVec.toNat e) (hf y (by omega))

/-- The block's first `k` rows hold the fill. -/
def inv3 (k : ℕ) (_ : PUnit) : sProp 𝕄 :=
  iprop(∃ f : Buf (Elt F) ((aV).view.loc (thr d L)), ⌜∀ (r : Fin 784) (c : Fin 128), r.val < k → f (ix2 r c) = (fill : F .f32)⌝ ∗ ((aV).view.loc (thr d L) ↦{fullShare} f))

theorem t3_trip (k : Fin k0_t3_loop.trips) :
    inv3 (F := F) d L k.val ⟨⟩ ⊢ wp frame (wpE (defs₀ (F := F)) 𝒱₀ (thr d L) none) Set.univ (body3 L k ⟨⟩) fun a => inv3 d L (k.val + 1) a := by
  unfold inv3 body3
  iintro ⟨%f, %hf, Ha⟩
  sl_unfold [k0_t3_body]
  sl_exec
  sl_step
  iexists _
  isplitr
  swap; · iexact Ha
  ipureintro
  intro r c hr
  have hp : ∀ q : ℕ, ∀ l : Fin 16, ∀ c : Fin 128, c.val = 16 * q + l.val → (shapeCast S1x16 (k0_pay1 (F := F)) shapeCasts_S16_S1x16) (ix2 (0 : Fin 1) l) = fill :=
    fun q l c _ => rfl
  have h0 := Cols.start (F := F) (R := 784) f k.val (fun _ => fill)
  have h1 := h0.next (aV).view f [] (k0_off2_inb k) _ (k0_off2_eq k) (hp 0)
  have h2 := h1.next (aV).view f _ (k0_off3_inb k) _ (k0_off3_eq k) (hp 1)
  have h3 := h2.next (aV).view f _ (k0_off4_inb k) _ (k0_off4_eq k) (hp 2)
  have h4 := h3.next (aV).view f _ (k0_off5_inb k) _ (k0_off5_eq k) (hp 3)
  have h5 := h4.next (aV).view f _ (k0_off6_inb k) _ (k0_off6_eq k) (hp 4)
  have h6 := h5.next (aV).view f _ (k0_off7_inb k) _ (k0_off7_eq k) (hp 5)
  have h7 := h6.next (aV).view f _ (k0_off8_inb k) _ (k0_off8_eq k) (hp 6)
  have h8 := h7.next (aV).view f _ (k0_off9_inb k) _ (k0_off9_eq k) (hp 7)
  refine (h8.done r c).trans ?_
  split
  · rfl
  · exact hf r c (by omega)

end Cert.Proof.SegMax

end
-- ==== Proof.Pass.lean ====
/-
  A pass: the block filled, every chunk folded into it, and the block written out.
-/
module

public import proofs.«01_k».proof.Proof.Setup
public import proofs.«01_k».proof.Proof.Pieces
public import proofs.«01_k».proof.Proof.Chunk
public import proofs.«01_k».proof.Proof.Fills

@[expose] public section

set_option maxRecDepth 16384

noncomputable section

namespace Cert.Proof.SegMax

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

variable (d : Dev nD) (L : grid0.Coords)

variable (D : Buf (Elt F) (dLoc d))
variable (X : Buf (Elt F) (xLoc d)) (q : PosShare TreeShare)

abbrev body2 := k0_t2_body (F := F) L xV (Memref.isWhole_whole _) dV (Memref.isWhole_whole _) oV (Memref.isWhole_whole _) aV (Memref.isWhole_whole _)
  wV (Memref.isWhole_whole _) lV (Memref.isWhole_whole _) rV (Memref.isWhole_whole _) gV (Memref.isWhole_whole _) cc0_scratch5 cc0_scoped0 cc0_scoped1

variable (o₀ : Buf (Elt F) (oLoc d))

/-- What the result holds at the end. -/
def res : Buf (Elt F) (oLoc d) := fun y : S50176x128.Idx => accum (F := F) X D (y 0).val (y 1) 800000

/-- Pass `p`'s block, written once the pass is over. -/
def oAt (t : ℕ) (p : Fin k0_t2_loop.trips) : sProp 𝕄 := oLoc d ↦[blkSet (bix L p)]{fullShare} (if p.val < t then res d D X else o₀)

/-- The passes' invariant. -/
def inv2 (O : CellTallies nD τ sig (HIx 1)) (W : Waits sig (HIx 1)) (t : ℕ) (_ : PUnit) : sProp 𝕄 :=
  iprop(Transfers.MayWaits (thr d L) (default : HIx 1) O
    ∗ ((xV).view.loc (thr d L) ↦{q} X) ∗ ((dV).view.loc (thr d L) ↦{q} D) ∗ (bigSep Finset.univ fun p => oAt d L D X o₀ t p)
    ∗ (∃ f, (aV).view.loc (thr d L) ↦{fullShare} f) ∗ (∃ f, (wV).view.loc (thr d L) ↦{fullShare} f) ∗ (∃ f, (lV).view.loc (thr d L) ↦{fullShare} f)
    ∗ (∃ f : Buf (Elt F) ((rV).view.loc (thr d L)), ⌜∀ y : S2064.Idx, BitVec.toNat (f y) < 800000⌝ ∗ ((rV).view.loc (thr d L) ↦{fullShare} f))
    ∗ (∃ f, (gV).view.loc (thr d L) ↦{fullShare} f)
    ∗ semVal (cG d L) 0 ∗ semVal (cW d L) 0 ∗ semVal (cO d L) 0 ∗ waits d L O W)

/-- The block written out holds the result's rows. -/
theorem out_at (p : Fin k0_t2_loop.trips) (A : Buf (Elt F) ((aV).view.loc (thr d L)))
    (hA : ∀ (r : Fin 784) (c : Fin 128), A (ix2 r c) = accum X D (baseN L p + r.val) c 800000) :
    ∀ i ∈ (oBlkK L p).view.set, (oBlkK L p).view.writes (Elt F) o₀ [⟨Rect.whole S784x128, (aV).view.read (Elt F) A⟩] i = res d D X i := by
  intro i hi
  obtain ⟨y, rfl⟩ := View.exists_emb_of_mem_set _ hi
  refine (congrFun (View.read_writes_whole (Val := Elt F) (oBlkK L p).view o₀ _) y).trans ?_
  have hy : (y : S784x128.Idx) = ix2 (y 0) (y 1) := ValueIdx.eq_ix2 _
  refine ((congrArg A hy).trans (hA (y 0) (y 1))).trans ?_
  have h0 : (((oBlkK L p).view.emb y : S50176x128.Idx) 0).val = baseN L p + (y 0).val := by
    show k0_off82 L p 0 + 1 * (y 0).val = _
    rw [k0_off82_eq]; unfold baseN bix
    simp; omega
  have h1 : ((oBlkK L p).view.emb y : S50176x128.Idx) 1 = (y 1 : Fin 128) := by
    apply Fin.ext
    show k0_off82 L p 1 + 1 * (y 1).val = _
    rw [k0_off82_eq]
    simp
  unfold res
  rw [h0, h1]

theorem out_ent (p : Fin k0_t2_loop.trips) (A : Buf (Elt F) ((aV).view.loc (thr d L)))
    (hA : ∀ (r : Fin 784) (c : Fin 128), A (ix2 r c) = accum X D (baseN L p + r.val) c 800000) :
    ((oBlkK L p).view.loc (thr d L) ↦[(oBlkK L p).view.set]{fullShare} (oBlkK L p).view.writes (Elt F) o₀ [⟨Rect.whole S784x128, (aV).view.read (Elt F) A⟩] : sProp 𝕄)
      ⊢ oAt d L D X o₀ (p.val + 1) p := by
  unfold oAt
  rw [if_pos (Nat.lt_succ_self _), ← pts_oBlkK (F := F) d L p]
  exact Entails.of_eq (pointsTo_congr (out_at d L D X o₀ p A hA))

/-- The other pass's block is as it was. -/
theorem rest_ent (p : Fin k0_t2_loop.trips) :
    bigSep (Finset.univ.erase p) (fun p' => oAt (F := F) d L D X o₀ p.val p') ⊢ bigSep (Finset.univ.erase p) (fun p' => oAt d L D X o₀ (p.val + 1) p') := by
  refine Entails.of_eq (bigSep_congr fun p' hp' => ?_)
  have hne : p'.val ≠ p.val := fun e => (Finset.mem_erase.mp hp').1 (Fin.ext e)
  unfold oAt
  by_cases h : p'.val < p.val
  · rw [if_pos h, if_pos (by omega)]
  · rw [if_neg h, if_neg (by omega)]

/-- Pass `p`'s block before the pass. -/
theorem in_ent (p : Fin k0_t2_loop.trips) :
    oAt (F := F) d L D X o₀ p.val p ⊢ ((oBlkK L p).view.loc (thr d L) ↦[(oBlkK L p).view.set]{fullShare} o₀ : sProp 𝕄) := by
  unfold oAt
  rw [if_neg (lt_irrefl _), ← pts_oBlkK (F := F) d L p]

theorem t2_trip (O : CellTallies nD τ sig (HIx 1)) (W : Waits sig (HIx 1)) (p : Fin k0_t2_loop.trips) :
    inv2 (F := F) d L D X q o₀ O W p.val ⟨⟩ ⊢ wp frame (wpE (defs₀ (F := F)) 𝒱₀ (thr d L) none) Set.univ (body2 L p ⟨⟩) fun a => inv2 d L D X q o₀ O W (p.val + 1) a := by
  unfold inv2 body2 waits
  rw [SparseCore.bigSep_erase' (Finset.mem_univ p), SparseCore.bigSep_erase' (s := Finset.univ) (Finset.mem_univ p)]
  iintro ⟨Hmw, Hx, Hd, ⟨Ho, Hrest⟩, ⟨%fa, Ha⟩, Hw, Hl, Hr, Hg, HsG, HsW, HsO, HO⟩
  sl_unfold [k0_t2_body]
  sl_exec
  sl_for (inv3 d L) $$ [Ha]
  case region =>
    intro k _
    exact t3_trip d L k
  · unfold inv3
    iexists fa
    isplitr
    · ipureintro; intro r c h; omega
    iexact Ha
  iintro %_ HI
  unfold inv3
  rw [show Scf.trips k0_t3_loop.lb k0_t3_loop.ub k0_t3_loop.st = 784 by decide]
  icases HI with ⟨%fa', %hfa, Ha⟩
  sl_exec
  sl_for (inv4 d L D X q O W (baseN L p)) $$ [Hmw Hx Hd Ha Hw Hl Hr Hg HsG HsW HO]
  case region =>
    intro ch _
    exact t4_trip d L D X q O W p ch
  · unfold inv4 waits
    isplitl [Hmw]; · iexact Hmw
    isplitl [Hx]; · iexact Hx
    isplitl [Hd]; · iexact Hd
    isplitl [Ha]
    · iexists fa'
      isplitr
      · ipureintro
        intro r c
        exact hfa r c r.isLt
      iexact Ha
    isplitl [Hw]; · iexact Hw
    isplitl [Hl]; · iexact Hl
    isplitl [Hr]; · iexact Hr
    isplitl [Hg]; · iexact Hg
    isplitl [HsG]; · iexact HsG
    isplitl [HsW]; · iexact HsW
    iexact HO
  iintro %_ HI
  unfold inv4 waits
  rw [show 2000 * Scf.trips k0_t4_loop.lb k0_t4_loop.ub k0_t4_loop.st = 800000 by decide]
  icases HI with ⟨Hmw, Hx, Hd, ⟨%A, %hA, Ha⟩, Hw, Hl, Hr, Hg, HsG, HsW, ⟨%W', %hW, HO⟩⟩
  ihave Ho' := (in_ent d L D X o₀ p) $$ Ho
  sl_exec
  sl_step
  isplitl [Hmw]; · iexact Hmw
  isplitl [Hx]; · iexact Hx
  isplitl [Hd]; · iexact Hd
  isplitl [Ho' Hrest]
  · isplitl [Ho']
    · iapply (out_ent d L D X o₀ p A hA)
      iexact Ho'
    · iapply (rest_ent d L D X o₀ p)
      iexact Hrest
  isplitl [Ha]; · iexists A; iexact Ha
  isplitl [Hw]; · iexact Hw
  isplitl [Hl]; · iexact Hl
  isplitl [Hr]; · iexact Hr
  isplitl [Hg]; · iexact Hg
  isplitl [HsG]; · iexact HsG
  isplitl [HsW]; · iexact HsW
  isplitl [HsO]; · iexact HsO
  iexists _
  isplitr
  swap; · iexact HO
  ipureintro
  intro p hp
  rcases Finset.mem_insert.mp hp with rfl | hp
  · exact Or.inr (Or.inl rfl)
  · exact hW p hp

end Cert.Proof.SegMax

end
-- ==== Proof.Tile.lean ====
/-
  One tile's task.
-/
module

public import proofs.«01_k».proof.Proof.Setup
public import proofs.«01_k».proof.Proof.Pieces
public import proofs.«01_k».proof.Proof.Pass
public import proofs.«01_k».proof.Proof.Fills

@[expose] public section

set_option maxRecDepth 16384

noncomputable section

namespace Cert.Proof.SegMax

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

variable (d : Dev nD) (L : grid0.Coords)

variable (D : Buf (Elt F) (dLoc d))
variable (X : Buf (Elt F) (xLoc d)) (q : PosShare TreeShare)

variable (o₀ : Buf (Elt F) (oLoc d))

theorem tile_body (hF : (K (F := F)).Facts) (O : CellTallies nD τ sig (HIx 1)) (W : Waits sig (HIx 1)) (hO : ∀ g, O g none = 0) :
    iprop(levAts (K (F := F)).L (K (F := F)).lev ∗ emp
        ∗ ((xLoc d ↦{q} X) ∗ (dLoc d ↦{q} D) ∗ bigSep Finset.univ fun p => oAt d L D X o₀ 0 p)
        ∗ scopedBufs (thr d L) ∗ scopedSems0 (thr d L) ∗ owes (thr d L) O W)
      ⊢ wp frame (wpE (defs₀ (F := F)) 𝒱₀ (thr d L) none) Set.univ
          (cc0_k L xV (Memref.isWhole_whole _) dV (Memref.isWhole_whole _) oV (Memref.isWhole_whole _) aV (Memref.isWhole_whole _)
            wV (Memref.isWhole_whole _) lV (Memref.isWhole_whole _) rV (Memref.isWhole_whole _) gV (Memref.isWhole_whole _) cc0_scratch5 cc0_scoped0 cc0_scoped1)
          fun _ => iprop(((xLoc d ↦{q} X) ∗ (dLoc d ↦{q} D) ∗ bigSep Finset.univ fun p => oAt d L D X o₀ 2 p)
            ∗ scopedBufs (thr d L) ∗ scopedSems0 (thr d L) ∗ waits d L O W) := by
  rw [(K (F := F)).scopedBufs_V hF d (cV L) (jV L), SparseCore.Cfg.scopedSems0_V (Val := Elt F) d (cV L) (jV L), ownSems0_V, ownBufs_V]
  iintro ⟨#Hlv, -, ⟨Hx, Hd, Ho⟩, ⟨⟨%fa, Ha⟩, ⟨%fw, Hw⟩, ⟨%fl, Hl⟩, ⟨%fr, Hr⟩, ⟨%fg, Hg⟩, Hbufs⟩, ⟨HsG, HsW, HsO, Hsems⟩, HO⟩
  ihave Hmw := (show levAts (K (F := F)).L (K (F := F)).lev ⊢ Transfers.MayWaits (thr d L) (default : HIx 1) O from
    (K (F := F)).mayWaits_none (thr := thr d L) hO) $$ Hlv
  ihave Hx' := (Entails.of_eq (pts_xV (F := F) d L q X).symm) $$ Hx
  ihave Hd' := (Entails.of_eq (pts_dV (F := F) d L q D).symm) $$ Hd
  sl_unfold [cc0_k]
  sl_exec
  sl_for (inv1 d L) $$ [Hr]
  case region =>
    intro k _
    exact t1_trip d L k
  · unfold inv1
    iexists fr
    isplitr
    · ipureintro; intro y hy; omega
    iexact Hr
  iintro %_ HI
  unfold inv1
  rw [show 16 * Scf.trips k0_t1_loop.lb k0_t1_loop.ub k0_t1_loop.st = 2064 by decide]
  icases HI with ⟨%fr', %hfr, Hr⟩
  sl_exec
  sl_for (inv2 d L D X q o₀ O W) $$ [Hmw Hx' Hd' Ho Ha Hw Hl Hr Hg HsG HsW HsO HO]
  case region =>
    intro p _
    exact t2_trip d L D X q o₀ O W p
  · unfold inv2 waits
    isplitl [Hmw]; · iexact Hmw
    isplitl [Hx']; · iexact Hx'
    isplitl [Hd']; · iexact Hd'
    isplitl [Ho]; · iexact Ho
    isplitl [Ha]; · iexists fa; iexact Ha
    isplitl [Hw]; · iexists fw; iexact Hw
    isplitl [Hl]; · iexists fl; iexact Hl
    isplitl [Hr]
    · iexists fr'
      isplitr
      · ipureintro; exact fun y => hfr y (y 0).isLt
      iexact Hr
    isplitl [Hg]; · iexists fg; iexact Hg
    isplitl [HsG]; · iexact HsG
    isplitl [HsW]; · iexact HsW
    isplitl [HsO]; · iexact HsO
    iexists W
    isplitr
    · ipureintro; exact fun p hp => Or.inl hp
    iexact HO
  iintro %_ HI
  unfold inv2
  rw [show Scf.trips k0_t2_loop.lb k0_t2_loop.ub k0_t2_loop.st = 2 by decide]
  icases HI with ⟨-, Hx, Hd, Ho, Ha, Hw, Hl, ⟨%fr2, -, Hr⟩, Hg, HsG, HsW, HsO, HO⟩
  sl_exec
  sl_step
  isplitl [Hx Hd Ho]
  · isplitl [Hx]; · iexact Hx
    isplitl [Hd]; · iexact Hd
    iexact Ho
  isplitl [Ha Hw Hl Hr Hg Hbufs]
  · isplitl [Ha]; · iexact Ha
    isplitl [Hw]; · iexact Hw
    isplitl [Hl]; · iexact Hl
    isplitl [Hr]; · iexists fr2; iexact Hr
    isplitl [Hg]; · iexact Hg
    iexact Hbufs
  isplitl [HsG HsW HsO Hsems]
  · isplitl [HsG]; · iexact HsG
    isplitl [HsW]; · iexact HsW
    isplitl [HsO]; · iexact HsO
    iexact Hsems
  iexact HO

end Cert.Proof.SegMax

end
-- ==== Proof.Launch.lean ====
/-
  The launch: every tile of the two SparseCores takes a 32nd of the edges' rows and of their destination words to read, and
  its own two blocks of the result to write; the program's run, with the value its result ends at.
-/
module

public import proofs.«01_k».proof.Proof.Setup
public import proofs.«01_k».proof.Proof.Pieces
public import proofs.«01_k».proof.Proof.Tile
public import Idealize.ShloMosaic.Lib.ShareLeaves

@[expose] public section

set_option maxRecDepth 16384

noncomputable section

namespace Cert.Proof.SegMax

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the handshakes carry -/

def coordsV (c : Fin (grid0.bound 0)) (s : Fin (grid0.bound 1)) : grid0.Coords :=
  fun | 0 => c | 1 => s | ⟨_ + 2, h⟩ => absurd h (Nat.not_lt.2 (Nat.le_add_left _ _))

/-- The share of an argument a SparseCore reads, and the one each of its tiles reads. -/
abbrev qC (c : Fin 2) : PosShare TreeShare := ShareLeaves.leaf 1 fullShare c
abbrev qT (c : Fin 2) (i : Fin 16) : PosShare TreeShare := ShareLeaves.leaf 4 (qC c) i

/-- A tile's own two blocks, the first `t` of them written. -/
def oTile (d : Dev nD) (t : ℕ) (c : Fin 2) (i : Fin 16) : sProp 𝕄 :=
  bigSep Finset.univ fun p => oAt d (coordsV c i) (m (dLoc d)) (m (xLoc d)) (m (oLoc d)) t p

/-- What a tile takes, and what it gives back. -/
def tilePay (d : Dev nD) (t : ℕ) (c : Fin 2) (i : Fin 16) : sProp 𝕄 :=
  iprop((xLoc d ↦{qT c i} m (xLoc d)) ∗ (dLoc d ↦{qT c i} m (dLoc d)) ∗ oTile m d t c i)

/-- What a SparseCore takes, and what it gives back. -/
def corePay (d : Dev nD) (t : ℕ) (c : Fin 2) : sProp 𝕄 :=
  iprop((xLoc d ↦{qC c} m (xLoc d)) ∗ (dLoc d ↦{qC c} m (dLoc d)) ∗ bigSep Finset.univ fun i : Fin 16 => oTile m d t c i)

def P : (K (F := F)).Pay (nD := nD) (Val := Elt F) (Name := ℕ) (U := UU) where
  st := fun q d c => match q with | 0 => corePay m d 0 c
  dn := fun q d c => match q with | 0 => corePay m d 2 c
  go := fun q d c i => match q with | 0 => tilePay m d 0 c i
  td := fun q d c i => match q with | 0 => tilePay m d 2 c i
  x := fun _ _ => iprop(emp)

instance oTile_storable (d : Dev nD) (t : ℕ) (c : Fin 2) (i : Fin 16) : BI.Storable (upEmb : UEmb _ 𝕄) (oTile m d t c i) := by
  unfold oTile oAt; infer_instance
instance tilePay_storable (d : Dev nD) (t : ℕ) (c : Fin 2) (i : Fin 16) : BI.Storable (upEmb : UEmb _ 𝕄) (tilePay m d t c i) := by
  unfold tilePay; infer_instance
instance corePay_storable (d : Dev nD) (t : ℕ) (c : Fin 2) : BI.Storable (upEmb : UEmb _ 𝕄) (corePay m d t c) := by
  unfold corePay; infer_instance

instance P_storable : (P (F := F) m).IsStorable where
  st q d c := match q with | 0 => corePay_storable m d 0 c
  dn q d c := match q with | 0 => corePay_storable m d 2 c
  go q d c i := match q with | 0 => tilePay_storable m d 0 c i
  td q d c i := match q with | 0 => tilePay_storable m d 2 c i

/-! ## The tiles' obligation -/

theorem defs₀_vector (c : Fin τ.nSC) (s : Fin τ.nSub) :
    defs₀ (F := F) (.scVector c s) 0 ()
      = SparseCore.onTile hcore0 hsub0 (fun c s => cc0_k (coordsV c s)
          xV (Memref.isWhole_whole _) dV (Memref.isWhole_whole _) oV (Memref.isWhole_whole _) aV (Memref.isWhole_whole _)
          wV (Memref.isWhole_whole _) lV (Memref.isWhole_whole _) rV (Memref.isWhole_whole _) gV (Memref.isWhole_whole _) cc0_scratch5 cc0_scoped0 cc0_scoped1) ⟨⟩ c s := rfl

theorem tileObl (hF : (K (F := F)).Facts) : (K (F := F)).TileObl (DF (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (DF (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (m (dLoc d)) (m (xLoc d)) (qT c i) (m (oLoc d)) hF O W hO

/-! ## The arrays split and join -/

/-- A SparseCore's part is its tiles' parts. -/
theorem corePay_eq (d : Dev nD) (t : ℕ) (c : Fin 2) : corePay m d t c = bigSep Finset.univ fun i : Fin 16 => tilePay m d t c i := by
  unfold corePay tilePay
  rw [bigSep_sep', bigSep_sep']
  congr 1
  · exact ShareLeaves.pointsTo_leaves Finset.univ (m (xLoc d)) 4 (qC c)
  · congr 1
    exact ShareLeaves.pointsTo_leaves Finset.univ (m (dLoc d)) 4 (qC c)

theorem vecSplit : (K (F := F)).VecSplit' (P m) 0 := by
  intro d c
  show corePay m d 0 c ⊢ |={Set.univ}=> iprop((bigSep Finset.univ fun i : Fin 16 => tilePay m d 0 c i)
    ∗ ((bigSep Finset.univ fun i : Fin 16 => tilePay m d 2 c i) -∗ corePay m d 2 c))
  rw [corePay_eq, corePay_eq]
  iintro H; imodintro
  isplitl [H]; · iexact H
  iintro H; iexact H

/-- The blocks' numbers, as the tiles' passes take them. -/
theorem bix_injective : Function.Injective fun x : Fin 2 × Fin 16 × Fin k0_t2_loop.trips => bix (coordsV x.1 x.2.1) x.2.2 := by
  rintro ⟨c, i, p⟩ ⟨c', i', p'⟩ h
  have h' : 32 * p.val + 2 * i.val + c.val = 32 * p'.val + 2 * i'.val + c'.val := congrArg Fin.val h
  have := c.isLt; have := c'.isLt; have := i.isLt; have := i'.isLt
  have hc : c = c' := Fin.ext (by omega)
  have hi : i = i' := Fin.ext (by omega)
  have hp : p = p' := Fin.ext (by omega)
  rw [hc, hi, hp]

theorem blkSet_eq (i : Fin 64) : blkSet i = (blk i).set := by
  show ((View.whole (main_v0_scv : Ref sig .scVector)).slice (blk i)).set = _
  rw [View.set_slice]; exact Finset.map_refl

theorem blks_disjoint : ∀ x ∈ (Finset.univ : Finset (Fin 2 × Fin 16 × Fin k0_t2_loop.trips)), ∀ y ∈ (Finset.univ : Finset (Fin 2 × Fin 16 × Fin k0_t2_loop.trips)), x ≠ y →
    Disjoint (blkSet (bix (coordsV x.1 x.2.1) x.2.2)) (blkSet (bix (coordsV y.1 y.2.1) y.2.2)) := fun x _ y _ h => by
  rw [blkSet_eq, blkSet_eq]; exact Rect.part_disjoint hdiv fun e => h (bix_injective e)

theorem blks_cover : (Finset.univ : Finset (Fin 2 × Fin 16 × Fin k0_t2_loop.trips)).biUnion (fun x => blkSet (bix (coordsV x.1 x.2.1) x.2.2)) = Finset.univ := by
  refine Finset.eq_univ_of_forall fun y => ?_
  have hy : y ∈ (Finset.univ : Finset (Fin 64)).biUnion fun i => (blk i).set := by rw [Rect.biUnion_part hdiv]; exact Finset.mem_univ y
  obtain ⟨b, -, hb⟩ := Finset.mem_biUnion.mp hy
  have hlt := b.isLt
  refine Finset.mem_biUnion.mpr ⟨(⟨b.val % 2, by omega⟩, ⟨b.val / 2 % 16, by omega⟩, ⟨b.val / 32, by rw [t2_trips]; omega⟩), Finset.mem_univ _, ?_⟩
  have e : bix (coordsV (⟨b.val % 2, by omega⟩ : Fin 2) (⟨b.val / 2 % 16, by omega⟩ : Fin 16)) (⟨b.val / 32, by rw [t2_trips]; omega⟩ : Fin k0_t2_loop.trips) = b := by
    apply Fin.ext
    show 32 * (b.val / 32) + 2 * (b.val / 2 % 16) + b.val % 2 = b.val
    omega
  show y ∈ blkSet (bix (coordsV (⟨b.val % 2, by omega⟩ : Fin 2) (⟨b.val / 2 % 16, by omega⟩ : Fin 16)) (⟨b.val / 32, by rw [t2_trips]; omega⟩ : Fin k0_t2_loop.trips))
  rw [e, blkSet_eq]; exact hb

/-- The result whole is every tile's every pass's block. -/
theorem oPts_blks (d : Dev nD) (f : Buf (Elt F) (oLoc d)) :
    (oLoc d ↦{fullShare} f : sProp 𝕄)
      = bigSep Finset.univ fun c : Fin 2 => bigSep Finset.univ fun i : Fin 16 => bigSep Finset.univ fun p => oLoc d ↦[blkSet (bix (coordsV c i) p)]{fullShare} f := by
  have h : (oLoc d ↦{fullShare} f : sProp 𝕄)
      = bigSep Finset.univ fun x : Fin 2 × Fin 16 × Fin k0_t2_loop.trips => oLoc d ↦[blkSet (bix (coordsV x.1 x.2.1) x.2.2)]{fullShare} f := by
    rw [← pointsTo_biUnion Finset.univ (ℓ := oLoc d) (fun x : Fin 2 × Fin 16 × Fin k0_t2_loop.trips => blkSet (bix (coordsV x.1 x.2.1) x.2.2)) blks_disjoint, blks_cover]
  rw [h, bigSep_univ_prod]
  exact bigSep_congr fun c _ => bigSep_univ_prod _

/-- The result before the call, and after it. -/
theorem oTiles_start (d : Dev nD) : (bigSep Finset.univ fun c : Fin 2 => bigSep Finset.univ fun i : Fin 16 => oTile m d 0 c i) = (oLoc d ↦{fullShare} m (oLoc d) : sProp 𝕄) := by
  rw [oPts_blks]
  refine bigSep_congr fun c _ => bigSep_congr fun i _ => bigSep_congr fun p _ => ?_
  unfold oAt; rw [if_neg (Nat.not_lt_zero _)]
theorem oTiles_end (d : Dev nD) : (bigSep Finset.univ fun c : Fin 2 => bigSep Finset.univ fun i : Fin 16 => oTile m d 2 c i)
    = (oLoc d ↦{fullShare} res d (m (dLoc d)) (m (xLoc d)) : sProp 𝕄) := by
  rw [oPts_blks]
  refine bigSep_congr fun c _ => bigSep_congr fun i _ => bigSep_congr fun p _ => ?_
  unfold oAt; rw [if_pos (lt_of_lt_of_eq p.isLt t2_trips)]

theorem cores_eq (d : Dev nD) (t : ℕ) : (bigSep Finset.univ fun c : Fin 2 => corePay m d t c)
    = iprop((xLoc d ↦{fullShare} m (xLoc d)) ∗ (dLoc d ↦{fullShare} m (dLoc d)) ∗ bigSep Finset.univ fun c : Fin 2 => bigSep Finset.univ fun i : Fin 16 => oTile m d t c i) := by
  unfold corePay
  rw [bigSep_sep', bigSep_sep']
  congr 1
  · exact (ShareLeaves.pointsTo_leaves Finset.univ (m (xLoc d)) 1 fullShare).symm
  · congr 1
    exact (ShareLeaves.pointsTo_leaves Finset.univ (m (dLoc d)) 1 fullShare).symm

theorem st0_eq (d : Dev nD) : (bigSep Finset.univ fun c : Fin ((K (F := F)).nCore 0) => (P m).st 0 d c)
    = iprop((xLoc d ↦{fullShare} m (xLoc d)) ∗ (dLoc d ↦{fullShare} m (dLoc d)) ∗ (oLoc d ↦{fullShare} m (oLoc d))) := by
  rw [← oTiles_start]; exact cores_eq m d 0
theorem dn0_eq (d : Dev nD) : (bigSep Finset.univ fun c : Fin ((K (F := F)).nCore 0) => (P m).dn 0 d c)
    = iprop((xLoc d ↦{fullShare} m (xLoc d)) ∗ (dLoc d ↦{fullShare} m (dLoc d)) ∗ (oLoc d ↦{fullShare} res d (m (dLoc d)) (m (xLoc d)))) := by
  rw [← oTiles_end]; exact cores_eq m d 2

/-! ## The launch element: the handshakes' rounds -/

def u₀ : UU := (initOf (K (F := F)).hsCells (K (F := F)).hsToks, 1)

/-- Nothing, any number of times, is nothing. -/
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (dLoc d ↦{fullShare} W main_arg1) ∗ (oLoc d ↦{fullShare} W main_v0)) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

abbrev FIN (d : Dev nD) : sProp 𝕄 :=
  iprop((xLoc d ↦{fullShare} m (xLoc d)) ∗ (dLoc d ↦{fullShare} m (dLoc d)) ∗ (oLoc d ↦{fullShare} res d (m (dLoc d)) (m (xLoc d))))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (DF (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hd, Ho⟩, Hts, -⟩, -⟩
  iapply ((K (F := F)).wp_run (DF (F := F)) 𝒱 (EH := EH) (P := P m) κ d 0) $$ [Hst Hx Hd Ho Hb Hts]
  isplitr; · iexact Hctx
  isplitl [Hst]; · iexact Hst
  isplitl [Hx Hd Ho]
  · rw [st0_eq]
    isplitl [Hx]; · iexact Hx
    isplitl [Hd]; · iexact Hd
    iexact Ho
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What is read off at the end: the arguments as they were, the result at its value. -/
def fq (d : Dev nD) (s' : Phys nD τ sig (Elt F)) : Prop :=
  s'.mem.mem (oLoc d) = res d (m (dLoc d)) (m (xLoc d)) ∧ s'.mem.mem (xLoc d) = m (xLoc d) ∧ s'.mem.mem (dLoc d) = m (dLoc d)

theorem hfin (d : Dev nD) (s' : Phys nD τ sig (Elt F)) : iprop(FIN m d ∗ SI s') ⊢ (⌜fq m d s'⌝ : sProp 𝕄) := by
  iintro ⟨⟨Hx, Hd, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := dLoc d) (I := Finset.univ) (q := fullShare) (f := m (dLoc d)))) $$ [HSI Hd]
  · isplitl [HSI] <;> iassumption
  icases H with ⟨%hd, HSI, -⟩
  ihave H := (SI_pointsTo_agree (st := s') (ℓ := oLoc d) (I := Finset.univ) (q := fullShare) (f := res d (m (dLoc d)) (m (xLoc d)))) $$ [HSI Ho]
  · isplitl [HSI] <;> iassumption
  icases H with %ho
  ipureintro; exact ⟨funext fun i => ho i (Finset.mem_univ i), funext fun i => hx i (Finset.mem_univ i), funext fun i => hd i (Finset.mem_univ i)⟩

/-! ## The program's run -/

def QC : PUnit × MemSt nD τ sig (Elt F) → Prop := fun r =>
  (∀ d : Dev nD, r.2.mem (oLoc d) = res d (m (dLoc d)) (m (xLoc d)) ∧ r.2.mem (xLoc d) = m (xLoc d) ∧ r.2.mem (dLoc d) = m (dLoc d)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := DF (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.SegMax

end
-- ==== Proof.Value.lean ====
/-
  The reference's value: at every node and column, the maximum of the fill and of the rows of the edges whose destination word
  is the node, which is the running maximum over all the edges.
-/
module

public import proofs.«01_k».proof.Proof.Gen.ReferenceIdeal
public import proofs.«01_k».proof.Proof.Gen.ReferenceIdeal.Run
public import proofs.«01_k».proof.Proof.Spec
public import Idealize.ShloMosaic.PureOps.Ideal.Laws
public import Idealize.ShloMosaic.Lib.Pipeline.Value

@[expose] public section

set_option maxRecDepth 16384

noncomputable section

namespace Cert.Proof.SegMax

open Cert.ReferenceIdeal Cert.ReferenceIdeal.Gen
open Idealize.ShloMosaic

variable (X : S800000x128.Idx → Ideal .f32) (D : S800000.Idx → BitVec 32)

/-- The running maximum is at most `z` when the fill is and every matching edge's row is. -/
theorem accum_le (n : ℕ) (c : Fin 128) (z : Ideal .f32) (k : ℕ) :
    accum X D n c k ≤ z ↔ (fill : Ideal .f32) ≤ z ∧ ∀ e (h : e < 800000), e < k → (D (ValueIdx.ix1 ⟨e, h⟩)).toNat = n → X (ValueIdx.ix2 ⟨e, h⟩ c) ≤ z := by
  induction k with
  | zero => exact ⟨fun h => ⟨h, fun e _ he => absurd he (Nat.not_lt_zero e)⟩, fun h => h.1⟩
  | succ k ih =>
    unfold accum
    split
    · rename_i hk
      split
      · rename_i hD
        rw [show FloatOps.maximumf (accum X D n c k) (X (ValueIdx.ix2 ⟨k, hk⟩ c)) = max (accum X D n c k) (X (ValueIdx.ix2 ⟨k, hk⟩ c)) from rfl, max_le_iff, ih]
        constructor
        · rintro ⟨⟨h1, h2⟩, h3⟩
          refine ⟨h1, fun e h he hm => ?_⟩
          rcases Nat.lt_succ_iff_lt_or_eq.mp he with he | rfl
          · exact h2 e h he hm
          · exact h3
        · rintro ⟨h1, h2⟩
          exact ⟨⟨h1, fun e h he hm => h2 e h (Nat.lt_succ_of_lt he) hm⟩, h2 k hk (Nat.lt_succ_self k) hD⟩
      · rename_i hD
        rw [ih]
        refine and_congr_right fun _ => ⟨fun h2 e h he hm => ?_, fun h2 e h he hm => h2 e h (Nat.lt_succ_of_lt he) hm⟩
        rcases Nat.lt_succ_iff_lt_or_eq.mp he with he | rfl
        · exact h2 e h he hm
        · exact absurd hm hD
    · rename_i hk
      rw [ih]
      refine and_congr_right fun _ => ⟨fun h2 e h he hm => h2 e h (by omega) hm, fun h2 e h he hm => h2 e h (Nat.lt_succ_of_lt he) hm⟩

open ValueIdx (ix1 ix2)

/-- An index of the node by edge by column array. -/
def at3 (n : Fin 50176) (e : Fin 800000) (c : Fin 128) : S50176x800000x128.Idx := fun | 0 => n | 1 => e | 2 => c

/-- Whether the edge's destination word is the node. -/
def isDst (n : Fin 50176) (e : Fin 800000) : BitVec 1 := IntOp.cmpi .eq (D (ix1 e)) (BitVec.ofNat 32 n.val)

/-- The comparison of every edge's destination word with every node, spread over the columns. -/
abbrev mask : S50176x800000x128.Idx → BitVec 1 :=
  broadcastInDim S50176x800000x128 ![0, 1, 2] bcast_S50176x800000x1_S50176x800000x128_0_1_2 (broadcastInDim S50176x800000x1 ![0, 1] bcast_S50176x800000_S50176x800000x1_0_1 (cmpi .eq (broadcastInDim S50176x800000 ![0, 1] bcast_S1x800000_S50176x800000_0_1 (broadcastInDim S1x800000 ![1] bcast_S800000_S1x800000_1 D)) (broadcastInDim S50176x800000 ![0, 1] bcast_S50176x1_S50176x800000_0_1 (broadcastInDim S50176x1 ![0] bcast_S50176_S50176x1_0 (iotaInDim S50176 32 0)))))

/-- Every edge's row at every node. -/
abbrev rows : S50176x800000x128.Idx → Ideal .f32 :=
  broadcastInDim S50176x800000x128 ![0, 1, 2] bcast_S1x800000x128_S50176x800000x128_0_1_2 (broadcastInDim S1x800000x128 ![1, 2] bcast_S800000x128_S1x800000x128_1_2 X)

theorem mask_at (n : Fin 50176) (e : Fin 800000) (c : Fin 128) : mask D (at3 n e c) = isDst D n e := by
  refine (broadcastInDim_apply _ _ _ _ (fun | 0 => n | 1 => e | 2 => (0 : Fin 1) : S50176x800000x1.Idx) ?_).trans ?_
  · intro a; fin_cases a <;> rfl
  refine (broadcastInDim_apply _ _ _ _ (fun | 0 => n | 1 => e : S50176x800000.Idx) ?_).trans ?_
  · intro a; fin_cases a <;> rfl
  refine congrArg₂ (IntOp.cmpi .eq) ?_ ?_
  · refine (broadcastInDim_apply _ _ _ _ (fun | 0 => (0 : Fin 1) | 1 => e : S1x800000.Idx) ?_).trans ?_
    · intro a; fin_cases a <;> rfl
    refine (broadcastInDim_apply _ _ _ _ (ix1 e : S800000.Idx) ?_).trans rfl
    intro a; fin_cases a; rfl
  · refine (broadcastInDim_apply _ _ _ _ (fun | 0 => n | 1 => (0 : Fin 1) : S50176x1.Idx) ?_).trans ?_
    · intro a; fin_cases a <;> rfl
    refine (broadcastInDim_apply _ _ _ _ (ix1 n : S50176.Idx) ?_).trans rfl
    intro a; fin_cases a; rfl

theorem rows_at (n : Fin 50176) (e : Fin 800000) (c : Fin 128) : rows X (at3 n e c) = X (ix2 e c) := by
  refine (broadcastInDim_apply _ _ _ _ (fun | 0 => (0 : Fin 1) | 1 => e | 2 => c : S1x800000x128.Idx) ?_).trans ?_
  · intro a; fin_cases a <;> rfl
  refine (broadcastInDim_apply _ _ _ _ (ix2 e c : S800000x128.Idx) ?_).trans rfl
  intro a; fin_cases a <;> rfl

/-- What the reference computes of its arguments. -/
abbrev refTerm : S50176x128.Idx → Ideal .f32 :=
  maximumf (broadcastInDim S50176x128 ![] bcast_S_S50176x128 (constant S_ .f32 0xFF61B1E6#32)) (Host.reduce FloatOps.maximumf (select (mask D) (rows X) (broadcastInDim S50176x800000x128 ![] bcast_S_S50176x800000x128 (id (constant S_ .f32 0xFF800000#32)))) (constant S_ .f32 0xFF800000#32) reducesTo_S50176x800000x128_S50176x128_d1 h_S_)

theorem reduces_nodes : S50176x800000x128.Reduces [1] S50176x128 := by decide

theorem negInf_le (z : Ideal .f32) : (FloatOps.ofBits .f32 0xFF800000#32 : Ideal .f32) ≤ z := by
  show Ideal.ofBits .f32 0xFF800000#32 ≤ z
  simp [Ideal.ofBits, Ideal.ieee]

theorem isDst_eq (n : Fin 50176) (e : Fin 800000) : isDst D n e = 1#1 ↔ (D (ix1 e)).toNat = n.val := by
  unfold isDst
  have hn := n.isLt
  have h1 : ∀ b : Bool, BitVec.ofBool b = 1#1 ↔ b = true := by decide
  rw [show IntOp.cmpi .eq (D (ix1 e)) (BitVec.ofNat 32 n.val) = BitVec.ofBool (D (ix1 e) == BitVec.ofNat 32 n.val) from rfl, h1, beq_iff_eq,
    ← BitVec.toNat_inj, BitVec.toNat_ofNat, Nat.mod_eq_of_lt (by omega)]

/-- A maximum over one axis is below a bound exactly if its start and every entry along the axis are. -/
theorem reduce_max_le {s t u : Shape} {a : Fin s.rank} (x : s.Idx → Ideal .f32) (init : u.Idx → Ideal .f32)
    (h' : s.ReducesTo [a] t) (h : s.Reduces [a] t) (hu : 0 < u.numel) (j : t.Idx) (z : Ideal .f32) :
    Host.reduce FloatOps.maximumf x init h' hu j ≤ z ↔ init (Shape.Idx.first hu) ≤ z ∧ ∀ k : Fin (s.size a), x (h.lift j k) ≤ z := by
  rw [Host.reduce_eq_fold_single FloatOps.maximumf x init h' h hu j]
  refine Iff.trans (Finset.fold_max_le (β := Ideal .f32) z) ?_
  exact and_congr_right fun _ => ⟨fun hk k => hk k (Finset.mem_univ k), fun hk k _ => hk k⟩

theorem maximumf_le {s : Shape} (x y : s.Idx → Ideal .f32) (j : s.Idx) (z : Ideal .f32) : maximumf x y j ≤ z ↔ x j ≤ z ∧ y j ≤ z :=
  max_le_iff

theorem fill_at (j : S50176x128.Idx) :
    broadcastInDim S50176x128 ![] bcast_S_S50176x128 (constant (F := Ideal) S_ .f32 0xFF61B1E6#32) j = fill := rfl

theorem lift_nodes (n : Fin 50176) (c : Fin 128) (e : Fin 800000) : reduces_nodes.lift (ix2 n c) e = at3 n e c := by
  funext a; apply Fin.ext
  fin_cases a <;> rfl

/-- The entries the reference takes the maximum of. -/
theorem entry_at (n : Fin 50176) (e : Fin 800000) (c : Fin 128) :
    select (mask D) (rows X) (broadcastInDim S50176x800000x128 ![] bcast_S_S50176x800000x128 (id (constant S_ .f32 0xFF800000#32))) (at3 n e c)
      = if isDst D n e = 1#1 then X (ix2 e c) else (FloatOps.ofBits .f32 0xFF800000#32 : Ideal .f32) := by
  rw [← mask_at D n e c, ← rows_at X n e c]
  rfl

theorem refTerm_le (n : Fin 50176) (c : Fin 128) (z : Ideal .f32) :
    refTerm X D (ix2 n c) ≤ z ↔ (fill : Ideal .f32) ≤ z ∧ ∀ e : Fin 800000,
      (if isDst D n e = 1#1 then X (ix2 e c) else (FloatOps.ofBits .f32 0xFF800000#32 : Ideal .f32)) ≤ z := by
  rw [refTerm, maximumf_le, fill_at]
  refine and_congr_right fun _ => ?_
  refine (reduce_max_le _ _ _ reduces_nodes h_S_ (ix2 n c) z).trans ⟨fun h e => ?_, fun h => ⟨negInf_le z, fun e => ?_⟩⟩
  · have := h.2 e
    rwa [lift_nodes, entry_at] at this
  · exact (congrArg (· ≤ z) ((congrArg _ (lift_nodes n c e)).trans (entry_at X D n e c))).mpr (h e)

/-- The reference's result is the running maximum over all the edges. -/
theorem refTerm_eq (y : S50176x128.Idx) : refTerm X D y = accum X D (y 0).val (y 1) 800000 := by
  obtain ⟨n, c, rfl⟩ : ∃ (n : Fin 50176) (c : Fin 128), y = ix2 n c := ⟨y 0, y 1, ValueIdx.eq_ix2 y⟩
  refine eq_of_forall_ge_iff fun z => ?_
  refine (refTerm_le X D n c z).trans (Iff.trans ?_ (accum_le X D n.val c z 800000).symm)
  refine and_congr_right fun _ => ⟨fun h e he _ hm => ?_, fun h e => ?_⟩
  · have := h ⟨e, he⟩
    rwa [if_pos ((isDst_eq D n ⟨e, he⟩).mpr hm)] at this
  · split
    · rename_i hm
      exact h e.val e.isLt e.isLt ((isDst_eq D n e).mp hm)
    · exact negInf_le z

end Cert.Proof.SegMax

end
-- ==== Proof.GatSetup.lean ====
/-
  The gather call's vocabulary: the machine its launch runs on, the arrays and the tile's own buffers and cells as its body names
  them, and the block of a result's rows one trip of a tile writes.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.GatherIdeal
public import proofs.«01_k».proof.Proof.Gen.GatherIdeal.Skeleton

@[expose] public section

set_option maxRecDepth 16384

noncomputable section

namespace Cert.Proof.Gat

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## The program and its algebra -/

abbrev ΛP : Labels := Pipeline.Sig Λ₀ (Fin 0) fun p => (pcfgs (F := F) p).Adm
abbrev K : SparseCore.Cfg τ sig (ΛP (F := F)) 1 := sc (F := F)
abbrev DF [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the tile's buffers -/

/-- The nodes' records, the two lists of node words and the two results, as locations of device `d`. -/
abbrev tLoc (d : Dev nD) : Loc nD τ sig := (SparseCore.T d).loc main_arg0
abbrev sLoc (d : Dev nD) : Loc nD τ sig := (SparseCore.T d).loc main_arg1
abbrev dLoc (d : Dev nD) : Loc nD τ sig := (SparseCore.T d).loc main_arg2
abbrev oLoc (d : Dev nD) : Loc nD τ sig := (SparseCore.T d).loc main_v0_0
abbrev uLoc (d : Dev nD) : Loc nD τ sig := (SparseCore.T d).loc main_v0_1

abbrev tV : Memref sig .scVector .hbm S50000x16 .f32 := Memref.whole main_arg0_scv
abbrev sV : Memref sig .scVector .hbm S800000 .i32 := Memref.whole main_arg1_scv
abbrev dV : Memref sig .scVector .hbm S800000 .i32 := Memref.whole main_arg2_scv
abbrev oV : Memref sig .scVector .hbm S800000x16 .f32 := Memref.whole main_v0_0_scv
abbrev uV : Memref sig .scVector .hbm S800000x16 .f32 := Memref.whole main_v0_1_scv
abbrev iV : Memref sig .scVector .vmem S1000 .i32 := Memref.whole cc0_scratch0
abbrev rV : Memref sig .scVector .vmem S1000x16 .f32 := Memref.whole cc0_scratch1
abbrev nV : Memref sig .scVector .vmem S1000 .i32 := Memref.whole cc0_scratch2
abbrev wV : Memref sig .scVector .vmem S1000x16 .f32 := Memref.whole cc0_scratch3

/-- A result's 800 blocks of 1000 rows. -/
theorem hdiv : 800 ∣ S800000x16.size 0 := ⟨1000, rfl⟩
abbrev blk (i : Fin 800) : Rect S800000x16 := Rect.part (s := S800000x16) (a₀ := 0) hdiv i
abbrev blkSet (i : Fin 800) : Finset S800000x16.Idx := (blk i).set

/-! ## One tile -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem t1_trips : k0_t1_loop.trips = 25 := by decide
theorem L0_lt (L : grid0.Coords) : (L 0).val < 2 := (L 0).isLt
theorem L1_lt (L : grid0.Coords) : (L 1).val < 16 := (L 1).isLt

/-- The block a tile's trip works on, and the block's first row. -/
def bix (L : grid0.Coords) (k : Fin k0_t1_loop.trips) : Fin 800 :=
  ⟨50 * (L 1).val + 25 * (L 0).val + k.val, by
    have := L0_lt L; have := L1_lt L; have := lt_of_lt_of_eq k.isLt t1_trips; omega⟩
def base (L : grid0.Coords) (k : Fin k0_t1_loop.trips) : ℕ := 1000 * (bix L k).val

theorem base_le (L : grid0.Coords) (k : Fin k0_t1_loop.trips) : base L k + 1000 ≤ 800000 := by
  have := (bix L k).isLt; unfold base; omega

theorem off1_eq (L : grid0.Coords) (k : Fin k0_t1_loop.trips) : k0_off1 L k = ![base L k] := by
  rw [k0_off1_eq]; unfold base bix
  congr 1; simp; omega
theorem off2_eq (L : grid0.Coords) (k : Fin k0_t1_loop.trips) : k0_off2 L k = ![base L k, 0] := by
  rw [k0_off2_eq]; unfold base bix
  congr 1; simp; omega

/-- The block as the body spells it. -/
abbrev rectK (L : grid0.Coords) (k : Fin k0_t1_loop.trips) : Rect S800000x16 := Rect.unit (s := S800000x16) (k0_off2 L k) S1000x16.size (k0_off2_inb L k)
abbrev oBlkK (L : grid0.Coords) (k : Fin k0_t1_loop.trips) : Memref sig .scVector .hbm S1000x16 .f32 := (oV).slice (rectK L k) (fun _ => rfl)
abbrev uBlkK (L : grid0.Coords) (k : Fin k0_t1_loop.trips) : Memref sig .scVector .hbm S1000x16 .f32 := (uV).slice (rectK L k) (fun _ => rfl)

theorem rectK_eq (L : grid0.Coords) (k : Fin k0_t1_loop.trips) : rectK L k = blk (bix L k) := by
  unfold rectK blk Rect.part Rect.block
  congr 1 <;> funext a
  · rw [off2_eq]; unfold base
    match a with
    | 0 => simp [Shape.partIx, Shape.partSize]; omega
    | 1 => simp [Shape.partIx, Shape.partSize]
  · match a with
    | 0 => simp [Shape.partSize]
    | 1 => simp [Shape.partSize]

theorem set_oBlkK (L : grid0.Coords) (k : Fin k0_t1_loop.trips) : (oBlkK L k).view.set = blkSet (bix L k) := by
  show ((View.whole (main_v0_0_scv : Ref sig .scVector)).slice (rectK L k)).set = _
  rw [View.set_slice, rectK_eq]; exact Finset.map_refl
theorem set_uBlkK (L : grid0.Coords) (k : Fin k0_t1_loop.trips) : (uBlkK L k).view.set = blkSet (bix L k) := by
  show ((View.whole (main_v0_1_scv : Ref sig .scVector)).slice (rectK L k)).set = _
  rw [View.set_slice, rectK_eq]; exact Finset.map_refl

section Pts

variable (d : Dev nD) (L : grid0.Coords)

theorem pts_oBlkK (k : Fin k0_t1_loop.trips) (f : Buf (Elt F) (oLoc d)) :
    ((oBlkK L k).view.loc (thr d L) ↦[(oBlkK L k).view.set]{fullShare} f : sProp 𝕄) = oLoc d ↦[blkSet (bix L k)]{fullShare} f := by
  rw [set_oBlkK]
theorem pts_uBlkK (k : Fin k0_t1_loop.trips) (f : Buf (Elt F) (uLoc d)) :
    ((uBlkK L k).view.loc (thr d L) ↦[(uBlkK L k).view.set]{fullShare} f : sProp 𝕄) = uLoc d ↦[blkSet (bix L k)]{fullShare} f := by
  rw [set_uBlkK]
theorem pts_tV (q : PosShare TreeShare) (f : Buf (Elt F) (tLoc d)) : ((tV).view.loc (thr d L) ↦{q} f : sProp 𝕄) = tLoc d ↦{q} f := rfl
theorem pts_sV (q : PosShare TreeShare) (f : Buf (Elt F) (sLoc d)) : ((sV).view.loc (thr d L) ↦{q} f : sProp 𝕄) = sLoc d ↦{q} f := rfl
theorem pts_dV (q : PosShare TreeShare) (f : Buf (Elt F) (dLoc d)) : ((dV).view.loc (thr d L) ↦{q} f : sProp 𝕄) = dLoc d ↦{q} f := rfl

/-- The six copies' cells: the two gathers, the two lists' fetches, the two blocks' write-outs. -/
abbrev c4 : GSem nD τ sig := (thr d L, .dma cc0_scratch4.sem)
abbrev c5 : GSem nD τ sig := (thr d L, .dma cc0_scratch5.sem)
abbrev c0 : GSem nD τ sig := (thr d L, .dma cc0_scoped0.sem)
abbrev c1 : GSem nD τ sig := (thr d L, .dma cc0_scoped1.sem)
abbrev c2 : GSem nD τ sig := (thr d L, .dma cc0_scoped2.sem)
abbrev c3 : GSem nD τ sig := (thr d L, .dma cc0_scoped3.sem)

/-- The tile's cells are those six and the rest. -/
theorem ownSems0_V :
    (ownSems0 (thr d L) : sProp 𝕄)
      = iprop(semVal (c4 d L) 0 ∗ semVal (c5 d L) 0 ∗ semVal (c0 d L) 0 ∗ semVal (c1 d L) 0 ∗ semVal (c2 d L) 0 ∗ semVal (c3 d L) 0
          ∗ bigSep (((((((ownCells (thr d L)).erase (c4 d L)).erase (c5 d L)).erase (c0 d L)).erase (c1 d L)).erase (c2 d L)).erase (c3 d L)) fun g => semVal g 0) := by
  have own : ∀ s : SemLoc sig, s.isScoped .scVector = true → ((thr d L, s) : GSem nD τ sig) ∈ ownCells (thr d L) := fun s h => mem_ownCells.mpr ⟨rfl, h⟩
  have ne : ∀ s s' : SemLoc sig, s ≠ s' → ((thr d L, s) : GSem nD τ sig) ≠ (thr d L, s') := fun s s' h e => h (congrArg Prod.snd e)
  have more : ∀ (A : Finset (GSem nD τ sig)) (g g' : GSem nD τ sig), g ∈ A → g ≠ g' → g ∈ A.erase g' := fun A g g' h h' => Finset.mem_erase.mpr ⟨h', h⟩
  have h4 := own (.dma cc0_scratch4.sem) (by decide)
  have h5 := more _ _ (c4 d L) (own (.dma cc0_scratch5.sem) (by decide)) (ne _ _ (by decide))
  have h0 := more _ _ (c5 d L) (more _ _ (c4 d L) (own (.dma cc0_scoped0.sem) (by decide)) (ne _ _ (by decide))) (ne _ _ (by decide))
  have h1 := more _ _ (c0 d L) (more _ _ (c5 d L) (more _ _ (c4 d L) (own (.dma cc0_scoped1.sem) (by decide)) (ne _ _ (by decide))) (ne _ _ (by decide))) (ne _ _ (by decide))
  have h2 := more _ _ (c1 d L) (more _ _ (c0 d L) (more _ _ (c5 d L) (more _ _ (c4 d L) (own (.dma cc0_scoped2.sem) (by decide)) (ne _ _ (by decide))) (ne _ _ (by decide))) (ne _ _ (by decide))) (ne _ _ (by decide))
  have h3 := more _ _ (c2 d L) (more _ _ (c1 d L) (more _ _ (c0 d L) (more _ _ (c5 d L) (more _ _ (c4 d L) (own (.dma cc0_scoped3.sem) (by decide)) (ne _ _ (by decide))) (ne _ _ (by decide))) (ne _ _ (by decide))) (ne _ _ (by decide))) (ne _ _ (by decide))
  unfold SparseCore.Cfg.ownSems0
  rw [SparseCore.bigSep_erase' h4, SparseCore.bigSep_erase' h5, SparseCore.bigSep_erase' h0, SparseCore.bigSep_erase' h1, SparseCore.bigSep_erase' h2,
    SparseCore.bigSep_erase' h3]

/-- The tile's own buffers are its four scratches, each at some contents, and the rest. -/
theorem ownBufs_V :
    (ownBufs (thr d L) : sProp 𝕄)
      = iprop((∃ f, (iV).view.loc (thr d L) ↦{fullShare} f) ∗ (∃ f, (rV).view.loc (thr d L) ↦{fullShare} f) ∗ (∃ f, (nV).view.loc (thr d L) ↦{fullShare} f)
          ∗ (∃ f, (wV).view.loc (thr d L) ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have own : ∀ r : Ref sig .scVector, ((Proc.scVector (cV L) (jV L)).devRef r).owner = .proc (Proc.scVector (cV L) (jV L)) →
      (Proc.scVector (cV L) (jV L)).devRef r ∈ ownRefs (τ := τ) (sig := sig) (.scVector (cV L) (jV L)) :=
    fun r h => SparseCore.Cfg.mem_ownRefs_of_owner (p := Proc.scVector (cV L) (jV L)) h
  have ne : ∀ r r' : Ref sig .scVector, r ≠ r' → (Proc.scVector (cV L) (jV L)).devRef r ≠ (Proc.scVector (cV L) (jV L)).devRef (τ := τ) r' :=
    fun r r' h e => h (Proc.devRef_injective _ e)
  unfold SparseCore.Cfg.ownBufs
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide), Finset.mem_erase.mpr ⟨ne cc0_scratch2 cc0_scratch0 (by decide), own cc0_scratch2 rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), own cc0_scratch3 rfl⟩⟩⟩)]

end Pts

end Cert.Proof.Gat

end
-- ==== Proof.GatTile.lean ====
/-
  One tile of the gather call: 25 trips, each fetching 1000 words of either list, gathering the records' rows they name and writing
  the rows out as a block of either result.
-/
module

public import proofs.«01_k».proof.Proof.GatSetup
public import Idealize.ShloMosaic.Lib.Pipeline.Value

@[expose] public section

set_option maxRecDepth 16384

noncomputable section

namespace Cert.Proof.Gat

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

/-! ## The value -/

/-- Row `e`, column `c` of the table's rows named by the list: a word past the last row names the last one. -/
def rowsOf (X : S50000x16.Idx → F .f32) (W : S800000.Idx → BitVec 32) : S800000x16.Idx → F .f32 :=
  fun y => X (ix2 (⟨min (W (ix1 (y 0))).toNat 49999, by omega⟩ : Fin 50000) (y 1))

theorem rowsOf_at (X : S50000x16.Idx → F .f32) (W : S800000.Idx → BitVec 32) (e : Fin 800000) (c : Fin 16) (r : Fin 50000) (h : (W (ix1 e)).toNat = r.val) :
    rowsOf X W (ix2 e c) = X (ix2 r c) := by
  have hr : (⟨min (W (ix1 e)).toNat 49999, by omega⟩ : Fin 50000) = r := Fin.ext (by
    show min (W (ix1 e)).toNat 49999 = r.val
    rw [h]; have := r.isLt; omega)
  exact congrArg (fun r : Fin 50000 => X (ix2 r c)) hr

variable (d : Dev nD) (L : grid0.Coords)

variable (X : Buf (Elt F) (tLoc d)) (A : Buf (Elt F) (sLoc d)) (B : Buf (Elt F) (dLoc d)) (q : PosShare TreeShare)
variable (o₀ : Buf (Elt F) (oLoc d)) (u₀ : Buf (Elt F) (uLoc d))

/-- The waits recorded so far are the body's own. -/
def waits (O : CellTallies nD τ sig (HIx 1)) (W : Waits sig (HIx 1)) : sProp 𝕄 :=
  iprop(∃ W', ⌜∀ p ∈ W', p ∈ W ∨ p.2 = none ∨ p.2 = some (0 : Fin 1)⌝ ∗ owes (thr d L) O W')

abbrev body1 := k0_t1_body (F := F) L tV (Memref.isWhole_whole _) sV (Memref.isWhole_whole _) dV (Memref.isWhole_whole _) oV (Memref.isWhole_whole _) uV (Memref.isWhole_whole _)
  iV (Memref.isWhole_whole _) rV (Memref.isWhole_whole _) nV (Memref.isWhole_whole _) wV (Memref.isWhole_whole _)
  cc0_scratch4 cc0_scratch5 cc0_scoped0 cc0_scoped1 cc0_scoped2 cc0_scoped3

/-- What the results hold at the end. -/
def resO : Buf (Elt F) (oLoc d) := rowsOf (F := F) X A
def resU : Buf (Elt F) (uLoc d) := rowsOf (F := F) X B

/-- Trip `k`'s blocks, written once the trip is over. -/
def oAt (t : ℕ) (k : Fin k0_t1_loop.trips) : sProp 𝕄 := oLoc d ↦[blkSet (bix L k)]{fullShare} (if k.val < t then resO d X A else o₀)
def uAt (t : ℕ) (k : Fin k0_t1_loop.trips) : sProp 𝕄 := uLoc d ↦[blkSet (bix L k)]{fullShare} (if k.val < t then resU d X B else u₀)

/-! ## Fetched words, gathered rows -/

/-- A lane of the fetched words. -/
theorem fetchS_at (f : Buf (Elt F) ((iV).view.loc (thr d L))) {off : Fin 1 → ℕ} (o : ℕ) (inb : ∀ a, off a + S1000.size a ≤ S800000.size a) (ho : off = ![o])
    (hr : ∀ a, (Rect.unit (s := S800000) off S1000.size inb).stride a = 1) (i : Fin 1000) (h : o + i.val < 800000) :
    View.write (Elt F) (iV).view f (((sV).slice (Rect.unit (s := S800000) off S1000.size inb) hr).view.read (Elt F) A) Finset.univ (ix1 i) = A (ix1 ⟨o + i.val, h⟩) := by
  subst ho
  rw [View.write_whole_univ]
  refine congrArg A (funext fun a => Fin.ext ?_)
  have ha : a = (0 : Fin 1) := Subsingleton.elim (α := Fin 1) _ _
  subst ha
  exact congrArg (o + ·) (Nat.one_mul _)

theorem fetchD_at (f : Buf (Elt F) ((nV).view.loc (thr d L))) {off : Fin 1 → ℕ} (o : ℕ) (inb : ∀ a, off a + S1000.size a ≤ S800000.size a) (ho : off = ![o])
    (hr : ∀ a, (Rect.unit (s := S800000) off S1000.size inb).stride a = 1) (i : Fin 1000) (h : o + i.val < 800000) :
    View.write (Elt F) (nV).view f (((dV).slice (Rect.unit (s := S800000) off S1000.size inb) hr).view.read (Elt F) B) Finset.univ (ix1 i) = B (ix1 ⟨o + i.val, h⟩) := by
  subst ho
  rw [View.write_whole_univ]
  refine congrArg B (funext fun a => Fin.ext ?_)
  have ha : a = (0 : Fin 1) := Subsingleton.elim (α := Fin 1) _ _
  subst ha
  exact congrArg (o + ·) (Nat.one_mul _)

theorem row_of (r : Fin 1000 → Fin 50000) (k : Fin 1000) (c : Fin 16) : (Shape.Gathers.idx gathers_S50000x16_S1000x16 r (ix2 k c) (0 : Fin 2)).val = (r k).val :=
  congrArg Fin.val (Shape.Gathers.idx_axis gathers_S50000x16_S1000x16 r (ix2 k c))

theorem col_of (r : Fin 1000 → Fin 50000) (k : Fin 1000) (c : Fin 16) : (Shape.Gathers.idx gathers_S50000x16_S1000x16 r (ix2 k c) (1 : Fin 2)).val = c.val :=
  Shape.Gathers.idx_of_ne gathers_S50000x16_S1000x16 r (ix2 k c) (1 : Fin 2) (by decide)

/-- Row `k` of the gathered rows is the table's row that the list's entry `k` names. -/
theorem gather_at (f : S1000.Idx → BitVec 32)
    (hr0 : ∀ a, (Rect.unit (s := S50000x16) ![0, 0] S50000x16.size inb_S50000x16_S50000x16_0_0).stride a = 1) (hn : S1000.numel = 1000)
    (hin : ∀ x, (f x).toNat < 50000) (k : Fin 1000) (c : Fin 16) (e : Fin 50000) (he : (f (ix1 k)).toNat = e.val) :
    SparseCore.gatherPayload gathers_S50000x16_S1000x16
      (((tV).slice (Rect.unit (s := S50000x16) ![0, 0] S50000x16.size inb_S50000x16_S50000x16_0_0) hr0).view.read (Elt F) X)
      (SparseCore.rows (F := F) (o := 1000) (z := 50000) f hn hin) (ix2 k c)
      = X (ix2 e c) := by
  have hrow : SparseCore.rows (F := F) (o := 1000) (z := 50000) f hn hin k = e := by
    apply Fin.ext
    refine Eq.trans ?_ he
    have hs : S1000.rowMajor.symm (k.cast hn.symm) = ix1 k :=
      (S1000.rowMajor.symm_apply_eq).2 (Fin.ext (by rw [Shape.rowMajor_val_one]; rfl))
    show (f (S1000.rowMajor.symm (k.cast hn.symm))).toNat = _
    rw [hs]
  unfold SparseCore.gatherPayload
  refine congrArg X ?_
  funext a
  match a with
  | ⟨0, _⟩ =>
    refine Fin.ext ?_
    have h0 := row_of (SparseCore.rows (F := F) (o := 1000) (z := 50000) f hn hin) k c
    rw [hrow] at h0
    exact (show ∀ n : ℕ, 0 + 1 * n = n by omega) _ |>.trans h0
  | ⟨1, _⟩ =>
    refine Fin.ext ?_
    exact (show ∀ n : ℕ, 0 + 1 * n = n by omega) _ |>.trans (col_of _ k c)

/-! ## A trip -/

/-- The table as the body slices it, which is the whole of it. -/
abbrev tSl : Memref sig .scVector .hbm S50000x16 .f32 := (tV).slice (Rect.unit (s := S50000x16) ![0, 0] S50000x16.size inb_S50000x16_S50000x16_0_0) (fun _ => rfl)
theorem pts_tSl (p : PosShare TreeShare) : ((tSl).view.loc (thr d L) ↦[(tSl).view.set]{p} X : sProp 𝕄) = tLoc d ↦{p} X := by
  have h : (tSl).view.set = Finset.univ := by
    refine Finset.eq_univ_of_forall fun y => Finset.mem_map.mpr ⟨y, Finset.mem_univ y, ?_⟩
    funext a
    match a with
    | ⟨0, _⟩ => exact Fin.ext ((show ∀ n : ℕ, 0 + 1 * n = n by omega) _)
    | ⟨1, _⟩ => exact Fin.ext ((show ∀ n : ℕ, 0 + 1 * n = n by omega) _)
  rw [h]

/-- The trips' invariant: the table's share is held in two halves, one for each of the gathers in flight together. -/
def inv1 (O : CellTallies nD τ sig (HIx 1)) (W : Waits sig (HIx 1)) (t : ℕ) (_ : PUnit) : sProp 𝕄 :=
  iprop(Transfers.MayWaits (thr d L) (default : HIx 1) O
    ∗ ((tSl).view.loc (thr d L) ↦[(tSl).view.set]{q.left} X) ∗ ((tSl).view.loc (thr d L) ↦[(tSl).view.set]{q.right} X) ∗ ((sV).view.loc (thr d L) ↦{q} A) ∗ ((dV).view.loc (thr d L) ↦{q} B)
    ∗ (bigSep Finset.univ fun k => oAt d L X A o₀ t k) ∗ (bigSep Finset.univ fun k => uAt d L X B u₀ t k)
    ∗ (∃ f, (iV).view.loc (thr d L) ↦{fullShare} f) ∗ (∃ f, (rV).view.loc (thr d L) ↦{fullShare} f) ∗ (∃ f, (nV).view.loc (thr d L) ↦{fullShare} f)
    ∗ (∃ f, (wV).view.loc (thr d L) ↦{fullShare} f)
    ∗ semVal (c4 d L) 0 ∗ semVal (c5 d L) 0 ∗ semVal (c0 d L) 0 ∗ semVal (c1 d L) 0 ∗ semVal (c2 d L) 0 ∗ semVal (c3 d L) 0 ∗ waits d L O W)

/-- The other trips' blocks are as they were. -/
theorem restO_ent (k : Fin k0_t1_loop.trips) :
    bigSep (Finset.univ.erase k) (fun k' => oAt (F := F) d L X A o₀ k.val k') ⊢ bigSep (Finset.univ.erase k) (fun k' => oAt d L X A o₀ (k.val + 1) k') := by
  refine Entails.of_eq (bigSep_congr fun k' hk' => ?_)
  have hne : k'.val ≠ k.val := fun e => (Finset.mem_erase.mp hk').1 (Fin.ext e)
  unfold oAt
  by_cases h : k'.val < k.val
  · rw [if_pos h, if_pos (by omega)]
  · rw [if_neg h, if_neg (by omega)]
theorem restU_ent (k : Fin k0_t1_loop.trips) :
    bigSep (Finset.univ.erase k) (fun k' => uAt (F := F) d L X B u₀ k.val k') ⊢ bigSep (Finset.univ.erase k) (fun k' => uAt d L X B u₀ (k.val + 1) k') := by
  refine Entails.of_eq (bigSep_congr fun k' hk' => ?_)
  have hne : k'.val ≠ k.val := fun e => (Finset.mem_erase.mp hk').1 (Fin.ext e)
  unfold uAt
  by_cases h : k'.val < k.val
  · rw [if_pos h, if_pos (by omega)]
  · rw [if_neg h, if_neg (by omega)]

/-- Trip `k`'s blocks before the trip. -/
theorem inO_ent (k : Fin k0_t1_loop.trips) :
    oAt (F := F) d L X A o₀ k.val k ⊢ ((oBlkK L k).view.loc (thr d L) ↦[(oBlkK L k).view.set]{fullShare} o₀ : sProp 𝕄) := by
  unfold oAt
  rw [if_neg (lt_irrefl _), ← pts_oBlkK (F := F) d L k]
theorem inU_ent (k : Fin k0_t1_loop.trips) :
    uAt (F := F) d L X B u₀ k.val k ⊢ ((uBlkK L k).view.loc (thr d L) ↦[(uBlkK L k).view.set]{fullShare} u₀ : sProp 𝕄) := by
  unfold uAt
  rw [if_neg (lt_irrefl _), ← pts_uBlkK (F := F) d L k]

/-- Where a block's row lies in the result. -/
theorem embO (k : Fin k0_t1_loop.trips) (y : S1000x16.Idx) :
    ((oBlkK L k).view.emb y : S800000x16.Idx) = ix2 (⟨base L k + (y 0).val, by have := base_le L k; have := (y 0).isLt; change (y 0).val < 1000 at this; omega⟩ : Fin 800000) (y 1) := by
  funext a
  match a with
  | ⟨0, _⟩ =>
    apply Fin.ext
    show k0_off2 L k 0 + 1 * (y 0).val = base L k + (y 0).val
    rw [off2_eq]; simp
  | ⟨1, _⟩ =>
    apply Fin.ext
    show k0_off2 L k 1 + 1 * (y 1).val = (y 1).val
    rw [off2_eq]; simp
theorem embU (k : Fin k0_t1_loop.trips) (y : S1000x16.Idx) :
    ((uBlkK L k).view.emb y : S800000x16.Idx) = ix2 (⟨base L k + (y 0).val, by have := base_le L k; have := (y 0).isLt; change (y 0).val < 1000 at this; omega⟩ : Fin 800000) (y 1) := by
  funext a
  match a with
  | ⟨0, _⟩ =>
    apply Fin.ext
    show k0_off2 L k 0 + 1 * (y 0).val = base L k + (y 0).val
    rw [off2_eq]; simp
  | ⟨1, _⟩ =>
    apply Fin.ext
    show k0_off2 L k 1 + 1 * (y 1).val = (y 1).val
    rw [off2_eq]; simp

/-- The blocks written out hold the results' rows. -/
theorem outO_at (k : Fin k0_t1_loop.trips) (R : S1000x16.Idx → F .f32)
    (hR : ∀ (r : Fin 1000) (c : Fin 16) (h : base L k + r.val < 800000), R (ix2 r c) = rowsOf (F := F) X A (ix2 (⟨base L k + r.val, h⟩ : Fin 800000) c)) :
    ∀ i ∈ (oBlkK L k).view.set, (oBlkK L k).view.writes (Elt F) o₀ [⟨Rect.whole S1000x16, R⟩] i = resO d X A i := by
  intro i hi
  obtain ⟨y, rfl⟩ := View.exists_emb_of_mem_set _ hi
  have e := congrFun (View.read_writes_whole (Val := Elt F) (oBlkK L k).view o₀ R) y
  rw [View.read_apply] at e
  refine Eq.trans (eq_of_heq ((cast_heq _ _).symm.trans (heq_of_eq e))) ?_
  have hy : (y : S1000x16.Idx) = ix2 (y 0) (y 1) := ValueIdx.eq_ix2 _
  have hlt : base L k + (y 0).val < 800000 := by have := base_le L k; have := (y 0).isLt; change (y 0).val < 1000 at this; omega
  unfold resO
  exact ((congrArg R hy).trans (hR (y 0) (y 1) hlt)).trans (congrArg (rowsOf (F := F) X A) (embO L k y)).symm

theorem outO_ent (k : Fin k0_t1_loop.trips) (R : S1000x16.Idx → F .f32)
    (hR : ∀ (r : Fin 1000) (c : Fin 16) (h : base L k + r.val < 800000), R (ix2 r c) = rowsOf (F := F) X A (ix2 (⟨base L k + r.val, h⟩ : Fin 800000) c)) :
    ((oBlkK L k).view.loc (thr d L) ↦[(oBlkK L k).view.set]{fullShare} (oBlkK L k).view.writes (Elt F) o₀ [⟨Rect.whole S1000x16, R⟩] : sProp 𝕄)
      ⊢ oAt d L X A o₀ (k.val + 1) k := by
  unfold oAt
  rw [if_pos (Nat.lt_succ_self _), ← pts_oBlkK (F := F) d L k]
  exact Entails.of_eq (pointsTo_congr (outO_at d L X A o₀ k R hR))

theorem outU_at (k : Fin k0_t1_loop.trips) (R : S1000x16.Idx → F .f32)
    (hR : ∀ (r : Fin 1000) (c : Fin 16) (h : base L k + r.val < 800000), R (ix2 r c) = rowsOf (F := F) X B (ix2 (⟨base L k + r.val, h⟩ : Fin 800000) c)) :
    ∀ i ∈ (uBlkK L k).view.set, (uBlkK L k).view.writes (Elt F) u₀ [⟨Rect.whole S1000x16, R⟩] i = resU d X B i := by
  intro i hi
  obtain ⟨y, rfl⟩ := View.exists_emb_of_mem_set _ hi
  have e := congrFun (View.read_writes_whole (Val := Elt F) (uBlkK L k).view u₀ R) y
  rw [View.read_apply] at e
  refine Eq.trans (eq_of_heq ((cast_heq _ _).symm.trans (heq_of_eq e))) ?_
  have hy : (y : S1000x16.Idx) = ix2 (y 0) (y 1) := ValueIdx.eq_ix2 _
  have hlt : base L k + (y 0).val < 800000 := by have := base_le L k; have := (y 0).isLt; change (y 0).val < 1000 at this; omega
  unfold resU
  exact ((congrArg R hy).trans (hR (y 0) (y 1) hlt)).trans (congrArg (rowsOf (F := F) X B) (embU L k y)).symm

theorem outU_ent (k : Fin k0_t1_loop.trips) (R : S1000x16.Idx → F .f32)
    (hR : ∀ (r : Fin 1000) (c : Fin 16) (h : base L k + r.val < 800000), R (ix2 r c) = rowsOf (F := F) X B (ix2 (⟨base L k + r.val, h⟩ : Fin 800000) c)) :
    ((uBlkK L k).view.loc (thr d L) ↦[(uBlkK L k).view.set]{fullShare} (uBlkK L k).view.writes (Elt F) u₀ [⟨Rect.whole S1000x16, R⟩] : sProp 𝕄)
      ⊢ uAt d L X B u₀ (k.val + 1) k := by
  unfold uAt
  rw [if_pos (Nat.lt_succ_self _), ← pts_uBlkK (F := F) d L k]
  exact Entails.of_eq (pointsTo_congr (outU_at d L X B u₀ k R hR))

variable (hA : ∀ x : S800000.Idx, BitVec.toNat (A x) < 50000) (hB : ∀ x : S800000.Idx, BitVec.toNat (B x) < 50000)

include hA hB in
theorem t1_trip (O : CellTallies nD τ sig (HIx 1)) (W : Waits sig (HIx 1)) (k : Fin k0_t1_loop.trips) :
    inv1 (F := F) d L X A B q o₀ u₀ O W k.val ⟨⟩ ⊢ wp frame (wpE (defs₀ (F := F)) 𝒱₀ (thr d L) none) Set.univ (body1 L k ⟨⟩) fun a => inv1 d L X A B q o₀ u₀ O W (k.val + 1) a := by
  unfold inv1 body1 waits
  rw [SparseCore.bigSep_erase' (Finset.mem_univ k), SparseCore.bigSep_erase' (Φ := fun k' => oAt (F := F) d L X A o₀ (k.val + 1) k') (Finset.mem_univ k),
    SparseCore.bigSep_erase' (Φ := fun k' => uAt (F := F) d L X B u₀ k.val k') (Finset.mem_univ k), SparseCore.bigSep_erase' (Φ := fun k' => uAt (F := F) d L X B u₀ (k.val + 1) k') (Finset.mem_univ k)]
  iintro ⟨Hmw, Ht, Ht', Hs, Hd, ⟨Ho, Horest⟩, ⟨Hu, Hurest⟩, ⟨%fi, Hi⟩, ⟨%fr, Hr⟩, ⟨%fn, Hn⟩, ⟨%fw, Hw⟩, Hs4, Hs5, Hs0, Hs1, Hs2, Hs3, ⟨%W', %hW, HO⟩⟩
  ihave Ho' := (inO_ent d L X A o₀ k) $$ Ho
  ihave Hu' := (inU_ent d L X B u₀ k) $$ Hu
  sl_unfold [k0_t1_body]
  sl_exec
  have hgi : ∀ (i : Fin 1000) (h : base L k + i.val < 800000), View.write (Elt F) (iV).view fi (t1_trip.sl.dma0 d L A k) Finset.univ (ix1 i) = A (ix1 ⟨base L k + i.val, h⟩) :=
    fun i h => fetchS_at d L A fi _ (k0_off1_inb L k) (off1_eq L k) _ i h
  have hgn : ∀ (i : Fin 1000) (h : base L k + i.val < 800000), View.write (Elt F) (nV).view fn (t1_trip.sl.dma0_1 d L B k) Finset.univ (ix1 i) = B (ix1 ⟨base L k + i.val, h⟩) :=
    fun i h => fetchD_at d L B fn _ (k0_off1_inb L k) (off1_eq L k) _ i h
  generalize View.write (Elt F) (iV).view fi (t1_trip.sl.dma0 d L A k) Finset.univ = gi at hgi ⊢
  generalize View.write (Elt F) (nV).view fn (t1_trip.sl.dma0_1 d L B k) Finset.univ = gn at hgn ⊢
  have hb := base_le L k
  have hii : ∀ x, ((iV).view.read (Elt F) gi x).toNat < S50000x16.size 0 := fun x => by
    obtain ⟨i, rfl⟩ : ∃ i : Fin 1000, x = ix1 i := ⟨x 0, ValueIdx.eq_ix1 x⟩
    exact (congrArg BitVec.toNat (hgi i (by have := i.isLt; omega))).trans_lt (hA _)
  have hin : ∀ x, ((nV).view.read (Elt F) gn x).toNat < S50000x16.size 0 := fun x => by
    obtain ⟨i, rfl⟩ : ∃ i : Fin 1000, x = ix1 i := ⟨x 0, ValueIdx.eq_ix1 x⟩
    exact (congrArg BitVec.toNat (hgn i (by have := i.isLt; omega))).trans_lt (hB _)
  sl_exec
  sl_step
  isplitl [Hmw]; · iexact Hmw
  isplitl [Ht]; · iexact Ht
  isplitl [Ht']; · iexact Ht'
  isplitl [Hs]; · iexact Hs
  isplitl [Hd]; · iexact Hd
  isplitl [Ho' Horest]
  · isplitl [Ho']
    · iapply (outO_ent d L X A o₀ k (t1_trip.sl.dma0_2 d L X fr gi hii) (fun r c h => by
        refine (congrFun (View.read_writes_whole (Val := Elt F) (rV).view fr _) (ix2 r c)).trans ?_
        rw [rowsOf_at (F := F) X A ⟨base L k + r.val, h⟩ c ⟨_, hA _⟩ rfl]
        exact gather_at d X gi _ _ hii r c _ (congrArg BitVec.toNat (hgi r h))))
      iexact Ho'
    · iapply (restO_ent d L X A o₀ k)
      iexact Horest
  isplitl [Hu' Hurest]
  · isplitl [Hu']
    · iapply (outU_ent d L X B u₀ k (t1_trip.sl.dma0_3 d L X fw gn hin) (fun r c h => by
        refine (congrFun (View.read_writes_whole (Val := Elt F) (wV).view fw _) (ix2 r c)).trans ?_
        rw [rowsOf_at (F := F) X B ⟨base L k + r.val, h⟩ c ⟨_, hB _⟩ rfl]
        exact gather_at d X gn _ _ hin r c _ (congrArg BitVec.toNat (hgn r h))))
      iexact Hu'
    · iapply (restU_ent d L X B u₀ k)
      iexact Hurest
  isplitl [Hi]; · iexists _; iexact Hi
  isplitl [Hr]; · iexists _; iexact Hr
  isplitl [Hn]; · iexists _; iexact Hn
  isplitl [Hw]; · iexists _; iexact Hw
  isplitl [Hs4]; · iexact Hs4
  isplitl [Hs5]; · iexact Hs5
  isplitl [Hs0]; · iexact Hs0
  isplitl [Hs1]; · iexact Hs1
  isplitl [Hs2]; · iexact Hs2
  isplitl [Hs3]; · iexact Hs3
  iexists _
  isplitr
  swap; · iexact HO
  ipureintro
  intro p hp
  simp only [Finset.mem_insert] at hp
  rcases hp with rfl | rfl | rfl | rfl | rfl | rfl | hp
  all_goals first | exact Or.inr (Or.inl rfl) | exact hW p hp

/-! ## The tile -/

theorem halves : (tLoc d ↦{q} X : sProp 𝕄) = iprop((tLoc d ↦{q.left} X) ∗ (tLoc d ↦{q.right} X)) :=
  BI.Entails.antisymm (pointsTo_share (PosShare.mem_left_op_right q)).1 (pointsTo_share (PosShare.mem_left_op_right q)).2

include hA hB in
theorem tile_body (hF : (K (F := F)).Facts) (O : CellTallies nD τ sig (HIx 1)) (W : Waits sig (HIx 1)) (hO : ∀ g, O g none = 0) :
    iprop(levAts (K (F := F)).L (K (F := F)).lev ∗ emp
        ∗ ((tLoc d ↦{q} X) ∗ (sLoc d ↦{q} A) ∗ (dLoc d ↦{q} B) ∗ (bigSep Finset.univ fun k => oAt d L X A o₀ 0 k) ∗ bigSep Finset.univ fun k => uAt d L X B u₀ 0 k)
        ∗ scopedBufs (thr d L) ∗ scopedSems0 (thr d L) ∗ owes (thr d L) O W)
      ⊢ wp frame (wpE (defs₀ (F := F)) 𝒱₀ (thr d L) none) Set.univ
          (cc0_k L tV (Memref.isWhole_whole _) sV (Memref.isWhole_whole _) dV (Memref.isWhole_whole _) oV (Memref.isWhole_whole _) uV (Memref.isWhole_whole _)
            iV (Memref.isWhole_whole _) rV (Memref.isWhole_whole _) nV (Memref.isWhole_whole _) wV (Memref.isWhole_whole _)
            cc0_scratch4 cc0_scratch5 cc0_scoped0 cc0_scoped1 cc0_scoped2 cc0_scoped3)
          fun _ => iprop(((tLoc d ↦{q} X) ∗ (sLoc d ↦{q} A) ∗ (dLoc d ↦{q} B) ∗ (bigSep Finset.univ fun k => oAt d L X A o₀ 25 k) ∗ bigSep Finset.univ fun k => uAt d L X B u₀ 25 k)
            ∗ scopedBufs (thr d L) ∗ scopedSems0 (thr d L) ∗ waits d L O W) := by
  rw [(K (F := F)).scopedBufs_V hF d (cV L) (jV L), SparseCore.Cfg.scopedSems0_V (Val := Elt F) d (cV L) (jV L), ownSems0_V, ownBufs_V, halves]
  iintro ⟨#Hlv, -, ⟨⟨Ht, Ht'⟩, Hs, Hd, Ho, Hu⟩, ⟨Hi, Hr, Hn, Hw, Hbufs⟩, ⟨Hs4, Hs5, Hs0, Hs1, Hs2, Hs3, Hsems⟩, HO⟩
  ihave Hmw := (show levAts (K (F := F)).L (K (F := F)).lev ⊢ Transfers.MayWaits (thr d L) (default : HIx 1) O from
    (K (F := F)).mayWaits_none (thr := thr d L) hO) $$ Hlv
  ihave Hta := (Entails.of_eq (pts_tSl (F := F) d L X q.left).symm) $$ Ht
  ihave Htb := (Entails.of_eq (pts_tSl (F := F) d L X q.right).symm) $$ Ht'
  ihave Hs' := (Entails.of_eq (pts_sV (F := F) d L q A).symm) $$ Hs
  ihave Hd' := (Entails.of_eq (pts_dV (F := F) d L q B).symm) $$ Hd
  sl_unfold [cc0_k]
  sl_exec
  sl_for (inv1 d L X A B q o₀ u₀ O W) $$ [Hmw Hta Htb Hs' Hd' Ho Hu Hi Hr Hn Hw Hs4 Hs5 Hs0 Hs1 Hs2 Hs3 HO]
  case region =>
    intro k _
    exact t1_trip d L X A B q o₀ u₀ hA hB O W k
  · unfold inv1 waits
    isplitl [Hmw]; · iexact Hmw
    isplitl [Hta]; · iexact Hta
    isplitl [Htb]; · iexact Htb
    isplitl [Hs']; · iexact Hs'
    isplitl [Hd']; · iexact Hd'
    isplitl [Ho]; · iexact Ho
    isplitl [Hu]; · iexact Hu
    isplitl [Hi]; · iexact Hi
    isplitl [Hr]; · iexact Hr
    isplitl [Hn]; · iexact Hn
    isplitl [Hw]; · iexact Hw
    isplitl [Hs4]; · iexact Hs4
    isplitl [Hs5]; · iexact Hs5
    isplitl [Hs0]; · iexact Hs0
    isplitl [Hs1]; · iexact Hs1
    isplitl [Hs2]; · iexact Hs2
    isplitl [Hs3]; · iexact Hs3
    iexists W
    isplitr
    · ipureintro; exact fun p hp => Or.inl hp
    iexact HO
  iintro %_ HI
  unfold inv1
  rw [show Scf.trips k0_t1_loop.lb k0_t1_loop.ub k0_t1_loop.st = 25 by decide]
  icases HI with ⟨-, Hta, Htb, Hs, Hd, Ho, Hu, Hi, Hr, Hn, Hw, Hs4, Hs5, Hs0, Hs1, Hs2, Hs3, HO⟩
  sl_exec
  sl_step
  ihave Ht := (Entails.of_eq (pts_tSl (F := F) d L X q.left)) $$ Hta
  ihave Ht' := (Entails.of_eq (pts_tSl (F := F) d L X q.right)) $$ Htb
  isplitl [Ht Ht' Hs Hd Ho Hu]
  · isplitl [Ht Ht']
    · isplitl [Ht]; · iexact Ht
      iexact Ht'
    isplitl [Hs]; · iexact Hs
    isplitl [Hd]; · iexact Hd
    isplitl [Ho]; · iexact Ho
    iexact Hu
  isplitl [Hi Hr Hn Hw Hbufs]
  · isplitl [Hi]; · iexact Hi
    isplitl [Hr]; · iexact Hr
    isplitl [Hn]; · iexact Hn
    isplitl [Hw]; · iexact Hw
    iexact Hbufs
  isplitl [Hs4 Hs5 Hs0 Hs1 Hs2 Hs3 Hsems]
  · isplitl [Hs4]; · iexact Hs4
    isplitl [Hs5]; · iexact Hs5
    isplitl [Hs0]; · iexact Hs0
    isplitl [Hs1]; · iexact Hs1
    isplitl [Hs2]; · iexact Hs2
    isplitl [Hs3]; · iexact Hs3
    iexact Hsems
  iexact HO

end Cert.Proof.Gat

end
-- ==== Proof.GatLaunch.lean ====
/-
  The gather call's launch: every tile of the two SparseCores takes a 32nd of the table and of the two lists to read, and its own
  25 blocks of either result to write; the program's run, with the values its results end at.
-/
module

public import proofs.«01_k».proof.Proof.GatTile
public import Idealize.ShloMosaic.Lib.ShareLeaves

@[expose] public section

set_option maxRecDepth 16384

noncomputable section

namespace Cert.Proof.Gat

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the handshakes carry -/

def coordsV (c : Fin (grid0.bound 0)) (s : Fin (grid0.bound 1)) : grid0.Coords :=
  fun | 0 => c | 1 => s | ⟨_ + 2, h⟩ => absurd h (Nat.not_lt.2 (Nat.le_add_left _ _))

/-- The share of an argument a SparseCore reads, and the one each of its tiles reads. -/
abbrev qC (c : Fin 2) : PosShare TreeShare := ShareLeaves.leaf 1 fullShare c
abbrev qT (c : Fin 2) (i : Fin 16) : PosShare TreeShare := ShareLeaves.leaf 4 (qC c) i

/-- A tile's own blocks of either result, the first `t` of them written. -/
def oTile (d : Dev nD) (t : ℕ) (c : Fin 2) (i : Fin 16) : sProp 𝕄 :=
  bigSep Finset.univ fun k => oAt d (coordsV c i) (m (tLoc d)) (m (sLoc d)) (m (oLoc d)) t k
def uTile (d : Dev nD) (t : ℕ) (c : Fin 2) (i : Fin 16) : sProp 𝕄 :=
  bigSep Finset.univ fun k => uAt d (coordsV c i) (m (tLoc d)) (m (dLoc d)) (m (uLoc d)) t k

/-- What a tile takes, and what it gives back. -/
def tilePay (d : Dev nD) (t : ℕ) (c : Fin 2) (i : Fin 16) : sProp 𝕄 :=
  iprop((tLoc d ↦{qT c i} m (tLoc d)) ∗ (sLoc d ↦{qT c i} m (sLoc d)) ∗ (dLoc d ↦{qT c i} m (dLoc d)) ∗ oTile m d t c i ∗ uTile m d t c i)

/-- What a SparseCore takes, and what it gives back. -/
def corePay (d : Dev nD) (t : ℕ) (c : Fin 2) : sProp 𝕄 :=
  iprop((tLoc d ↦{qC c} m (tLoc d)) ∗ (sLoc d ↦{qC c} m (sLoc d)) ∗ (dLoc d ↦{qC c} m (dLoc d))
    ∗ (bigSep Finset.univ fun i : Fin 16 => oTile m d t c i) ∗ bigSep Finset.univ fun i : Fin 16 => uTile m d t c i)

def P : (K (F := F)).Pay (nD := nD) (Val := Elt F) (Name := ℕ) (U := UU) where
  st := fun q d c => match q with | 0 => corePay m d 0 c
  dn := fun q d c => match q with | 0 => corePay m d 25 c
  go := fun q d c i => match q with | 0 => tilePay m d 0 c i
  td := fun q d c i => match q with | 0 => tilePay m d 25 c i
  x := fun _ _ => iprop(emp)

instance oTile_storable (d : Dev nD) (t : ℕ) (c : Fin 2) (i : Fin 16) : BI.Storable (upEmb : UEmb _ 𝕄) (oTile m d t c i) := by
  unfold oTile oAt; infer_instance
instance uTile_storable (d : Dev nD) (t : ℕ) (c : Fin 2) (i : Fin 16) : BI.Storable (upEmb : UEmb _ 𝕄) (uTile m d t c i) := by
  unfold uTile uAt; infer_instance
instance tilePay_storable (d : Dev nD) (t : ℕ) (c : Fin 2) (i : Fin 16) : BI.Storable (upEmb : UEmb _ 𝕄) (tilePay m d t c i) := by
  unfold tilePay; infer_instance
instance corePay_storable (d : Dev nD) (t : ℕ) (c : Fin 2) : BI.Storable (upEmb : UEmb _ 𝕄) (corePay m d t c) := by
  unfold corePay; infer_instance

instance P_storable : (P (F := F) m).IsStorable where
  st q d c := match q with | 0 => corePay_storable m d 0 c
  dn q d c := match q with | 0 => corePay_storable m d 25 c
  go q d c i := match q with | 0 => tilePay_storable m d 0 c i
  td q d c i := match q with | 0 => tilePay_storable m d 25 c i

/-! ## The tiles' obligation -/

theorem defs₀_vector (c : Fin τ.nSC) (s : Fin τ.nSub) :
    defs₀ (F := F) (.scVector c s) 0 ()
      = SparseCore.onTile hcore0 hsub0 (fun c s => cc0_k (coordsV c s)
          tV (Memref.isWhole_whole _) sV (Memref.isWhole_whole _) dV (Memref.isWhole_whole _) oV (Memref.isWhole_whole _) uV (Memref.isWhole_whole _)
          iV (Memref.isWhole_whole _) rV (Memref.isWhole_whole _) nV (Memref.isWhole_whole _) wV (Memref.isWhole_whole _)
          cc0_scratch4 cc0_scratch5 cc0_scoped0 cc0_scoped1 cc0_scoped2 cc0_scoped3) ⟨⟩ c s := rfl

/-- Every word of either list names a row of the table. -/
def Named : Prop := ∀ d : Dev nD, (∀ x : S800000.Idx, BitVec.toNat (m (sLoc d) x) < 50000) ∧ ∀ x : S800000.Idx, BitVec.toNat (m (dLoc d) x) < 50000

theorem tileObl (hm : Named m) (hF : (K (F := F)).Facts) : (K (F := F)).TileObl (DF (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (DF (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (m (tLoc d)) (m (sLoc d)) (m (dLoc d)) (qT c i) (m (oLoc d)) (m (uLoc d)) (hm d).1 (hm d).2 hF O W hO

/-! ## The arrays split and join -/

/-- A SparseCore's part is its tiles' parts. -/
theorem corePay_eq (d : Dev nD) (t : ℕ) (c : Fin 2) : corePay m d t c = bigSep Finset.univ fun i : Fin 16 => tilePay m d t c i := by
  unfold corePay tilePay
  rw [bigSep_sep', bigSep_sep', bigSep_sep', bigSep_sep']
  congr 1
  · exact ShareLeaves.pointsTo_leaves Finset.univ (m (tLoc d)) 4 (qC c)
  congr 1
  · exact ShareLeaves.pointsTo_leaves Finset.univ (m (sLoc d)) 4 (qC c)
  congr 1
  exact ShareLeaves.pointsTo_leaves Finset.univ (m (dLoc d)) 4 (qC c)

theorem vecSplit : (K (F := F)).VecSplit' (P m) 0 := by
  intro d c
  show corePay m d 0 c ⊢ |={Set.univ}=> iprop((bigSep Finset.univ fun i : Fin 16 => tilePay m d 0 c i)
    ∗ ((bigSep Finset.univ fun i : Fin 16 => tilePay m d 25 c i) -∗ corePay m d 25 c))
  rw [corePay_eq, corePay_eq]
  iintro H; imodintro
  isplitl [H]; · iexact H
  iintro H; iexact H

/-- The blocks' numbers, as the tiles' trips take them. -/
theorem bix_injective : Function.Injective fun x : Fin 2 × Fin 16 × Fin k0_t1_loop.trips => bix (coordsV x.1 x.2.1) x.2.2 := by
  rintro ⟨c, i, k⟩ ⟨c', i', k'⟩ h
  have h' : 50 * i.val + 25 * c.val + k.val = 50 * i'.val + 25 * c'.val + k'.val := congrArg Fin.val h
  have := c.isLt; have := c'.isLt; have := i.isLt; have := i'.isLt
  have := lt_of_lt_of_eq k.isLt t1_trips; have := lt_of_lt_of_eq k'.isLt t1_trips
  have hc : c = c' := Fin.ext (by omega)
  have hi : i = i' := Fin.ext (by omega)
  have hk : k = k' := Fin.ext (by omega)
  rw [hc, hi, hk]

theorem blks_disjoint : ∀ x ∈ (Finset.univ : Finset (Fin 2 × Fin 16 × Fin k0_t1_loop.trips)), ∀ y ∈ (Finset.univ : Finset (Fin 2 × Fin 16 × Fin k0_t1_loop.trips)), x ≠ y →
    Disjoint (blkSet (bix (coordsV x.1 x.2.1) x.2.2)) (blkSet (bix (coordsV y.1 y.2.1) y.2.2)) :=
  fun _ _ _ _ h => Rect.part_disjoint hdiv fun e => h (bix_injective e)

theorem blks_cover : (Finset.univ : Finset (Fin 2 × Fin 16 × Fin k0_t1_loop.trips)).biUnion (fun x => blkSet (bix (coordsV x.1 x.2.1) x.2.2)) = Finset.univ := by
  refine Finset.eq_univ_of_forall fun y => ?_
  have hy : y ∈ (Finset.univ : Finset (Fin 800)).biUnion fun i => (blk i).set := by rw [Rect.biUnion_part hdiv]; exact Finset.mem_univ y
  obtain ⟨b, -, hb⟩ := Finset.mem_biUnion.mp hy
  have hlt := b.isLt
  refine Finset.mem_biUnion.mpr ⟨(⟨b.val / 25 % 2, by omega⟩, ⟨b.val / 50, by omega⟩, ⟨b.val % 25, by rw [t1_trips]; omega⟩), Finset.mem_univ _, ?_⟩
  have e : bix (coordsV (⟨b.val / 25 % 2, by omega⟩ : Fin 2) (⟨b.val / 50, by omega⟩ : Fin 16)) (⟨b.val % 25, by rw [t1_trips]; omega⟩ : Fin k0_t1_loop.trips) = b := by
    apply Fin.ext
    show 50 * (b.val / 50) + 25 * (b.val / 25 % 2) + b.val % 25 = b.val
    omega
  show y ∈ blkSet (bix (coordsV (⟨b.val / 25 % 2, by omega⟩ : Fin 2) (⟨b.val / 50, by omega⟩ : Fin 16)) (⟨b.val % 25, by rw [t1_trips]; omega⟩ : Fin k0_t1_loop.trips))
  rw [e]; exact hb

/-- A result whole is every tile's every trip's block; before the call, and after it. -/
theorem oPts_blks (d : Dev nD) (f : Buf (Elt F) (oLoc d)) :
    (oLoc d ↦{fullShare} f : sProp 𝕄)
      = bigSep Finset.univ fun c : Fin 2 => bigSep Finset.univ fun i : Fin 16 => bigSep Finset.univ fun k => oLoc d ↦[blkSet (bix (coordsV c i) k)]{fullShare} f := by
  have h : (oLoc d ↦{fullShare} f : sProp 𝕄)
      = bigSep Finset.univ fun x : Fin 2 × Fin 16 × Fin k0_t1_loop.trips => oLoc d ↦[blkSet (bix (coordsV x.1 x.2.1) x.2.2)]{fullShare} f := by
    rw [← pointsTo_biUnion Finset.univ (ℓ := oLoc d) (fun x : Fin 2 × Fin 16 × Fin k0_t1_loop.trips => blkSet (bix (coordsV x.1 x.2.1) x.2.2)) blks_disjoint, blks_cover]
  rw [h, bigSep_univ_prod]
  exact bigSep_congr fun c _ => bigSep_univ_prod _

theorem oTiles_start (d : Dev nD) : (bigSep Finset.univ fun c : Fin 2 => bigSep Finset.univ fun i : Fin 16 => oTile m d 0 c i) = (oLoc d ↦{fullShare} m (oLoc d) : sProp 𝕄) := by
  rw [oPts_blks]
  refine bigSep_congr fun c _ => bigSep_congr fun i _ => bigSep_congr fun k _ => ?_
  unfold oAt; rw [if_neg (Nat.not_lt_zero _)]
theorem oTiles_end (d : Dev nD) : (bigSep Finset.univ fun c : Fin 2 => bigSep Finset.univ fun i : Fin 16 => oTile m d 25 c i)
    = (oLoc d ↦{fullShare} resO d (m (tLoc d)) (m (sLoc d)) : sProp 𝕄) := by
  rw [oPts_blks]
  refine bigSep_congr fun c _ => bigSep_congr fun i _ => bigSep_congr fun k _ => ?_
  unfold oAt; rw [if_pos (lt_of_lt_of_eq k.isLt t1_trips)]

theorem uPts_blks (d : Dev nD) (f : Buf (Elt F) (uLoc d)) :
    (uLoc d ↦{fullShare} f : sProp 𝕄)
      = bigSep Finset.univ fun c : Fin 2 => bigSep Finset.univ fun i : Fin 16 => bigSep Finset.univ fun k => uLoc d ↦[blkSet (bix (coordsV c i) k)]{fullShare} f := by
  have h : (uLoc d ↦{fullShare} f : sProp 𝕄)
      = bigSep Finset.univ fun x : Fin 2 × Fin 16 × Fin k0_t1_loop.trips => uLoc d ↦[blkSet (bix (coordsV x.1 x.2.1) x.2.2)]{fullShare} f := by
    rw [← pointsTo_biUnion Finset.univ (ℓ := uLoc d) (fun x : Fin 2 × Fin 16 × Fin k0_t1_loop.trips => blkSet (bix (coordsV x.1 x.2.1) x.2.2)) blks_disjoint, blks_cover]
  rw [h, bigSep_univ_prod]
  exact bigSep_congr fun c _ => bigSep_univ_prod _

theorem uTiles_start (d : Dev nD) : (bigSep Finset.univ fun c : Fin 2 => bigSep Finset.univ fun i : Fin 16 => uTile m d 0 c i) = (uLoc d ↦{fullShare} m (uLoc d) : sProp 𝕄) := by
  rw [uPts_blks]
  refine bigSep_congr fun c _ => bigSep_congr fun i _ => bigSep_congr fun k _ => ?_
  unfold uAt; rw [if_neg (Nat.not_lt_zero _)]
theorem uTiles_end (d : Dev nD) : (bigSep Finset.univ fun c : Fin 2 => bigSep Finset.univ fun i : Fin 16 => uTile m d 25 c i)
    = (uLoc d ↦{fullShare} resU d (m (tLoc d)) (m (dLoc d)) : sProp 𝕄) := by
  rw [uPts_blks]
  refine bigSep_congr fun c _ => bigSep_congr fun i _ => bigSep_congr fun k _ => ?_
  unfold uAt; rw [if_pos (lt_of_lt_of_eq k.isLt t1_trips)]

theorem cores_eq (d : Dev nD) (t : ℕ) : (bigSep Finset.univ fun c : Fin 2 => corePay m d t c)
    = iprop((tLoc d ↦{fullShare} m (tLoc d)) ∗ (sLoc d ↦{fullShare} m (sLoc d)) ∗ (dLoc d ↦{fullShare} m (dLoc d))
      ∗ (bigSep Finset.univ fun c : Fin 2 => bigSep Finset.univ fun i : Fin 16 => oTile m d t c i)
      ∗ bigSep Finset.univ fun c : Fin 2 => bigSep Finset.univ fun i : Fin 16 => uTile m d t c i) := by
  unfold corePay
  rw [bigSep_sep', bigSep_sep', bigSep_sep', bigSep_sep']
  congr 1
  · exact (ShareLeaves.pointsTo_leaves Finset.univ (m (tLoc d)) 1 fullShare).symm
  congr 1
  · exact (ShareLeaves.pointsTo_leaves Finset.univ (m (sLoc d)) 1 fullShare).symm
  congr 1
  exact (ShareLeaves.pointsTo_leaves Finset.univ (m (dLoc d)) 1 fullShare).symm

theorem st0_eq (d : Dev nD) : (bigSep Finset.univ fun c : Fin ((K (F := F)).nCore 0) => (P m).st 0 d c)
    = iprop((tLoc d ↦{fullShare} m (tLoc d)) ∗ (sLoc d ↦{fullShare} m (sLoc d)) ∗ (dLoc d ↦{fullShare} m (dLoc d)) ∗ (oLoc d ↦{fullShare} m (oLoc d)) ∗ (uLoc d ↦{fullShare} m (uLoc d))) := by
  rw [← oTiles_start, ← uTiles_start]; exact cores_eq m d 0
theorem dn0_eq (d : Dev nD) : (bigSep Finset.univ fun c : Fin ((K (F := F)).nCore 0) => (P m).dn 0 d c)
    = iprop((tLoc d ↦{fullShare} m (tLoc d)) ∗ (sLoc d ↦{fullShare} m (sLoc d)) ∗ (dLoc d ↦{fullShare} m (dLoc d))
      ∗ (oLoc d ↦{fullShare} resO d (m (tLoc d)) (m (sLoc d))) ∗ (uLoc d ↦{fullShare} resU d (m (tLoc d)) (m (dLoc d)))) := by
  rw [← oTiles_end, ← uTiles_end]; exact cores_eq m d 25

/-! ## The launch element: the handshakes' rounds -/

def ini : UU := (initOf (K (F := F)).hsCells (K (F := F)).hsToks, 1)

/-- Nothing, any number of times, is nothing. -/
theorem bigSep_nothing {I : Type} (s : Finset I) : (bigSep s fun _ => iprop(emp)) = (iprop(emp) : sProp 𝕄) := bigSep_emp_const s

theorem hu₀ : (ownU (ini (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold ini
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

theorem unscopedBufs_eq (d : Dev nD) (W : (b : Ref sig .tc) → Buf (Elt F) ((d.tc : Thread nD τ).loc b)) :
    (unscopedBufs d W : sProp 𝕄) = iprop((tLoc d ↦{fullShare} W main_arg0) ∗ (sLoc d ↦{fullShare} W main_arg1) ∗ (dLoc d ↦{fullShare} W main_arg2)
      ∗ (oLoc d ↦{fullShare} W main_v0_0) ∗ (uLoc d ↦{fullShare} W main_v0_1)) := by
  unfold unscopedBufs
  rw [show (Finset.univ.filter fun b : Ref sig .tc => ¬ b.isScoped) = {main_arg0, main_arg1, main_arg2, main_v0_0, main_v0_1} by decide,
    SparseCore.bigSep_insert' (by decide), SparseCore.bigSep_insert' (by decide), SparseCore.bigSep_insert' (by decide), SparseCore.bigSep_insert' (by decide), bigSep_singleton]

abbrev FIN (d : Dev nD) : sProp 𝕄 :=
  iprop((tLoc d ↦{fullShare} m (tLoc d)) ∗ (sLoc d ↦{fullShare} m (sLoc d)) ∗ (dLoc d ↦{fullShare} m (dLoc d))
    ∗ (oLoc d ↦{fullShare} resO d (m (tLoc d)) (m (sLoc d))) ∗ (uLoc d ↦{fullShare} resU d (m (tLoc d)) (m (dLoc d))))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (DF (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hall, Hts, -⟩, -⟩
  iapply ((K (F := F)).wp_run (DF (F := F)) 𝒱 (EH := EH) (P := P m) κ d 0) $$ [Hst Hall Hb Hts]
  isplitr; · iexact Hctx
  isplitl [Hst]; · iexact Hst
  isplitl [Hall]
  · rw [st0_eq]
    iexact Hall
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What is read off at the end: the arguments as they were, the results at their values. -/
def fq (d : Dev nD) (s' : Phys nD τ sig (Elt F)) : Prop :=
  s'.mem.mem (oLoc d) = resO d (m (tLoc d)) (m (sLoc d)) ∧ s'.mem.mem (uLoc d) = resU d (m (tLoc d)) (m (dLoc d))
    ∧ s'.mem.mem (tLoc d) = m (tLoc d) ∧ s'.mem.mem (sLoc d) = m (sLoc d) ∧ s'.mem.mem (dLoc d) = m (dLoc d)

/-- An array held whole is what the memory holds there. -/
theorem read_off {ℓ : Loc nD τ sig} (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Ht, Hs, Hd, Ho, Hu⟩, HSI⟩
  ihave H := (read_off (m (tLoc d)) s') $$ [HSI Ht]
  · isplitl [HSI] <;> iassumption
  icases H with ⟨%ht, HSI⟩
  ihave H := (read_off (m (sLoc d)) s') $$ [HSI Hs]
  · isplitl [HSI] <;> iassumption
  icases H with ⟨%hs, HSI⟩
  ihave H := (read_off (m (dLoc d)) s') $$ [HSI Hd]
  · isplitl [HSI] <;> iassumption
  icases H with ⟨%hd, HSI⟩
  ihave H := (read_off (resO d (m (tLoc d)) (m (sLoc d))) s') $$ [HSI Ho]
  · isplitl [HSI] <;> iassumption
  icases H with ⟨%ho, HSI⟩
  ihave H := (read_off (resU d (m (tLoc d)) (m (dLoc d))) s') $$ [HSI Hu]
  · isplitl [HSI] <;> iassumption
  icases H with ⟨%hu, -⟩
  ipureintro; exact ⟨ho, hu, ht, hs, hd⟩

/-! ## The program's run -/

def QC : PUnit × MemSt nD τ sig (Elt F) → Prop := fun r =>
  (∀ d : Dev nD, r.2.mem (oLoc d) = resO d (m (tLoc d)) (m (sLoc d)) ∧ r.2.mem (uLoc d) = resU d (m (tLoc d)) (m (dLoc d))
    ∧ r.2.mem (tLoc d) = m (tLoc d) ∧ r.2.mem (sLoc d) = m (sLoc d) ∧ r.2.mem (dLoc d) = m (dLoc d)) ∧ r.2.sem = fun _ => 0

theorem run_main [∀ e, Nonempty (Elt F e)] (hm : Named m) : θ_run (Cert.GatherIdeal.defs (F := F)) (Cert.GatherIdeal.threads (F := F)) ⟨m, fun _ => 0, ρ⟩ (QC m) :=
  SparseCore.Cfg.θ_run_sc_quiescent (K := K (F := F)) (D := DF (F := F)) (𝒱 := 𝒱) (EH := EH) (P := P m) (A := ∅) facts v₀
    (fun q hq => match q with | 0 => nomatch hq)
    (fun q _ => match q with | 0 => tileObl m hm facts)
    (fun q _ => match q with | 0 => SparseCore.Cfg.VecSplit.of_plain (vecSplit m))
    m ρ main (fun _ => iprop(emp)) (FIN m) (ini (F := F)) (sep_elim_left.trans (hu₀ m)) (hmain m ρ) (fq m) (hfin m) (QC m) (fun _ h hz => ⟨h, hz⟩)

end Cert.Proof.Gat

end
-- ==== Proof.GatValue.lean ====
/-
  The gather call's value: what the precondition says of the words, and the reference's rows, which are the table's rows the words
  name.
-/
module

public import proofs.«01_k».proof.Proof.GatLaunch
public import proofs.«01_k».proof.Pre_named_nodes
public import proofs.«01_k».proof.Proof.Gen.GatherReference
public import Idealize.ShloMosaic.Lib.Routing.Ops
public import Idealize.ShloMosaic.Lib.Pipeline.Value

@[expose] public section

set_option maxRecDepth 16384

noncomputable section

namespace Cert.Proof.Gat

open Idealize.ShloMosaic
open Idealize.ShloMosaic.ValueIdx (ix1 ix2)

variable {F : FTy → Type} [FloatOps F]

/-! ## The precondition -/

theorem pre_facts : Cert.Pre_named_nodes.Facts := ⟨Cert.GatherReference.Gen.facts.bcast_S_S800000⟩

/-- A word at least zero and below 50000, read signed, is below 50000 read unsigned. -/
theorem word_lt (b : BitVec 32) (h0 : IntOp.cmpi .sge b 0#32 = 1#1) (h1 : IntOp.cmpi .slt b 50000#32 = 1#1) : b.toNat < 50000 := by
  have hb : ∀ c : Bool, BitVec.ofBool c = 1#1 → c = true := by decide
  have h0' : (0#32).sle b = true := hb _ h0
  have h1' : b.slt 50000#32 = true := hb _ h1
  simp only [BitVec.sle, BitVec.slt, decide_eq_true_eq] at h0' h1'
  have e0 : (0#32).toInt = 0 := by decide
  have e1 : (50000#32).toInt = 50000 := by decide
  rw [e0] at h0'
  rw [e1] at h1'
  have := b.isLt
  rw [BitVec.toInt_eq_toNat_cond] at h0' h1'
  split at h0' <;> rename_i hc <;> simp only [hc, if_true, if_false] at h1' <;> omega

/-- The precondition, read at one entry of the two lists. -/
theorem pre_words (hp : Cert.Pre_named_nodes.Facts) (X : Cert.GatherIdeal.S50000x16.Idx → F .f32) (A B : Cert.GatherIdeal.S800000.Idx → BitVec 32)
    (h : Cert.Pre_named_nodes.fn (F := F) X A B = fun _ => 1#1) (x : Cert.GatherIdeal.S800000.Idx) : (A x).toNat < 50000 ∧ (B x).toNat < 50000 := by
  have hand : ∀ a b : BitVec 1, IntOp.andi a b = 1#1 → a = 1#1 ∧ b = 1#1 := by decide
  have e : IntOp.andi (IntOp.andi (IntOp.andi (IntOp.cmpi .sge (A x) 0#32) (IntOp.cmpi .slt (A x) 50000#32)) (IntOp.cmpi .sge (B x) 0#32)) (IntOp.cmpi .slt (B x) 50000#32) = 1#1 :=
    congrFun h x
  obtain ⟨e, e3⟩ := hand _ _ e
  obtain ⟨e, e2⟩ := hand _ _ e
  obtain ⟨e0, e1⟩ := hand _ _ e
  exact ⟨word_lt _ e0 e1, word_lt _ e2 e3⟩

/-! ## The reference's rows -/

open Cert.GatherIdeal in
/-- The reference's list of rows: a negative word counted from the end, any other as it is. -/
abbrev refList (hb : (⟨0, ![]⟩ : Shape).BroadcastsInDim S800000 (![] : Fin 0 → Fin S800000.rank)) (W : IVec S800000 32) : IVec S800000 32 :=
  select (cmpi .slt W (broadcastInDim S800000 ![] hb (constantI ⟨0, ![]⟩ 32 0#32))) (addi W (broadcastInDim S800000 ![] hb (constantI ⟨0, ![]⟩ 32 50000#32))) W

open Cert.GatherIdeal in
/-- A word naming a row is not negative, so the list holds it itself. -/
theorem refList_at (hb : (⟨0, ![]⟩ : Shape).BroadcastsInDim S800000 (![] : Fin 0 → Fin S800000.rank)) (W : IVec S800000 32) (x : S800000.Idx)
    (h : (W x).toNat < 50000) : refList hb W x = W x := by
  have e : refList hb W x = Scalar.select (IntOp.cmpi .slt (W x) 0#32) (IntOp.addi (W x) 50000#32) (W x) := rfl
  have hs : IntOp.cmpi .slt (W x) 0#32 = 0#1 := by
    have e0 : (0#32).toInt = 0 := by decide
    have hn : (W x).slt 0#32 = false := by
      simp only [BitVec.slt, decide_eq_false_iff_not]
      rw [e0, BitVec.toInt_eq_toNat_cond]
      split <;> omega
    show BitVec.ofBool ((W x).slt 0#32) = 0#1
    rw [hn]; rfl
  rw [e, hs]
  unfold Scalar.select
  rw [if_neg (by decide)]

open Cert.GatherIdeal in
/-- The reference's gathered rows are the table's rows the words name. -/
theorem refRows_eq (g : GatherDims S50000x16 ⟨2, ![800000, 1]⟩ S800000x16) (hoff : g.offsetDims = [1]) (hcoll : g.collapsedSliceDims = [0])
    (hob : g.operandBatchingDims = []) (hsim : g.startIndexMap = [0]) (hivd : g.indexVectorDim = 1)
    (hb : (⟨0, ![]⟩ : Shape).BroadcastsInDim S800000 (![] : Fin 0 → Fin S800000.rank)) (hc : S800000.BroadcastsInDim ⟨2, ![800000, 1]⟩ (![0] : Fin 1 → Fin 2))
    (X : S50000x16.Idx → F .f32) (W : IVec S800000 32) (h : ∀ x, (W x).toNat < 50000) :
    Host.gather g X (broadcastInDim ⟨2, ![800000, 1]⟩ ![0] hc (refList hb W)) = rowsOf X W := by
  funext y
  obtain ⟨e, c, rfl⟩ : ∃ (e : Fin 800000) (c : Fin 16), y = ix2 e c := ⟨y 0, y 1, ValueIdx.eq_ix2 y⟩
  have hl : broadcastInDim ⟨2, ![800000, 1]⟩ ![0] hc (refList hb W) (ix2 e (0 : Fin 1)) = W (ix1 e) := by
    refine (broadcastInDim_apply _ _ _ _ (ix1 e) ?_).trans (refList_at hb W (ix1 e) (h _))
    intro a; fin_cases a; rfl
  rw [rowsOf_at (F := F) X W e c ⟨_, h (ix1 e)⟩ rfl]
  refine Routing.gather_row g hoff hcoll hob hsim hivd X _ e c ⟨_, h (ix1 e)⟩ ?_ (by omega)
  rw [hl]
  show W (ix1 e) = BitVec.ofNat 32 (W (ix1 e)).toNat
  rw [BitVec.ofNat_toNat, BitVec.setWidth_eq]

end Cert.Proof.Gat

end
-- ==== Proof.RecValue.lean ====
/-
  The records: the kernel's blocks of 5000 nodes against the plain concatenation. The kernel reads a node's scale factor as the sum of
  the four factors against the indicator of the node's scan (`scale`); the reference takes it from the vector. They agree where the
  scan is one of the four (`scale_eq`).
-/
module

public import proofs.«01_k».proof.Defs
public import proofs.«01_k».proof.Proof.Gen.RecordsIdeal.Value
public import proofs.«01_k».proof.Proof.Gen.RecordsReferenceIdeal.Run
public import Idealize.ShloMosaic.Lib.Pipeline.ValueKit
public import Idealize.ShloMosaic.Lib.Claim
public import Idealize.ShloMosaic.Lib.Pointwise
public import Idealize.ShloMosaic.Lib.Routing.OpsSet

@[expose] public section

noncomputable section

namespace Cert.Proof.Rec

open Idealize.ShloMosaic Idealize.ShloMosaic.TcCoe Idealize.SL.Sem

/-- Entry `q` of a node's record, of its features, reflectance, coordinates and scale factor. -/
def entry (x : Fin 8 → EReal) (refl : EReal) (pos : Fin 3 → EReal) (s : EReal) (q : Fin 16) : EReal :=
  if h : q.val < 8 then x ⟨q.val, h⟩
  else if q.val - 8 < 1 then refl
  else if h : q.val - 8 - 1 < 3 then Ideal.div (pos ⟨q.val - 8 - 1, h⟩) s
  else 0

/-- The four factors summed against the indicator of the scan. -/
def scale (b : BitVec 32) (sf : Fin 4 → EReal) : EReal :=
  ∑ k : Fin 4, FloatOps.sitofp (F := Ideal) .f32 (BitVec.setWidth 32 (IntOp.cmpi .eq b (BitVec.ofNat 32 k.val))) * sf k

theorem indicator (b : BitVec 1) : FloatOps.sitofp (F := Ideal) .f32 (BitVec.setWidth 32 b) = if b = 1#1 then (1 : EReal) else 0 := by
  have h : ∀ b : BitVec 1, (BitVec.setWidth 32 b).toInt = if b = 1#1 then 1 else 0 := by decide
  show (((BitVec.setWidth 32 b).toInt : ℝ) : EReal) = _
  rw [h]
  split <;> simp

theorem scale_eq (b : BitVec 32) (sf : Fin 4 → EReal) (k : Fin 4) (h : b = BitVec.ofNat 32 k.val) : scale b sf = sf k := by
  subst h
  unfold scale
  simp only [indicator]
  have e : ∀ i k : Fin 4, (IntOp.cmpi .eq (BitVec.ofNat 32 k.val) (BitVec.ofNat 32 i.val) = 1#1) ↔ i = k := by decide
  simp [e]

section kernel
open Cert.RecordsIdeal Cert.RecordsIdeal.Gen

theorem pay (b : Vec Ideal S5000x1 .i32) (sf : Vec Ideal S4x1 .f32) (pos : Vec Ideal S5000x3 .f32) (x : Vec Ideal S5000x8 .f32) (refl : Vec Ideal S5000x1 .f32)
    (r : Fin 5000) (q : Fin 16) : k0_pay1 b sf pos x refl (ix2 r q)
      = entry (fun j => x (ix2 r j)) (refl (ix2 r 0)) (fun j => pos (ix2 r j)) (scale (b (ix2 r 0)) fun k => sf (ix2 k 0)) q := by
  pointwise [k0_pay1]
  unfold entry scale
  by_cases h0 : q.val < 8
  · rw [dif_pos h0, dif_pos h0]
  · rw [dif_neg h0, dif_neg h0]
    by_cases h1 : q.val - 8 < 1
    · rw [dif_pos h1, if_pos h1]
      exact congrArg (fun j => refl (ix2 r j)) (Fin.ext (by omega))
    · rw [dif_neg h1, if_neg h1]

variable (m : (ℓ : Loc nD τ sig) → Buf (Elt Ideal) ℓ)

/-- Every window's block index (decided over the points). -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0] ∧ win0_4.index t = ![0, 0]
    ∧ win0_5.index t = ![(grid0.coords t 0).val, 0] :=
  (by decide +kernel : ∀ t : Fin grid0.N, _)

theorem row_lt (t : Fin cfg0.N) (r : Fin 5000) : (grid0.coords t 0).val * 5000 + r.val < 50000 := by
  have h : (grid0.coords t 0).val < 10 := (grid0.coords t 0).isLt
  omega

theorem blk0 (c : Dev nD) (t : Fin cfg0.N) (r : Fin 5000) (j : Fin 8) :
    iblk m c 0 t (ix2 r j) = (m (c.tc.loc main_arg0) : FVec Ideal S50000x8 .f32) (ix2 ⟨_, row_lt t r⟩ j) := by
  blk_ext! [iblk, V, idx t]
theorem blk1 (c : Dev nD) (t : Fin cfg0.N) (r : Fin 5000) :
    iblk m c 1 t (ix2 r 0) = (m (c.tc.loc main_arg2) : FVec Ideal S50000 .f32) (ix1 ⟨_, row_lt t r⟩) := by
  blk_ext! [iblk, V, idx t]
theorem blk2 (c : Dev nD) (t : Fin cfg0.N) (r : Fin 5000) (j : Fin 3) :
    iblk m c 2 t (ix2 r j) = (m (c.tc.loc main_arg1) : FVec Ideal S50000x3 .f32) (ix2 ⟨_, row_lt t r⟩ j) := by
  blk_ext! [iblk, V, idx t]
theorem blk3 (c : Dev nD) (t : Fin cfg0.N) (r : Fin 5000) :
    iblk m c 3 t (ix2 r 0) = (m (c.tc.loc main_arg4) : IVec S50000 32) (ix1 ⟨_, row_lt t r⟩) := by
  blk_ext! [iblk, V, idx t]
theorem blk4 (c : Dev nD) (t : Fin cfg0.N) (k : Fin 4) :
    iblk m c 4 t (ix2 k 0) = (m (c.tc.loc main_arg3) : FVec Ideal S4 .f32) (ix1 k) := by
  blk_ext! [iblk, V, idx t]

theorem emb5 (t : Fin cfg0.N) (r : Fin 5000) (q : Fin 16) :
    ((View.whole main_v3).slice (win0_5.rect t)).emb (ix2 r q) = (ix2 ⟨_, row_lt t r⟩ q : S50000x16.Idx) := by
  blk_ext [idx t]

/-- The result array. -/
def out (c : Dev nD) : FVec Ideal S50000x16 .f32 := fun y =>
  entry (fun j => (m (c.tc.loc main_arg0) : FVec Ideal S50000x8 .f32) (ix2 (y 0) j)) ((m (c.tc.loc main_arg2) : FVec Ideal S50000 .f32) (ix1 (y 0)))
    (fun j => (m (c.tc.loc main_arg1) : FVec Ideal S50000x3 .f32) (ix2 (y 0) j))
    (scale ((m (c.tc.loc main_arg4) : IVec S50000 32) (ix1 (y 0))) fun k => (m (c.tc.loc main_arg3) : FVec Ideal S4 .f32) (ix1 k)) (y 1)

theorem final (c : Dev nD) : (dats m 0 c).arrAt 5 cfg0.N = out m c := by
  refine (dats m 0 c).arrAt_eq_of_covers 5 _ (by decide +kernel) fun t hf y => ?_
  blk_simp
  rw [after0_5]
  frame_out
  obtain ⟨r, q, rfl⟩ : ∃ (r : Fin 5000) (q : Fin 16), y = ix2 r q := ⟨y 0, y 1, eq_ix2 y⟩
  refine (pay _ _ _ _ _ r q).trans ?_
  rw [emb5, blk1, blk3, funext (blk0 m c t r), funext (blk2 m c t r), funext (blk4 m c t)]
  rfl

end kernel

section ref
open Cert.RecordsReferenceIdeal Cert.RecordsReferenceIdeal.Gen

/-- The reference's term. -/
def refTerm (x : FVec Ideal S50000x8 .f32) (pos : FVec Ideal S50000x3 .f32) (refl : FVec Ideal S50000 .f32) (sf : FVec Ideal S4 .f32) (b : IVec S50000 32) :
    FVec Ideal S50000x16 .f32 :=
  concatenate S50000x16 1 [⟨S50000x9, concatenate S50000x9 1 [⟨S50000x8, x⟩, ⟨S50000x1, broadcastInDim S50000x1 ![0] bcast_S50000_S50000x1_0 refl⟩] concatenates_S50000x8_S50000x1_S50000x9_d1⟩,
    ⟨S50000x3, Host.divf pos (broadcastInDim S50000x3 ![0, 1] bcast_S50000x1_S50000x3_0_1 (broadcastInDim S50000x1 ![0] bcast_S50000_S50000x1_0
      (Host.gather gather_S4_S50000x1_S50000_n_0_n_n_0_1_1 sf (broadcastInDim S50000x1 ![0] bcast_S50000_S50000x1_0
        (select (cmpi .slt b (broadcastInDim S50000 ![] bcast_S_S50000 (constantI S_ 32 0#32))) (addi b (broadcastInDim S50000 ![] bcast_S_S50000 (constantI S_ 32 4#32))) b)))))⟩,
    ⟨S50000x4, broadcastInDim S50000x4 ![] bcast_S_S50000x4 (constant (F := Ideal) S_ .f32 0x00000000#32)⟩] concatenates_S50000x9_S50000x3_S50000x4_S50000x16_d1

theorem wrap (k : Fin 4) : Scalar.select (IntOp.cmpi .slt (BitVec.ofNat 32 k.val) 0#32) (IntOp.addi (BitVec.ofNat 32 k.val) 4#32) (BitVec.ofNat 32 k.val)
    = BitVec.ofNat 32 k.val := by
  revert k; decide

theorem taken (sf : FVec Ideal S4 .f32) (b : IVec S50000 32) (n : Fin 50000) (k : Fin 4) (hk : b (ix1 n) = BitVec.ofNat 32 k.val) :
    Host.gather gather_S4_S50000x1_S50000_n_0_n_n_0_1_1 sf (broadcastInDim S50000x1 ![0] bcast_S50000_S50000x1_0
      (select (cmpi .slt b (broadcastInDim S50000 ![] bcast_S_S50000 (constantI S_ 32 0#32))) (addi b (broadcastInDim S50000 ![] bcast_S_S50000 (constantI S_ 32 4#32))) b))
      (ix1 n) = sf (ix1 k) := by
  have hi : (broadcastInDim S50000x1 ![0] bcast_S50000_S50000x1_0
      (select (cmpi .slt b (broadcastInDim S50000 ![] bcast_S_S50000 (constantI S_ 32 0#32))) (addi b (broadcastInDim S50000 ![] bcast_S_S50000 (constantI S_ 32 4#32))) b))
      (ix2 n 0) = BitVec.ofNat 32 k.val := by
    pointwise []
    rw [hk]
    exact wrap k
  exact Routing.gather_take1 gather_S4_S50000x1_S50000_n_0_n_n_0_1_1 rfl rfl rfl rfl sf _ n k hi (by omega)

theorem ref (x : FVec Ideal S50000x8 .f32) (pos : FVec Ideal S50000x3 .f32) (refl : FVec Ideal S50000 .f32) (sf : FVec Ideal S4 .f32) (b : IVec S50000 32)
    (n : Fin 50000) (q : Fin 16) (k : Fin 4) (hk : b (ix1 n) = BitVec.ofNat 32 k.val) :
    refTerm x pos refl sf b (ix2 n q) = entry (fun j => x (ix2 n j)) (refl (ix1 n)) (fun j => pos (ix2 n j)) (sf (ix1 k)) q := by
  pointwise [refTerm]
  rw [taken sf b n k hk]
  unfold entry
  by_cases h0 : q.val < 8
  · rw [dif_pos (show q.val < 9 by omega), dif_pos h0, dif_pos h0]
  · by_cases h1 : q.val - 8 < 1
    · rw [dif_pos (show q.val < 9 by omega), dif_neg h0, dif_neg h0, if_pos h1]
    · rw [dif_neg (show ¬ q.val < 9 by omega), dif_neg h0, if_neg h1]
      by_cases h2 : q.val - 9 < 3
      · rw [dif_pos h2, dif_pos (show q.val - 8 - 1 < 3 by omega)]
        exact congrArg (fun j => Ideal.div (pos (ix2 n j)) (sf (ix1 k))) (Fin.ext (by simp only []; omega))
      · rw [dif_neg h2, dif_neg (show ¬ q.val - 8 - 1 < 3 by omega)]

/-! ## The precondition -/

theorem pre_facts : Cert.Pre_named_scans.Facts := ⟨Cert.RecordsReferenceIdeal.Gen.facts.bcast_S_S50000⟩

/-- A word at least zero and below 4, read signed, is one of the four. -/
theorem word_named (b : BitVec 32) (h0 : IntOp.cmpi .sge b 0#32 = 1#1) (h1 : IntOp.cmpi .slt b 4#32 = 1#1) : ∃ k : Fin 4, b = BitVec.ofNat 32 k.val := by
  have hb : ∀ c : Bool, BitVec.ofBool c = 1#1 → c = true := by decide
  have h0' : (0#32).sle b = true := hb _ h0
  have h1' : b.slt 4#32 = true := hb _ h1
  simp only [BitVec.sle, BitVec.slt, decide_eq_true_eq] at h0' h1'
  have e0 : (0#32).toInt = 0 := by decide
  have e1 : (4#32).toInt = 4 := by decide
  rw [e0] at h0'
  rw [e1] at h1'
  have := b.isLt
  have hlt : b.toNat < 4 := by
    rw [BitVec.toInt_eq_toNat_cond] at h0' h1'
    split at h0' <;> rename_i hc <;> simp only [hc, if_true, if_false] at h1' <;> omega
  exact ⟨⟨b.toNat, hlt⟩, by rw [BitVec.ofNat_toNat, BitVec.setWidth_eq]⟩

/-- Under the precondition every node's scan is one of the four. -/
theorem pre_words (hp : Cert.Pre_named_scans.Facts) (x : FVec Ideal S50000x8 .f32) (pos : FVec Ideal S50000x3 .f32) (refl : FVec Ideal S50000 .f32)
    (sf : FVec Ideal S4 .f32) (b : IVec S50000 32) (h : Cert.Pre_named_scans.fn (F := Ideal) x pos refl sf b = fun _ => 1#1) (n : Fin 50000) :
    ∃ k : Fin 4, b (ix1 n) = BitVec.ofNat 32 k.val := by
  have hand : ∀ a b : BitVec 1, IntOp.andi a b = 1#1 → a = 1#1 ∧ b = 1#1 := by decide
  have e : IntOp.andi (IntOp.cmpi .sge (b (ix1 n)) 0#32) (IntOp.cmpi .slt (b (ix1 n)) 4#32) = 1#1 := congrFun h (ix1 n)
  exact word_named _ (hand _ _ e).1 (hand _ _ e).2

instance : Cert.Pre_named_scans.Facts := pre_facts

/-- Under the precondition the reference's term, of the kernel's arguments, is the kernel's array. -/
theorem ref_out (m : (ℓ : Loc Cert.RecordsIdeal.nD Cert.RecordsIdeal.τ Cert.RecordsIdeal.sig) → Buf (Elt Ideal) ℓ) (c : Dev Cert.RecordsIdeal.nD)
    (h : Cert.Pre_named_scans.fn (F := Ideal) (m (c.tc.loc Cert.RecordsIdeal.main_arg0)) (m (c.tc.loc Cert.RecordsIdeal.main_arg1))
      (m (c.tc.loc Cert.RecordsIdeal.main_arg2)) (m (c.tc.loc Cert.RecordsIdeal.main_arg3)) (m (c.tc.loc Cert.RecordsIdeal.main_arg4)) = fun _ => 1#1) :
    refTerm (m (c.tc.loc Cert.RecordsIdeal.main_arg0)) (m (c.tc.loc Cert.RecordsIdeal.main_arg1)) (m (c.tc.loc Cert.RecordsIdeal.main_arg2))
      (m (c.tc.loc Cert.RecordsIdeal.main_arg3)) (m (c.tc.loc Cert.RecordsIdeal.main_arg4)) = out m c := by
  funext y
  obtain ⟨n, q, rfl⟩ : ∃ (n : Fin 50000) (q : Fin 16), y = ix2 n q := ⟨y 0, y 1, eq_ix2 y⟩
  obtain ⟨k, hk⟩ := pre_words pre_facts _ _ _ _ _ h n
  refine (ref _ _ _ _ _ n q k hk).trans ?_
  exact congrArg (fun s => entry _ _ _ s q) (scale_eq _ (fun k => (m (c.tc.loc Cert.RecordsIdeal.main_arg3) : FVec Ideal S4 .f32) (ix1 k)) k hk).symm

end ref
end Cert.Proof.Rec
-- ==== Proof.EdgeValue.lean ====
/-
  The edges' rows: the kernel's two perceptron layers on the gathered records, block by block of 4000 edges, against the same two layers
  on the message [x, reflectance, difference of the coordinates]. Both are one function `mlp` of the first layer's 64 sums. The kernel's
  sums multiply both records by padded weights (`rowK`), the reference's multiply the message (`rowR`); they agree where the coordinates
  of the second record and the weights they meet are real (`row_eq`).
-/
module

public import proofs.«01_k».proof.Defs
public import proofs.«01_k».proof.Proof.Gen.EdgeIdeal.Value
public import proofs.«01_k».proof.Proof.Gen.EdgeReferenceIdeal.Run
public import Idealize.ShloMosaic.Lib.Pipeline.ValueKit
public import Idealize.ShloMosaic.Lib.Claim
public import Idealize.ShloMosaic.Lib.Pointwise
public import Idealize.ShloMosaic.Lib.ReduceAll

@[expose] public section

noncomputable section

namespace Cert.Proof.Edge

open Idealize.ShloMosaic Idealize.ShloMosaic.TcCoe Idealize.SL.Sem

/-! ## The two layers -/

/-- The activation: a value that is not above zero is scaled by the slope's word. -/
def act (y : EReal) : EReal := if 0 < y then y else Ideal.ofBits .f32 0x3C23D70A#32 * y

/-- One output of the two layers, of the first layer's sums `s`. -/
def mlp (s b g h w : Fin 64 → EReal) (b' g' h' : EReal) : EReal :=
  act (∑ x, (act (s x + b x) * g x + h x) * w x + b') * g' + h'

theorem mlp_congr {s b g h w s₂ b₂ g₂ h₂ w₂ : Fin 64 → EReal} {b' g' h' b'₂ g'₂ h'₂ : EReal} (hs : ∀ k, s k = s₂ k) (hb : ∀ k, b k = b₂ k)
    (hg : ∀ k, g k = g₂ k) (hh : ∀ k, h k = h₂ k) (hw : ∀ k, w k = w₂ k) (hb' : b' = b'₂) (hg' : g' = g'₂) (hh' : h' = h'₂) :
    mlp s b g h w b' g' h' = mlp s₂ b₂ g₂ h₂ w₂ b'₂ g'₂ h'₂ := by
  rw [funext hs, funext hb, funext hg, funext hh, funext hw, hb', hg', hh']

/-- `(a - b) * w` splits when `b` and `w` are real. -/
theorem sub_mul_real (a : EReal) (b w : ℝ) : (a - b) * (w : EReal) = a * w + b * (-(w : EReal)) := by
  induction a with
  | coe a => norm_cast; ring
  | top =>
    rw [← EReal.coe_neg, ← EReal.coe_mul, EReal.top_sub_coe]
    rcases lt_trichotomy w 0 with h | h | h
    · rw [EReal.top_mul_coe_of_neg h, EReal.bot_add]
    · subst h; simp
    · rw [EReal.top_mul_coe_of_pos h, EReal.top_add_coe]
  | bot =>
    rw [← EReal.coe_neg, ← EReal.coe_mul, EReal.bot_sub]
    rcases lt_trichotomy w 0 with h | h | h
    · rw [EReal.bot_mul_coe_of_neg h, EReal.top_add_coe]
    · subst h; simp
    · rw [EReal.bot_mul_coe_of_pos h, EReal.bot_add]

/-- The first layer's sum over both records, the weights padded with zeros as the host pads them. -/
def rowK (a b : Fin 16 → EReal) (w : Fin 12 → EReal) : EReal :=
  ∑ j : Fin 16, a j * (if h : j.val < 12 then w ⟨j.val, h⟩ else 0)
    + ∑ j : Fin 16, b j * (if j.val < 9 then 0 else if h : j.val - 9 < 3 then -w ⟨9 + (j.val - 9), by omega⟩ else 0)

/-- The same sum over the message. -/
def rowR (a b : Fin 16 → EReal) (w : Fin 12 → EReal) : EReal :=
  ∑ j : Fin 9, a ⟨j.val, by omega⟩ * w ⟨j.val, by omega⟩
    + ∑ j : Fin 3, (a ⟨9 + j.val, by omega⟩ - b ⟨9 + j.val, by omega⟩) * w ⟨9 + j.val, by omega⟩

theorem row_eq (a b : Fin 16 → EReal) (w : Fin 12 → EReal) (hb : ∀ j : Fin 3, ∃ r : ℝ, b ⟨9 + j.val, by omega⟩ = r)
    (hw : ∀ j : Fin 3, ∃ r : ℝ, w ⟨9 + j.val, by omega⟩ = r) : rowK a b w = rowR a b w := by
  have key (j : Fin 3) : (a ⟨9 + j.val, by omega⟩ - b ⟨9 + j.val, by omega⟩) * w ⟨9 + j.val, by omega⟩
      = a ⟨9 + j.val, by omega⟩ * w ⟨9 + j.val, by omega⟩ + b ⟨9 + j.val, by omega⟩ * -w ⟨9 + j.val, by omega⟩ := by
    obtain ⟨x, hx⟩ := hb j
    obtain ⟨y, hy⟩ := hw j
    rw [hx, hy]
    exact sub_mul_real _ _ _
  unfold rowK rowR
  simp only [key, Fin.sum_univ_succ, Fin.sum_univ_zero]
  simp
  have g : ∀ s0 s1 s2 s3 s4 s5 s6 s7 s8 s9 s10 s11 t0 t1 t2 : EReal,
      s0 + (s1 + (s2 + (s3 + (s4 + (s5 + (s6 + (s7 + (s8 + (s9 + (s10 + s11)))))))))) + (t0 + (t1 + t2))
        = s0 + (s1 + (s2 + (s3 + (s4 + (s5 + (s6 + (s7 + s8))))))) + (s9 + t0 + (s10 + t1 + (s11 + t2))) := by
    intros; ac_rfl
  exact g _ _ _ _ _ _ _ _ _ _ _ _ _ _ _

/-! ## The kernel's result -/

section kernel
open Cert.EdgeIdeal Cert.EdgeIdeal.Gen

/-- What a block's payload is at one of its entries. -/
theorem pay (x0 x1 : Vec Ideal S4000x16 .f32) (x2 x3 : Vec Ideal S16x64 .f32) (v9 v18 v22 : Vec Ideal S1x64 .f32) (x5 : Vec Ideal S64x128 .f32)
    (v28 v37 v41 : Vec Ideal S1x128 .f32) (r : Fin 4000) (q : Fin 128) :
    k0_pay1 (k0_pay2 x0 x2 x1 x3 v9 v18 v22 x5 v28) (k0_pay3 x0 x2 x1 x3 v9 v18 v22 x5 v28) (Scalar.ofBits .f32 0x3C23D70A#32) v37 v41 (ix2 r q)
      = mlp (fun k => ∑ j, x0 (ix2 r j) * x2 (ix2 j k) + ∑ j, x1 (ix2 r j) * x3 (ix2 j k)) (fun k => v9 (ix2 0 k)) (fun k => v18 (ix2 0 k))
          (fun k => v22 (ix2 0 k)) (fun k => x5 (ix2 k q)) (v28 (ix2 0 q)) (v37 (ix2 0 q)) (v41 (ix2 0 q)) := by
  pointwise [k0_pay1, k0_pay2, k0_pay3]
  rfl

variable (m : (ℓ : Loc nD τ sig) → Buf (Elt Ideal) ℓ)

/-! The host's arrays. -/

open Idealize.ShloMosaic.StableHlo in
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

open Idealize.ShloMosaic.StableHlo in
theorem v6a (c : Dev nD) : (V m c main_v6 : FVec Ideal S16x64 .f32) = concatenate (α := EReal) S16x64 0 [⟨S9x64, broadcastInDim S9x64 ![] bcast_S_S9x64 (constant (F := Ideal) S_ .f32 0x00000000#32)⟩, ⟨S3x64, Host.negf (F := Ideal) (φ := .f32) (extractStridedSlice S3x64 ![9, 0] (m (c.tc.loc main_arg2) : FVec Ideal S12x64 .f32) slices_S12x64_S3x64_9_0)⟩, ⟨S4x64, broadcastInDim S4x64 ![] bcast_S_S4x64 (constant (F := Ideal) S_ .f32 0x00000000#32)⟩] concatenates_S9x64_S3x64_S4x64_S16x64_d0 := by
  unfold V hostOps0
  simp only [StableHlo.after_cons, StableHlo.after_nil]
  repeat (first | (rw [nary_result_ne]; rotate_left; decide) | (rw [unary_result_ne]; rotate_left; decide))
  rw [nary3_result]

  try after_results_simp
  rfl
open Idealize.ShloMosaic.StableHlo in
theorem v10a (c : Dev nD) : (V m c main_v10 : FVec Ideal S3x64 .f32) = concatenate S3x64 0 [⟨S1x64, broadcastInDim S1x64 ![1] bcast_S64_S1x64_1 (m (c.tc.loc main_arg3) : FVec Ideal S64 .f32)⟩, ⟨S1x64, broadcastInDim S1x64 ![1] bcast_S64_S1x64_1 (m (c.tc.loc main_arg4) : FVec Ideal S64 .f32)⟩, ⟨S1x64, broadcastInDim S1x64 ![1] bcast_S64_S1x64_1 (m (c.tc.loc main_arg5) : FVec Ideal S64 .f32)⟩] concatenates_S1x64_S1x64_S1x64_S3x64_d0 := by
  unfold V hostOps0
  simp only [StableHlo.after_cons, StableHlo.after_nil]
  repeat (first | (rw [nary_result_ne]; rotate_left; decide) | (rw [unary_result_ne]; rotate_left; decide))
  rw [nary3_result]
  try after_results_simp
  rfl
open Idealize.ShloMosaic.StableHlo in
theorem v14a (c : Dev nD) : (V m c main_v14 : FVec Ideal S3x128 .f32) = concatenate S3x128 0 [⟨S1x128, broadcastInDim S1x128 ![1] bcast_S128_S1x128_1 (m (c.tc.loc main_arg7) : FVec Ideal S128 .f32)⟩, ⟨S1x128, broadcastInDim S1x128 ![1] bcast_S128_S1x128_1 (m (c.tc.loc main_arg8) : FVec Ideal S128 .f32)⟩, ⟨S1x128, broadcastInDim S1x128 ![1] bcast_S128_S1x128_1 (m (c.tc.loc main_arg9) : FVec Ideal S128 .f32)⟩] concatenates_S1x128_S1x128_S1x128_S3x128_d0 := by
  unfold V hostOps0
  simp only [StableHlo.after_cons, StableHlo.after_nil]
  repeat (first | (rw [nary_result_ne]; rotate_left; decide) | (rw [unary_result_ne]; rotate_left; decide))
  rw [nary3_result]
  try after_results_simp
  rfl

/-- The first layer's weights. -/
abbrev W1 (c : Dev nD) : S12x64.Idx → EReal := m (c.tc.loc main_arg2)

theorem v1 (c : Dev nD) (a : Fin 16) (k : Fin 64) : V m c main_v1 (ix2 a k)
    = if h : a.val < 12 then W1 m c (ix2 ⟨a.val, h⟩ k) else (0 : EReal) := by
  entry_read
  pointwise
theorem v6 (c : Dev nD) (a : Fin 16) (k : Fin 64) : V m c main_v6 (ix2 a k)
    = if a.val < 9 then (0 : EReal) else if h : a.val - 9 < 3 then -W1 m c (ix2 ⟨9 + (a.val - 9), by omega⟩ k) else 0 := by
  rw [v6a]
  pointwise
  rfl
theorem v10_0 (c : Dev nD) (k : Fin 64) : V m c main_v10 (ix2 0 k) = (m (c.tc.loc main_arg3) : FVec Ideal S64 .f32) (ix1 k) := by
  rw [v10a]
  pointwise
theorem v10_1 (c : Dev nD) (k : Fin 64) : V m c main_v10 (ix2 1 k) = (m (c.tc.loc main_arg4) : FVec Ideal S64 .f32) (ix1 k) := by
  rw [v10a]
  pointwise
theorem v10_2 (c : Dev nD) (k : Fin 64) : V m c main_v10 (ix2 2 k) = (m (c.tc.loc main_arg5) : FVec Ideal S64 .f32) (ix1 k) := by
  rw [v10a]
  pointwise
theorem v14_0 (c : Dev nD) (k : Fin 128) : V m c main_v14 (ix2 0 k) = (m (c.tc.loc main_arg7) : FVec Ideal S128 .f32) (ix1 k) := by
  rw [v14a]
  pointwise
theorem v14_1 (c : Dev nD) (k : Fin 128) : V m c main_v14 (ix2 1 k) = (m (c.tc.loc main_arg8) : FVec Ideal S128 .f32) (ix1 k) := by
  rw [v14a]
  pointwise
theorem v14_2 (c : Dev nD) (k : Fin 128) : V m c main_v14 (ix2 2 k) = (m (c.tc.loc main_arg9) : FVec Ideal S128 .f32) (ix1 k) := by
  rw [v14a]
  pointwise

/-- Every window's block index (decided over the points). -/
theorem idx : ∀ t : Fin cfg0.N, win0_0.index t = ![(grid0.coords t 0).val, 0] ∧ win0_1.index t = ![(grid0.coords t 0).val, 0]
    ∧ win0_2.index t = ![0, 0] ∧ win0_3.index t = ![0, 0] ∧ win0_4.index t = ![0, 0] ∧ win0_5.index t = ![0, 0]
    ∧ win0_6.index t = ![0, 0] ∧ win0_7.index t = ![(grid0.coords t 0).val, 0] :=
  (by decide +kernel : ∀ t : Fin grid0.N, _)

theorem row_lt (t : Fin cfg0.N) (r : Fin 4000) : (grid0.coords t 0).val * 4000 + r.val < 800000 := by
  have h : (grid0.coords t 0).val < 200 := (grid0.coords t 0).isLt
  omega

theorem blk0 (c : Dev nD) (t : Fin cfg0.N) (r : Fin 4000) (j : Fin 16) :
    iblk m c 0 t (ix2 r j) = (m (c.tc.loc main_arg0) : FVec Ideal S800000x16 .f32) (ix2 ⟨_, row_lt t r⟩ j) := by
  blk_ext! [iblk, V, idx t]
theorem blk1 (c : Dev nD) (t : Fin cfg0.N) (r : Fin 4000) (j : Fin 16) :
    iblk m c 1 t (ix2 r j) = (m (c.tc.loc main_arg1) : FVec Ideal S800000x16 .f32) (ix2 ⟨_, row_lt t r⟩ j) := by
  blk_ext! [iblk, V, idx t]
theorem blk2 (c : Dev nD) (t : Fin cfg0.N) : (iblk m c 2 t : FVec Ideal S16x64 .f32) = V m c main_v1 := by
  funext y
  blk_ext [iblk, idx t]
theorem blk3 (c : Dev nD) (t : Fin cfg0.N) : (iblk m c 3 t : FVec Ideal S16x64 .f32) = V m c main_v6 := by
  funext y
  blk_ext [iblk, idx t]
theorem blk4 (c : Dev nD) (t : Fin cfg0.N) : (iblk m c 4 t : FVec Ideal S3x64 .f32) = V m c main_v10 := by
  funext y
  blk_ext [iblk, idx t]
theorem blk5 (c : Dev nD) (t : Fin cfg0.N) : (iblk m c 5 t : FVec Ideal S64x128 .f32) = m (c.tc.loc main_arg6) := by
  blk_ext! [iblk, V, idx t]
theorem blk6 (c : Dev nD) (t : Fin cfg0.N) : (iblk m c 6 t : FVec Ideal S3x128 .f32) = V m c main_v14 := by
  funext y
  blk_ext [iblk, idx t]

/-! The rows of the stacked vectors. -/

theorem ld3_0 (x : Vec Ideal S3x64 .f32) (k : Fin 64) : View.ld x r0_2 (ix2 0 k) = x (ix2 0 k) := by
  exact View.ld_unit_apply_of x _ _ _ _ _ (Fin.forall_fin_two.2 ⟨rfl, (Nat.zero_add _).symm⟩)
theorem ld3_1 (x : Vec Ideal S3x64 .f32) (k : Fin 64) : View.ld x r0_3 (ix2 0 k) = x (ix2 1 k) := by
  exact View.ld_unit_apply_of x _ _ _ _ _ (Fin.forall_fin_two.2 ⟨rfl, (Nat.zero_add _).symm⟩)
theorem ld3_2 (x : Vec Ideal S3x64 .f32) (k : Fin 64) : View.ld x r0_4 (ix2 0 k) = x (ix2 2 k) := by
  exact View.ld_unit_apply_of x _ _ _ _ _ (Fin.forall_fin_two.2 ⟨rfl, (Nat.zero_add _).symm⟩)
theorem ld7_0 (x : Vec Ideal S3x128 .f32) (k : Fin 128) : View.ld x r0_6 (ix2 0 k) = x (ix2 0 k) := by
  exact View.ld_unit_apply_of x _ _ _ _ _ (Fin.forall_fin_two.2 ⟨rfl, (Nat.zero_add _).symm⟩)
theorem ld7_1 (x : Vec Ideal S3x128 .f32) (k : Fin 128) : View.ld x r0_7 (ix2 0 k) = x (ix2 1 k) := by
  exact View.ld_unit_apply_of x _ _ _ _ _ (Fin.forall_fin_two.2 ⟨rfl, (Nat.zero_add _).symm⟩)
theorem ld7_2 (x : Vec Ideal S3x128 .f32) (k : Fin 128) : View.ld x r0_8 (ix2 0 k) = x (ix2 2 k) := by
  exact View.ld_unit_apply_of x _ _ _ _ _ (Fin.forall_fin_two.2 ⟨rfl, (Nat.zero_add _).symm⟩)

/-- The result array: two layers of the padded sums at every edge and channel. -/
def out (c : Dev nD) : FVec Ideal S800000x128 .f32 := fun y =>
  mlp (fun k => rowK (fun j => (m (c.tc.loc main_arg0) : FVec Ideal S800000x16 .f32) (ix2 (y 0) j))
      (fun j => (m (c.tc.loc main_arg1) : FVec Ideal S800000x16 .f32) (ix2 (y 0) j)) (fun j => W1 m c (ix2 j k)))
    (fun k => (m (c.tc.loc main_arg3) : FVec Ideal S64 .f32) (ix1 k)) (fun k => (m (c.tc.loc main_arg4) : FVec Ideal S64 .f32) (ix1 k))
    (fun k => (m (c.tc.loc main_arg5) : FVec Ideal S64 .f32) (ix1 k)) (fun k => (m (c.tc.loc main_arg6) : FVec Ideal S64x128 .f32) (ix2 k (y 1)))
    ((m (c.tc.loc main_arg7) : FVec Ideal S128 .f32) (ix1 (y 1))) ((m (c.tc.loc main_arg8) : FVec Ideal S128 .f32) (ix1 (y 1)))
    ((m (c.tc.loc main_arg9) : FVec Ideal S128 .f32) (ix1 (y 1)))

theorem emb7 (t : Fin cfg0.N) (r : Fin 4000) (q : Fin 128) :
    ((View.whole main_v15).slice (win0_7.rect t)).emb (ix2 r q) = (ix2 ⟨_, row_lt t r⟩ q : S800000x128.Idx) := by
  blk_ext [idx t]

theorem final (c : Dev nD) : (dats m 0 c).arrAt 7 cfg0.N = out m c := by
  refine (dats m 0 c).arrAt_eq_of_covers 7 _ (by decide +kernel) fun t hf y => ?_
  blk_simp
  rw [after0_7]
  frame_out
  obtain ⟨r, q, rfl⟩ : ∃ (r : Fin 4000) (q : Fin 128), y = ix2 r q := ⟨y 0, y 1, eq_ix2 y⟩
  refine (pay _ _ _ _ _ _ _ _ _ _ _ r q).trans ?_
  rw [emb7]
  rw [blk2, blk3, blk4, blk5, blk6]
  exact mlp_congr
    (fun k => congrArg₂ (· + ·)
      (Finset.sum_congr rfl fun j _ => congrArg₂ (· * ·) (blk0 m c t r j) (v1 m c j k))
      (Finset.sum_congr rfl fun j _ => congrArg₂ (· * ·) (blk1 m c t r j) (v6 m c j k)))
    (fun k => (ld3_0 _ k).trans (v10_0 m c k)) (fun k => (ld3_1 _ k).trans (v10_1 m c k)) (fun k => (ld3_2 _ k).trans (v10_2 m c k))
    (fun _ => rfl) ((ld7_0 _ q).trans (v14_0 m c q)) ((ld7_1 _ q).trans (v14_1 m c q)) ((ld7_2 _ q).trans (v14_2 m c q))

end kernel

section ref
open Cert.EdgeReferenceIdeal Cert.EdgeReferenceIdeal.Gen Cert.EdgeReferenceIdeal.Value

variable (m : (ℓ : Loc nD τ sig) → Buf (Elt Ideal) ℓ)

/-- The reference's result: two layers of the message's sums. -/
theorem ref (c : Dev nD) (n : Fin 800000) (q : Fin 128) : res_out0 m c (ix2 n q)
    = mlp (fun k => rowR (fun j => (m (c.tc.loc main_arg0) : FVec Ideal S800000x16 .f32) (ix2 n j))
        (fun j => (m (c.tc.loc main_arg1) : FVec Ideal S800000x16 .f32) (ix2 n j)) (fun j => (m (c.tc.loc main_arg2) : FVec Ideal S12x64 .f32) (ix2 j k)))
      (fun k => (m (c.tc.loc main_arg3) : FVec Ideal S64 .f32) (ix1 k)) (fun k => (m (c.tc.loc main_arg4) : FVec Ideal S64 .f32) (ix1 k))
      (fun k => (m (c.tc.loc main_arg5) : FVec Ideal S64 .f32) (ix1 k)) (fun k => (m (c.tc.loc main_arg6) : FVec Ideal S64x128 .f32) (ix2 k q))
      ((m (c.tc.loc main_arg7) : FVec Ideal S128 .f32) (ix1 q)) ((m (c.tc.loc main_arg8) : FVec Ideal S128 .f32) (ix1 q))
      ((m (c.tc.loc main_arg9) : FVec Ideal S128 .f32) (ix1 q)) := by
  pointwise [res_main_v34]
  rfl

end ref

/-! ## The precondition -/

theorem pre_facts : Cert.Pre_finite_edges.Facts := by
  constructor <;> decide

/-- A value whose absolute value is below infinity is real. -/
theorem real_of_abs_lt (x : EReal) (h : BitVec.ofBool (decide (FloatOps.absf (F := Ideal) (φ := .f32) x < Ideal.ofBits .f32 0x7F800000#32)) = 1#1) :
    ∃ r : ℝ, x = r := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  induction x with
  | coe r => exact ⟨r, rfl⟩
  | top => simp at h'
  | bot => simp at h'

open Cert.Pre_finite_edges in
/-- The precondition, read at one coordinate of the second record and at one weight. -/
theorem pre_real (hp : Cert.Pre_finite_edges.Facts) (a0 a1 : FVec Ideal S800000x16 .f32) (a2 : FVec Ideal S12x64 .f32) (a3 a4 a5 : FVec Ideal S64 .f32)
    (a6 : FVec Ideal S64x128 .f32) (a7 a8 a9 : FVec Ideal S128 .f32)
    (h : Cert.Pre_finite_edges.fn (F := Ideal) a0 a1 a2 a3 a4 a5 a6 a7 a8 a9 = fun _ => 1#1) :
    (∀ (n : Fin 800000) (j : Fin 3), ∃ r : ℝ, a1 (ix2 n ⟨9 + j.val, by omega⟩) = (r : EReal))
    ∧ ∀ (k : Fin 64) (j : Fin 3), ∃ r : ℝ, a2 (ix2 ⟨9 + j.val, by omega⟩ k) = (r : EReal) := by
  have : Subsingleton S_.Idx := ⟨fun a b => funext fun i => i.elim0⟩
  have h0 := congrFun h (fun i => i.elim0)
  obtain ⟨h1, h2⟩ := IntOp.andi_eq_one.1 h0
  refine ⟨fun n j => ?_, fun k j => ?_⟩
  · have e := Host.reduce_andi_all _ _ _ _ _ h1 (ix2 n j)
    pointwise at e
    exact real_of_abs_lt _ e
  · have e := Host.reduce_andi_all _ _ _ _ _ h2 (ix2 j k)
    pointwise at e
    exact real_of_abs_lt _ e

end Cert.Proof.Edge
-- ==== Proof.TailRun.lean ====
/-
  The run of the tail's program: six regions among stretches of host operations, with the contents of its result.
-/
module

public import proofs.«01_k».proof.Proof.Gen.TailIdeal.Frame

@[expose] public section

set_option maxRecDepth 16384

noncomputable section

namespace Cert.Proof.Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TailIdeal Cert.TailIdeal.Gen

variable {F : FTy → Type} [FloatOps F]
variable (m : (ℓ : Loc nD τ sig) → Buf (Elt F) ℓ) (ρ : Dev nD → PrngReg)

set_option backward.isDefEq.respectTransparency.types false in
/-- The tail's run: its result is what the last boundary holds, and its arguments are as launched. -/
theorem run : θ_run defs (onTc (τ := τ) (main (F := F))) ⟨m, fun _ => 0, ρ⟩ (fun r => ∀ c : Dev nD,
      r.2.mem ((c.tc : Thread nD τ).loc main_v44) = W16 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => fun c =>
      ⟨h c _ (mem_uc main_v44 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c),
       (h c _ (mem_uc main_arg19 (by decide))).trans (W16_main_arg19 m ρ c)⟩)

end Cert.Proof.Tail
-- ==== Proof.TailSpec.lean ====
/-
  The tail's arithmetic. A group norm over 32 groups of consecutive channels is, in the kernel, a scale and a shift made of two sums
  (the group's values and their squares, the groups gathered and spread by 0/1 matrices), and in plain maths the difference from the mean
  over the root of the mean squared difference. On real values the two are one function (`scaled_eq`), and its result is real.
-/
module

public import proofs.«01_k».proof.Defs
public import Idealize.ShloMosaic.PureOps.Ideal

@[expose] public section

noncomputable section

namespace Cert.Proof.Tail

open Idealize.ShloMosaic

/-- The activation: a value that is not above zero is scaled by the slope's word. -/
def act (y : EReal) : EReal := if 0 < y then y else Ideal.ofBits .f32 0x3C23D70A#32 * y

/-- A node without edges has the fill, which reads as zero. -/
def mask (a : EReal) : EReal := if Ideal.ofBits .f32 0xFE967699#32 < a then a else 0

/-- The variance's offset. -/
def eps : EReal := Ideal.ofBits .f32 0x3727C5AC#32

/-- One over the root of the variance, of a group's two sums over `nel` values. -/
def inv (s1 s2 nel : EReal) : EReal := Ideal.div 1 (Ideal.sqrt (Ideal.div s2 nel - Ideal.div s1 nel * Ideal.div s1 nel + eps))

/-- A value scaled and shifted by its group's two sums, the group found by the column `gx` of a 0/1 matrix. -/
def scaled (y : EReal) (s1 s2 : Fin 32 → EReal) (nel : EReal) (gx : Fin 32 → EReal) (g b : EReal) : EReal :=
  y * ((∑ k, inv (s1 k) (s2 k) nel * gx k) * g) + (b - (∑ k, Ideal.div (s1 k) nel * inv (s1 k) (s2 k) nel * gx k) * g)

theorem act_congr {y nel g b g' b' : EReal} {s1 s2 gx s1' s2' : Fin 32 → EReal} (h1 : ∀ k, s1 k = s1' k) (h2 : ∀ k, s2 k = s2' k)
    (hg : g = g') (hb : b = b') : act (scaled y s1 s2 nel gx g b) = act (scaled y s1' s2' nel gx g' b') := by
  rw [funext h1, funext h2, hg, hb]

/-- The sums of the values and of the squares, gathered by a matrix. -/
def sum1 {n c : ℕ} (y : Fin n → Fin c → EReal) (g : Fin c → Fin 32 → EReal) (k : Fin 32) : EReal := ∑ i, ∑ j, y i j * g j k
def sum2 {n c : ℕ} (y : Fin n → Fin c → EReal) (g : Fin c → Fin 32 → EReal) (k : Fin 32) : EReal := ∑ i, ∑ j, y i j * y i j * g j k

/-- The 0/1 matrix of channels and groups, `s` channels to a group. -/
def gmat (s : ℕ) {c : ℕ} (j : Fin c) (k : Fin 32) : EReal := if j.val / s = k.val then 1 else 0

/-- The plain norm: mean, mean squared difference, and the normalised value. -/
def mean {n s c : ℕ} (hc : c = 32 * s) (nel : EReal) (y : Fin n → Fin c → EReal) (k : Fin 32) : EReal :=
  Ideal.div (∑ p : Fin n × Fin s, y p.1 ⟨k.val * s + p.2.val, by have := k.isLt; have := p.2.isLt; subst hc; nlinarith⟩) nel
def vari {n s c : ℕ} (hc : c = 32 * s) (nel : EReal) (y : Fin n → Fin c → EReal) (k : Fin 32) : EReal :=
  Ideal.div (∑ p : Fin n × Fin s, (y p.1 ⟨k.val * s + p.2.val, by have := k.isLt; have := p.2.isLt; subst hc; nlinarith⟩ - mean hc nel y k)
    * (y p.1 ⟨k.val * s + p.2.val, by have := k.isLt; have := p.2.isLt; subst hc; nlinarith⟩ - mean hc nel y k)) nel
def norm {n s c : ℕ} (hc : c = 32 * s) (nel : EReal) (y : Fin n → Fin c → EReal) (g b : Fin c → EReal) (i : Fin n) (q : Fin c) : EReal :=
  Ideal.div (y i q - mean hc nel y ⟨q.val / s, Nat.div_lt_of_lt_mul (by have := q.isLt; rw [Nat.mul_comm]; omega)⟩)
    (Ideal.sqrt (vari hc nel y ⟨q.val / s, Nat.div_lt_of_lt_mul (by have := q.isLt; rw [Nat.mul_comm]; omega)⟩ + eps)) * g q + b q

theorem eps_real : ∃ e : ℝ, 0 < e ∧ eps = (e : EReal) := by
  refine ⟨_, ?_, by unfold eps; simp [Ideal.ofBits, Ideal.ieee]; rfl⟩
  norm_num

theorem nel16 : Ideal.ofBits .f32 0x49435000#32 = ((800000 : ℝ) : EReal) := by
  simp [Ideal.ofBits, Ideal.ieee]
  exact (EReal.coe_mul _ _).symm.trans (congrArg _ (by norm_num))
theorem nel4 : Ideal.ofBits .f32 0x48435000#32 = ((200000 : ℝ) : EReal) := by
  simp [Ideal.ofBits, Ideal.ieee]
  exact (EReal.coe_mul _ _).symm.trans (congrArg _ (by norm_num))
theorem slope_real : ∃ e : ℝ, Ideal.ofBits .f32 0x3C23D70A#32 = (e : EReal) := by
  exact ⟨_, by simp [Ideal.ofBits, Ideal.ieee]; rfl⟩

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem act_real {y : EReal} (h : ∃ r : ℝ, y = r) : ∃ r : ℝ, act y = r := by
  obtain ⟨r, rfl⟩ := h
  obtain ⟨e, he⟩ := slope_real
  unfold act
  split
  · exact ⟨r, rfl⟩
  · exact ⟨e * r, by rw [he, EReal.coe_mul]⟩

/-- A sum over the channels against a column of the matrix is the sum over the group. -/
theorem sum_gmat {s c : ℕ} (hs : 0 < s) (hc : c = 32 * s) (f : Fin c → ℝ) (k : Fin 32) :
    ∑ j, f j * (if j.val / s = k.val then 1 else 0)
      = ∑ p : Fin s, f ⟨k.val * s + p.val, by have := k.isLt; have := p.isLt; subst hc; nlinarith⟩ := by
  subst hc
  simp only [mul_ite, mul_one, mul_zero]
  rw [← Finset.sum_filter]
  symm
  refine Finset.sum_bij (fun p _ => ⟨k.val * s + p.val, by have := k.isLt; have := p.isLt; nlinarith⟩) ?_ ?_ ?_ ?_
  · intro p _
    rw [Finset.mem_filter]
    refine ⟨Finset.mem_univ _, ?_⟩
    show (k.val * s + p.val) / s = k.val
    rw [Nat.mul_comm, Nat.mul_add_div hs, Nat.div_eq_of_lt p.isLt, Nat.add_zero]
  · intro p _ p' _ h
    have := congrArg Fin.val h
    exact Fin.ext (by dsimp only at this; omega)
  · intro j hj
    have hj := (Finset.mem_filter.1 hj).2
    refine ⟨⟨j.val % s, Nat.mod_lt _ hs⟩, Finset.mem_univ _, Fin.ext ?_⟩
    show k.val * s + j.val % s = j.val
    rw [← hj]
    exact Nat.div_add_mod' _ _
  · intro p _
    rfl

/-- The kernel's norm is the plain one, on real values. -/
theorem scaled_real {n s c : ℕ} (hs : 0 < s) (hn : 0 < n) (hc : c = 32 * s) (y : Fin n → Fin c → ℝ) (g : Fin c → ℝ) (i : Fin n) (q : Fin c) :
    ∃ (r : ℝ), ∀ (b : Fin c → EReal),
      scaled (y i q) (sum1 (fun i j => (y i j : EReal)) (gmat s)) (sum2 (fun i j => (y i j : EReal)) (gmat s)) ((n * s : ℝ) : EReal)
        (fun k => gmat s q k) (g q) (b q) = r + b q
      ∧ norm hc ((n * s : ℝ) : EReal) (fun i j => (y i j : EReal)) (fun q => (g q : EReal)) b i q = r + b q := by
  obtain ⟨e, he, hee⟩ := eps_real
  have hN : (0 : ℝ) < n * s := by positivity
  have hN0 : (n * s : ℝ) ≠ 0 := hN.ne'
  have lt : ∀ (k : Fin 32) (p : Fin s), k.val * s + p.val < c := fun k p => by
    have := k.isLt; have := p.isLt; subst hc; nlinarith
  -- the real readings
  let S (k : Fin 32) : ℝ := ∑ p : Fin n × Fin s, y p.1 ⟨k.val * s + p.2.val, lt k p.2⟩
  let S2 (k : Fin 32) : ℝ := ∑ p : Fin n × Fin s, y p.1 ⟨k.val * s + p.2.val, lt k p.2⟩ * y p.1 ⟨k.val * s + p.2.val, lt k p.2⟩
  let M (k : Fin 32) : ℝ := S k * (1 / (n * s))
  let D (k : Fin 32) : ℝ := (∑ p : Fin n × Fin s, (y p.1 ⟨k.val * s + p.2.val, lt k p.2⟩ - M k) * (y p.1 ⟨k.val * s + p.2.val, lt k p.2⟩ - M k)) * (1 / (n * s))
  have hgm (j : Fin c) (k : Fin 32) : (gmat s j k : EReal) = ((if j.val / s = k.val then 1 else 0 : ℝ) : EReal) := by
    unfold gmat; split <;> simp
  have h1 (k : Fin 32) : sum1 (fun i j => (y i j : EReal)) (gmat s) k = (S k : EReal) := by
    unfold sum1
    simp only [hgm, ← EReal.coe_mul, ← coe_sum]
    rw [EReal.coe_eq_coe_iff]
    simp only [S, Fintype.sum_prod_type]
    exact Finset.sum_congr rfl fun i _ => sum_gmat hs hc (fun j => y i j) k
  have h2 (k : Fin 32) : sum2 (fun i j => (y i j : EReal)) (gmat s) k = (S2 k : EReal) := by
    unfold sum2
    simp only [hgm, ← EReal.coe_mul, ← coe_sum]
    rw [EReal.coe_eq_coe_iff]
    simp only [S2, Fintype.sum_prod_type]
    exact Finset.sum_congr rfl fun i _ => sum_gmat hs hc (fun j => y i j * y i j) k
  have hD (k : Fin 32) : S2 k * (1 / (n * s)) - M k * M k = D k := by
    have e1 : D k = (S2 k - 2 * M k * S k + (n * s : ℝ) * (M k * M k)) * (1 / (n * s)) := by
      simp only [D, S2, S]
      congr 1
      have : ∀ p : Fin n × Fin s, (y p.1 ⟨k.val * s + p.2.val, lt k p.2⟩ - M k) * (y p.1 ⟨k.val * s + p.2.val, lt k p.2⟩ - M k)
          = y p.1 ⟨k.val * s + p.2.val, lt k p.2⟩ * y p.1 ⟨k.val * s + p.2.val, lt k p.2⟩ - 2 * M k * y p.1 ⟨k.val * s + p.2.val, lt k p.2⟩ + M k * M k :=
        fun p => by ring
      simp only [this, Finset.sum_add_distrib, Finset.sum_sub_distrib, ← Finset.mul_sum, Finset.sum_const, Finset.card_univ, Fintype.card_prod,
        Fintype.card_fin, nsmul_eq_mul, Nat.cast_mul]
      ring
    have e2 : S k = (n * s : ℝ) * M k := by simp only [M]; field_simp
    rw [e1, e2]
    field_simp
    ring
  have hD0 (k : Fin 32) : 0 ≤ D k := by
    simp only [D]
    exact mul_nonneg (Finset.sum_nonneg fun p _ => mul_self_nonneg _) (by positivity)
  have hsq (k : Fin 32) : 0 < Real.sqrt (D k + e) := Real.sqrt_pos.2 (by have := hD0 k; linarith)
  have hinv (k : Fin 32) : inv (S k : EReal) (S2 k : EReal) ((n * s : ℝ) : EReal) = ((1 / Real.sqrt (D k + e) : ℝ) : EReal) := by
    unfold inv
    rw [Ideal.div_coe hN0, Ideal.div_coe hN0, hee, ← EReal.coe_mul, ← EReal.coe_mul, ← EReal.coe_mul, ← EReal.coe_sub, ← EReal.coe_add]
    rw [show S2 k * (1 / (n * s)) - S k * (1 / (n * s)) * (S k * (1 / (n * s))) = D k from hD k]
    rw [Ideal.sqrt_coe, if_neg (by have := hD0 k; linarith), Ideal.div_coe (hsq k).ne', one_mul]
  have hql : q.val / s < 32 := Nat.div_lt_of_lt_mul (by have := q.isLt; rw [Nat.mul_comm]; omega)
  have hcol (f : Fin 32 → ℝ) : ∑ k, (f k : EReal) * gmat s q k = (f ⟨q.val / s, hql⟩ : EReal) := by
    simp only [hgm, ← EReal.coe_mul, ← coe_sum, mul_ite, mul_one, mul_zero]
    rw [EReal.coe_eq_coe_iff, Finset.sum_eq_single ⟨q.val / s, hql⟩]
    · simp
    · intro k _ hk
      exact if_neg fun h => hk (Fin.ext h.symm)
    · simp
  have hmean (k : Fin 32) : mean hc ((n * s : ℝ) : EReal) (fun i j => (y i j : EReal)) k = (M k : EReal) := by
    unfold mean
    rw [Ideal.div_coe hN0, ← coe_sum, ← EReal.coe_mul]
  have hvari (k : Fin 32) : vari hc ((n * s : ℝ) : EReal) (fun i j => (y i j : EReal)) k = (D k : EReal) := by
    unfold vari
    simp only [hmean, ← EReal.coe_sub, ← EReal.coe_mul]
    rw [Ideal.div_coe hN0, ← coe_sum, ← EReal.coe_mul]
  set κ : Fin 32 := ⟨q.val / s, hql⟩ with hκ
  refine ⟨(y i q - M κ) * (1 / Real.sqrt (D κ + e)) * g q, fun b => ⟨?_, ?_⟩⟩
  · unfold scaled
    simp only [h1, h2, hinv]
    rw [hcol]
    have hm2 (k : Fin 32) : Ideal.div (S k : EReal) ((n * s : ℝ) : EReal) * ((1 / Real.sqrt (D k + e) : ℝ) : EReal)
        = ((M k * (1 / Real.sqrt (D k + e)) : ℝ) : EReal) := by
      rw [Ideal.div_coe hN0, ← EReal.coe_mul, ← EReal.coe_mul]
    simp only [hm2]
    rw [hcol (fun k => M k * (1 / Real.sqrt (D k + e)))]
    rw [← EReal.coe_mul, ← EReal.coe_mul, ← EReal.coe_mul, sub_eq_add_neg, ← EReal.coe_neg, add_comm (b q), ← add_assoc, ← EReal.coe_add]
    congr 2
    ring
  · unfold norm
    rw [← hκ, hmean, hvari, hee, ← EReal.coe_add, Ideal.sqrt_coe, if_neg (by have := hD0 κ; linarith), Ideal.div_coe (hsq κ).ne', ← EReal.coe_sub,
      ← EReal.coe_mul, ← EReal.coe_mul]

/-- The kernel's norm is the plain one where the values and the scale are real. -/
theorem scaled_eq {n s c : ℕ} (hs : 0 < s) (hn : 0 < n) (hc : c = 32 * s) {nel : EReal} (hnel : nel = ((n * s : ℝ) : EReal))
    (y : Fin n → Fin c → EReal) (hy : ∀ i j, ∃ r : ℝ, y i j = r) (g b : Fin c → EReal) (hg : ∀ q, ∃ r : ℝ, g q = r) (i : Fin n) (q : Fin c) :
    scaled (y i q) (sum1 y (gmat s)) (sum2 y (gmat s)) nel (fun k => gmat s q k) (g q) (b q) = norm hc nel y g b i q := by
  choose y' hy' using hy
  choose g' hg' using hg
  obtain rfl : y = fun i j => (y' i j : EReal) := funext fun i => funext fun j => hy' i j
  obtain rfl : g = fun q => (g' q : EReal) := funext hg'
  subst hnel
  obtain ⟨r, h⟩ := scaled_real hs hn hc y' g' i q
  exact (h b).1.trans (h b).2.symm

theorem norm_real {n s c : ℕ} (hs : 0 < s) (hn : 0 < n) (hc : c = 32 * s) {nel : EReal} (hnel : nel = ((n * s : ℝ) : EReal))
    (y : Fin n → Fin c → EReal) (hy : ∀ i j, ∃ r : ℝ, y i j = r) (g b : Fin c → EReal) (hg : ∀ q, ∃ r : ℝ, g q = r)
    (hb : ∀ q, ∃ r : ℝ, b q = r) (i : Fin n) (q : Fin c) : ∃ r : ℝ, norm hc nel y g b i q = r := by
  choose y' hy' using hy
  choose g' hg' using hg
  obtain rfl : y = fun i j => (y' i j : EReal) := funext fun i => funext fun j => hy' i j
  obtain rfl : g = fun q => (g' q : EReal) := funext hg'
  subst hnel
  obtain ⟨r, h⟩ := scaled_real hs hn hc y' g' i q
  obtain ⟨t, ht⟩ := hb q
  exact ⟨r + t, (h b).2.trans (by rw [ht, EReal.coe_add])⟩

/-- Sums of products of real values are real. -/
theorem dot_real {c : ℕ} (a w : Fin c → EReal) (ha : ∀ j, ∃ r : ℝ, a j = r) (hw : ∀ j, ∃ r : ℝ, w j = r) : ∃ r : ℝ, ∑ j, a j * w j = r := by
  choose a' ha' using ha
  choose w' hw' using hw
  exact ⟨∑ j, a' j * w' j, by rw [coe_sum]; exact Finset.sum_congr rfl fun j _ => by rw [ha', hw', EReal.coe_mul]⟩

theorem add_real {a b : EReal} (ha : ∃ r : ℝ, a = r) (hb : ∃ r : ℝ, b = r) : ∃ r : ℝ, a + b = r := by
  obtain ⟨x, rfl⟩ := ha
  obtain ⟨y, rfl⟩ := hb
  exact ⟨x + y, (EReal.coe_add x y).symm⟩

theorem mul_real {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

end Cert.Proof.Tail
-- ==== Proof.TailPlain.lean ====
/-
  The tail in plain maths, of its arguments as functions of row and column.
-/
module

public import proofs.«01_k».proof.Proof.TailSpec

@[expose] public section

noncomputable section

namespace Cert.Proof.Tail

open Idealize.ShloMosaic

/-- The tail's arguments. -/
structure Par where
  a : Fin 50000 → Fin 128 → EReal
  b : Fin 50000 → BitVec 32
  we : Fin 128 → Fin 512 → EReal
  ge : Fin 512 → EReal
  be : Fin 512 → EReal
  wd : Fin 512 → EReal
  bd : Fin 512 → EReal
  g1 : Fin 512 → EReal
  b1 : Fin 512 → EReal
  wp : Fin 512 → Fin 512 → EReal
  bp : Fin 512 → EReal
  g2 : Fin 512 → EReal
  b2 : Fin 512 → EReal
  wr : Fin 512 → Fin 128 → EReal
  gr : Fin 128 → EReal
  br : Fin 128 → EReal
  s1 : Fin 128 → Fin 32 → EReal
  s2 : Fin 32 → Fin 128 → EReal
  wh : Fin 128 → Fin 16 → EReal
  bh : Fin 16 → EReal

/-- The group norms' counts of values, as words. -/
def c16 : EReal := Ideal.ofBits .f32 0x49435000#32
def c4 : EReal := Ideal.ofBits .f32 0x48435000#32

theorem c16_eq : c16 = (((50000 : ℕ) * (16 : ℕ) : ℝ) : EReal) := nel16.trans (congrArg _ (by norm_num))
theorem c4_eq : c4 = (((50000 : ℕ) * (4 : ℕ) : ℝ) : EReal) := nel4.trans (congrArg _ (by norm_num))

/-- A masked row times a column. -/
def mm (a : Fin 50000 → Fin 128 → EReal) (w : Fin 128 → Fin 512 → EReal) (n : Fin 50000) (q : Fin 512) : EReal := ∑ x, mask (a n x) * w x q

/-- The gate of a scan at a channel, of the scan's row of means. -/
def gate (z : Fin 128 → EReal) (s1 : Fin 128 → Fin 32 → EReal) (s2 : Fin 32 → Fin 128 → EReal) (x : Fin 128) : EReal :=
  Ideal.div 1 (1 + Ideal.exp (0 - ∑ j, max (∑ i, z i * s1 i j) 0 * s2 j x))

namespace Par

variable (P : Par)

/-- The expansion, normed; the second layer; its norm; the third; its norm; the projection. -/
def l0 (n : Fin 50000) (q : Fin 512) : EReal := mm P.a P.we n q
def l1 (n : Fin 50000) (q : Fin 512) : EReal := act (norm (n := 50000) (s := 16) rfl c16 P.l0 P.ge P.be n q) * P.wd q + P.bd q
def l2 (n : Fin 50000) (q : Fin 512) : EReal := ∑ x, act (norm (n := 50000) (s := 16) rfl c16 P.l1 P.g1 P.b1 n x) * P.wp x q + P.bp q
def l3 (n : Fin 50000) (q : Fin 128) : EReal := ∑ x, act (norm (n := 50000) (s := 16) rfl c16 P.l2 P.g2 P.b2 n x) * P.wr x q
/-- The residual block's result. -/
def l4 (n : Fin 50000) (q : Fin 128) : EReal := act (norm (n := 50000) (s := 4) rfl c4 P.l3 P.gr P.br n q + mask (P.a n q))
/-- A scan's size and the sums of its nodes. -/
def count (a : Fin 4) : EReal := ∑ n, if P.b n = BitVec.ofNat 32 a.val then 1 else 0
def total (a : Fin 4) (x : Fin 128) : EReal := ∑ n, if P.b n = BitVec.ofNat 32 a.val then P.l4 n x else 0
/-- A scan's gate. -/
def gates (a : Fin 4) (x : Fin 128) : EReal := gate (fun i => Ideal.div (P.total a i) (max (P.count a) 1)) P.s1 P.s2 x
/-- The head. -/
def head (s : Fin 50000 → Fin 4) (n : Fin 50000) (q : Fin 16) : EReal := ∑ x, P.l4 n x * P.gates (s n) x * P.wh x q + P.bh q

/-- The arguments whose norms are read are real. -/
structure Real : Prop where
  a : ∀ n x, ∃ r : ℝ, mask (P.a n x) = r
  we : ∀ n x, ∃ r : ℝ, P.we n x = r
  ge : ∀ x, ∃ r : ℝ, P.ge x = r
  be : ∀ x, ∃ r : ℝ, P.be x = r
  wd : ∀ x, ∃ r : ℝ, P.wd x = r
  bd : ∀ x, ∃ r : ℝ, P.bd x = r
  g1 : ∀ x, ∃ r : ℝ, P.g1 x = r
  b1 : ∀ x, ∃ r : ℝ, P.b1 x = r
  wp : ∀ n x, ∃ r : ℝ, P.wp n x = r
  bp : ∀ x, ∃ r : ℝ, P.bp x = r
  g2 : ∀ x, ∃ r : ℝ, P.g2 x = r
  b2 : ∀ x, ∃ r : ℝ, P.b2 x = r
  wr : ∀ n x, ∃ r : ℝ, P.wr n x = r
  gr : ∀ x, ∃ r : ℝ, P.gr x = r

variable {P}

theorem Real.l0 (h : P.Real) (n : Fin 50000) (q : Fin 512) : ∃ r : ℝ, P.l0 n q = r :=
  dot_real _ _ (fun x => h.a n x) fun x => h.we x q
theorem Real.n0 (h : P.Real) (n : Fin 50000) (q : Fin 512) : ∃ r : ℝ, norm (n := 50000) (s := 16) rfl c16 P.l0 P.ge P.be n q = r :=
  norm_real (by decide) (by decide) rfl c16_eq _ h.l0 _ _ h.ge h.be n q
theorem Real.l1 (h : P.Real) (n : Fin 50000) (q : Fin 512) : ∃ r : ℝ, P.l1 n q = r :=
  add_real (mul_real (act_real (h.n0 n q)) (h.wd q)) (h.bd q)
theorem Real.n1 (h : P.Real) (n : Fin 50000) (q : Fin 512) : ∃ r : ℝ, norm (n := 50000) (s := 16) rfl c16 P.l1 P.g1 P.b1 n q = r :=
  norm_real (by decide) (by decide) rfl c16_eq _ h.l1 _ _ h.g1 h.b1 n q
theorem Real.l2 (h : P.Real) (n : Fin 50000) (q : Fin 512) : ∃ r : ℝ, P.l2 n q = r :=
  add_real (dot_real _ _ (fun x => act_real (h.n1 n x)) fun x => h.wp x q) (h.bp q)
theorem Real.n2 (h : P.Real) (n : Fin 50000) (q : Fin 512) : ∃ r : ℝ, norm (n := 50000) (s := 16) rfl c16 P.l2 P.g2 P.b2 n q = r :=
  norm_real (by decide) (by decide) rfl c16_eq _ h.l2 _ _ h.g2 h.b2 n q
theorem Real.l3 (h : P.Real) (n : Fin 50000) (q : Fin 128) : ∃ r : ℝ, P.l3 n q = r :=
  dot_real _ _ (fun x => act_real (h.n2 n x)) fun x => h.wr x q

end Par

end Cert.Proof.Tail
-- ==== Proof.Tail0.lean ====
/-
  The tail's first region: the masked aggregate times the expansion's weights, and that product's group sums, over 25 blocks of 2000 nodes.
-/
module

public import proofs.«01_k».proof.Proof.TailPlain
public import proofs.«01_k».proof.Proof.Gen.TailIdeal.Frame.Region0
public import Idealize.ShloMosaic.Lib.Pipeline.ValueKit
public import Idealize.ShloMosaic.Lib.Pointwise

@[expose] public section

noncomputable section

namespace Cert.Proof.Tail

open Idealize.ShloMosaic Idealize.ShloMosaic.TcCoe Idealize.SL.Sem
open Cert.TailIdeal Cert.TailIdeal.Gen

/-- The two sums of a region's values, as the region's second result holds them. -/
def stat {c : ℕ} (y : Fin 50000 → Fin c → EReal) (g : Fin c → Fin 32 → EReal) (i : S2x32.Idx) : EReal :=
  if (i 0).val = 0 then sum1 y g (i 1) else sum2 y g (i 1)

theorem row_lt25 (p : Fin 25) (r : Fin 2000) : p.val * 2000 + r.val < 50000 := by omega

/-- A block's part of them. -/
def part {c : ℕ} (y : Fin 50000 → Fin c → EReal) (g : Fin c → Fin 32 → EReal) (p : Fin 25) (i : S2x32.Idx) : EReal :=
  if (i 0).val = 0 then ∑ r : Fin 2000, ∑ j, y ⟨_, row_lt25 p r⟩ j * g j (i 1)
  else ∑ r : Fin 2000, ∑ j, y ⟨_, row_lt25 p r⟩ j * y ⟨_, row_lt25 p r⟩ j * g j (i 1)

theorem sum_part {c : ℕ} (y : Fin 50000 → Fin c → EReal) (g : Fin c → Fin 32 → EReal) (i : S2x32.Idx) : ∑ p : Fin 25, part y g p i = stat y g i := by
  unfold part stat sum1 sum2
  split
  · exact Fin.sum_mul_add_congr (f := fun n => ∑ j, y n j * g j (i 1)) fun s k hl => rfl
  · exact Fin.sum_mul_add_congr (f := fun n => ∑ j, y n j * y n j * g j (i 1)) fun s k hl => rfl

/-! The rows of the two-row arrays. -/

theorem st_0 (x : Vec Ideal S2x32 .f32) (k : Fin 32) : View.ld x (Rect.unit (s := S2x32) ![0, 0] S1x32.size inb_S2x32_S1x32_0_0) (ix2 0 k) = x (ix2 0 k) :=
  View.ld_unit_apply_of x _ _ _ _ _ (Fin.forall_fin_two.2 ⟨rfl, (Nat.zero_add _).symm⟩)
theorem st_1 (x : Vec Ideal S2x32 .f32) (k : Fin 32) : View.ld x (Rect.unit (s := S2x32) ![1, 0] S1x32.size inb_S2x32_S1x32_1_0) (ix2 0 k) = x (ix2 1 k) :=
  View.ld_unit_apply_of x _ _ _ _ _ (Fin.forall_fin_two.2 ⟨rfl, (Nat.zero_add _).symm⟩)
theorem gb_0 (x : Vec Ideal S2x512 .f32) (k : Fin 512) : View.ld x (Rect.unit (s := S2x512) ![0, 0] S1x512.size inb_S2x512_S1x512_0_0) (ix2 0 k) = x (ix2 0 k) :=
  View.ld_unit_apply_of x _ _ _ _ _ (Fin.forall_fin_two.2 ⟨rfl, (Nat.zero_add _).symm⟩)
theorem gb_1 (x : Vec Ideal S2x512 .f32) (k : Fin 512) : View.ld x (Rect.unit (s := S2x512) ![1, 0] S1x512.size inb_S2x512_S1x512_1_0) (ix2 0 k) = x (ix2 1 k) :=
  View.ld_unit_apply_of x _ _ _ _ _ (Fin.forall_fin_two.2 ⟨rfl, (Nat.zero_add _).symm⟩)

theorem row25 (t : Fin cfg0.N) (r : Fin 2000) : t.val * 2000 + r.val < 50000 := by
  have h : t.val < 25 := t.isLt
  omega

theorem pay0 (v0 : Vec Ideal S2000x128 .f32) (v5 : Vec Ideal S128x512 .f32) (r : Fin 2000) (q : Fin 512) :
    k0_pay1 v0 v5 (ix2 r q) = ∑ x, mask (v0 (ix2 r x)) * v5 (ix2 x q) := by
  pointwise [k0_pay1]
  rfl

theorem pay0s0 (v0 : Vec Ideal S2000x128 .f32) (v5 : Vec Ideal S128x512 .f32) (v11 : Vec Ideal S512x32 .f32) (v20 : Vec Ideal S2x32 .f32) (k : Fin 32) :
    k0_pay3 v0 v5 v11 v20 (ix2 0 k) = v20 (ix2 0 k) + ∑ r, ∑ j, k0_pay1 v0 v5 (ix2 r j) * v11 (ix2 j k) := by
  pointwise [k0_pay3]
theorem pay0s1 (v0 : Vec Ideal S2000x128 .f32) (v5 : Vec Ideal S128x512 .f32) (v11 : Vec Ideal S512x32 .f32) (v20 : Vec Ideal S2x32 .f32) (k : Fin 32) :
    k0_pay3 v0 v5 v11 v20 (ix2 1 k) = v20 (ix2 1 k) + ∑ r, ∑ j, k0_pay1 v0 v5 (ix2 r j) * k0_pay1 v0 v5 (ix2 r j) * v11 (ix2 j k) := by
  pointwise [k0_pay3]
theorem pay0z (y : S2x32.Idx) : k0_pay2 (F := Ideal) y = 0 := by
  obtain ⟨a, k, rfl⟩ : ∃ (a : Fin 2) (k : Fin 32), y = ix2 a k := ⟨y 0, y 1, eq_ix2 y⟩
  pointwise [k0_pay2]

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, 0]
    ∧ win0_3.index t = ![t.val, 0] ∧ win0_4.index t = ![0, 0] :=
  (by decide +kernel : ∀ t : Fin grid0.N, _)

theorem blk0_0 (c : Dev nD) (t : Fin cfg0.N) (r : Fin 2000) (j : Fin 128) :
    iblk0 V c 0 t (ix2 r j) = (V c main_arg0 : FVec Ideal S50000x128 .f32) (ix2 ⟨_, row25 t r⟩ j) := by
  blk_ext [iblk0, idx0 t]
theorem blk0_1 (c : Dev nD) (t : Fin cfg0.N) : (iblk0 V c 1 t : FVec Ideal S128x512 .f32) = V c main_arg2 := by
  funext y
  blk_ext [iblk0, idx0 t]
theorem blk0_2 (c : Dev nD) (t : Fin cfg0.N) : (iblk0 V c 2 t : FVec Ideal S512x32 .f32) = V c main_v9 := by
  funext y
  blk_ext [iblk0, idx0 t]
theorem emb0_3 (t : Fin cfg0.N) (r : Fin 2000) (q : Fin 512) :
    ((View.whole main_v21_0).slice (win0_3.rect t)).emb (ix2 r q) = (ix2 ⟨_, row25 t r⟩ q : S50000x512.Idx) := by
  blk_ext [idx0 t]
theorem emb0_4 (t : Fin cfg0.N) (y : S2x32.Idx) :
    ((View.whole main_v21_1).slice (win0_4.rect t)).emb y = y := by
  obtain ⟨a, k, rfl⟩ : ∃ (a : Fin 2) (k : Fin 32), y = ix2 a k := ⟨y 0, y 1, eq_ix2 y⟩
  blk_ext [idx0 t]

/-- The arrays the region reads, by row and column. -/
abbrev A0 (c : Dev nD) (n : Fin 50000) (x : Fin 128) : EReal := (V c main_arg0 : FVec Ideal S50000x128 .f32) (ix2 n x)
abbrev B0 (c : Dev nD) (x : Fin 128) (q : Fin 512) : EReal := (V c main_arg2 : FVec Ideal S128x512 .f32) (ix2 x q)
abbrev G0 (c : Dev nD) (j : Fin 512) (k : Fin 32) : EReal := (V c main_v9 : FVec Ideal S512x32 .f32) (ix2 j k)

theorem raw0_at (c : Dev nD) (t : Fin cfg0.N) (r : Fin 2000) (q : Fin 512) :
    k0_pay1 (iblk0 V c 0 t) (iblk0 V c 1 t) (ix2 r q) = mm (A0 V c) (B0 V c) ⟨_, row25 t r⟩ q := by
  refine (pay0 _ _ r q).trans (Finset.sum_congr rfl fun x _ => ?_)
  rw [blk0_0, blk0_1]

theorem out0A (c : Dev nD) (t : Fin cfg0.N) (h0 : t.val % 25 = 0) :
    outsAt0 V c t.val t.isLt = (k0_pay1 (iblk0 V c 0 t) (iblk0 V c 1 t), k0_pay3 (iblk0 V c 0 t) (iblk0 V c 1 t) (iblk0 V c 2 t) (k0_pay2 (F := Ideal))) := by
  rw [outsAt0_A V c t h0]
  refine Prod.ext ?_ ?_ <;> frame_out
theorem out0B (c : Dev nD) (t : Fin cfg0.N) (h0 : ¬t.val % 25 = 0) :
    outsAt0 V c t.val t.isLt = (k0_pay1 (iblk0 V c 0 t) (iblk0 V c 1 t), k0_pay3 (iblk0 V c 0 t) (iblk0 V c 1 t) (iblk0 V c 2 t)
      (outsAt0 V c (t.val - 1) (Nat.lt_of_le_of_lt (Nat.sub_le _ _) t.isLt)).2) := by
  rw [outsAt0_B V c t h0]
  refine Prod.ext ?_ ?_ <;> frame_out

theorem raw0 (c : Dev nD) : (dat0 V c).arrAt 3 cfg0.N = fun y => mm (A0 V c) (B0 V c) (y 0) (y 1) := by
  refine (dat0 V c).arrAt_eq_of_covers 3 _ (by decide +kernel) fun t hf y => ?_
  blk_simp
  rw [after0_3]
  obtain ⟨r, q, rfl⟩ : ∃ (r : Fin 2000) (q : Fin 512), y = ix2 r q := ⟨y 0, y 1, eq_ix2 y⟩
  have : (outsAt0 V c t.val t.isLt).1 = k0_pay1 (iblk0 V c 0 t) (iblk0 V c 1 t) := by
    by_cases h0 : t.val % 25 = 0
    · rw [out0A V c t h0]
    · rw [out0B V c t h0]
  rw [this, emb0_3]
  exact raw0_at V c t r q

theorem step0 (c : Dev nD) (t : Fin cfg0.N) (acc : Vec Ideal S2x32 .f32) (y : S2x32.Idx) :
    k0_pay3 (iblk0 V c 0 t) (iblk0 V c 1 t) (iblk0 V c 2 t) acc y = acc y + part (mm (A0 V c) (B0 V c)) (G0 V c) ⟨t.val, t.isLt⟩ y := by
  obtain ⟨a, k, rfl⟩ : ∃ (a : Fin 2) (k : Fin 32), y = ix2 a k := ⟨y 0, y 1, eq_ix2 y⟩
  rw [blk0_2]
  fin_cases a
  · refine (pay0s0 _ _ _ _ k).trans (congrArg _ ?_)
    simp only [raw0_at]
    rfl
  · refine (pay0s1 _ _ _ _ k).trans (congrArg _ ?_)
    simp only [raw0_at]
    rfl

theorem st0 (c : Dev nD) : (dat0 V c).arrAt 4 cfg0.N = stat (mm (A0 V c) (B0 V c)) (G0 V c) := by
  refine (dat0 V c).arrAt_eq_of_covers 4 _ (by decide +kernel) fun t hf y => ?_
  blk_simp
  have ht : t.val % 25 = 24 := (flush0_4 t).1 hf
  have ht' : t.val = 24 := by have : t.val < 25 := t.isLt; omega
  rw [after0_4, emb0_4]
  rw [Pipeline.eq_sum_fin_of_reset_step_apply_last (fun n h => (outsAt0 V c n h).2) 25 (fun _ => 0)
    (fun t y => part (mm (A0 V c) (B0 V c)) (G0 V c) ⟨t.val, t.isLt⟩ y)
    (fun t h j => by rw [out0A V c t h]; exact (step0 V c t _ j).trans (by rw [pay0z]))
    (fun t h j => by rw [out0B V c t h]; exact step0 V c t _ j)
    (le_of_eq N_0) t (by rw [ht']; exact N_0.symm) y, zero_add]
  exact sum_part _ _ y

end Cert.Proof.Tail
-- ==== Proof.Tail1.lean ====
/-
  The tail's second region: the normalised and activated product scaled and shifted per channel, and that result's group sums, over 25 blocks of 2000 nodes.
-/
module

public import proofs.«01_k».proof.Proof.Tail0
public import proofs.«01_k».proof.Proof.Gen.TailIdeal.Frame.Region1

@[expose] public section

noncomputable section

namespace Cert.Proof.Tail

open Idealize.ShloMosaic Idealize.ShloMosaic.TcCoe Idealize.SL.Sem
open Cert.TailIdeal Cert.TailIdeal.Gen

/-- The block's values. -/
def block1 (x0 : Vec Ideal S2000x512 .f32) (x1 : Vec Ideal S2x32 .f32) (x2 : Vec Ideal S32x512 .f32) (x3 : Vec Ideal S2x512 .f32) (x4 : Vec Ideal S2x512 .f32) :
    Vec Ideal S2000x512 .f32 :=
  k1_pay1 (k1_pay4 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x512) ![0, 0] S1x512.size inb_S2x512_S1x512_0_0)) (View.ld x3 (Rect.unit (s := S2x512) ![1, 0] S1x512.size inb_S2x512_S1x512_1_0))
      (View.ld x3 (Rect.unit (s := S2x512) ![0, 0] S1x512.size inb_S2x512_S1x512_0_0)) x0)
    (k1_pay5 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x512) ![0, 0] S1x512.size inb_S2x512_S1x512_0_0)) (View.ld x3 (Rect.unit (s := S2x512) ![1, 0] S1x512.size inb_S2x512_S1x512_1_0))
      (View.ld x3 (Rect.unit (s := S2x512) ![0, 0] S1x512.size inb_S2x512_S1x512_0_0)) x0)
    (Scalar.ofBits .f32 0x3C23D70A#32) (View.ld x4 (Rect.unit (s := S2x512) ![0, 0] S1x512.size inb_S2x512_S1x512_0_0)) (View.ld x4 (Rect.unit (s := S2x512) ![1, 0] S1x512.size inb_S2x512_S1x512_1_0))

/-- The block's sums, added to what the blocks before it left. -/
def stats1 (x0 : Vec Ideal S2000x512 .f32) (x1 : Vec Ideal S2x32 .f32) (x2 : Vec Ideal S32x512 .f32) (x3 : Vec Ideal S2x512 .f32) (x4 : Vec Ideal S2x512 .f32)
    (g : Vec Ideal S512x32 .f32) (acc : Vec Ideal S2x32 .f32) : Vec Ideal S2x32 .f32 :=
  k1_pay3 (k1_pay4 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x512) ![0, 0] S1x512.size inb_S2x512_S1x512_0_0)) (View.ld x3 (Rect.unit (s := S2x512) ![1, 0] S1x512.size inb_S2x512_S1x512_1_0))
      (View.ld x3 (Rect.unit (s := S2x512) ![0, 0] S1x512.size inb_S2x512_S1x512_0_0)) x0)
    (k1_pay5 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x512) ![0, 0] S1x512.size inb_S2x512_S1x512_0_0)) (View.ld x3 (Rect.unit (s := S2x512) ![1, 0] S1x512.size inb_S2x512_S1x512_1_0))
      (View.ld x3 (Rect.unit (s := S2x512) ![0, 0] S1x512.size inb_S2x512_S1x512_0_0)) x0)
    (Scalar.ofBits .f32 0x3C23D70A#32) (View.ld x4 (Rect.unit (s := S2x512) ![0, 0] S1x512.size inb_S2x512_S1x512_0_0)) (View.ld x4 (Rect.unit (s := S2x512) ![1, 0] S1x512.size inb_S2x512_S1x512_1_0)) g acc

theorem pay1 (v0 v4 : Vec Ideal S1x32 .f32) (v15 : Vec Ideal S32x512 .f32) (v18 v21 : Vec Ideal S1x512 .f32) (v29 : Vec Ideal S2000x512 .f32)
    (v40 v44 : Vec Ideal S1x512 .f32) (r : Fin 2000) (q : Fin 512) :
    k1_pay1 (k1_pay4 v0 v4 v15 v18 v21 v18 v29) (k1_pay5 v0 v4 v15 v18 v21 v18 v29) (Scalar.ofBits .f32 0x3C23D70A#32) v40 v44 (ix2 r q)
      = act (scaled (v29 (ix2 r q)) (fun k => v0 (ix2 0 k)) (fun k => v4 (ix2 0 k)) (Ideal.ofBits .f32 0x49435000#32) (fun k => v15 (ix2 k q)) (v18 (ix2 0 q)) (v21 (ix2 0 q)))
        * v40 (ix2 0 q) + v44 (ix2 0 q) := by
  pointwise [k1_pay1, k1_pay4, k1_pay5]
  rfl

theorem pay1s0 (v34 : FVec Ideal S2000x512 .f32) (v36 : IVec S2000x512 1) (e : Ideal .f32) (v40 v44 : Vec Ideal S1x512 .f32) (g : Vec Ideal S512x32 .f32) (acc : Vec Ideal S2x32 .f32) (k : Fin 32) :
    k1_pay3 v34 v36 e v40 v44 g acc (ix2 0 k) = acc (ix2 0 k) + ∑ r, ∑ j, k1_pay1 v34 v36 e v40 v44 (ix2 r j) * g (ix2 j k) := by
  pointwise [k1_pay3]
theorem pay1s1 (v34 : FVec Ideal S2000x512 .f32) (v36 : IVec S2000x512 1) (e : Ideal .f32) (v40 v44 : Vec Ideal S1x512 .f32) (g : Vec Ideal S512x32 .f32) (acc : Vec Ideal S2x32 .f32) (k : Fin 32) :
    k1_pay3 v34 v36 e v40 v44 g acc (ix2 1 k)
      = acc (ix2 1 k) + ∑ r, ∑ j, k1_pay1 v34 v36 e v40 v44 (ix2 r j) * k1_pay1 v34 v36 e v40 v44 (ix2 r j) * g (ix2 j k) := by
  pointwise [k1_pay3]
theorem pay1z (y : S2x32.Idx) : k1_pay2 (F := Ideal) y = 0 := by
  obtain ⟨a, k, rfl⟩ : ∃ (a : Fin 2) (k : Fin 32), y = ix2 a k := ⟨y 0, y 1, eq_ix2 y⟩
  pointwise [k1_pay2]

theorem block1_at (x0 : Vec Ideal S2000x512 .f32) (x1 : Vec Ideal S2x32 .f32) (x2 : Vec Ideal S32x512 .f32) (x3 : Vec Ideal S2x512 .f32) (x4 : Vec Ideal S2x512 .f32)
    (r : Fin 2000) (q : Fin 512) :
    block1 x0 x1 x2 x3 x4 (ix2 r q) = act (scaled (x0 (ix2 r q)) (fun k => x1 (ix2 0 k)) (fun k => x1 (ix2 1 k)) (Ideal.ofBits .f32 0x49435000#32) (fun k => x2 (ix2 k q)) (x3 (ix2 0 q)) (x3 (ix2 1 q)))
        * x4 (ix2 0 q) + x4 (ix2 1 q) := by
  exact (pay1 _ _ _ _ _ _ _ _ r q).trans (congrArg₂ (· + ·) (congrArg₂ (· * ·) (act_congr (st_0 x1) (st_1 x1) (gb_0 x3 q) (gb_1 x3 q)) (gb_0 x4 q)) (gb_1 x4 q))

variable (V : (c : Dev nD) → (b : Ref sig .tc) → Buf (Elt Ideal) ((c : Thread nD τ).loc b))

theorem idx1 : ∀ t : Fin cfg1.N, win1_0.index t = ![t.val, 0] ∧ win1_1.index t = ![0, 0] ∧ win1_2.index t = ![0, 0] ∧ win1_3.index t = ![0, 0]
    ∧ win1_4.index t = ![0, 0] ∧ win1_5.index t = ![0, 0] ∧ win1_6.index t = ![t.val, 0] ∧ win1_7.index t = ![0, 0] :=
  (by decide +kernel : ∀ t : Fin grid1.N, _)

/-- The arrays the region reads, by row and column. -/
abbrev R1 (c : Dev nD) (n : Fin 50000) (x : Fin 512) : EReal := (V c main_v21_0 : FVec Ideal S50000x512 .f32) (ix2 n x)
abbrev St1 (c : Dev nD) (a : Fin 2) (k : Fin 32) : EReal := (V c main_v21_1 : FVec Ideal S2x32 .f32) (ix2 a k)
abbrev Gx1 (c : Dev nD) (k : Fin 32) (q : Fin 512) : EReal := (V c main_v19 : FVec Ideal S32x512 .f32) (ix2 k q)
abbrev Gb1 (c : Dev nD) (a : Fin 2) (q : Fin 512) : EReal := (V c main_v24 : FVec Ideal S2x512 .f32) (ix2 a q)
abbrev Ab1 (c : Dev nD) (a : Fin 2) (q : Fin 512) : EReal := (V c main_v27 : FVec Ideal S2x512 .f32) (ix2 a q)
abbrev G1 (c : Dev nD) (j : Fin 512) (k : Fin 32) : EReal := (V c main_v9 : FVec Ideal S512x32 .f32) (ix2 j k)

/-- The region's values. -/
def y1 (c : Dev nD) (n : Fin 50000) (q : Fin 512) : EReal := act (scaled (R1 V c n q) (St1 V c 0) (St1 V c 1) (Ideal.ofBits .f32 0x49435000#32) (fun k => Gx1 V c k q) (Gb1 V c 0 q) (Gb1 V c 1 q))
  * Ab1 V c 0 q + Ab1 V c 1 q

theorem blk1_0 (c : Dev nD) (t : Fin cfg1.N) (r : Fin 2000) (j : Fin 512) :
    iblk1 V c 0 t (ix2 r j) = (V c main_v21_0 : FVec Ideal S50000x512 .f32) (ix2 ⟨_, row_lt25 ⟨t.val, t.isLt⟩ r⟩ j) := by
  blk_ext [iblk1, idx1 t]
theorem blk1_1 (c : Dev nD) (t : Fin cfg1.N) : (iblk1 V c 1 t : FVec Ideal S2x32 .f32) = V c main_v21_1 := by
  funext y
  blk_ext [iblk1, idx1 t]
theorem blk1_2 (c : Dev nD) (t : Fin cfg1.N) : (iblk1 V c 2 t : FVec Ideal S32x512 .f32) = V c main_v19 := by
  funext y
  blk_ext [iblk1, idx1 t]
theorem blk1_3 (c : Dev nD) (t : Fin cfg1.N) : (iblk1 V c 3 t : FVec Ideal S2x512 .f32) = V c main_v24 := by
  funext y
  blk_ext [iblk1, idx1 t]
theorem blk1_4 (c : Dev nD) (t : Fin cfg1.N) : (iblk1 V c 4 t : FVec Ideal S2x512 .f32) = V c main_v27 := by
  funext y
  blk_ext [iblk1, idx1 t]
theorem blk1_5 (c : Dev nD) (t : Fin cfg1.N) : (iblk1 V c 5 t : FVec Ideal S512x32 .f32) = V c main_v9 := by
  funext y
  blk_ext [iblk1, idx1 t]

theorem emb1_6 (t : Fin cfg1.N) (r : Fin 2000) (q : Fin 512) :
    ((View.whole main_v28_0).slice (win1_6.rect t)).emb (ix2 r q) = (ix2 ⟨_, row_lt25 ⟨t.val, t.isLt⟩ r⟩ q : S50000x512.Idx) := by
  blk_ext [idx1 t]
theorem emb1_7 (t : Fin cfg1.N) (y : S2x32.Idx) :
    ((View.whole main_v28_1).slice (win1_7.rect t)).emb y = y := by
  obtain ⟨a, k, rfl⟩ : ∃ (a : Fin 2) (k : Fin 32), y = ix2 a k := ⟨y 0, y 1, eq_ix2 y⟩
  blk_ext [idx1 t]

/-- The block of a point. -/
abbrev b1 (c : Dev nD) (t : Fin cfg1.N) : Vec Ideal S2000x512 .f32 := block1 (iblk1 V c 0 t) (iblk1 V c 1 t) (iblk1 V c 2 t) (iblk1 V c 3 t) (iblk1 V c 4 t)
abbrev s1 (c : Dev nD) (t : Fin cfg1.N) (acc : Vec Ideal S2x32 .f32) : Vec Ideal S2x32 .f32 :=
  stats1 (iblk1 V c 0 t) (iblk1 V c 1 t) (iblk1 V c 2 t) (iblk1 V c 3 t) (iblk1 V c 4 t) (iblk1 V c 5 t) acc

theorem b1_at (c : Dev nD) (t : Fin cfg1.N) (r : Fin 2000) (q : Fin 512) : b1 V c t (ix2 r q) = y1 V c ⟨_, row_lt25 ⟨t.val, t.isLt⟩ r⟩ q := by
  refine (block1_at _ _ _ _ _ r q).trans ?_
  simp only [blk1_0, blk1_1, blk1_2, blk1_3, blk1_4]
  rfl

theorem out1A (c : Dev nD) (t : Fin cfg1.N) (h0 : t.val % 25 = 0) : outsAt1 V c t.val t.isLt = (b1 V c t, s1 V c t (k1_pay2 (F := Ideal))) := by
  rw [outsAt1_A V c t h0]
  refine Prod.ext ?_ ?_ <;> frame_out <;> rfl
theorem out1B (c : Dev nD) (t : Fin cfg1.N) (h0 : ¬t.val % 25 = 0) : outsAt1 V c t.val t.isLt
    = (b1 V c t, s1 V c t (outsAt1 V c (t.val - 1) (Nat.lt_of_le_of_lt (Nat.sub_le _ _) t.isLt)).2) := by
  rw [outsAt1_B V c t h0]
  refine Prod.ext ?_ ?_ <;> frame_out <;> rfl

theorem raw1 (c : Dev nD) : (dat1 V c).arrAt 6 cfg1.N = fun y => y1 V c (y 0) (y 1) := by
  refine (dat1 V c).arrAt_eq_of_covers 6 _ (by decide +kernel) fun t hf y => ?_
  blk_simp
  rw [after1_6]
  obtain ⟨r, q, rfl⟩ : ∃ (r : Fin 2000) (q : Fin 512), y = ix2 r q := ⟨y 0, y 1, eq_ix2 y⟩
  have : (outsAt1 V c t.val t.isLt).1 = b1 V c t := by
    by_cases h0 : t.val % 25 = 0
    · rw [out1A V c t h0]
    · rw [out1B V c t h0]
  rw [this, emb1_6]
  exact b1_at V c t r q

theorem step1 (c : Dev nD) (t : Fin cfg1.N) (acc : Vec Ideal S2x32 .f32) (y : S2x32.Idx) :
    s1 V c t acc y = acc y + part (y1 V c) (G1 V c) ⟨t.val, t.isLt⟩ y := by
  obtain ⟨a, k, rfl⟩ : ∃ (a : Fin 2) (k : Fin 32), y = ix2 a k := ⟨y 0, y 1, eq_ix2 y⟩
  unfold s1
  rw [blk1_5]
  fin_cases a
  · refine (pay1s0 _ _ _ _ _ _ _ k).trans (congrArg _ ?_)
    exact Finset.sum_congr rfl fun r _ => Finset.sum_congr rfl fun j _ => congrArg₂ (· * ·) (b1_at V c t r j) rfl
  · refine (pay1s1 _ _ _ _ _ _ _ k).trans (congrArg _ ?_)
    exact Finset.sum_congr rfl fun r _ => Finset.sum_congr rfl fun j _ =>
      congrArg₂ (· * ·) (congrArg₂ (· * ·) (b1_at V c t r j) (b1_at V c t r j)) rfl

theorem st1 (c : Dev nD) : (dat1 V c).arrAt 7 cfg1.N = stat (y1 V c) (G1 V c) := by
  refine (dat1 V c).arrAt_eq_of_covers 7 _ (by decide +kernel) fun t hf y => ?_
  blk_simp
  have ht : t.val % 25 = 24 := (flush1_7 t).1 hf
  have ht' : t.val = 24 := by have : t.val < 25 := t.isLt; omega
  rw [after1_7, emb1_7]
  rw [Pipeline.eq_sum_fin_of_reset_step_apply_last (fun n h => (outsAt1 V c n h).2) 25 (fun _ => 0)
    (fun t y => part (y1 V c) (G1 V c) ⟨t.val, t.isLt⟩ y)
    (fun t h j => by rw [out1A V c t h]; exact (step1 V c t _ j).trans (by rw [pay1z]))
    (fun t h j => by rw [out1B V c t h]; exact step1 V c t _ j)
    (le_of_eq N_1) t (by rw [ht']; exact N_1.symm) y, zero_add]
  exact sum_part _ _ y

end Cert.Proof.Tail
-- ==== Proof.Tail2.lean ====
/-
  The tail's third region: the normalised and activated values times weights, with a bias, and that result's group sums, over 25 blocks of 2000 nodes.
-/
module

public import proofs.«01_k».proof.Proof.Tail0
public import proofs.«01_k».proof.Proof.Gen.TailIdeal.Frame.Region2

@[expose] public section

noncomputable section

namespace Cert.Proof.Tail

open Idealize.ShloMosaic Idealize.ShloMosaic.TcCoe Idealize.SL.Sem
open Cert.TailIdeal Cert.TailIdeal.Gen

/-- The block's values. -/
def block2 (x0 : Vec Ideal S2000x512 .f32) (x1 : Vec Ideal S2x32 .f32) (x2 : Vec Ideal S32x512 .f32) (x3 : Vec Ideal S2x512 .f32) (x4 : Vec Ideal S512x512 .f32) (x5 : Vec Ideal S1x512 .f32) :
    Vec Ideal S2000x512 .f32 :=
  k2_pay1 (k2_pay4 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x512) ![0, 0] S1x512.size inb_S2x512_S1x512_0_0)) (View.ld x3 (Rect.unit (s := S2x512) ![1, 0] S1x512.size inb_S2x512_S1x512_1_0))
      (View.ld x3 (Rect.unit (s := S2x512) ![0, 0] S1x512.size inb_S2x512_S1x512_0_0)) x0)
    (k2_pay5 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x512) ![0, 0] S1x512.size inb_S2x512_S1x512_0_0)) (View.ld x3 (Rect.unit (s := S2x512) ![1, 0] S1x512.size inb_S2x512_S1x512_1_0))
      (View.ld x3 (Rect.unit (s := S2x512) ![0, 0] S1x512.size inb_S2x512_S1x512_0_0)) x0)
    (Scalar.ofBits .f32 0x3C23D70A#32) x4 x5

/-- The block's sums, added to what the blocks before it left. -/
def stats2 (x0 : Vec Ideal S2000x512 .f32) (x1 : Vec Ideal S2x32 .f32) (x2 : Vec Ideal S32x512 .f32) (x3 : Vec Ideal S2x512 .f32) (x4 : Vec Ideal S512x512 .f32) (x5 : Vec Ideal S1x512 .f32)
    (g : Vec Ideal S512x32 .f32) (acc : Vec Ideal S2x32 .f32) : Vec Ideal S2x32 .f32 :=
  k2_pay3 (k2_pay4 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x512) ![0, 0] S1x512.size inb_S2x512_S1x512_0_0)) (View.ld x3 (Rect.unit (s := S2x512) ![1, 0] S1x512.size inb_S2x512_S1x512_1_0))
      (View.ld x3 (Rect.unit (s := S2x512) ![0, 0] S1x512.size inb_S2x512_S1x512_0_0)) x0)
    (k2_pay5 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x512) ![0, 0] S1x512.size inb_S2x512_S1x512_0_0)) (View.ld x3 (Rect.unit (s := S2x512) ![1, 0] S1x512.size inb_S2x512_S1x512_1_0))
      (View.ld x3 (Rect.unit (s := S2x512) ![0, 0] S1x512.size inb_S2x512_S1x512_0_0)) x0)
    (Scalar.ofBits .f32 0x3C23D70A#32) x4 x5 g acc

theorem pay2 (v0 v4 : Vec Ideal S1x32 .f32) (v15 : Vec Ideal S32x512 .f32) (v18 v21 : Vec Ideal S1x512 .f32) (v29 : Vec Ideal S2000x512 .f32)
    (v40 : Vec Ideal S512x512 .f32) (v44 : Vec Ideal S1x512 .f32) (r : Fin 2000) (q : Fin 512) :
    k2_pay1 (k2_pay4 v0 v4 v15 v18 v21 v18 v29) (k2_pay5 v0 v4 v15 v18 v21 v18 v29) (Scalar.ofBits .f32 0x3C23D70A#32) v40 v44 (ix2 r q)
      = ∑ x, act (scaled (v29 (ix2 r x)) (fun k => v0 (ix2 0 k)) (fun k => v4 (ix2 0 k)) (Ideal.ofBits .f32 0x49435000#32) (fun k => v15 (ix2 k x)) (v18 (ix2 0 x)) (v21 (ix2 0 x)))
        * v40 (ix2 x q) + v44 (ix2 0 q) := by
  pointwise [k2_pay1, k2_pay4, k2_pay5]
  rfl

theorem pay2s0 (v34 : FVec Ideal S2000x512 .f32) (v36 : IVec S2000x512 1) (e : Ideal .f32) (v40 : Vec Ideal S512x512 .f32) (v44 : Vec Ideal S1x512 .f32) (g : Vec Ideal S512x32 .f32) (acc : Vec Ideal S2x32 .f32) (k : Fin 32) :
    k2_pay3 v34 v36 e v40 v44 g acc (ix2 0 k) = acc (ix2 0 k) + ∑ r, ∑ j, k2_pay1 v34 v36 e v40 v44 (ix2 r j) * g (ix2 j k) := by
  pointwise [k2_pay3]
theorem pay2s1 (v34 : FVec Ideal S2000x512 .f32) (v36 : IVec S2000x512 1) (e : Ideal .f32) (v40 : Vec Ideal S512x512 .f32) (v44 : Vec Ideal S1x512 .f32) (g : Vec Ideal S512x32 .f32) (acc : Vec Ideal S2x32 .f32) (k : Fin 32) :
    k2_pay3 v34 v36 e v40 v44 g acc (ix2 1 k)
      = acc (ix2 1 k) + ∑ r, ∑ j, k2_pay1 v34 v36 e v40 v44 (ix2 r j) * k2_pay1 v34 v36 e v40 v44 (ix2 r j) * g (ix2 j k) := by
  pointwise [k2_pay3]
theorem pay2z (y : S2x32.Idx) : k2_pay2 (F := Ideal) y = 0 := by
  obtain ⟨a, k, rfl⟩ : ∃ (a : Fin 2) (k : Fin 32), y = ix2 a k := ⟨y 0, y 1, eq_ix2 y⟩
  pointwise [k2_pay2]

theorem block2_at (x0 : Vec Ideal S2000x512 .f32) (x1 : Vec Ideal S2x32 .f32) (x2 : Vec Ideal S32x512 .f32) (x3 : Vec Ideal S2x512 .f32) (x4 : Vec Ideal S512x512 .f32) (x5 : Vec Ideal S1x512 .f32)
    (r : Fin 2000) (q : Fin 512) :
    block2 x0 x1 x2 x3 x4 x5 (ix2 r q) = ∑ x, act (scaled (x0 (ix2 r x)) (fun k => x1 (ix2 0 k)) (fun k => x1 (ix2 1 k)) (Ideal.ofBits .f32 0x49435000#32) (fun k => x2 (ix2 k x)) (x3 (ix2 0 x)) (x3 (ix2 1 x)))
        * x4 (ix2 x q) + x5 (ix2 0 q) := by
  exact (pay2 _ _ _ _ _ _ _ _ r q).trans (congrArg₂ (· + ·) (Finset.sum_congr rfl fun x _ => congrArg₂ (· * ·) (act_congr (st_0 x1) (st_1 x1) (gb_0 x3 x) (gb_1 x3 x)) rfl) rfl)

variable (V : (c : Dev nD) → (b : Ref sig .tc) → Buf (Elt Ideal) ((c : Thread nD τ).loc b))

theorem idx2 : ∀ t : Fin cfg2.N, win2_0.index t = ![t.val, 0] ∧ win2_1.index t = ![0, 0] ∧ win2_2.index t = ![0, 0] ∧ win2_3.index t = ![0, 0]
    ∧ win2_4.index t = ![0, 0] ∧ win2_5.index t = ![0, 0] ∧ win2_6.index t = ![0, 0] ∧ win2_7.index t = ![t.val, 0] ∧ win2_8.index t = ![0, 0] :=
  (by decide +kernel : ∀ t : Fin grid2.N, _)

/-- The arrays the region reads, by row and column. -/
abbrev R2 (c : Dev nD) (n : Fin 50000) (x : Fin 512) : EReal := (V c main_v28_0 : FVec Ideal S50000x512 .f32) (ix2 n x)
abbrev St2 (c : Dev nD) (a : Fin 2) (k : Fin 32) : EReal := (V c main_v28_1 : FVec Ideal S2x32 .f32) (ix2 a k)
abbrev Gx2 (c : Dev nD) (k : Fin 32) (q : Fin 512) : EReal := (V c main_v19 : FVec Ideal S32x512 .f32) (ix2 k q)
abbrev Gb2 (c : Dev nD) (a : Fin 2) (q : Fin 512) : EReal := (V c main_v31 : FVec Ideal S2x512 .f32) (ix2 a q)
abbrev Wt2 (c : Dev nD) (x : Fin 512) (q : Fin 512) : EReal := (V c main_arg9 : FVec Ideal S512x512 .f32) (ix2 x q)
abbrev Bs2 (c : Dev nD) (q : Fin 512) : EReal := (V c main_v32 : FVec Ideal S1x512 .f32) (ix2 0 q)
abbrev G2 (c : Dev nD) (j : Fin 512) (k : Fin 32) : EReal := (V c main_v9 : FVec Ideal S512x32 .f32) (ix2 j k)

/-- The region's values. -/
def y2 (c : Dev nD) (n : Fin 50000) (q : Fin 512) : EReal := ∑ x, act (scaled (R2 V c n x) (St2 V c 0) (St2 V c 1) (Ideal.ofBits .f32 0x49435000#32) (fun k => Gx2 V c k x) (Gb2 V c 0 x) (Gb2 V c 1 x))
  * Wt2 V c x q + Bs2 V c q

theorem blk2_0 (c : Dev nD) (t : Fin cfg2.N) (r : Fin 2000) (j : Fin 512) :
    iblk2 V c 0 t (ix2 r j) = (V c main_v28_0 : FVec Ideal S50000x512 .f32) (ix2 ⟨_, row_lt25 ⟨t.val, t.isLt⟩ r⟩ j) := by
  blk_ext [iblk2, idx2 t]
theorem blk2_1 (c : Dev nD) (t : Fin cfg2.N) : (iblk2 V c 1 t : FVec Ideal S2x32 .f32) = V c main_v28_1 := by
  funext y
  blk_ext [iblk2, idx2 t]
theorem blk2_2 (c : Dev nD) (t : Fin cfg2.N) : (iblk2 V c 2 t : FVec Ideal S32x512 .f32) = V c main_v19 := by
  funext y
  blk_ext [iblk2, idx2 t]
theorem blk2_3 (c : Dev nD) (t : Fin cfg2.N) : (iblk2 V c 3 t : FVec Ideal S2x512 .f32) = V c main_v31 := by
  funext y
  blk_ext [iblk2, idx2 t]
theorem blk2_4 (c : Dev nD) (t : Fin cfg2.N) : (iblk2 V c 4 t : FVec Ideal S512x512 .f32) = V c main_arg9 := by
  funext y
  blk_ext [iblk2, idx2 t]
theorem blk2_5 (c : Dev nD) (t : Fin cfg2.N) : (iblk2 V c 5 t : FVec Ideal S1x512 .f32) = V c main_v32 := by
  funext y
  blk_ext [iblk2, idx2 t]
theorem blk2_6 (c : Dev nD) (t : Fin cfg2.N) : (iblk2 V c 6 t : FVec Ideal S512x32 .f32) = V c main_v9 := by
  funext y
  blk_ext [iblk2, idx2 t]

theorem emb2_7 (t : Fin cfg2.N) (r : Fin 2000) (q : Fin 512) :
    ((View.whole main_v33_0).slice (win2_7.rect t)).emb (ix2 r q) = (ix2 ⟨_, row_lt25 ⟨t.val, t.isLt⟩ r⟩ q : S50000x512.Idx) := by
  blk_ext [idx2 t]
theorem emb2_8 (t : Fin cfg2.N) (y : S2x32.Idx) :
    ((View.whole main_v33_1).slice (win2_8.rect t)).emb y = y := by
  obtain ⟨a, k, rfl⟩ : ∃ (a : Fin 2) (k : Fin 32), y = ix2 a k := ⟨y 0, y 1, eq_ix2 y⟩
  blk_ext [idx2 t]

/-- The block of a point. -/
abbrev b2 (c : Dev nD) (t : Fin cfg2.N) : Vec Ideal S2000x512 .f32 := block2 (iblk2 V c 0 t) (iblk2 V c 1 t) (iblk2 V c 2 t) (iblk2 V c 3 t) (iblk2 V c 4 t) (iblk2 V c 5 t)
abbrev s2 (c : Dev nD) (t : Fin cfg2.N) (acc : Vec Ideal S2x32 .f32) : Vec Ideal S2x32 .f32 :=
  stats2 (iblk2 V c 0 t) (iblk2 V c 1 t) (iblk2 V c 2 t) (iblk2 V c 3 t) (iblk2 V c 4 t) (iblk2 V c 5 t) (iblk2 V c 6 t) acc

theorem b2_at (c : Dev nD) (t : Fin cfg2.N) (r : Fin 2000) (q : Fin 512) : b2 V c t (ix2 r q) = y2 V c ⟨_, row_lt25 ⟨t.val, t.isLt⟩ r⟩ q := by
  refine (block2_at _ _ _ _ _ _ r q).trans ?_
  simp only [blk2_0, blk2_1, blk2_2, blk2_3, blk2_4, blk2_5]
  rfl

theorem out2A (c : Dev nD) (t : Fin cfg2.N) (h0 : t.val % 25 = 0) : outsAt2 V c t.val t.isLt = (b2 V c t, s2 V c t (k2_pay2 (F := Ideal))) := by
  rw [outsAt2_A V c t h0]
  refine Prod.ext ?_ ?_ <;> frame_out <;> rfl
theorem out2B (c : Dev nD) (t : Fin cfg2.N) (h0 : ¬t.val % 25 = 0) : outsAt2 V c t.val t.isLt
    = (b2 V c t, s2 V c t (outsAt2 V c (t.val - 1) (Nat.lt_of_le_of_lt (Nat.sub_le _ _) t.isLt)).2) := by
  rw [outsAt2_B V c t h0]
  refine Prod.ext ?_ ?_ <;> frame_out <;> rfl

theorem raw2 (c : Dev nD) : (dat2 V c).arrAt 7 cfg2.N = fun y => y2 V c (y 0) (y 1) := by
  refine (dat2 V c).arrAt_eq_of_covers 7 _ (by decide +kernel) fun t hf y => ?_
  blk_simp
  rw [after2_7]
  obtain ⟨r, q, rfl⟩ : ∃ (r : Fin 2000) (q : Fin 512), y = ix2 r q := ⟨y 0, y 1, eq_ix2 y⟩
  have : (outsAt2 V c t.val t.isLt).1 = b2 V c t := by
    by_cases h0 : t.val % 25 = 0
    · rw [out2A V c t h0]
    · rw [out2B V c t h0]
  rw [this, emb2_7]
  exact b2_at V c t r q

theorem step2 (c : Dev nD) (t : Fin cfg2.N) (acc : Vec Ideal S2x32 .f32) (y : S2x32.Idx) :
    s2 V c t acc y = acc y + part (y2 V c) (G2 V c) ⟨t.val, t.isLt⟩ y := by
  obtain ⟨a, k, rfl⟩ : ∃ (a : Fin 2) (k : Fin 32), y = ix2 a k := ⟨y 0, y 1, eq_ix2 y⟩
  unfold s2
  rw [blk2_6]
  fin_cases a
  · refine (pay2s0 _ _ _ _ _ _ _ k).trans (congrArg _ ?_)
    exact Finset.sum_congr rfl fun r _ => Finset.sum_congr rfl fun j _ => congrArg₂ (· * ·) (b2_at V c t r j) rfl
  · refine (pay2s1 _ _ _ _ _ _ _ k).trans (congrArg _ ?_)
    exact Finset.sum_congr rfl fun r _ => Finset.sum_congr rfl fun j _ =>
      congrArg₂ (· * ·) (congrArg₂ (· * ·) (b2_at V c t r j) (b2_at V c t r j)) rfl

theorem st2 (c : Dev nD) : (dat2 V c).arrAt 8 cfg2.N = stat (y2 V c) (G2 V c) := by
  refine (dat2 V c).arrAt_eq_of_covers 8 _ (by decide +kernel) fun t hf y => ?_
  blk_simp
  have ht : t.val % 25 = 24 := (flush2_8 t).1 hf
  have ht' : t.val = 24 := by have : t.val < 25 := t.isLt; omega
  rw [after2_8, emb2_8]
  rw [Pipeline.eq_sum_fin_of_reset_step_apply_last (fun n h => (outsAt2 V c n h).2) 25 (fun _ => 0)
    (fun t y => part (y2 V c) (G2 V c) ⟨t.val, t.isLt⟩ y)
    (fun t h j => by rw [out2A V c t h]; exact (step2 V c t _ j).trans (by rw [pay2z]))
    (fun t h j => by rw [out2B V c t h]; exact step2 V c t _ j)
    (le_of_eq N_2) t (by rw [ht']; exact N_2.symm) y, zero_add]
  exact sum_part _ _ y

end Cert.Proof.Tail
-- ==== Proof.Tail3.lean ====
/-
  The tail's fourth region: the normalised and activated values times weights, with a bias, and that result's group sums, over 25 blocks of 2000 nodes.
-/
module

public import proofs.«01_k».proof.Proof.Tail0
public import proofs.«01_k».proof.Proof.Gen.TailIdeal.Frame.Region3

@[expose] public section

noncomputable section

namespace Cert.Proof.Tail

open Idealize.ShloMosaic Idealize.ShloMosaic.TcCoe Idealize.SL.Sem
open Cert.TailIdeal Cert.TailIdeal.Gen

/-- The block's values. -/
def block3 (x0 : Vec Ideal S2000x512 .f32) (x1 : Vec Ideal S2x32 .f32) (x2 : Vec Ideal S32x512 .f32) (x3 : Vec Ideal S2x512 .f32) (x4 : Vec Ideal S512x128 .f32) (x5 : Vec Ideal S1x128 .f32) :
    Vec Ideal S2000x128 .f32 :=
  k3_pay1 (k3_pay4 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x512) ![0, 0] S1x512.size inb_S2x512_S1x512_0_0)) (View.ld x3 (Rect.unit (s := S2x512) ![1, 0] S1x512.size inb_S2x512_S1x512_1_0))
      (View.ld x3 (Rect.unit (s := S2x512) ![0, 0] S1x512.size inb_S2x512_S1x512_0_0)) x0)
    (k3_pay5 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x512) ![0, 0] S1x512.size inb_S2x512_S1x512_0_0)) (View.ld x3 (Rect.unit (s := S2x512) ![1, 0] S1x512.size inb_S2x512_S1x512_1_0))
      (View.ld x3 (Rect.unit (s := S2x512) ![0, 0] S1x512.size inb_S2x512_S1x512_0_0)) x0)
    (Scalar.ofBits .f32 0x3C23D70A#32) x4 x5

/-- The block's sums, added to what the blocks before it left. -/
def stats3 (x0 : Vec Ideal S2000x512 .f32) (x1 : Vec Ideal S2x32 .f32) (x2 : Vec Ideal S32x512 .f32) (x3 : Vec Ideal S2x512 .f32) (x4 : Vec Ideal S512x128 .f32) (x5 : Vec Ideal S1x128 .f32)
    (g : Vec Ideal S128x32 .f32) (acc : Vec Ideal S2x32 .f32) : Vec Ideal S2x32 .f32 :=
  k3_pay3 (k3_pay4 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x512) ![0, 0] S1x512.size inb_S2x512_S1x512_0_0)) (View.ld x3 (Rect.unit (s := S2x512) ![1, 0] S1x512.size inb_S2x512_S1x512_1_0))
      (View.ld x3 (Rect.unit (s := S2x512) ![0, 0] S1x512.size inb_S2x512_S1x512_0_0)) x0)
    (k3_pay5 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x512) ![0, 0] S1x512.size inb_S2x512_S1x512_0_0)) (View.ld x3 (Rect.unit (s := S2x512) ![1, 0] S1x512.size inb_S2x512_S1x512_1_0))
      (View.ld x3 (Rect.unit (s := S2x512) ![0, 0] S1x512.size inb_S2x512_S1x512_0_0)) x0)
    (Scalar.ofBits .f32 0x3C23D70A#32) x4 x5 g acc

theorem pay3 (v0 v4 : Vec Ideal S1x32 .f32) (v15 : Vec Ideal S32x512 .f32) (v18 v21 : Vec Ideal S1x512 .f32) (v29 : Vec Ideal S2000x512 .f32)
    (v40 : Vec Ideal S512x128 .f32) (v44 : Vec Ideal S1x128 .f32) (r : Fin 2000) (q : Fin 128) :
    k3_pay1 (k3_pay4 v0 v4 v15 v18 v21 v18 v29) (k3_pay5 v0 v4 v15 v18 v21 v18 v29) (Scalar.ofBits .f32 0x3C23D70A#32) v40 v44 (ix2 r q)
      = ∑ x, act (scaled (v29 (ix2 r x)) (fun k => v0 (ix2 0 k)) (fun k => v4 (ix2 0 k)) (Ideal.ofBits .f32 0x49435000#32) (fun k => v15 (ix2 k x)) (v18 (ix2 0 x)) (v21 (ix2 0 x)))
        * v40 (ix2 x q) + v44 (ix2 0 q) := by
  pointwise [k3_pay1, k3_pay4, k3_pay5]
  rfl

theorem pay3s0 (v34 : FVec Ideal S2000x512 .f32) (v36 : IVec S2000x512 1) (e : Ideal .f32) (v40 : Vec Ideal S512x128 .f32) (v44 : Vec Ideal S1x128 .f32) (g : Vec Ideal S128x32 .f32) (acc : Vec Ideal S2x32 .f32) (k : Fin 32) :
    k3_pay3 v34 v36 e v40 v44 g acc (ix2 0 k) = acc (ix2 0 k) + ∑ r, ∑ j, k3_pay1 v34 v36 e v40 v44 (ix2 r j) * g (ix2 j k) := by
  pointwise [k3_pay3]
theorem pay3s1 (v34 : FVec Ideal S2000x512 .f32) (v36 : IVec S2000x512 1) (e : Ideal .f32) (v40 : Vec Ideal S512x128 .f32) (v44 : Vec Ideal S1x128 .f32) (g : Vec Ideal S128x32 .f32) (acc : Vec Ideal S2x32 .f32) (k : Fin 32) :
    k3_pay3 v34 v36 e v40 v44 g acc (ix2 1 k)
      = acc (ix2 1 k) + ∑ r, ∑ j, k3_pay1 v34 v36 e v40 v44 (ix2 r j) * k3_pay1 v34 v36 e v40 v44 (ix2 r j) * g (ix2 j k) := by
  pointwise [k3_pay3]
theorem pay3z (y : S2x32.Idx) : k3_pay2 (F := Ideal) y = 0 := by
  obtain ⟨a, k, rfl⟩ : ∃ (a : Fin 2) (k : Fin 32), y = ix2 a k := ⟨y 0, y 1, eq_ix2 y⟩
  pointwise [k3_pay2]

theorem block3_at (x0 : Vec Ideal S2000x512 .f32) (x1 : Vec Ideal S2x32 .f32) (x2 : Vec Ideal S32x512 .f32) (x3 : Vec Ideal S2x512 .f32) (x4 : Vec Ideal S512x128 .f32) (x5 : Vec Ideal S1x128 .f32)
    (r : Fin 2000) (q : Fin 128) :
    block3 x0 x1 x2 x3 x4 x5 (ix2 r q) = ∑ x, act (scaled (x0 (ix2 r x)) (fun k => x1 (ix2 0 k)) (fun k => x1 (ix2 1 k)) (Ideal.ofBits .f32 0x49435000#32) (fun k => x2 (ix2 k x)) (x3 (ix2 0 x)) (x3 (ix2 1 x)))
        * x4 (ix2 x q) + x5 (ix2 0 q) := by
  exact (pay3 _ _ _ _ _ _ _ _ r q).trans (congrArg₂ (· + ·) (Finset.sum_congr rfl fun x _ => congrArg₂ (· * ·) (act_congr (st_0 x1) (st_1 x1) (gb_0 x3 x) (gb_1 x3 x)) rfl) rfl)

variable (V : (c : Dev nD) → (b : Ref sig .tc) → Buf (Elt Ideal) ((c : Thread nD τ).loc b))

theorem idx3 : ∀ t : Fin cfg3.N, win3_0.index t = ![t.val, 0] ∧ win3_1.index t = ![0, 0] ∧ win3_2.index t = ![0, 0] ∧ win3_3.index t = ![0, 0]
    ∧ win3_4.index t = ![0, 0] ∧ win3_5.index t = ![0, 0] ∧ win3_6.index t = ![0, 0] ∧ win3_7.index t = ![t.val, 0] ∧ win3_8.index t = ![0, 0] :=
  (by decide +kernel : ∀ t : Fin grid3.N, _)

/-- The arrays the region reads, by row and column. -/
abbrev R3 (c : Dev nD) (n : Fin 50000) (x : Fin 512) : EReal := (V c main_v33_0 : FVec Ideal S50000x512 .f32) (ix2 n x)
abbrev St3 (c : Dev nD) (a : Fin 2) (k : Fin 32) : EReal := (V c main_v33_1 : FVec Ideal S2x32 .f32) (ix2 a k)
abbrev Gx3 (c : Dev nD) (k : Fin 32) (q : Fin 512) : EReal := (V c main_v19 : FVec Ideal S32x512 .f32) (ix2 k q)
abbrev Gb3 (c : Dev nD) (a : Fin 2) (q : Fin 512) : EReal := (V c main_v36 : FVec Ideal S2x512 .f32) (ix2 a q)
abbrev Wt3 (c : Dev nD) (x : Fin 512) (q : Fin 128) : EReal := (V c main_arg13 : FVec Ideal S512x128 .f32) (ix2 x q)
abbrev Bs3 (c : Dev nD) (q : Fin 128) : EReal := (V c main_v37 : FVec Ideal S1x128 .f32) (ix2 0 q)
abbrev G3 (c : Dev nD) (j : Fin 128) (k : Fin 32) : EReal := (V c main_v18 : FVec Ideal S128x32 .f32) (ix2 j k)

/-- The region's values. -/
def y3 (c : Dev nD) (n : Fin 50000) (q : Fin 128) : EReal := ∑ x, act (scaled (R3 V c n x) (St3 V c 0) (St3 V c 1) (Ideal.ofBits .f32 0x49435000#32) (fun k => Gx3 V c k x) (Gb3 V c 0 x) (Gb3 V c 1 x))
  * Wt3 V c x q + Bs3 V c q

theorem blk3_0 (c : Dev nD) (t : Fin cfg3.N) (r : Fin 2000) (j : Fin 512) :
    iblk3 V c 0 t (ix2 r j) = (V c main_v33_0 : FVec Ideal S50000x512 .f32) (ix2 ⟨_, row_lt25 ⟨t.val, t.isLt⟩ r⟩ j) := by
  blk_ext [iblk3, idx3 t]
theorem blk3_1 (c : Dev nD) (t : Fin cfg3.N) : (iblk3 V c 1 t : FVec Ideal S2x32 .f32) = V c main_v33_1 := by
  funext y
  blk_ext [iblk3, idx3 t]
theorem blk3_2 (c : Dev nD) (t : Fin cfg3.N) : (iblk3 V c 2 t : FVec Ideal S32x512 .f32) = V c main_v19 := by
  funext y
  blk_ext [iblk3, idx3 t]
theorem blk3_3 (c : Dev nD) (t : Fin cfg3.N) : (iblk3 V c 3 t : FVec Ideal S2x512 .f32) = V c main_v36 := by
  funext y
  blk_ext [iblk3, idx3 t]
theorem blk3_4 (c : Dev nD) (t : Fin cfg3.N) : (iblk3 V c 4 t : FVec Ideal S512x128 .f32) = V c main_arg13 := by
  funext y
  blk_ext [iblk3, idx3 t]
theorem blk3_5 (c : Dev nD) (t : Fin cfg3.N) : (iblk3 V c 5 t : FVec Ideal S1x128 .f32) = V c main_v37 := by
  funext y
  blk_ext [iblk3, idx3 t]
theorem blk3_6 (c : Dev nD) (t : Fin cfg3.N) : (iblk3 V c 6 t : FVec Ideal S128x32 .f32) = V c main_v18 := by
  funext y
  blk_ext [iblk3, idx3 t]

theorem emb3_7 (t : Fin cfg3.N) (r : Fin 2000) (q : Fin 128) :
    ((View.whole main_v38_0).slice (win3_7.rect t)).emb (ix2 r q) = (ix2 ⟨_, row_lt25 ⟨t.val, t.isLt⟩ r⟩ q : S50000x128.Idx) := by
  blk_ext [idx3 t]
theorem emb3_8 (t : Fin cfg3.N) (y : S2x32.Idx) :
    ((View.whole main_v38_1).slice (win3_8.rect t)).emb y = y := by
  obtain ⟨a, k, rfl⟩ : ∃ (a : Fin 2) (k : Fin 32), y = ix2 a k := ⟨y 0, y 1, eq_ix2 y⟩
  blk_ext [idx3 t]

/-- The block of a point. -/
abbrev b3 (c : Dev nD) (t : Fin cfg3.N) : Vec Ideal S2000x128 .f32 := block3 (iblk3 V c 0 t) (iblk3 V c 1 t) (iblk3 V c 2 t) (iblk3 V c 3 t) (iblk3 V c 4 t) (iblk3 V c 5 t)
abbrev s3 (c : Dev nD) (t : Fin cfg3.N) (acc : Vec Ideal S2x32 .f32) : Vec Ideal S2x32 .f32 :=
  stats3 (iblk3 V c 0 t) (iblk3 V c 1 t) (iblk3 V c 2 t) (iblk3 V c 3 t) (iblk3 V c 4 t) (iblk3 V c 5 t) (iblk3 V c 6 t) acc

theorem b3_at (c : Dev nD) (t : Fin cfg3.N) (r : Fin 2000) (q : Fin 128) : b3 V c t (ix2 r q) = y3 V c ⟨_, row_lt25 ⟨t.val, t.isLt⟩ r⟩ q := by
  refine (block3_at _ _ _ _ _ _ r q).trans ?_
  simp only [blk3_0, blk3_1, blk3_2, blk3_3, blk3_4, blk3_5]
  rfl

theorem out3A (c : Dev nD) (t : Fin cfg3.N) (h0 : t.val % 25 = 0) : outsAt3 V c t.val t.isLt = (b3 V c t, s3 V c t (k3_pay2 (F := Ideal))) := by
  rw [outsAt3_A V c t h0]
  refine Prod.ext ?_ ?_ <;> frame_out <;> rfl
theorem out3B (c : Dev nD) (t : Fin cfg3.N) (h0 : ¬t.val % 25 = 0) : outsAt3 V c t.val t.isLt
    = (b3 V c t, s3 V c t (outsAt3 V c (t.val - 1) (Nat.lt_of_le_of_lt (Nat.sub_le _ _) t.isLt)).2) := by
  rw [outsAt3_B V c t h0]
  refine Prod.ext ?_ ?_ <;> frame_out <;> rfl

theorem raw3 (c : Dev nD) : (dat3 V c).arrAt 7 cfg3.N = fun y => y3 V c (y 0) (y 1) := by
  refine (dat3 V c).arrAt_eq_of_covers 7 _ (by decide +kernel) fun t hf y => ?_
  blk_simp
  rw [after3_7]
  obtain ⟨r, q, rfl⟩ : ∃ (r : Fin 2000) (q : Fin 128), y = ix2 r q := ⟨y 0, y 1, eq_ix2 y⟩
  have : (outsAt3 V c t.val t.isLt).1 = b3 V c t := by
    by_cases h0 : t.val % 25 = 0
    · rw [out3A V c t h0]
    · rw [out3B V c t h0]
  rw [this, emb3_7]
  exact b3_at V c t r q

theorem step3 (c : Dev nD) (t : Fin cfg3.N) (acc : Vec Ideal S2x32 .f32) (y : S2x32.Idx) :
    s3 V c t acc y = acc y + part (y3 V c) (G3 V c) ⟨t.val, t.isLt⟩ y := by
  obtain ⟨a, k, rfl⟩ : ∃ (a : Fin 2) (k : Fin 32), y = ix2 a k := ⟨y 0, y 1, eq_ix2 y⟩
  unfold s3
  rw [blk3_6]
  fin_cases a
  · refine (pay3s0 _ _ _ _ _ _ _ k).trans (congrArg _ ?_)
    exact Finset.sum_congr rfl fun r _ => Finset.sum_congr rfl fun j _ => congrArg₂ (· * ·) (b3_at V c t r j) rfl
  · refine (pay3s1 _ _ _ _ _ _ _ k).trans (congrArg _ ?_)
    exact Finset.sum_congr rfl fun r _ => Finset.sum_congr rfl fun j _ =>
      congrArg₂ (· * ·) (congrArg₂ (· * ·) (b3_at V c t r j) (b3_at V c t r j)) rfl

theorem st3 (c : Dev nD) : (dat3 V c).arrAt 8 cfg3.N = stat (y3 V c) (G3 V c) := by
  refine (dat3 V c).arrAt_eq_of_covers 8 _ (by decide +kernel) fun t hf y => ?_
  blk_simp
  have ht : t.val % 25 = 24 := (flush3_8 t).1 hf
  have ht' : t.val = 24 := by have : t.val < 25 := t.isLt; omega
  rw [after3_8, emb3_8]
  rw [Pipeline.eq_sum_fin_of_reset_step_apply_last (fun n h => (outsAt3 V c n h).2) 25 (fun _ => 0)
    (fun t y => part (y3 V c) (G3 V c) ⟨t.val, t.isLt⟩ y)
    (fun t h j => by rw [out3A V c t h]; exact (step3 V c t _ j).trans (by rw [pay3z]))
    (fun t h j => by rw [out3B V c t h]; exact step3 V c t _ j)
    (le_of_eq N_3) t (by rw [ht']; exact N_3.symm) y, zero_add]
  exact sum_part _ _ y

end Cert.Proof.Tail
-- ==== Proof.Tail4.lean ====
/-
  The tail's fifth region: the normalised projection joined to the masked aggregate and activated; that result summed and counted scan by scan, over 25 blocks of 2000 nodes.
-/
module

public import proofs.«01_k».proof.Proof.Tail0
public import proofs.«01_k».proof.Proof.Gen.TailIdeal.Frame.Region4

@[expose] public section

noncomputable section

namespace Cert.Proof.Tail

open Idealize.ShloMosaic Idealize.ShloMosaic.TcCoe Idealize.SL.Sem
open Cert.TailIdeal Cert.TailIdeal.Gen

/-- One where a word is a scan's, zero elsewhere. -/
def hot (b : BitVec 32) (a : ℕ) : EReal := FloatOps.sitofp (F := Ideal) .f32 (BitVec.setWidth 32 (IntOp.cmpi .eq b (BitVec.ofNat 32 a)))

/-- The sums over the scans and, below them, the scans' sizes. -/
def pool (y : Fin 50000 → Fin 128 → EReal) (b : Fin 50000 → BitVec 32) (i : S8x128.Idx) : EReal :=
  if (i 0).val < 4 then ∑ n, hot (b n) (i 0).val * y n (i 1) else ∑ n, hot (b n) ((i 0).val - 4)

/-- A block's part of them. -/
def poolPart (y : Fin 50000 → Fin 128 → EReal) (b : Fin 50000 → BitVec 32) (p : Fin 25) (i : S8x128.Idx) : EReal :=
  if (i 0).val < 4 then ∑ r : Fin 2000, hot (b ⟨_, row_lt25 p r⟩) (i 0).val * y ⟨_, row_lt25 p r⟩ (i 1)
  else ∑ r : Fin 2000, hot (b ⟨_, row_lt25 p r⟩) ((i 0).val - 4)

theorem sum_pool (y : Fin 50000 → Fin 128 → EReal) (b : Fin 50000 → BitVec 32) (i : S8x128.Idx) : ∑ p : Fin 25, poolPart y b p i = pool y b i := by
  unfold poolPart pool
  split
  · exact Fin.sum_mul_add_congr (f := fun n => hot (b n) (i 0).val * y n (i 1)) fun s k hl => rfl
  · exact Fin.sum_mul_add_congr (f := fun n => hot (b n) ((i 0).val - 4)) fun s k hl => rfl

/-- The block's values. -/
def block4 (x0 : Vec Ideal S2000x128 .f32) (x1 : Vec Ideal S2x32 .f32) (x2 : Vec Ideal S32x128 .f32) (x3 : Vec Ideal S2x128 .f32) (x4 : Vec Ideal S2000x128 .f32) : Vec Ideal S2000x128 .f32 :=
  k4_pay1 (k4_pay7 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x128) ![0, 0] S1x128.size inb_S2x128_S1x128_0_0)))
    (k4_pay8 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x128) ![1, 0] S1x128.size inb_S2x128_S1x128_1_0)) (View.ld x3 (Rect.unit (s := S2x128) ![0, 0] S1x128.size inb_S2x128_S1x128_0_0)))
    (k4_pay9 x4) x0

/-- The block's sums over the scans, added to what the blocks before it left. -/
def stats4 (x0 : Vec Ideal S2000x128 .f32) (x1 : Vec Ideal S2x32 .f32) (x2 : Vec Ideal S32x128 .f32) (x3 : Vec Ideal S2x128 .f32) (x4 : Vec Ideal S2000x128 .f32)
    (b : Vec Ideal S2000x1 .i32) (acc : Vec Ideal S8x128 .f32) : Vec Ideal S8x128 .f32 :=
  k4_pay3 (k4_pay7 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x128) ![0, 0] S1x128.size inb_S2x128_S1x128_0_0)))
    (k4_pay8 (View.ld x1 (Rect.unit (s := S2x32) ![0, 0] S1x32.size inb_S2x32_S1x32_0_0)) (View.ld x1 (Rect.unit (s := S2x32) ![1, 0] S1x32.size inb_S2x32_S1x32_1_0)) x2
      (View.ld x3 (Rect.unit (s := S2x128) ![1, 0] S1x128.size inb_S2x128_S1x128_1_0)) (View.ld x3 (Rect.unit (s := S2x128) ![0, 0] S1x128.size inb_S2x128_S1x128_0_0)))
    (k4_pay9 x4) x0 b acc

theorem pay4 (v0 v4 : Vec Ideal S1x32 .f32) (v15 : Vec Ideal S32x128 .f32) (v18 v21 : Vec Ideal S1x128 .f32) (v29 v34 : Vec Ideal S2000x128 .f32)
    (r : Fin 2000) (q : Fin 128) :
    k4_pay1 (k4_pay7 v0 v4 v15 v18) (k4_pay8 v0 v4 v15 v21 v18) (k4_pay9 v29) v34 (ix2 r q)
      = act (scaled (v34 (ix2 r q)) (fun k => v0 (ix2 0 k)) (fun k => v4 (ix2 0 k)) (Ideal.ofBits .f32 0x48435000#32) (fun k => v15 (ix2 k q)) (v18 (ix2 0 q)) (v21 (ix2 0 q))
          + mask (v29 (ix2 r q))) := by
  pointwise [k4_pay1, k4_pay7, k4_pay8, k4_pay4, k4_pay5, k4_pay6, k4_pay9]
  rfl

theorem pay4s (v20 v28 : FVec Ideal S1x128 .f32) (v33 v34 : Vec Ideal S2000x128 .f32) (b : Vec Ideal S2000x1 .i32) (acc : Vec Ideal S8x128 .f32) (a : Fin 8) (q : Fin 128) :
    k4_pay3 v20 v28 v33 v34 b acc (ix2 a q) = acc (ix2 a q)
      + if a.val < 4 then ∑ r, hot (b (ix2 r 0)) a.val * k4_pay1 v20 v28 v33 v34 (ix2 r q) else ∑ r, hot (b (ix2 r 0)) (a.val - 4) := by
  pointwise [k4_pay3]
  rfl
theorem pay4z (y : S8x128.Idx) : k4_pay2 (F := Ideal) y = 0 := by
  obtain ⟨a, k, rfl⟩ : ∃ (a : Fin 8) (k : Fin 128), y = ix2 a k := ⟨y 0, y 1, eq_ix2 y⟩
  pointwise [k4_pay2]

theorem gp_0 (x : Vec Ideal S2x128 .f32) (k : Fin 128) : View.ld x (Rect.unit (s := S2x128) ![0, 0] S1x128.size inb_S2x128_S1x128_0_0) (ix2 0 k) = x (ix2 0 k) :=
  View.ld_unit_apply_of x _ _ _ _ _ (Fin.forall_fin_two.2 ⟨rfl, (Nat.zero_add _).symm⟩)
theorem gp_1 (x : Vec Ideal S2x128 .f32) (k : Fin 128) : View.ld x (Rect.unit (s := S2x128) ![1, 0] S1x128.size inb_S2x128_S1x128_1_0) (ix2 0 k) = x (ix2 1 k) :=
  View.ld_unit_apply_of x _ _ _ _ _ (Fin.forall_fin_two.2 ⟨rfl, (Nat.zero_add _).symm⟩)

theorem block4_at (x0 : Vec Ideal S2000x128 .f32) (x1 : Vec Ideal S2x32 .f32) (x2 : Vec Ideal S32x128 .f32) (x3 : Vec Ideal S2x128 .f32) (x4 : Vec Ideal S2000x128 .f32)
    (r : Fin 2000) (q : Fin 128) :
    block4 x0 x1 x2 x3 x4 (ix2 r q) = act (scaled (x0 (ix2 r q)) (fun k => x1 (ix2 0 k)) (fun k => x1 (ix2 1 k)) (Ideal.ofBits .f32 0x48435000#32) (fun k => x2 (ix2 k q))
      (x3 (ix2 0 q)) (x3 (ix2 1 q)) + mask (x4 (ix2 r q))) := by
  refine (pay4 _ _ _ _ _ _ _ r q).trans ?_
  rw [funext (st_0 x1), funext (st_1 x1), gp_0 x3 q, gp_1 x3 q]

variable (V : (c : Dev nD) → (b : Ref sig .tc) → Buf (Elt Ideal) ((c : Thread nD τ).loc b))

theorem idx4 : ∀ t : Fin cfg4.N, win4_0.index t = ![t.val, 0] ∧ win4_1.index t = ![0, 0] ∧ win4_2.index t = ![0, 0] ∧ win4_3.index t = ![0, 0]
    ∧ win4_4.index t = ![t.val, 0] ∧ win4_5.index t = ![t.val, 0] ∧ win4_6.index t = ![t.val, 0] ∧ win4_7.index t = ![0, 0] :=
  (by decide +kernel : ∀ t : Fin grid4.N, _)

/-- The arrays the region reads, by row and column. -/
abbrev R4 (c : Dev nD) (n : Fin 50000) (x : Fin 128) : EReal := (V c main_v38_0 : FVec Ideal S50000x128 .f32) (ix2 n x)
abbrev St4 (c : Dev nD) (a : Fin 2) (k : Fin 32) : EReal := (V c main_v38_1 : FVec Ideal S2x32 .f32) (ix2 a k)
abbrev Gx4 (c : Dev nD) (k : Fin 32) (q : Fin 128) : EReal := (V c main_v20 : FVec Ideal S32x128 .f32) (ix2 k q)
abbrev Gb4 (c : Dev nD) (a : Fin 2) (q : Fin 128) : EReal := (V c main_v41 : FVec Ideal S2x128 .f32) (ix2 a q)
abbrev Ag4 (c : Dev nD) (n : Fin 50000) (q : Fin 128) : EReal := (V c main_arg0 : FVec Ideal S50000x128 .f32) (ix2 n q)
abbrev Ba4 (c : Dev nD) (n : Fin 50000) : BitVec 32 := (V c main_v0 : IVec S50000x1 32) (ix2 n 0)

/-- The region's values. -/
def y4 (c : Dev nD) (n : Fin 50000) (q : Fin 128) : EReal :=
  act (scaled (R4 V c n q) (St4 V c 0) (St4 V c 1) (Ideal.ofBits .f32 0x48435000#32) (fun k => Gx4 V c k q) (Gb4 V c 0 q) (Gb4 V c 1 q) + mask (Ag4 V c n q))

theorem blk4_0 (c : Dev nD) (t : Fin cfg4.N) (r : Fin 2000) (j : Fin 128) :
    iblk4 V c 0 t (ix2 r j) = (V c main_v38_0 : FVec Ideal S50000x128 .f32) (ix2 ⟨_, row_lt25 ⟨t.val, t.isLt⟩ r⟩ j) := by
  blk_ext [iblk4, idx4 t]
theorem blk4_4 (c : Dev nD) (t : Fin cfg4.N) (r : Fin 2000) (j : Fin 128) :
    iblk4 V c 4 t (ix2 r j) = (V c main_arg0 : FVec Ideal S50000x128 .f32) (ix2 ⟨_, row_lt25 ⟨t.val, t.isLt⟩ r⟩ j) := by
  blk_ext [iblk4, idx4 t]
theorem blk4_5 (c : Dev nD) (t : Fin cfg4.N) (r : Fin 2000) :
    iblk4 V c 5 t (ix2 r 0) = Ba4 V c ⟨_, row_lt25 ⟨t.val, t.isLt⟩ r⟩ := by
  blk_ext [iblk4, idx4 t]
theorem blk4_1 (c : Dev nD) (t : Fin cfg4.N) : (iblk4 V c 1 t : FVec Ideal S2x32 .f32) = V c main_v38_1 := by
  funext y
  blk_ext [iblk4, idx4 t]
theorem blk4_2 (c : Dev nD) (t : Fin cfg4.N) : (iblk4 V c 2 t : FVec Ideal S32x128 .f32) = V c main_v20 := by
  funext y
  blk_ext [iblk4, idx4 t]
theorem blk4_3 (c : Dev nD) (t : Fin cfg4.N) : (iblk4 V c 3 t : FVec Ideal S2x128 .f32) = V c main_v41 := by
  funext y
  blk_ext [iblk4, idx4 t]
theorem emb4_6 (t : Fin cfg4.N) (r : Fin 2000) (q : Fin 128) :
    ((View.whole main_v42_0).slice (win4_6.rect t)).emb (ix2 r q) = (ix2 ⟨_, row_lt25 ⟨t.val, t.isLt⟩ r⟩ q : S50000x128.Idx) := by
  blk_ext [idx4 t]
theorem emb4_7 (t : Fin cfg4.N) (y : S8x128.Idx) :
    ((View.whole main_v42_1).slice (win4_7.rect t)).emb y = y := by
  obtain ⟨a, k, rfl⟩ : ∃ (a : Fin 8) (k : Fin 128), y = ix2 a k := ⟨y 0, y 1, eq_ix2 y⟩
  blk_ext [idx4 t]

/-- The block of a point. -/
abbrev b4 (c : Dev nD) (t : Fin cfg4.N) : Vec Ideal S2000x128 .f32 := block4 (iblk4 V c 0 t) (iblk4 V c 1 t) (iblk4 V c 2 t) (iblk4 V c 3 t) (iblk4 V c 4 t)
abbrev s4 (c : Dev nD) (t : Fin cfg4.N) (acc : Vec Ideal S8x128 .f32) : Vec Ideal S8x128 .f32 :=
  stats4 (iblk4 V c 0 t) (iblk4 V c 1 t) (iblk4 V c 2 t) (iblk4 V c 3 t) (iblk4 V c 4 t) (iblk4 V c 5 t) acc

theorem b4_at (c : Dev nD) (t : Fin cfg4.N) (r : Fin 2000) (q : Fin 128) : b4 V c t (ix2 r q) = y4 V c ⟨_, row_lt25 ⟨t.val, t.isLt⟩ r⟩ q := by
  refine (block4_at _ _ _ _ _ r q).trans ?_
  simp only [blk4_0, blk4_1, blk4_2, blk4_3, blk4_4]
  rfl

theorem out4A (c : Dev nD) (t : Fin cfg4.N) (h0 : t.val % 25 = 0) : outsAt4 V c t.val t.isLt = (b4 V c t, s4 V c t (k4_pay2 (F := Ideal))) := by
  rw [outsAt4_A V c t h0]
  refine Prod.ext ?_ ?_ <;> frame_out <;> rfl
theorem out4B (c : Dev nD) (t : Fin cfg4.N) (h0 : ¬t.val % 25 = 0) : outsAt4 V c t.val t.isLt
    = (b4 V c t, s4 V c t (outsAt4 V c (t.val - 1) (Nat.lt_of_le_of_lt (Nat.sub_le _ _) t.isLt)).2) := by
  rw [outsAt4_B V c t h0]
  refine Prod.ext ?_ ?_ <;> frame_out <;> rfl

theorem raw4 (c : Dev nD) : (dat4 V c).arrAt 6 cfg4.N = fun y => y4 V c (y 0) (y 1) := by
  refine (dat4 V c).arrAt_eq_of_covers 6 _ (by decide +kernel) fun t hf y => ?_
  blk_simp
  rw [after4_6]
  obtain ⟨r, q, rfl⟩ : ∃ (r : Fin 2000) (q : Fin 128), y = ix2 r q := ⟨y 0, y 1, eq_ix2 y⟩
  have : (outsAt4 V c t.val t.isLt).1 = b4 V c t := by
    by_cases h0 : t.val % 25 = 0
    · rw [out4A V c t h0]
    · rw [out4B V c t h0]
  rw [this, emb4_6]
  exact b4_at V c t r q

theorem step4 (c : Dev nD) (t : Fin cfg4.N) (acc : Vec Ideal S8x128 .f32) (y : S8x128.Idx) :
    s4 V c t acc y = acc y + poolPart (y4 V c) (Ba4 V c) ⟨t.val, t.isLt⟩ y := by
  obtain ⟨a, q, rfl⟩ : ∃ (a : Fin 8) (k : Fin 128), y = ix2 a k := ⟨y 0, y 1, eq_ix2 y⟩
  refine (pay4s _ _ _ _ _ _ a q).trans (congrArg _ ?_)
  unfold poolPart
  refine ite_congr rfl (fun _ => ?_) (fun _ => ?_)
  · exact Finset.sum_congr rfl fun r _ => congrArg₂ (· * ·) (congrArg (hot · a.val) (blk4_5 V c t r)) (b4_at V c t r q)
  · exact Finset.sum_congr rfl fun r _ => congrArg (hot · (a.val - 4)) (blk4_5 V c t r)

theorem st4 (c : Dev nD) : (dat4 V c).arrAt 7 cfg4.N = pool (y4 V c) (Ba4 V c) := by
  refine (dat4 V c).arrAt_eq_of_covers 7 _ (by decide +kernel) fun t hf y => ?_
  blk_simp
  have ht : t.val % 25 = 24 := (flush4_7 t).1 hf
  have ht' : t.val = 24 := by have : t.val < 25 := t.isLt; omega
  rw [after4_7, emb4_7]
  rw [Pipeline.eq_sum_fin_of_reset_step_apply_last (fun n h => (outsAt4 V c n h).2) 25 (fun _ => 0)
    (fun t y => poolPart (y4 V c) (Ba4 V c) ⟨t.val, t.isLt⟩ y)
    (fun t h j => by rw [out4A V c t h]; exact (step4 V c t _ j).trans (by rw [pay4z]))
    (fun t h j => by rw [out4B V c t h]; exact step4 V c t _ j)
    (le_of_eq N_4) t (by rw [ht']; exact N_4.symm) y, zero_add]
  exact sum_pool _ _ y

end Cert.Proof.Tail
-- ==== Proof.Tail5.lean ====
/-
  The tail's last region: the gate of each scan's mean, and the head, over 25 blocks of 2000 nodes.
-/
module

public import proofs.«01_k».proof.Proof.Tail4
public import proofs.«01_k».proof.Proof.Gen.TailIdeal.Frame.Region5

@[expose] public section

noncomputable section

namespace Cert.Proof.Tail

open Idealize.ShloMosaic Idealize.ShloMosaic.TcCoe Idealize.SL.Sem
open Cert.TailIdeal Cert.TailIdeal.Gen

/-- The head's result at a node. -/
def headK (o : Fin 128 → EReal) (b : BitVec 32) (g : Fin 4 → Fin 128 → EReal) (w : Fin 128 → EReal) (h : EReal) : EReal :=
  ∑ x, o x * (∑ a : Fin 4, hot b a.val * g a x) * w x + h

theorem pay5 (v0 v2 : Vec Ideal S4x128 .f32) (v7 : Vec Ideal S128x32 .f32) (v11 : Vec Ideal S32x128 .f32) (v20 : Vec Ideal S2000x1 .i32)
    (v28 : Vec Ideal S2000x128 .f32) (v31 : Vec Ideal S128x16 .f32) (v33 : Vec Ideal S1x16 .f32) (r : Fin 2000) (q : Fin 16) :
    k5_pay1 (k5_pay2 v0 v2 v7 v11 v20 v28 v31) v33 (ix2 r q)
      = headK (fun x => v28 (ix2 r x)) (v20 (ix2 r 0))
          (fun a => gate (fun i => Ideal.div (v0 (ix2 a i)) (max (v2 (ix2 a i)) 1)) (fun i j => v7 (ix2 i j)) (fun j x => v11 (ix2 j x)))
          (fun x => v31 (ix2 x q)) (v33 (ix2 0 q)) := by
  pointwise [k5_pay1, k5_pay2]
  rfl

theorem ld5_0 (x : Vec Ideal S8x128 .f32) (a : Fin 4) (k : Fin 128) : View.ld x r5_0 (ix2 a k) = x (ix2 ⟨a.val, by omega⟩ k) :=
  View.ld_unit_apply_of x _ _ _ _ _ (Fin.forall_fin_two.2 ⟨(Nat.zero_add _).symm, (Nat.zero_add _).symm⟩)
theorem ld5_1 (x : Vec Ideal S8x128 .f32) (a : Fin 4) (k : Fin 128) : View.ld x r5_1 (ix2 a k) = x (ix2 ⟨4 + a.val, by omega⟩ k) :=
  View.ld_unit_apply_of x _ _ _ _ _ (Fin.forall_fin_two.2 ⟨rfl, (Nat.zero_add _).symm⟩)

variable (V : (c : Dev nD) → (b : Ref sig .tc) → Buf (Elt Ideal) ((c : Thread nD τ).loc b))

theorem idx5 : ∀ t : Fin cfg5.N, win5_0.index t = ![t.val, 0] ∧ win5_1.index t = ![0, 0] ∧ win5_2.index t = ![t.val, 0] ∧ win5_3.index t = ![0, 0]
    ∧ win5_4.index t = ![0, 0] ∧ win5_5.index t = ![0, 0] ∧ win5_6.index t = ![0, 0] ∧ win5_7.index t = ![t.val, 0] :=
  (by decide +kernel : ∀ t : Fin grid5.N, _)

/-- The arrays the region reads, by row and column. -/
abbrev O5 (c : Dev nD) (n : Fin 50000) (x : Fin 128) : EReal := (V c main_v42_0 : FVec Ideal S50000x128 .f32) (ix2 n x)
abbrev Z5 (c : Dev nD) (a : Fin 8) (x : Fin 128) : EReal := (V c main_v42_1 : FVec Ideal S8x128 .f32) (ix2 a x)
abbrev Ba5 (c : Dev nD) (n : Fin 50000) : BitVec 32 := (V c main_v0 : IVec S50000x1 32) (ix2 n 0)
abbrev S15 (c : Dev nD) (i : Fin 128) (j : Fin 32) : EReal := (V c main_arg16 : FVec Ideal S128x32 .f32) (ix2 i j)
abbrev S25 (c : Dev nD) (j : Fin 32) (x : Fin 128) : EReal := (V c main_arg17 : FVec Ideal S32x128 .f32) (ix2 j x)
abbrev Hw5 (c : Dev nD) (x : Fin 128) (q : Fin 16) : EReal := (V c main_arg18 : FVec Ideal S128x16 .f32) (ix2 x q)
abbrev Hb5 (c : Dev nD) (q : Fin 16) : EReal := (V c main_v43 : FVec Ideal S1x16 .f32) (ix2 0 q)

/-- The region's values. -/
def y5 (c : Dev nD) (n : Fin 50000) (q : Fin 16) : EReal :=
  headK (O5 V c n) (Ba5 V c n)
    (fun a => gate (fun i => Ideal.div (Z5 V c ⟨a.val, by omega⟩ i) (max (Z5 V c ⟨4 + a.val, by omega⟩ i) 1)) (S15 V c) (S25 V c))
    (fun x => Hw5 V c x q) (Hb5 V c q)

theorem blk5_0 (c : Dev nD) (t : Fin cfg5.N) (r : Fin 2000) (j : Fin 128) :
    iblk5 V c 0 t (ix2 r j) = (V c main_v42_0 : FVec Ideal S50000x128 .f32) (ix2 ⟨_, row_lt25 ⟨t.val, t.isLt⟩ r⟩ j) := by
  blk_ext [iblk5, idx5 t]
theorem blk5_1 (c : Dev nD) (t : Fin cfg5.N) : (iblk5 V c 1 t : FVec Ideal S8x128 .f32) = V c main_v42_1 := by
  funext y
  blk_ext [iblk5, idx5 t]
theorem blk5_2 (c : Dev nD) (t : Fin cfg5.N) (r : Fin 2000) : iblk5 V c 2 t (ix2 r 0) = Ba5 V c ⟨_, row_lt25 ⟨t.val, t.isLt⟩ r⟩ := by
  blk_ext [iblk5, idx5 t]
theorem blk5_3 (c : Dev nD) (t : Fin cfg5.N) : (iblk5 V c 3 t : FVec Ideal S128x32 .f32) = V c main_arg16 := by
  funext y
  blk_ext [iblk5, idx5 t]
theorem blk5_4 (c : Dev nD) (t : Fin cfg5.N) : (iblk5 V c 4 t : FVec Ideal S32x128 .f32) = V c main_arg17 := by
  funext y
  blk_ext [iblk5, idx5 t]
theorem blk5_5 (c : Dev nD) (t : Fin cfg5.N) : (iblk5 V c 5 t : FVec Ideal S128x16 .f32) = V c main_arg18 := by
  funext y
  blk_ext [iblk5, idx5 t]
theorem blk5_6 (c : Dev nD) (t : Fin cfg5.N) : (iblk5 V c 6 t : FVec Ideal S1x16 .f32) = V c main_v43 := by
  funext y
  blk_ext [iblk5, idx5 t]
theorem emb5_7 (t : Fin cfg5.N) (r : Fin 2000) (q : Fin 16) :
    ((View.whole main_v44).slice (win5_7.rect t)).emb (ix2 r q) = (ix2 ⟨_, row_lt25 ⟨t.val, t.isLt⟩ r⟩ q : S50000x16.Idx) := by
  blk_ext [idx5 t]

theorem headK_congr {o o' : Fin 128 → EReal} {b b' : BitVec 32} {g g' : Fin 4 → Fin 128 → EReal} {w : Fin 128 → EReal} {h : EReal}
    (ho : ∀ x, o x = o' x) (hb : b = b') (hg : ∀ a x, g a x = g' a x) : headK o b g w h = headK o' b' g' w h := by
  rw [funext ho, hb, funext fun a => funext (hg a)]

theorem gate_congr {z z' : Fin 128 → EReal} (s1 : Fin 128 → Fin 32 → EReal) (s2 : Fin 32 → Fin 128 → EReal) (h : ∀ i, z i = z' i) (x : Fin 128) :
    gate z s1 s2 x = gate z' s1 s2 x := by
  rw [funext h]

theorem raw5 (c : Dev nD) : (dat5 V c).arrAt 7 cfg5.N = fun y => y5 V c (y 0) (y 1) := by
  refine (dat5 V c).arrAt_eq_of_covers 7 _ (by decide +kernel) fun t hf y => ?_
  blk_simp
  rw [after5_7]
  frame_out
  obtain ⟨r, q, rfl⟩ : ∃ (r : Fin 2000) (q : Fin 16), y = ix2 r q := ⟨y 0, y 1, eq_ix2 y⟩
  refine (pay5 _ _ _ _ _ _ _ _ r q).trans ?_
  rw [emb5_7]
  rw [blk5_1, blk5_3, blk5_4, blk5_5, blk5_6]
  exact headK_congr (fun x => blk5_0 V c t r x) (blk5_2 V c t r) fun a x => gate_congr _ _ (fun i =>
    congrArg₂ Ideal.div (ld5_0 _ a i) (congrArg₂ max (ld5_1 _ a i) rfl)) x

end Cert.Proof.Tail
-- ==== Proof.TailHost.lean ====
/-
  The tail's host arrays: the 0/1 matrices of channels and groups, and the stacked parameters, as each region finds them.
-/
module

public import proofs.«01_k».proof.Proof.TailPlain
public import proofs.«01_k».proof.Proof.Gen.TailIdeal.Frame.Fold0
public import Idealize.ShloMosaic.Lib.Pointwise

@[expose] public section

noncomputable section

namespace Cert.Proof.Tail

open Idealize.ShloMosaic Idealize.ShloMosaic.TcCoe Idealize.SL.Sem Idealize.ShloMosaic.StableHlo
open Cert.TailIdeal Cert.TailIdeal.Gen

/-- Floor division of words, as the host makes it. -/
def fdiv {s : Shape} (hb : S_.BroadcastsInDim s (![] : Fin 0 → Fin s.rank)) (x : IVec s 32) (y : IVec S_ 32) : IVec s 32 :=
  select (andi (cmpi .ne (signi x) (broadcastInDim s ![] hb (signi y))) (cmpi .ne (Host.remsi x (broadcastInDim s ![] hb y)) (broadcastInDim s ![] hb (constantI S_ 32 0#32))))
    (subi (Host.divsi x (broadcastInDim s ![] hb y)) (broadcastInDim s ![] hb (constantI S_ 32 1#32))) (Host.divsi x (broadcastInDim s ![] hb y))

theorem call0 (W : Valuation τ sig (Elt Ideal)) :
    (after hostOps0_1 W (Proc.devRef .tc main_v3) : IVec S512x1 32) = fdiv bcast_S_S512x1 (W (Proc.devRef .tc main_v2)) (W (Proc.devRef .tc main_c)) := by
  simp only [hostOps0_1, TRef.ternary, TRef.binary, TRef.nullary, TRef.unary, TRef.toBuf, TRef.ofBuf, cast_eq]
  after_results_simp
  rfl

theorem call1 (W : Valuation τ sig (Elt Ideal)) :
    (after hostOps0_3 W (Proc.devRef .tc main_v12) : IVec S128x1 32) = fdiv bcast_S_S128x1 (W (Proc.devRef .tc main_v11)) (W (Proc.devRef .tc main_c_0)) := by
  simp only [hostOps0_3, TRef.ternary, TRef.binary, TRef.nullary, TRef.unary, TRef.toBuf, TRef.ofBuf, cast_eq]
  after_results_simp
  rfl

/-- The words' form of it. -/
def wdiv (x w : BitVec 32) : BitVec 32 :=
  Scalar.select
    (IntOp.andi (IntOp.cmpi (w := 32) .ne (if x = 0 then 0 else if x.msb = true then -1 else 1) (if w = 0 then 0 else if w.msb = true then -1 else 1))
      (IntOp.cmpi .ne (IntOp.remsi ArithUnit.host x w) 0#32))
    (IntOp.subi (IntOp.divsi ArithUnit.host x w) 1#32) (IntOp.divsi ArithUnit.host x w)

theorem fdiv_at {s : Shape} (hb : S_.BroadcastsInDim s (![] : Fin 0 → Fin s.rank)) (x : IVec s 32) (i : s.Idx) (w : BitVec 32) :
    fdiv hb x (constantI S_ 32 w) i = wdiv (x i) w := by
  pointwise [fdiv]
  rfl

theorem wdiv16 : ∀ j : Fin 512, wdiv (BitVec.ofNat 32 j.val) 16#32 = BitVec.ofNat 32 (j.val / 16) := by decide +kernel
theorem wdiv4 : ∀ j : Fin 128, wdiv (BitVec.ofNat 32 j.val) 4#32 = BitVec.ofNat 32 (j.val / 4) := by decide +kernel

/-- The indicator of two small words' equality. -/
theorem ind (a b : ℕ) (ha : a < 2 ^ 32) (hb : b < 2 ^ 32) :
    FloatOps.uitofp (F := Ideal) .f32 (IntOp.cmpi .eq (BitVec.ofNat 32 a) (BitVec.ofNat 32 b)) = if a = b then (1 : EReal) else 0 := by
  by_cases h : a = b
  · subst h
    rw [if_pos rfl]
    have e : IntOp.cmpi .eq (BitVec.ofNat 32 a) (BitVec.ofNat 32 a) = 1#1 := by
      show BitVec.ofBool (BitVec.ofNat 32 a == BitVec.ofNat 32 a) = 1#1
      rw [beq_self_eq_true]; rfl
    rw [e]
    show (((1#1).toNat : ℝ) : EReal) = 1
    simp
  · rw [if_neg h]
    have e : IntOp.cmpi .eq (BitVec.ofNat 32 a) (BitVec.ofNat 32 b) = 0#1 := by
      show BitVec.ofBool (BitVec.ofNat 32 a == BitVec.ofNat 32 b) = 0#1
      rw [beq_eq_false_iff_ne.2 (fun hh => h (by
        have := congrArg BitVec.toNat hh
        rwa [BitVec.toNat_ofNat, BitVec.toNat_ofNat, Nat.mod_eq_of_lt ha, Nat.mod_eq_of_lt hb] at this))]; rfl
    rw [e]
    show (((0#1).toNat : ℝ) : EReal) = 0
    simp

/-! The stacked parameters. -/

theorem v24_0 (W : Valuation τ sig (Elt Ideal)) (k : Fin 512) :
    (after hostOps1 W (Proc.devRef .tc main_v24) : FVec Ideal S2x512 .f32) (ix2 0 k) = (W (Proc.devRef .tc main_arg3) : FVec Ideal S512 .f32) (ix1 k) := by
  after_results_simp
  pointwise

theorem v24_1 (W : Valuation τ sig (Elt Ideal)) (k : Fin 512) :
    (after hostOps1 W (Proc.devRef .tc main_v24) : FVec Ideal S2x512 .f32) (ix2 1 k) = (W (Proc.devRef .tc main_arg4) : FVec Ideal S512 .f32) (ix1 k) := by
  after_results_simp
  pointwise

theorem v27_0 (W : Valuation τ sig (Elt Ideal)) (k : Fin 512) :
    (after hostOps1 W (Proc.devRef .tc main_v27) : FVec Ideal S2x512 .f32) (ix2 0 k) = (W (Proc.devRef .tc main_arg5) : FVec Ideal S512 .f32) (ix1 k) := by
  after_results_simp
  pointwise

theorem v27_1 (W : Valuation τ sig (Elt Ideal)) (k : Fin 512) :
    (after hostOps1 W (Proc.devRef .tc main_v27) : FVec Ideal S2x512 .f32) (ix2 1 k) = (W (Proc.devRef .tc main_arg6) : FVec Ideal S512 .f32) (ix1 k) := by
  after_results_simp
  pointwise

theorem v31_0 (W : Valuation τ sig (Elt Ideal)) (k : Fin 512) :
    (after hostOps2 W (Proc.devRef .tc main_v31) : FVec Ideal S2x512 .f32) (ix2 0 k) = (W (Proc.devRef .tc main_arg7) : FVec Ideal S512 .f32) (ix1 k) := by
  after_results_simp
  pointwise

theorem v31_1 (W : Valuation τ sig (Elt Ideal)) (k : Fin 512) :
    (after hostOps2 W (Proc.devRef .tc main_v31) : FVec Ideal S2x512 .f32) (ix2 1 k) = (W (Proc.devRef .tc main_arg8) : FVec Ideal S512 .f32) (ix1 k) := by
  after_results_simp
  pointwise

theorem v32_0 (W : Valuation τ sig (Elt Ideal)) (k : Fin 512) :
    (after hostOps2 W (Proc.devRef .tc main_v32) : FVec Ideal S1x512 .f32) (ix2 0 k) = (W (Proc.devRef .tc main_arg10) : FVec Ideal S512 .f32) (ix1 k) := by
  after_results_simp
  pointwise

theorem v36_0 (W : Valuation τ sig (Elt Ideal)) (k : Fin 512) :
    (after hostOps3 W (Proc.devRef .tc main_v36) : FVec Ideal S2x512 .f32) (ix2 0 k) = (W (Proc.devRef .tc main_arg11) : FVec Ideal S512 .f32) (ix1 k) := by
  after_results_simp
  pointwise

theorem v36_1 (W : Valuation τ sig (Elt Ideal)) (k : Fin 512) :
    (after hostOps3 W (Proc.devRef .tc main_v36) : FVec Ideal S2x512 .f32) (ix2 1 k) = (W (Proc.devRef .tc main_arg12) : FVec Ideal S512 .f32) (ix1 k) := by
  after_results_simp
  pointwise

theorem v37_0 (W : Valuation τ sig (Elt Ideal)) (k : Fin 128) :
    (after hostOps3 W (Proc.devRef .tc main_v37) : FVec Ideal S1x128 .f32) (ix2 0 k) = (0 : EReal) := by
  after_results_simp
  pointwise

theorem v41_0 (W : Valuation τ sig (Elt Ideal)) (k : Fin 128) :
    (after hostOps4 W (Proc.devRef .tc main_v41) : FVec Ideal S2x128 .f32) (ix2 0 k) = (W (Proc.devRef .tc main_arg14) : FVec Ideal S128 .f32) (ix1 k) := by
  after_results_simp
  pointwise

theorem v41_1 (W : Valuation τ sig (Elt Ideal)) (k : Fin 128) :
    (after hostOps4 W (Proc.devRef .tc main_v41) : FVec Ideal S2x128 .f32) (ix2 1 k) = (W (Proc.devRef .tc main_arg15) : FVec Ideal S128 .f32) (ix1 k) := by
  after_results_simp
  pointwise

theorem v43_0 (W : Valuation τ sig (Elt Ideal)) (k : Fin 16) :
    (after hostOps5 W (Proc.devRef .tc main_v43) : FVec Ideal S1x16 .f32) (ix2 0 k) = (W (Proc.devRef .tc main_arg19) : FVec Ideal S16 .f32) (ix1 k) := by
  after_results_simp
  pointwise

/-! The matrices. -/

theorem o0_v0 (W : Valuation τ sig (Elt Ideal)) (n : Fin 50000) :
    (after hostOps0 W (Proc.devRef .tc main_v0) : IVec S50000x1 32) (ix2 n 0) = (W (Proc.devRef .tc main_arg1) : IVec S50000 32) (ix1 n) := by
  after_results_simp
  pointwise
theorem o0_v2 (W : Valuation τ sig (Elt Ideal)) (j : Fin 512) :
    (after hostOps0 W (Proc.devRef .tc main_v2) : IVec S512x1 32) (ix2 j 0) = BitVec.ofNat 32 j.val := by
  after_results_simp
  pointwise
theorem o0_c (W : Valuation τ sig (Elt Ideal)) : (after hostOps0 W (Proc.devRef .tc main_c) : IVec S_ 32) = constantI S_ 32 16#32 := by
  after_results_simp
theorem o2_v9 (W : Valuation τ sig (Elt Ideal)) (j : Fin 512) (k : Fin 32) :
    (after hostOps0_2 W (Proc.devRef .tc main_v9) : FVec Ideal S512x32 .f32) (ix2 j k)
      = FloatOps.uitofp (F := Ideal) .f32 (IntOp.cmpi .eq ((W (Proc.devRef .tc main_v3) : IVec S512x1 32) (ix2 j 0)) (BitVec.ofNat 32 k.val)) := by
  after_results_simp
  pointwise
theorem o2_v11 (W : Valuation τ sig (Elt Ideal)) (j : Fin 128) :
    (after hostOps0_2 W (Proc.devRef .tc main_v11) : IVec S128x1 32) (ix2 j 0) = BitVec.ofNat 32 j.val := by
  after_results_simp
  pointwise
theorem o2_c (W : Valuation τ sig (Elt Ideal)) : (after hostOps0_2 W (Proc.devRef .tc main_c_0) : IVec S_ 32) = constantI S_ 32 4#32 := by
  after_results_simp
theorem o4_v18 (W : Valuation τ sig (Elt Ideal)) (j : Fin 128) (k : Fin 32) :
    (after hostOps0_4 W (Proc.devRef .tc main_v18) : FVec Ideal S128x32 .f32) (ix2 j k)
      = FloatOps.uitofp (F := Ideal) .f32 (IntOp.cmpi .eq ((W (Proc.devRef .tc main_v12) : IVec S128x1 32) (ix2 j 0)) (BitVec.ofNat 32 k.val)) := by
  after_results_simp
  pointwise
theorem o4_v20 (W : Valuation τ sig (Elt Ideal)) (j : Fin 128) (k : Fin 32) :
    (after hostOps0_4 W (Proc.devRef .tc main_v20) : FVec Ideal S32x128 .f32) (ix2 k j)
      = FloatOps.uitofp (F := Ideal) .f32 (IntOp.cmpi .eq ((W (Proc.devRef .tc main_v12) : IVec S128x1 32) (ix2 j 0)) (BitVec.ofNat 32 k.val)) := by
  after_results_simp
  pointwise
theorem o4_v19 (W : Valuation τ sig (Elt Ideal)) (j : Fin 512) (k : Fin 32) :
    (after hostOps0_4 W (Proc.devRef .tc main_v19) : FVec Ideal S32x512 .f32) (ix2 k j) = (W (Proc.devRef .tc main_v9) : FVec Ideal S512x32 .f32) (ix2 j k) := by
  after_results_simp
  pointwise

variable (m : (ℓ : Loc nD τ sig) → Buf (Elt Ideal) ℓ) (ρ : Dev nD → PrngReg)

theorem w3_at (c : Dev nD) (j : Fin 512) : (W2 m ρ c (Proc.devRef .tc main_v3) : IVec S512x1 32) (ix2 j 0) = BitVec.ofNat 32 (j.val / 16) := by
  refine (congrFun (call0 (W1 m ρ c)) _).trans ?_
  rw [show (W1 m ρ c (Proc.devRef .tc main_c) : IVec S_ 32) = _ from o0_c (W0 m ρ c), fdiv_at]
  refine (congrArg (fun x => wdiv x 16#32) (o0_v2 (W0 m ρ c) j)).trans (wdiv16 j)
theorem w3_9 (c : Dev nD) (j : Fin 512) (k : Fin 32) : (W3 m ρ c (Proc.devRef .tc main_v9) : FVec Ideal S512x32 .f32) (ix2 j k) = (gmat 16 j k : EReal) := by
  refine (o2_v9 (W2 m ρ c) j k).trans ?_
  rw [w3_at]
  exact ind _ _ (by omega) (by omega)
theorem w4_at (c : Dev nD) (j : Fin 128) : (W4 m ρ c (Proc.devRef .tc main_v12) : IVec S128x1 32) (ix2 j 0) = BitVec.ofNat 32 (j.val / 4) := by
  refine (congrFun (call1 (W3 m ρ c)) _).trans ?_
  rw [show (W3 m ρ c (Proc.devRef .tc main_c_0) : IVec S_ 32) = _ from o2_c (W2 m ρ c), fdiv_at]
  refine (congrArg (fun x => wdiv x 4#32) (o2_v11 (W2 m ρ c) j)).trans (wdiv4 j)

/-! What the first region finds. -/

theorem v5_v0 (c : Dev nD) (n : Fin 50000) : (V5 m ρ c main_v0 : IVec S50000x1 32) (ix2 n 0) = (m (c.tc.loc main_arg1) : IVec S50000 32) (ix1 n) := by
  refine (congrFun ((W5_of m ρ c main_v0 (by decide)).trans ((W4_of m ρ c main_v0 (by decide)).trans ((W3_of m ρ c main_v0 (by decide)).trans
    (W2_of m ρ c main_v0 (by decide))))) _).trans ?_
  exact o0_v0 (W0 m ρ c) n
theorem v5_v9 (c : Dev nD) (j : Fin 512) (k : Fin 32) : (V5 m ρ c main_v9 : FVec Ideal S512x32 .f32) (ix2 j k) = (gmat 16 j k : EReal) := by
  refine (congrFun ((W5_of m ρ c main_v9 (by decide)).trans (W4_of m ρ c main_v9 (by decide))) _).trans ?_
  exact w3_9 m ρ c j k
theorem v5_v19 (c : Dev nD) (j : Fin 512) (k : Fin 32) : (V5 m ρ c main_v19 : FVec Ideal S32x512 .f32) (ix2 k j) = (gmat 16 j k : EReal) := by
  refine (o4_v19 (W4 m ρ c) j k).trans ?_
  refine (congrFun (W4_of m ρ c main_v9 (by decide)) _).trans ?_
  exact w3_9 m ρ c j k
theorem v5_v18 (c : Dev nD) (j : Fin 128) (k : Fin 32) : (V5 m ρ c main_v18 : FVec Ideal S128x32 .f32) (ix2 j k) = (gmat 4 j k : EReal) := by
  refine (o4_v18 (W4 m ρ c) j k).trans ?_
  rw [w4_at]
  exact ind _ _ (by omega) (by omega)
theorem v5_v20 (c : Dev nD) (j : Fin 128) (k : Fin 32) : (V5 m ρ c main_v20 : FVec Ideal S32x128 .f32) (ix2 k j) = (gmat 4 j k : EReal) := by
  refine (o4_v20 (W4 m ρ c) j k).trans ?_
  rw [w4_at]
  exact ind _ _ (by omega) (by omega)

end Cert.Proof.Tail
-- ==== Proof.TailRef.lean ====
/-
  The plain tail's run, read: its result is `Par.head` of its arguments.
-/
module

public import proofs.«01_k».proof.Proof.TailPlain
public import proofs.«01_k».proof.Proof.Gen.TailReferenceIdeal.Run
public import Idealize.ShloMosaic.Lib.Pointwise
public import Idealize.ShloMosaic.Lib.Routing.OpsSet

@[expose] public section

noncomputable section

namespace Cert.Proof.Tail

open Idealize.ShloMosaic Idealize.ShloMosaic.TcCoe Idealize.SL.Sem

section sum
variable {n0 n1 n2 : ℕ} {t : Shape}

/-- A sum over the first and the last axis of three. -/
theorem hostSum_02 (h : (⟨3, ![n0, n1, n2]⟩ : Shape).ReducesTo [0, 2] t) (v : (⟨3, ![n0, n1, n2]⟩ : Shape).Idx → EReal) (init : EReal) (j : t.Idx) :
    Ideal.hostReduceAdd h v init j = init + ∑ p : Fin n0 × Fin n2,
      v (ix3 p.1 ⟨(j ⟨0, (show t.rank = 1 from h.1) ▸ Nat.one_pos⟩).val, Shape.coordLt _ (h.2 _)⟩ p.2) := by
  have hr : t.rank = 1 := h.1
  show init + ∑ i ∈ Finset.univ.filter (fun i => h.drop i = j), v i = _
  refine congrArg (init + ·) (Finset.sum_filter_eq_sum_of_fiber _ (fun p : Fin n0 × Fin n2 => (ix3 p.1 ⟨(j ⟨0, hr ▸ Nat.one_pos⟩).val, Shape.coordLt _ (h.2 _)⟩ p.2 : (⟨3, ![n0, n1, n2]⟩ : Shape).Idx))
    (fun _ _ e => Prod.ext (congrFun e 0) (congrFun e 2)) (fun i => ?_) v)
  constructor
  · intro e
    refine ⟨(i 0, i 2), ?_⟩
    funext a; apply Fin.ext
    match a with
    | ⟨0, _⟩ => rfl
    | ⟨1, _⟩ => exact (congrArg Fin.val (congrFun e ⟨0, by omega⟩)).symm
    | ⟨2, _⟩ => rfl
  · rintro ⟨p, rfl⟩
    funext b
    apply Fin.ext
    match b with
    | ⟨0, hb⟩ => rfl
    | ⟨_ + 1, hb⟩ => exact absurd hb (by omega)

end sum

open Cert.TailReferenceIdeal Cert.TailReferenceIdeal.Gen Cert.TailReferenceIdeal.Value

/-! A group norm of a reshaped array. -/

abbrev dif16 (Y : FVec Ideal S50000x32x16 .f32) : FVec Ideal S50000x32x16 .f32 :=
  subf Y (broadcastInDim S50000x32x16 ![0, 1, 2] bcast_S1x32x1_S50000x32x16_0_1_2 (Host.divf (broadcastInDim S1x32x1 ![1] bcast_S32_S1x32x1_1 (Host.reduceAdd Y (constant S_ .f32 0x00000000#32) reducesTo_S50000x32x16_S32_d0_2 h_S_)) (broadcastInDim S1x32x1 ![] bcast_S_S1x32x1 (constant S_ .f32 0x49435000#32))))

abbrev nrm16 (D : FVec Ideal S50000x32x16 .f32) (g b : FVec Ideal S512 .f32) : FVec Ideal S50000x512 .f32 :=
  addf (mulf (shapeCast _ (Host.divf D (broadcastInDim S50000x32x16 ![0, 1, 2] bcast_S1x32x1_S50000x32x16_0_1_2 (Host.sqrt (addf (Host.divf (broadcastInDim S1x32x1 ![1] bcast_S32_S1x32x1_1 (Host.reduceAdd (mulf D D) (constant S_ .f32 0x00000000#32) reducesTo_S50000x32x16_S32_d0_2 h_S_)) (broadcastInDim S1x32x1 ![] bcast_S_S1x32x1 (constant S_ .f32 0x49435000#32))) (broadcastInDim S1x32x1 ![] bcast_S_S1x32x1 (constant S_ .f32 0x3727C5AC#32)))))) shapeCasts_S50000x32x16_S50000x512) (broadcastInDim S50000x512 ![0, 1] bcast_S1x512_S50000x512_0_1 (broadcastInDim S1x512 ![1] bcast_S512_S1x512_1 g))) (broadcastInDim S50000x512 ![0, 1] bcast_S1x512_S50000x512_0_1 (broadcastInDim S1x512 ![1] bcast_S512_S1x512_1 b))

/-- The norm of an array whose reshaped entries are given. -/
theorem nrm16_at (Y : FVec Ideal S50000x32x16 .f32) (y : Fin 50000 → Fin 512 → EReal)
    (hY : ∀ i (k : Fin 32) (p : Fin 16), Y (ix3 i k p) = y i ⟨k.val * 16 + p.val, by omega⟩) (g b : FVec Ideal S512 .f32) (i : Fin 50000) (q : Fin 512) :
    nrm16 (dif16 Y) g b (ix2 i q) = norm (n := 50000) (s := 16) rfl c16 y (fun q => g (ix1 q)) (fun q => b (ix1 q)) i q := by
  have hd (i : Fin 50000) (k : Fin 32) (p : Fin 16) : dif16 Y (ix3 i k p) = y i ⟨k.val * 16 + p.val, by omega⟩ - mean (n := 50000) (s := 16) rfl c16 y k := by
    pointwise [dif16, hostSum_02]
    simp only [hY]
    rfl
  generalize dif16 Y = D at hd ⊢
  pointwise [nrm16, hostSum_02]
  simp only [hd]
  have e : (⟨q.val / 16 * 16 + q.val % 16, by omega⟩ : Fin 512) = q := Fin.ext (Nat.div_add_mod' _ _)
  rw [e]
  rfl

abbrev dif4 (Y : FVec Ideal S50000x32x4 .f32) : FVec Ideal S50000x32x4 .f32 :=
  subf Y (broadcastInDim S50000x32x4 ![0, 1, 2] bcast_S1x32x1_S50000x32x4_0_1_2 (Host.divf (broadcastInDim S1x32x1 ![1] bcast_S32_S1x32x1_1 (Host.reduceAdd Y (constant S_ .f32 0x00000000#32) reducesTo_S50000x32x4_S32_d0_2 h_S_)) (broadcastInDim S1x32x1 ![] bcast_S_S1x32x1 (constant S_ .f32 0x48435000#32))))

abbrev nrm4 (D : FVec Ideal S50000x32x4 .f32) (g b : FVec Ideal S128 .f32) : FVec Ideal S50000x128 .f32 :=
  addf (mulf (shapeCast _ (Host.divf D (broadcastInDim S50000x32x4 ![0, 1, 2] bcast_S1x32x1_S50000x32x4_0_1_2 (Host.sqrt (addf (Host.divf (broadcastInDim S1x32x1 ![1] bcast_S32_S1x32x1_1 (Host.reduceAdd (mulf D D) (constant S_ .f32 0x00000000#32) reducesTo_S50000x32x4_S32_d0_2 h_S_)) (broadcastInDim S1x32x1 ![] bcast_S_S1x32x1 (constant S_ .f32 0x48435000#32))) (broadcastInDim S1x32x1 ![] bcast_S_S1x32x1 (constant S_ .f32 0x3727C5AC#32)))))) shapeCasts_S50000x32x4_S50000x128) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 b))

theorem nrm4_at (Y : FVec Ideal S50000x32x4 .f32) (y : Fin 50000 → Fin 128 → EReal)
    (hY : ∀ i (k : Fin 32) (p : Fin 4), Y (ix3 i k p) = y i ⟨k.val * 4 + p.val, by omega⟩) (g b : FVec Ideal S128 .f32) (i : Fin 50000) (q : Fin 128) :
    nrm4 (dif4 Y) g b (ix2 i q) = norm (n := 50000) (s := 4) rfl c4 y (fun q => g (ix1 q)) (fun q => b (ix1 q)) i q := by
  have hd (i : Fin 50000) (k : Fin 32) (p : Fin 4) : dif4 Y (ix3 i k p) = y i ⟨k.val * 4 + p.val, by omega⟩ - mean (n := 50000) (s := 4) rfl c4 y k := by
    pointwise [dif4, hostSum_02]
    simp only [hY]
    rfl
  generalize dif4 Y = D at hd ⊢
  pointwise [nrm4, hostSum_02]
  simp only [hd]
  have e : (⟨q.val / 4 * 4 + q.val % 4, by omega⟩ : Fin 128) = q := Fin.ext (Nat.div_add_mod' _ _)
  rw [e]
  rfl

/-! The reference's arrays. -/

variable (V0 : Valuation τ sig (Elt Ideal))

abbrev at1 (n : ℕ) (v : FVec Ideal ⟨1, ![n]⟩ .f32) (q : Fin n) : EReal := v (ix1 q)
abbrev at2 (n k : ℕ) (v : FVec Ideal ⟨2, ![n, k]⟩ .f32) (i : Fin n) (q : Fin k) : EReal := v (ix2 i q)
abbrev bt1 (n : ℕ) (v : IVec ⟨1, ![n]⟩ 32) (q : Fin n) : BitVec 32 := v (ix1 q)

/-- The tail's arguments, of the twenty arrays. -/
def parOf (a0 : FVec Ideal S50000x128 .f32) (a1 : IVec S50000 32) (a2 : FVec Ideal S128x512 .f32) (a3 a4 a5 a6 a7 a8 : FVec Ideal S512 .f32)
    (a9 : FVec Ideal S512x512 .f32) (a10 a11 a12 : FVec Ideal S512 .f32) (a13 : FVec Ideal S512x128 .f32) (a14 a15 : FVec Ideal S128 .f32)
    (a16 : FVec Ideal S128x32 .f32) (a17 : FVec Ideal S32x128 .f32) (a18 : FVec Ideal S128x16 .f32) (a19 : FVec Ideal S16 .f32) : Par :=
  ⟨at2 _ _ a0, bt1 _ a1, at2 _ _ a2, at1 _ a3, at1 _ a4, at1 _ a5, at1 _ a6, at1 _ a7, at1 _ a8, at2 _ _ a9, at1 _ a10, at1 _ a11, at1 _ a12, at2 _ _ a13,
    at1 _ a14, at1 _ a15, at2 _ _ a16, at2 _ _ a17, at2 _ _ a18, at1 _ a19⟩

/-- The reference's. -/
def refPar : Par :=
  parOf (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14)) (V0 (Proc.devRef .tc main_arg15))
    (V0 (Proc.devRef .tc main_arg16)) (V0 (Proc.devRef .tc main_arg17)) (V0 (Proc.devRef .tc main_arg18)) (V0 (Proc.devRef .tc main_arg19))

theorem v2_at (i : Fin 50000) (q : Fin 128) : res_main_v2 V0 (ix2 i q) = mask ((refPar V0).a i q) := by
  pointwise [res_main_v2, id_eq]
  rfl

theorem v4_at (i : Fin 50000) (k : Fin 32) (p : Fin 16) : res_main_v4 V0 (ix3 i k p) = (refPar V0).l0 i ⟨k.val * 16 + p.val, by omega⟩ := by
  pointwise [res_main_v4]
  simp only [v2_at]
  rfl

theorem v27_at (i : Fin 50000) (q : Fin 512) : res_main_v27 V0 (ix2 i q)
    = norm (n := 50000) (s := 16) rfl c16 (refPar V0).l0 (refPar V0).ge (refPar V0).be i q :=
  nrm16_at (res_main_v4 V0) _ (v4_at V0) _ _ i q

theorem v39_at (i : Fin 50000) (k : Fin 32) (p : Fin 16) : res_main_v39 V0 (ix3 i k p) = (refPar V0).l1 i ⟨k.val * 16 + p.val, by omega⟩ := by
  pointwise [res_main_v39]
  simp only [v27_at]
  rfl

theorem v62_at (i : Fin 50000) (q : Fin 512) : res_main_v62 V0 (ix2 i q)
    = norm (n := 50000) (s := 16) rfl c16 (refPar V0).l1 (refPar V0).g1 (refPar V0).b1 i q :=
  nrm16_at (res_main_v39 V0) _ (v39_at V0) _ _ i q

theorem v72_at (i : Fin 50000) (k : Fin 32) (p : Fin 16) : res_main_v72 V0 (ix3 i k p) = (refPar V0).l2 i ⟨k.val * 16 + p.val, by omega⟩ := by
  pointwise [res_main_v72]
  simp only [v62_at]
  rfl

theorem v95_at (i : Fin 50000) (q : Fin 512) : res_main_v95 V0 (ix2 i q)
    = norm (n := 50000) (s := 16) rfl c16 (refPar V0).l2 (refPar V0).g2 (refPar V0).b2 i q :=
  nrm16_at (res_main_v72 V0) _ (v72_at V0) _ _ i q

theorem v102_at (i : Fin 50000) (k : Fin 32) (p : Fin 4) : res_main_v102 V0 (ix3 i k p) = (refPar V0).l3 i ⟨k.val * 4 + p.val, by omega⟩ := by
  pointwise [res_main_v102]
  simp only [v95_at]
  rfl

theorem v126_at (i : Fin 50000) (q : Fin 128) : res_main_v126 V0 (ix2 i q)
    = norm (n := 50000) (s := 4) rfl c4 (refPar V0).l3 (refPar V0).gr (refPar V0).br i q + mask ((refPar V0).a i q) :=
  congrArg₂ (· + ·) (nrm4_at (res_main_v102 V0) _ (v102_at V0) _ _ i q) (v2_at V0 i q)

theorem v131_at (i : Fin 50000) (q : Fin 128) : res_main_v131 V0 (ix2 i q) = (refPar V0).l4 i q := by
  pointwise [res_main_v131]
  simp only [v126_at]
  rfl

theorem v137_at (i : Fin 50000) (a : Fin 4) : res_main_v137 V0 (ix2 i a) = IntOp.cmpi .eq ((refPar V0).b i) (BitVec.ofNat 32 a.val) := by
  pointwise [res_main_v137]
  rfl

theorem select_eq (b c : BitVec 32) (x y : EReal) : Scalar.select (IntOp.cmpi .eq b c) x y = if b = c then x else y := by
  have e : IntOp.cmpi .eq b c = BitVec.ofBool (b == c) := rfl
  unfold Scalar.select
  rw [e]
  by_cases h : b = c
  · rw [if_pos h, if_pos (by subst h; simp)]
  · rw [if_neg h, if_neg (by rw [beq_eq_false_iff_ne.2 h]; decide)]

/-- The gates' table. -/
def gatesTerm : FVec Ideal S4x128 .f32 :=
  Host.divf (broadcastInDim S4x128 ![] bcast_S_S4x128 (constant S_ .f32 0x3F800000#32)) (addf (broadcastInDim S4x128 ![] bcast_S_S4x128 (constant S_ .f32 0x3F800000#32)) (Host.exp (Host.negf (Host.dotGeneral (φ₂ := .f32) dot_S4x32_S32x128_S4x128_1_0_0_1_n_n none (maximumf (Host.dotGeneral (φ₂ := .f32) dot_S4x128_S128x32_S4x32_1_0_0_1_n_n none (Host.divf (Host.reduceAdd (select (broadcastInDim S50000x4x128 ![0, 1, 2] bcast_S50000x4x1_S50000x4x128_0_1_2 (broadcastInDim S50000x4x1 ![0, 1] bcast_S50000x4_S50000x4x1_0_1 (res_main_v137 V0))) (broadcastInDim S50000x4x128 ![0, 1, 2] bcast_S50000x1x128_S50000x4x128_0_1_2 (broadcastInDim S50000x1x128 ![0, 2] bcast_S50000x128_S50000x1x128_0_2 (res_main_v131 V0))) (broadcastInDim S50000x4x128 ![] bcast_S_S50000x4x128 (id (constant S_ .f32 0x00000000#32)))) (constant S_ .f32 0x00000000#32) reducesTo_S50000x4x128_S4x128_d0 h_S_) (broadcastInDim S4x128 ![0, 1] bcast_S4x1_S4x128_0_1 (broadcastInDim S4x1 ![0] bcast_S4_S4x1_0 (maximumf (Host.reduceAdd (id (select (res_main_v137 V0) (broadcastInDim S50000x4 ![] bcast_S_S50000x4 (constant S_ .f32 0x3F800000#32)) (broadcastInDim S50000x4 ![] bcast_S_S50000x4 (constant S_ .f32 0x00000000#32)))) (constant S_ .f32 0x00000000#32) reducesTo_S50000x4_S4_d0 h_S_) (broadcastInDim S4 ![] bcast_S_S4 (constant S_ .f32 0x3F800000#32)))))) (V0 (Proc.devRef .tc main_arg16) : FVec Ideal S128x32 .f32)) (broadcastInDim S4x32 ![] bcast_S_S4x32 (constant S_ .f32 0x00000000#32))) (V0 (Proc.devRef .tc main_arg17) : FVec Ideal S32x128 .f32)))))

theorem gates_at (a : Fin 4) (x : Fin 128) : gatesTerm V0 (ix2 a x) = (refPar V0).gates a x := by
  pointwise [gatesTerm, id_eq]
  simp only [v131_at, v137_at, select_eq]
  unfold Par.gates gate
  rw [zero_sub]
  rfl

theorem wrap (k : Fin 4) : Scalar.select (IntOp.cmpi .slt (BitVec.ofNat 32 k.val) 0#32) (IntOp.addi (BitVec.ofNat 32 k.val) 4#32) (BitVec.ofNat 32 k.val)
    = BitVec.ofNat 32 k.val := by
  revert k; decide

theorem taken (T : FVec Ideal S4x128 .f32) (b : IVec S50000 32) (n : Fin 50000) (x : Fin 128) (k : Fin 4) (hk : b (ix1 n) = BitVec.ofNat 32 k.val) :
    Host.gather gather_S4x128_S50000x1_S50000x128_1_0_n_n_0_1_1128 T (broadcastInDim S50000x1 ![0] bcast_S50000_S50000x1_0
      (select (cmpi .slt b (broadcastInDim S50000 ![] bcast_S_S50000 (constantI S_ 32 0#32))) (addi b (broadcastInDim S50000 ![] bcast_S_S50000 (constantI S_ 32 4#32))) b))
      (ix2 n x) = T (ix2 k x) := by
  have hi : (broadcastInDim S50000x1 ![0] bcast_S50000_S50000x1_0
      (select (cmpi .slt b (broadcastInDim S50000 ![] bcast_S_S50000 (constantI S_ 32 0#32))) (addi b (broadcastInDim S50000 ![] bcast_S_S50000 (constantI S_ 32 4#32))) b))
      (ix2 n 0) = BitVec.ofNat 32 k.val := by
    pointwise []
    rw [hk]
    exact wrap k
  exact Routing.gather_row gather_S4x128_S50000x1_S50000x128_1_0_n_n_0_1_1128 rfl rfl rfl rfl rfl T _ n x k hi (by omega)

/-- The reference's result. -/
def resTerm : FVec Ideal S50000x16 .f32 :=
  addf (Host.dotGeneral (φ₂ := .f32) dot_S50000x128_S128x16_S50000x16_1_0_0_1_n_n none (mulf (res_main_v131 V0) (Host.gather gather_S4x128_S50000x1_S50000x128_1_0_n_n_0_1_1128 (gatesTerm V0) (broadcastInDim S50000x1 ![0] bcast_S50000_S50000x1_0 (select (cmpi .slt (V0 (Proc.devRef .tc main_arg1) : IVec S50000 32) (broadcastInDim S50000 ![] bcast_S_S50000 (constantI S_ 32 0#32))) (addi (V0 (Proc.devRef .tc main_arg1) : IVec S50000 32) (broadcastInDim S50000 ![] bcast_S_S50000 (constantI S_ 32 4#32))) (V0 (Proc.devRef .tc main_arg1) : IVec S50000 32))))) (V0 (Proc.devRef .tc main_arg18) : FVec Ideal S128x16 .f32)) (broadcastInDim S50000x16 ![0, 1] bcast_S1x16_S50000x16_0_1 (broadcastInDim S1x16 ![1] bcast_S16_S1x16_1 (V0 (Proc.devRef .tc main_arg19) : FVec Ideal S16 .f32)))

theorem ref (s : Fin 50000 → Fin 4) (hs : ∀ n, (refPar V0).b n = BitVec.ofNat 32 (s n).val) (n : Fin 50000) (q : Fin 16) :
    resTerm V0 (ix2 n q) = (refPar V0).head s n q := by
  pointwise [resTerm]
  simp only [v131_at, taken (gatesTerm V0) _ n _ (s n) (hs n), gates_at]
  rfl

end Cert.Proof.Tail
-- ==== Proof.TailValue.lean ====
/-
  The tail's result: each region's arrays, in turn, are the plain layers, where the arguments its norms read are real and every node's scan
  is one of the four.
-/
module

public import proofs.«01_k».proof.Proof.Tail1
public import proofs.«01_k».proof.Proof.Tail2
public import proofs.«01_k».proof.Proof.Tail3
public import proofs.«01_k».proof.Proof.Tail5
public import proofs.«01_k».proof.Proof.TailHost
public import proofs.«01_k».proof.Proof.TailRef

@[expose] public section

noncomputable section

namespace Cert.Proof.Tail

open Idealize.ShloMosaic Idealize.ShloMosaic.TcCoe Idealize.SL.Sem Idealize.ShloMosaic.StableHlo
open Cert.TailIdeal Cert.TailIdeal.Gen

/-- A normed entry, of arrays that hold the values, their sums, the matrix, the scale and the shift. -/
theorem scaled_step {s c : ℕ} (hs : 0 < s) (hc : c = 32 * s) {nel : EReal} (hnel : nel = (((50000 : ℕ) * (s : ℕ) : ℝ) : EReal))
    (y : Fin 50000 → Fin c → EReal) (hy : ∀ i j, ∃ r : ℝ, y i j = r) (g b : Fin c → EReal) (hg : ∀ q, ∃ r : ℝ, g q = r)
    {R : Fin 50000 → Fin c → EReal} {St : Fin 2 → Fin 32 → EReal} {Gx : Fin 32 → Fin c → EReal} {Gb : Fin 2 → Fin c → EReal}
    (hR : ∀ n q, R n q = y n q) (hSt : ∀ a k, St a k = stat y (gmat s) (ix2 a k)) (hGx : ∀ k q, Gx k q = gmat s q k)
    (h0 : ∀ q, Gb 0 q = g q) (h1 : ∀ q, Gb 1 q = b q) (n : Fin 50000) (q : Fin c) :
    scaled (R n q) (St 0) (St 1) nel (fun k => Gx k q) (Gb 0 q) (Gb 1 q) = norm hc nel y g b n q := by
  rw [hR, h0, h1, funext fun k => hGx k q, show St 0 = sum1 y (gmat s) from funext (hSt 0), show St 1 = sum2 y (gmat s) from funext (hSt 1)]
  exact scaled_eq hs (by decide) hc hnel y hy g b hg n q

theorem hot_eq (b : BitVec 32) (a : ℕ) : hot b a = if b = BitVec.ofNat 32 a then 1 else 0 := by
  unfold hot
  by_cases h : b = BitVec.ofNat 32 a
  · rw [if_pos h]
    have e : IntOp.cmpi .eq b (BitVec.ofNat 32 a) = 1#1 := by
      show BitVec.ofBool (b == BitVec.ofNat 32 a) = 1#1
      rw [beq_iff_eq.2 h]; rfl
    rw [e]
    show ((((BitVec.setWidth 32 1#1).toInt : ℤ) : ℝ) : EReal) = 1
    rw [show (BitVec.setWidth 32 1#1).toInt = 1 from by decide]
    simp
  · rw [if_neg h]
    have e : IntOp.cmpi .eq b (BitVec.ofNat 32 a) = 0#1 := by
      show BitVec.ofBool (b == BitVec.ofNat 32 a) = 0#1
      rw [beq_eq_false_iff_ne.2 h]; rfl
    rw [e]
    show ((((BitVec.setWidth 32 0#1).toInt : ℤ) : ℝ) : EReal) = 0
    rw [show (BitVec.setWidth 32 0#1).toInt = 0 from by decide]
    simp

/-- The indicators' sum picks a scan's entry. -/
theorem hot_pick (s : Fin 4) (g : Fin 4 → EReal) : ∑ a : Fin 4, hot (BitVec.ofNat 32 s.val) a.val * g a = g s := by
  rw [Finset.sum_eq_single s]
  · rw [hot_eq, if_pos rfl, one_mul]
  · intro a _ h
    rw [hot_eq, if_neg, zero_mul]
    revert s a; decide
  · exact fun h => absurd (Finset.mem_univ _) h

variable (m : (ℓ : Loc nD τ sig) → Buf (Elt Ideal) ℓ) (ρ : Dev nD → PrngReg)

/-- The kernel's arguments. -/
def kerPar (c : Dev nD) : Par :=
  parOf (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
    (m (c.tc.loc main_arg10)) (m (c.tc.loc main_arg11)) (m (c.tc.loc main_arg12)) (m (c.tc.loc main_arg13)) (m (c.tc.loc main_arg14))
    (m (c.tc.loc main_arg15)) (m (c.tc.loc main_arg16)) (m (c.tc.loc main_arg17)) (m (c.tc.loc main_arg18)) (m (c.tc.loc main_arg19))

/-! What a region and the stretch before it leave as they were. -/

theorem keep7 (c : Dev nD) (r : Ref sig .tc) (h : r ∉ hostOps1_W) (h' : ∀ w : Fin cfg0.W, Pipeline.arrRef spec0 w = r → (cfg0.win w).isOut = false) :
    V7 m ρ c r = V5 m ρ c r := (W7_of m ρ c r h).trans (W6_of m ρ c r h')
theorem keep9 (c : Dev nD) (r : Ref sig .tc) (h : r ∉ hostOps2_W) (h' : ∀ w : Fin cfg1.W, Pipeline.arrRef spec1 w = r → (cfg1.win w).isOut = false) :
    V9 m ρ c r = V7 m ρ c r := (W9_of m ρ c r h).trans (W8_of m ρ c r h')
theorem keep11 (c : Dev nD) (r : Ref sig .tc) (h : r ∉ hostOps3_W) (h' : ∀ w : Fin cfg2.W, Pipeline.arrRef spec2 w = r → (cfg2.win w).isOut = false) :
    V11 m ρ c r = V9 m ρ c r := (W11_of m ρ c r h).trans (W10_of m ρ c r h')
theorem keep13 (c : Dev nD) (r : Ref sig .tc) (h : r ∉ hostOps4_W) (h' : ∀ w : Fin cfg3.W, Pipeline.arrRef spec3 w = r → (cfg3.win w).isOut = false) :
    V13 m ρ c r = V11 m ρ c r := (W13_of m ρ c r h).trans (W12_of m ρ c r h')
theorem keep15 (c : Dev nD) (r : Ref sig .tc) (h : r ∉ hostOps5_W) (h' : ∀ w : Fin cfg4.W, Pipeline.arrRef spec4 w = r → (cfg4.win w).isOut = false) :
    V15 m ρ c r = V13 m ρ c r := (W15_of m ρ c r h).trans (W14_of m ρ c r h')

theorem k7_v19 (c : Dev nD) : V7 m ρ c main_v19 = V5 m ρ c main_v19 := keep7 m ρ c _ (by decide) (by decide)
theorem k9_v19 (c : Dev nD) : V9 m ρ c main_v19 = V5 m ρ c main_v19 := (keep9 m ρ c _ (by decide) (by decide)).trans (k7_v19 m ρ c)
theorem k11_v19 (c : Dev nD) : V11 m ρ c main_v19 = V5 m ρ c main_v19 := (keep11 m ρ c _ (by decide) (by decide)).trans (k9_v19 m ρ c)
theorem k7_v9 (c : Dev nD) : V7 m ρ c main_v9 = V5 m ρ c main_v9 := keep7 m ρ c _ (by decide) (by decide)
theorem k9_v9 (c : Dev nD) : V9 m ρ c main_v9 = V5 m ρ c main_v9 := (keep9 m ρ c _ (by decide) (by decide)).trans (k7_v9 m ρ c)
theorem k11_v18 (c : Dev nD) : V11 m ρ c main_v18 = V5 m ρ c main_v18 :=
  (keep11 m ρ c _ (by decide) (by decide)).trans ((keep9 m ρ c _ (by decide) (by decide)).trans (keep7 m ρ c _ (by decide) (by decide)))
theorem k13_v20 (c : Dev nD) : V13 m ρ c main_v20 = V5 m ρ c main_v20 :=
  (keep13 m ρ c _ (by decide) (by decide)).trans ((keep11 m ρ c _ (by decide) (by decide)).trans ((keep9 m ρ c _ (by decide) (by decide)).trans (keep7 m ρ c _ (by decide) (by decide))))
theorem k13_v0 (c : Dev nD) : V13 m ρ c main_v0 = V5 m ρ c main_v0 :=
  (keep13 m ρ c _ (by decide) (by decide)).trans ((keep11 m ρ c _ (by decide) (by decide)).trans ((keep9 m ρ c _ (by decide) (by decide)).trans (keep7 m ρ c _ (by decide) (by decide))))
theorem k15_v0 (c : Dev nD) : V15 m ρ c main_v0 = V5 m ρ c main_v0 := (keep15 m ρ c _ (by decide) (by decide)).trans (k13_v0 m ρ c)

/-! The layers. -/

variable (c : Dev nD)

theorem r0 (n : Fin 50000) (q : Fin 512) : R1 (V7 m ρ) c n q = (kerPar m c).l0 n q := by
  have e : V7 m ρ c main_v21_0 = (dat0 (V5 m ρ) c).arrAt 3 cfg0.N := (W7_of m ρ c main_v21_0 (by decide)).trans (W6_arr m ρ c 3)
  refine (congrFun (e.trans (raw0 _ c)) (ix2 n q)).trans ?_
  show mm (A0 (V5 m ρ) c) (B0 (V5 m ρ) c) n q = mm (kerPar m c).a (kerPar m c).we n q
  rw [show A0 (V5 m ρ) c = (kerPar m c).a from funext fun n => funext fun x => congrFun (W5_args m ρ c main_arg0 (by decide)) (ix2 n x),
    show B0 (V5 m ρ) c = (kerPar m c).we from funext fun n => funext fun x => congrFun (W5_args m ρ c main_arg2 (by decide)) (ix2 n x)]
theorem s0 (a : Fin 2) (k : Fin 32) : St1 (V7 m ρ) c a k = stat (kerPar m c).l0 (gmat 16) (ix2 a k) := by
  have e : V7 m ρ c main_v21_1 = (dat0 (V5 m ρ) c).arrAt 4 cfg0.N := (W7_of m ρ c main_v21_1 (by decide)).trans (W6_arr m ρ c 4)
  refine (congrFun (e.trans (st0 _ c)) (ix2 a k)).trans ?_
  rw [show A0 (V5 m ρ) c = (kerPar m c).a from funext fun n => funext fun x => congrFun (W5_args m ρ c main_arg0 (by decide)) (ix2 n x),
    show B0 (V5 m ρ) c = (kerPar m c).we from funext fun n => funext fun x => congrFun (W5_args m ρ c main_arg2 (by decide)) (ix2 n x),
    show G0 (V5 m ρ) c = gmat 16 from funext fun j => funext fun k => v5_v9 m ρ c j k]
  rfl

/-! The other arrays each region reads. -/

theorem gx1 (k : Fin 32) (q : Fin 512) : Gx1 (V7 m ρ) c k q = gmat 16 q k :=
  (congrFun (k7_v19 m ρ c) (ix2 k q)).trans (v5_v19 m ρ c q k)
theorem gb1_0 (q : Fin 512) : Gb1 (V7 m ρ) c 0 q = (kerPar m c).ge q :=
  (v24_0 (W6 m ρ c) q).trans (congrFun (W6_args m ρ c main_arg3 (by decide)) (ix1 q))
theorem gb1_1 (q : Fin 512) : Gb1 (V7 m ρ) c 1 q = (kerPar m c).be q :=
  (v24_1 (W6 m ρ c) q).trans (congrFun (W6_args m ρ c main_arg4 (by decide)) (ix1 q))
theorem ab1_0 (q : Fin 512) : Ab1 (V7 m ρ) c 0 q = (kerPar m c).wd q :=
  (v27_0 (W6 m ρ c) q).trans (congrFun (W6_args m ρ c main_arg5 (by decide)) (ix1 q))
theorem ab1_1 (q : Fin 512) : Ab1 (V7 m ρ) c 1 q = (kerPar m c).bd q :=
  (v27_1 (W6 m ρ c) q).trans (congrFun (W6_args m ρ c main_arg6 (by decide)) (ix1 q))
theorem gx2 (k : Fin 32) (q : Fin 512) : Gx2 (V9 m ρ) c k q = gmat 16 q k :=
  (congrFun (k9_v19 m ρ c) (ix2 k q)).trans (v5_v19 m ρ c q k)
theorem gb2_0 (q : Fin 512) : Gb2 (V9 m ρ) c 0 q = (kerPar m c).g1 q :=
  (v31_0 (W8 m ρ c) q).trans (congrFun (W8_args m ρ c main_arg7 (by decide)) (ix1 q))
theorem gb2_1 (q : Fin 512) : Gb2 (V9 m ρ) c 1 q = (kerPar m c).b1 q :=
  (v31_1 (W8 m ρ c) q).trans (congrFun (W8_args m ρ c main_arg8 (by decide)) (ix1 q))
theorem bs2 (q : Fin 512) : Bs2 (V9 m ρ) c q = (kerPar m c).bp q :=
  (v32_0 (W8 m ρ c) q).trans (congrFun (W8_args m ρ c main_arg10 (by decide)) (ix1 q))
theorem gx3 (k : Fin 32) (q : Fin 512) : Gx3 (V11 m ρ) c k q = gmat 16 q k :=
  (congrFun (k11_v19 m ρ c) (ix2 k q)).trans (v5_v19 m ρ c q k)
theorem gb3_0 (q : Fin 512) : Gb3 (V11 m ρ) c 0 q = (kerPar m c).g2 q :=
  (v36_0 (W10 m ρ c) q).trans (congrFun (W10_args m ρ c main_arg11 (by decide)) (ix1 q))
theorem gb3_1 (q : Fin 512) : Gb3 (V11 m ρ) c 1 q = (kerPar m c).b2 q :=
  (v36_1 (W10 m ρ c) q).trans (congrFun (W10_args m ρ c main_arg12 (by decide)) (ix1 q))
theorem gx4 (k : Fin 32) (q : Fin 128) : Gx4 (V13 m ρ) c k q = gmat 4 q k :=
  (congrFun (k13_v20 m ρ c) (ix2 k q)).trans (v5_v20 m ρ c q k)
theorem gb4_0 (q : Fin 128) : Gb4 (V13 m ρ) c 0 q = (kerPar m c).gr q :=
  (v41_0 (W12 m ρ c) q).trans (congrFun (W12_args m ρ c main_arg14 (by decide)) (ix1 q))
theorem gb4_1 (q : Fin 128) : Gb4 (V13 m ρ) c 1 q = (kerPar m c).br q :=
  (v41_1 (W12 m ρ c) q).trans (congrFun (W12_args m ρ c main_arg15 (by decide)) (ix1 q))
theorem wt2 (x q : Fin 512) : Wt2 (V9 m ρ) c x q = (kerPar m c).wp x q := congrFun (W9_args m ρ c main_arg9 (by decide)) (ix2 x q)
theorem wt3 (x : Fin 512) (q : Fin 128) : Wt3 (V11 m ρ) c x q = (kerPar m c).wr x q := congrFun (W11_args m ρ c main_arg13 (by decide)) (ix2 x q)
theorem ag4 (n : Fin 50000) (q : Fin 128) : Ag4 (V13 m ρ) c n q = (kerPar m c).a n q := congrFun (W13_args m ρ c main_arg0 (by decide)) (ix2 n q)

variable (h : (kerPar m c).Real)

include h

theorem y1_eq : y1 (V7 m ρ) c = (kerPar m c).l1 := by
  funext n q
  unfold y1 Par.l1
  refine congrArg₂ (· + ·) (congrArg₂ (· * ·) (congrArg act ?_) (ab1_0 m ρ c q)) (ab1_1 m ρ c q)
  exact scaled_step (s := 16) (by decide) rfl c16_eq (kerPar m c).l0 h.l0 (kerPar m c).ge (kerPar m c).be h.ge (r0 m ρ c) (s0 m ρ c)
    (gx1 m ρ c) (gb1_0 m ρ c) (gb1_1 m ρ c) n q
theorem r1 (n : Fin 50000) (q : Fin 512) : R2 (V9 m ρ) c n q = (kerPar m c).l1 n q := by
  have e : V9 m ρ c main_v28_0 = (dat1 (V7 m ρ) c).arrAt 6 cfg1.N := (W9_of m ρ c main_v28_0 (by decide)).trans (W8_arr m ρ c 6)
  refine (congrFun (e.trans (raw1 _ c)) (ix2 n q)).trans ?_
  exact congrFun (congrFun (y1_eq m ρ c h) n) q
theorem s1' (a : Fin 2) (k : Fin 32) : St2 (V9 m ρ) c a k = stat (kerPar m c).l1 (gmat 16) (ix2 a k) := by
  have e : V9 m ρ c main_v28_1 = (dat1 (V7 m ρ) c).arrAt 7 cfg1.N := (W9_of m ρ c main_v28_1 (by decide)).trans (W8_arr m ρ c 7)
  refine (congrFun (e.trans (st1 _ c)) (ix2 a k)).trans ?_
  rw [y1_eq m ρ c h, show G1 (V7 m ρ) c = gmat 16 from funext fun j => funext fun k => (congrFun (k7_v9 m ρ c) _).trans (v5_v9 m ρ c j k)]

theorem y2_eq : y2 (V9 m ρ) c = (kerPar m c).l2 := by
  funext n q
  unfold y2 Par.l2
  refine congrArg₂ (· + ·) (Finset.sum_congr rfl fun x _ => congrArg₂ (· * ·) (congrArg act ?_) ?_) ?_
  · exact scaled_step (s := 16) (by decide) rfl c16_eq (kerPar m c).l1 h.l1 (kerPar m c).g1 (kerPar m c).b1 h.g1 (r1 m ρ c h) (s1' m ρ c h)
      (gx2 m ρ c) (gb2_0 m ρ c) (gb2_1 m ρ c) n x
  · exact wt2 m ρ c x q
  · exact bs2 m ρ c q
theorem r2 (n : Fin 50000) (q : Fin 512) : R3 (V11 m ρ) c n q = (kerPar m c).l2 n q := by
  have e : V11 m ρ c main_v33_0 = (dat2 (V9 m ρ) c).arrAt 7 cfg2.N := (W11_of m ρ c main_v33_0 (by decide)).trans (W10_arr m ρ c 7)
  refine (congrFun (e.trans (raw2 _ c)) (ix2 n q)).trans ?_
  exact congrFun (congrFun (y2_eq m ρ c h) n) q
theorem s2' (a : Fin 2) (k : Fin 32) : St3 (V11 m ρ) c a k = stat (kerPar m c).l2 (gmat 16) (ix2 a k) := by
  have e : V11 m ρ c main_v33_1 = (dat2 (V9 m ρ) c).arrAt 8 cfg2.N := (W11_of m ρ c main_v33_1 (by decide)).trans (W10_arr m ρ c 8)
  refine (congrFun (e.trans (st2 _ c)) (ix2 a k)).trans ?_
  rw [y2_eq m ρ c h, show G2 (V9 m ρ) c = gmat 16 from funext fun j => funext fun k => (congrFun (k9_v9 m ρ c) _).trans (v5_v9 m ρ c j k)]

theorem y3_eq : y3 (V11 m ρ) c = (kerPar m c).l3 := by
  funext n q
  unfold y3 Par.l3
  rw [show Bs3 (V11 m ρ) c q = 0 from v37_0 (W10 m ρ c) q, add_zero]
  refine Finset.sum_congr rfl fun x _ => congrArg₂ (· * ·) (congrArg act ?_) ?_
  · exact scaled_step (s := 16) (by decide) rfl c16_eq (kerPar m c).l2 h.l2 (kerPar m c).g2 (kerPar m c).b2 h.g2 (r2 m ρ c h) (s2' m ρ c h)
      (gx3 m ρ c) (gb3_0 m ρ c) (gb3_1 m ρ c) n x
  · exact wt3 m ρ c x q
theorem r3 (n : Fin 50000) (q : Fin 128) : R4 (V13 m ρ) c n q = (kerPar m c).l3 n q := by
  have e : V13 m ρ c main_v38_0 = (dat3 (V11 m ρ) c).arrAt 7 cfg3.N := (W13_of m ρ c main_v38_0 (by decide)).trans (W12_arr m ρ c 7)
  refine (congrFun (e.trans (raw3 _ c)) (ix2 n q)).trans ?_
  exact congrFun (congrFun (y3_eq m ρ c h) n) q
theorem s3' (a : Fin 2) (k : Fin 32) : St4 (V13 m ρ) c a k = stat (kerPar m c).l3 (gmat 4) (ix2 a k) := by
  have e : V13 m ρ c main_v38_1 = (dat3 (V11 m ρ) c).arrAt 8 cfg3.N := (W13_of m ρ c main_v38_1 (by decide)).trans (W12_arr m ρ c 8)
  refine (congrFun (e.trans (st3 _ c)) (ix2 a k)).trans ?_
  rw [y3_eq m ρ c h, show G3 (V11 m ρ) c = gmat 4 from funext fun j => funext fun k => (congrFun (k11_v18 m ρ c) _).trans (v5_v18 m ρ c j k)]

theorem y4_eq : y4 (V13 m ρ) c = (kerPar m c).l4 := by
  funext n q
  unfold y4 Par.l4
  refine congrArg act (congrArg₂ (· + ·) ?_ (congrArg mask ?_))
  · exact scaled_step (s := 4) (by decide) rfl c4_eq (kerPar m c).l3 h.l3 (kerPar m c).gr (kerPar m c).br h.gr (r3 m ρ c h) (s3' m ρ c h)
      (gx4 m ρ c) (gb4_0 m ρ c) (gb4_1 m ρ c) n q
  · exact ag4 m ρ c n q
omit h in
theorem ba4 : Ba4 (V13 m ρ) c = (kerPar m c).b :=
  funext fun n => (congrFun (k13_v0 m ρ c) _).trans (v5_v0 m ρ c n)
omit h in
theorem ba5 : Ba5 (V15 m ρ) c = (kerPar m c).b :=
  funext fun n => (congrFun (k15_v0 m ρ c) _).trans (v5_v0 m ρ c n)
theorem r4 (n : Fin 50000) (q : Fin 128) : O5 (V15 m ρ) c n q = (kerPar m c).l4 n q := by
  have e : V15 m ρ c main_v42_0 = (dat4 (V13 m ρ) c).arrAt 6 cfg4.N := (W15_of m ρ c main_v42_0 (by decide)).trans (W14_arr m ρ c 6)
  refine (congrFun (e.trans (raw4 _ c)) (ix2 n q)).trans ?_
  exact congrFun (congrFun (y4_eq m ρ c h) n) q
theorem z5 (i : S8x128.Idx) : Z5 (V15 m ρ) c (i 0) (i 1) = pool (kerPar m c).l4 (kerPar m c).b i := by
  have e : V15 m ρ c main_v42_1 = (dat4 (V13 m ρ) c).arrAt 7 cfg4.N := (W15_of m ρ c main_v42_1 (by decide)).trans (W14_arr m ρ c 7)
  rw [eq_ix2 i]
  refine (congrFun (e.trans (st4 _ c)) (ix2 (i 0) (i 1))).trans ?_
  rw [y4_eq m ρ c h, ba4 m ρ c]
theorem z5_total (a : Fin 4) (x : Fin 128) : Z5 (V15 m ρ) c ⟨a.val, by omega⟩ x = (kerPar m c).total a x := by
  refine (z5 m ρ c h (ix2 ⟨a.val, by omega⟩ x)).trans ?_
  unfold pool Par.total
  refine (if_pos a.isLt).trans (Finset.sum_congr rfl fun n _ => ?_)
  rw [hot_eq, ite_mul, one_mul, zero_mul]
  rfl
theorem z5_count (a : Fin 4) (x : Fin 128) : Z5 (V15 m ρ) c ⟨4 + a.val, by omega⟩ x = (kerPar m c).count a := by
  refine (z5 m ρ c h (ix2 ⟨4 + a.val, by omega⟩ x)).trans ?_
  unfold pool Par.count
  refine (if_neg (show ¬ 4 + a.val < 4 by omega)).trans (Finset.sum_congr rfl fun n _ => ?_)
  rw [hot_eq]
  show (if _ = BitVec.ofNat 32 (4 + a.val - 4) then _ else _) = _
  rw [Nat.add_sub_cancel_left]

/-- The tail's result. -/
theorem ker (s : Fin 50000 → Fin 4) (hs : ∀ n, (kerPar m c).b n = BitVec.ofNat 32 (s n).val) (n : Fin 50000) (q : Fin 16) :
    (W16 m ρ c (Proc.devRef .tc main_v44) : FVec Ideal S50000x16 .f32) (ix2 n q) = (kerPar m c).head s n q := by
  refine (congrFun ((W16_arr m ρ c 7).trans (raw5 _ c)) (ix2 n q)).trans ?_
  show y5 (V15 m ρ) c n q = _
  unfold y5 headK Par.head
  refine congrArg₂ (· + ·) (Finset.sum_congr rfl fun x _ => congrArg₂ (· * ·) (congrArg₂ (· * ·) (r4 m ρ c h n x) ?_) ?_) ?_
  · rw [ba5, hs, hot_pick]
    unfold Par.gates
    rw [show S15 (V15 m ρ) c = (kerPar m c).s1 from funext fun i => funext fun j => congrFun (W15_args m ρ c main_arg16 (by decide)) (ix2 i j),
      show S25 (V15 m ρ) c = (kerPar m c).s2 from funext fun i => funext fun j => congrFun (W15_args m ρ c main_arg17 (by decide)) (ix2 i j)]
    exact gate_congr _ _ (fun i => congrArg₂ Ideal.div (z5_total m ρ c h _ i) (congrArg₂ max (z5_count m ρ c h _ i) rfl)) x
  · exact congrFun (W15_args m ρ c main_arg18 (by decide)) _
  · exact (v43_0 (W14 m ρ c) q).trans (congrFun (W14_args m ρ c main_arg19 (by decide)) _)

end Cert.Proof.Tail
-- ==== Proof.TailPre.lean ====
/-
  The tail's precondition, read: every node's scan is one of the four, a masked entry is real, and so is every weight, bias, scale and
  shift a norm reads. Then the reference's result on the kernel's arguments is the kernel's.
-/
module

public import proofs.«01_k».proof.Pre_finite_tail
public import proofs.«01_k».proof.Proof.TailValue
public import proofs.«01_k».proof.Proof.RecValue
public import proofs.«01_k».proof.Proof.EdgeValue

@[expose] public section

noncomputable section

namespace Cert.Proof.Tail

open Idealize.ShloMosaic Idealize.ShloMosaic.TcCoe Idealize.SL.Sem Idealize.ShloMosaic.StableHlo

theorem pre_facts : Cert.Pre_finite_tail.Facts := by
  constructor <;> decide

theorem lt_top (x : EReal) (h : BitVec.ofBool (decide (x < Ideal.ofBits .f32 0x7F800000#32)) = 1#1) : x < ⊤ := by
  have htop : Ideal.ofBits .f32 0x7F800000#32 = ⊤ := by simp [Ideal.ofBits, Ideal.ieee]
  rw [htop] at h
  by_contra hn
  rw [decide_eq_false hn] at h
  exact absurd h (by decide)

/-- A masked entry of one below plus infinity is real. -/
theorem mask_real (x : EReal) (h : x < ⊤) : ∃ r : ℝ, mask x = r := by
  unfold mask
  split
  · rename_i hw
    induction x with
    | coe r => exact ⟨r, rfl⟩
    | top => exact absurd h (lt_irrefl _)
    | bot => exact absurd hw not_lt_bot
  · exact ⟨0, rfl⟩

section
open Cert.Pre_finite_tail

theorem parOf_congr {a0 b0 : FVec Ideal S50000x128 .f32} {a1 b1 : IVec S50000 32} {a2 b2 : FVec Ideal S128x512 .f32} {a3 b3 : FVec Ideal S512 .f32}
    {a4 b4 : FVec Ideal S512 .f32} {a5 b5 : FVec Ideal S512 .f32} {a6 b6 : FVec Ideal S512 .f32} {a7 b7 : FVec Ideal S512 .f32}
    {a8 b8 : FVec Ideal S512 .f32} {a9 b9 : FVec Ideal S512x512 .f32} {a10 b10 : FVec Ideal S512 .f32} {a11 b11 : FVec Ideal S512 .f32}
    {a12 b12 : FVec Ideal S512 .f32} {a13 b13 : FVec Ideal S512x128 .f32} {a14 b14 : FVec Ideal S128 .f32} {a15 b15 : FVec Ideal S128 .f32}
    {a16 b16 : FVec Ideal S128x32 .f32} {a17 b17 : FVec Ideal S32x128 .f32} {a18 b18 : FVec Ideal S128x16 .f32} {a19 b19 : FVec Ideal S16 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9)
    (h10 : a10 = b10) (h11 : a11 = b11) (h12 : a12 = b12) (h13 : a13 = b13) (h14 : a14 = b14) (h15 : a15 = b15) (h16 : a16 = b16) (h17 : a17 = b17) (h18 : a18 = b18) (h19 : a19 = b19) :
    parOf a0 a1 a2 a3 a4 a5 a6 a7 a8 a9 a10 a11 a12 a13 a14 a15 a16 a17 a18 a19 = parOf b0 b1 b2 b3 b4 b5 b6 b7 b8 b9 b10 b11 b12 b13 b14 b15 b16 b17 b18 b19 := by
  subst h0 h1 h2 h3 h4 h5 h6 h7 h8 h9 h10 h11 h12 h13 h14 h15 h16 h17 h18 h19
  rfl

theorem pre_par (hp : Cert.Pre_finite_tail.Facts) (a0 : FVec Ideal S50000x128 .f32) (a1 : IVec S50000 32) (a2 : FVec Ideal S128x512 .f32) (a3 : FVec Ideal S512 .f32)
    (a4 : FVec Ideal S512 .f32) (a5 : FVec Ideal S512 .f32) (a6 : FVec Ideal S512 .f32) (a7 : FVec Ideal S512 .f32)
    (a8 : FVec Ideal S512 .f32) (a9 : FVec Ideal S512x512 .f32) (a10 : FVec Ideal S512 .f32) (a11 : FVec Ideal S512 .f32)
    (a12 : FVec Ideal S512 .f32) (a13 : FVec Ideal S512x128 .f32) (a14 : FVec Ideal S128 .f32) (a15 : FVec Ideal S128 .f32)
    (a16 : FVec Ideal S128x32 .f32) (a17 : FVec Ideal S32x128 .f32) (a18 : FVec Ideal S128x16 .f32) (a19 : FVec Ideal S16 .f32)
    (h : Cert.Pre_finite_tail.fn (F := Ideal) a0 a1 a2 a3 a4 a5 a6 a7 a8 a9 a10 a11 a12 a13 a14 a15 a16 a17 a18 a19 = fun _ => 1#1) :
    (parOf a0 a1 a2 a3 a4 a5 a6 a7 a8 a9 a10 a11 a12 a13 a14 a15 a16 a17 a18 a19).Real
    ∧ ∃ s : Fin 50000 → Fin 4, ∀ n, a1 (ix1 n) = BitVec.ofNat 32 (s n).val := by
  have : Subsingleton S_.Idx := ⟨fun a b => funext fun i => i.elim0⟩
  have h0 := congrFun h (fun i => i.elim0)
  unfold Cert.Pre_finite_tail.fn fn_part1 fn_part2 fn_part3 fn_part4 at h0
  obtain ⟨h0, h69⟩ := IntOp.andi_eq_one.1 h0
  obtain ⟨h0, h60⟩ := IntOp.andi_eq_one.1 h0
  obtain ⟨h0, h41⟩ := IntOp.andi_eq_one.1 h0
  obtain ⟨h0, h22⟩ := IntOp.andi_eq_one.1 h0
  obtain ⟨hb, ha⟩ := IntOp.andi_eq_one.1 h0
  obtain ⟨h13, h14⟩ := IntOp.andi_eq_one.1 h69
  obtain ⟨h60, h12⟩ := IntOp.andi_eq_one.1 h60
  obtain ⟨h60, h11⟩ := IntOp.andi_eq_one.1 h60
  obtain ⟨h9, h10⟩ := IntOp.andi_eq_one.1 h60
  obtain ⟨h41, h8⟩ := IntOp.andi_eq_one.1 h41
  obtain ⟨h41, h7⟩ := IntOp.andi_eq_one.1 h41
  obtain ⟨h5, h6⟩ := IntOp.andi_eq_one.1 h41
  obtain ⟨h22, h4⟩ := IntOp.andi_eq_one.1 h22
  obtain ⟨h2, h3⟩ := IntOp.andi_eq_one.1 h22
  refine ⟨⟨?_, ?_, ?_, ?_, ?_, ?_, ?_, ?_, ?_, ?_, ?_, ?_, ?_, ?_⟩, ?_⟩
  · intro n x
    have e := Host.reduce_andi_all _ _ _ _ _ ha (ix2 n x)
    pointwise at e
    exact mask_real _ (lt_top _ e)
  · intro n x
    have e := Host.reduce_andi_all _ _ _ _ _ h2 (ix2 n x)
    pointwise at e
    exact Cert.Proof.Edge.real_of_abs_lt _ e
  · intro x
    have e := Host.reduce_andi_all _ _ _ _ _ h3 (ix1 x)
    pointwise at e
    exact Cert.Proof.Edge.real_of_abs_lt _ e
  · intro x
    have e := Host.reduce_andi_all _ _ _ _ _ h4 (ix1 x)
    pointwise at e
    exact Cert.Proof.Edge.real_of_abs_lt _ e
  · intro x
    have e := Host.reduce_andi_all _ _ _ _ _ h5 (ix1 x)
    pointwise at e
    exact Cert.Proof.Edge.real_of_abs_lt _ e
  · intro x
    have e := Host.reduce_andi_all _ _ _ _ _ h6 (ix1 x)
    pointwise at e
    exact Cert.Proof.Edge.real_of_abs_lt _ e
  · intro x
    have e := Host.reduce_andi_all _ _ _ _ _ h7 (ix1 x)
    pointwise at e
    exact Cert.Proof.Edge.real_of_abs_lt _ e
  · intro x
    have e := Host.reduce_andi_all _ _ _ _ _ h8 (ix1 x)
    pointwise at e
    exact Cert.Proof.Edge.real_of_abs_lt _ e
  · intro n x
    have e := Host.reduce_andi_all _ _ _ _ _ h9 (ix2 n x)
    pointwise at e
    exact Cert.Proof.Edge.real_of_abs_lt _ e
  · intro x
    have e := Host.reduce_andi_all _ _ _ _ _ h10 (ix1 x)
    pointwise at e
    exact Cert.Proof.Edge.real_of_abs_lt _ e
  · intro x
    have e := Host.reduce_andi_all _ _ _ _ _ h11 (ix1 x)
    pointwise at e
    exact Cert.Proof.Edge.real_of_abs_lt _ e
  · intro x
    have e := Host.reduce_andi_all _ _ _ _ _ h12 (ix1 x)
    pointwise at e
    exact Cert.Proof.Edge.real_of_abs_lt _ e
  · intro n x
    have e := Host.reduce_andi_all _ _ _ _ _ h13 (ix2 n x)
    pointwise at e
    exact Cert.Proof.Edge.real_of_abs_lt _ e
  · intro x
    have e := Host.reduce_andi_all _ _ _ _ _ h14 (ix1 x)
    pointwise at e
    exact Cert.Proof.Edge.real_of_abs_lt _ e
  · have hk : ∀ n, ∃ k : Fin 4, a1 (ix1 n) = BitVec.ofNat 32 k.val := by
      intro n
      have e := Host.reduce_andi_all _ _ _ _ _ hb (ix1 n)
      obtain ⟨e0, e1⟩ := IntOp.andi_eq_one.1 e
      exact Cert.Proof.Rec.word_named _ e0 e1
    choose s hs using hk
    exact ⟨s, hs⟩

end

end Cert.Proof.Tail
-- ==== Proof.TailFrame.lean ====
/-
  The tail's frame at the words: the program printed for the words and the one printed for the reals are the same one.
-/
module

public import proofs.«01_k».proof.Defs
public import proofs.«01_k».proof.Proof.Gen.Tail
public import proofs.«01_k».proof.Proof.Gen.TailIdeal.Frame
public import proofs.«01_k».proof.Proof.TailPre
public import Idealize.ShloMosaic.Adequacy
public import Idealize.ShloMosaic.Init

@[expose] public section

noncomputable section

namespace Cert.Proof.Tail

open Idealize.ShloMosaic Idealize.SL.Sem

instance : Cert.Pre_finite_tail.Facts := pre_facts

set_option maxHeartbeats 8000000 in
/-- The two programs have the same bodies: each of their six labels runs the same function. -/
theorem defs_eq : Cert.Tail.defs (F := Bits) = Cert.TailIdeal.defs (F := Bits) := by
  refine congrArg (Pipeline.defs (Cert.Tail.pcfgs (F := Bits))) ?_
  unfold Cert.Tail.defs₀ Cert.TailIdeal.defs₀
  refine congrArg Defs.onTc (funext fun l => funext fun a => ?_)
  match l, a with
  | 0, _ => rfl
  | 1, _ => rfl
  | 2, _ => rfl
  | 3, _ => rfl
  | 4, _ => rfl
  | 5, _ => rfl

set_option maxHeartbeats 8000000 in
/-- The machine's tail terminates, leaves its arguments and every counter at zero. -/
theorem frame_words : Cert.quiescent_Tail := fun m ρ _ => by
  rw [defs_eq]
  exact Cert.TailIdeal.Gen.frame (F := Bits) m ρ

end Cert.Proof.Tail
-- ==== Proof.lean ====
/-
  The proof of `Cert.Claim`. The kernel's one run (Proof/Launch.lean), written over any float values, gives both its frames and,
  read at the extended reals, its result; the reference's run gives its frame and its term, which Proof/Value.lean reads as the
  same running maximum. The gather call's run (Proof/GatLaunch.lean) gives its frames and both its results, the reference's rows
  (Proof/GatValue.lean). The records' and the edges' calls are single pipelined regions: their runs, frames included, are the
  generated ones, and the arrays they leave are read in Proof/RecValue.lean and Proof/EdgeValue.lean beside their references. The tail
  is six pipelined regions: Proof/TailFrame.lean takes the generated frame to the words, Proof/TailRun.lean gives the run, Proof/TailValue.lean the array it leaves, in the plain layers of
  Proof/TailPlain.lean, Proof/TailRef.lean the reference in the same layers, and Proof/TailPre.lean reads the precondition.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Gather
public import proofs.«01_k».proof.Proof.Gen.GatherIdeal
public import proofs.«01_k».proof.Proof.Gen.GatherIdeal.Skeleton
public import proofs.«01_k».proof.Proof.Gen.GatherReference
public import proofs.«01_k».proof.Proof.Gen.GatherReference.Run
public import proofs.«01_k».proof.Proof.Gen.GatherReferenceIdeal
public import proofs.«01_k».proof.Proof.Gen.GatherReferenceIdeal.Run
public import proofs.«01_k».proof.Proof.Gen.Records
public import proofs.«01_k».proof.Proof.Gen.RecordsIdeal
public import proofs.«01_k».proof.Proof.Gen.RecordsReferenceIdeal
public import proofs.«01_k».proof.Proof.Gen.Edge
public import proofs.«01_k».proof.Proof.Gen.EdgeIdeal
public import proofs.«01_k».proof.Proof.Gen.EdgeReferenceIdeal
public import proofs.«01_k».proof.Proof.Gen.RecordsIdeal.Value
public import proofs.«01_k».proof.Proof.Gen.RecordsReferenceIdeal.Run
public import proofs.«01_k».proof.Proof.Gen.EdgeIdeal.Value
public import proofs.«01_k».proof.Proof.Gen.EdgeReferenceIdeal.Run
public import proofs.«01_k».proof.Proof.Gen.Tail
public import proofs.«01_k».proof.Proof.Gen.TailIdeal
public import proofs.«01_k».proof.Proof.Gen.TailReferenceIdeal
public import proofs.«01_k».proof.Proof.Gen.TailIdeal.Frame
public import proofs.«01_k».proof.Proof.Gen.TailReferenceIdeal.Run
public import proofs.«01_k».proof.Proof.Launch
public import proofs.«01_k».proof.Proof.Value
public import proofs.«01_k».proof.Proof.GatLaunch
public import proofs.«01_k».proof.Proof.GatValue
public import proofs.«01_k».proof.Proof.RecValue
public import proofs.«01_k».proof.Proof.EdgeValue
public import proofs.«01_k».proof.Proof.TailRun
public import proofs.«01_k».proof.Proof.TailPre
public import proofs.«01_k».proof.Proof.TailFrame
public import Idealize.ShloMosaic.Adequacy
public import Idealize.ShloMosaic.Init

@[expose] public section

noncomputable section

namespace Cert.Proof

open Idealize.ShloMosaic Idealize.SL.Sem

/-- The machine's program terminates, leaves its arguments and every counter at zero. -/
theorem frame_kernel : Cert.quiescent_Kernel := fun m ρ _ =>
  (θ_run Cert.KernelIdeal.defs _ _).mono (fun _ h => ⟨fun c => ⟨(h.1 c).2.1, (h.1 c).2.2⟩, h.2⟩) (SegMax.run_main (F := Bits) m ρ)

/-- So does its reading at the extended reals. -/
theorem frame_ideal : Cert.quiescent_KernelIdeal := fun m ρ _ =>
  (θ_run Cert.KernelIdeal.defs _ _).mono (fun _ h => ⟨fun c => ⟨(h.1 c).2.1, (h.1 c).2.2⟩, h.2⟩) (SegMax.run_main (F := Ideal) m ρ)

/-- The reference terminates and leaves its arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same maxima. -/
theorem value : Cert.algebraic_KernelIdeal_ReferenceIdeal := fun m ρ m' ρ' _ hag =>
  ⟨fun c => SegMax.res c (m (SegMax.dLoc c)) (m (SegMax.xLoc c)),
    (θ_run Cert.KernelIdeal.defs _ _).mono (fun _ h c => h.1 c) (SegMax.run_main (F := Ideal) m ρ),
    (θ_run Cert.ReferenceIdeal.defs _ _).mono (fun _ h c => ⟨(h c).1.trans (by
      rw [(hag c).1, (hag c).2]
      exact funext fun y => SegMax.refTerm_eq _ _ y), (h c).2⟩) (Cert.ReferenceIdeal.Value.run (F := Ideal) m' ρ')⟩

/-! ## The gather call -/

instance : Cert.Pre_named_nodes.Facts := Gat.pre_facts

theorem named_bits (m : (ℓ : Loc Cert.Gather.nD Cert.Gather.τ Cert.Gather.sig) → Buf (Elt Bits) ℓ) (h : Cert.Pre_Gather m) : Gat.Named (F := Bits) m := fun d =>
  ⟨fun x => (Gat.pre_words (F := Bits) _ _ _ _ (h d) x).1, fun x => (Gat.pre_words (F := Bits) _ _ _ _ (h d) x).2⟩
theorem named_ideal (m : (ℓ : Loc Cert.GatherIdeal.nD Cert.GatherIdeal.τ Cert.GatherIdeal.sig) → Buf (Elt Ideal) ℓ) (h : Cert.Pre_GatherIdeal m) : Gat.Named (F := Ideal) m := fun d =>
  ⟨fun x => (Gat.pre_words (F := Ideal) _ _ _ _ (h d) x).1, fun x => (Gat.pre_words (F := Ideal) _ _ _ _ (h d) x).2⟩

/-- The machine's gather call terminates, leaves its arguments and every counter at zero. -/
theorem frame_gather : Cert.quiescent_Gather := fun m ρ hp =>
  (θ_run Cert.GatherIdeal.defs _ _).mono (fun _ h => ⟨fun c => (h.1 c).2.2, h.2⟩) (Gat.run_main (F := Bits) m ρ (named_bits m hp))

/-- So does its reading at the extended reals. -/
theorem frame_gather_ideal : Cert.quiescent_GatherIdeal := fun m ρ hp =>
  (θ_run Cert.GatherIdeal.defs _ _).mono (fun _ h => ⟨fun c => (h.1 c).2.2, h.2⟩) (Gat.run_main (F := Ideal) m ρ (named_ideal m hp))

/-- The gather's reference terminates and leaves its arguments, at the words and at the extended reals. -/
theorem frame_gather_reference : Cert.quiescent_GatherReference := fun m ρ _ =>
  (θ_run Cert.GatherReference.defs _ _).mono (fun r h => ⟨fun c => (h c).2.2, sem_eq_zero_of_no_sems (by decide) r.2⟩)
    (Cert.GatherReference.Value.run (F := Bits) m ρ)
theorem frame_gather_reference_ideal : Cert.quiescent_GatherReferenceIdeal := fun m ρ _ =>
  (θ_run Cert.GatherReferenceIdeal.defs _ _).mono (fun r h => ⟨fun c => (h c).2.2, sem_eq_zero_of_no_sems (by decide) r.2⟩)
    (Cert.GatherReferenceIdeal.Value.run (F := Ideal) m ρ)

/-- Kernel and reference end with the same rows, bit for bit. -/
theorem gather_bits : Cert.bitexact_Gather_GatherReference := fun m ρ m' ρ' hp hag =>
  ⟨fun c => Gat.resO (F := Bits) c (m (Gat.tLoc c)) (m (Gat.sLoc c)), fun c => Gat.resU (F := Bits) c (m (Gat.tLoc c)) (m (Gat.dLoc c)),
    (θ_run Cert.GatherIdeal.defs _ _).mono (fun _ h c => h.1 c) (Gat.run_main (F := Bits) m ρ (named_bits m hp)),
    (θ_run Cert.GatherReference.defs _ _).mono (fun _ h c =>
      ⟨(h c).1.trans (by
        rw [(hag c).1, (hag c).2.1]
        exact Gat.refRows_eq (F := Bits) Cert.GatherReference.gather_S50000x16_S800000x1_S800000x16_1_0_n_n_0_1_116 rfl rfl rfl rfl rfl _ _ _ _ (named_bits m hp c).1),
      (h c).2.1.trans (by
        rw [(hag c).1, (hag c).2.2]
        exact Gat.refRows_eq (F := Bits) Cert.GatherReference.gather_S50000x16_S800000x1_S800000x16_1_0_n_n_0_1_116 rfl rfl rfl rfl rfl _ _ _ _ (named_bits m hp c).2),
      (h c).2.2⟩) (Cert.GatherReference.Value.run (F := Bits) m' ρ')⟩

/-- And at the extended reals. -/
theorem gather_value : Cert.algebraic_GatherIdeal_GatherReferenceIdeal := fun m ρ m' ρ' hp hag =>
  ⟨fun c => Gat.resO (F := Ideal) c (m (Gat.tLoc c)) (m (Gat.sLoc c)), fun c => Gat.resU (F := Ideal) c (m (Gat.tLoc c)) (m (Gat.dLoc c)),
    (θ_run Cert.GatherIdeal.defs _ _).mono (fun _ h c => h.1 c) (Gat.run_main (F := Ideal) m ρ (named_ideal m hp)),
    (θ_run Cert.GatherReferenceIdeal.defs _ _).mono (fun _ h c =>
      ⟨(h c).1.trans (by
        rw [(hag c).1, (hag c).2.1]
        exact Gat.refRows_eq (F := Ideal) Cert.GatherReferenceIdeal.gather_S50000x16_S800000x1_S800000x16_1_0_n_n_0_1_116 rfl rfl rfl rfl rfl _ _ _ _ (named_ideal m hp c).1),
      (h c).2.1.trans (by
        rw [(hag c).1, (hag c).2.2]
        exact Gat.refRows_eq (F := Ideal) Cert.GatherReferenceIdeal.gather_S50000x16_S800000x1_S800000x16_1_0_n_n_0_1_116 rfl rfl rfl rfl rfl _ _ _ _ (named_ideal m hp c).2),
      (h c).2.2⟩) (Cert.GatherReferenceIdeal.Value.run (F := Ideal) m' ρ')⟩

/-! ## The records -/

/-- The two programs have the same bodies: their one label runs the same function. -/
theorem records_defs : Cert.Records.defs (F := Bits) = Cert.RecordsIdeal.defs (F := Bits) := by
  refine congrArg (Pipeline.defs (Cert.Records.pcfgs (F := Bits))) ?_
  unfold Cert.Records.defs₀ Cert.RecordsIdeal.defs₀
  refine congrArg Defs.onTc (funext fun l => funext fun a => ?_)
  match l, a with
  | 0, _ => rfl

theorem frame_records : Cert.quiescent_Records := fun m ρ _ => by
  rw [records_defs]
  exact Cert.RecordsIdeal.Gen.frame (F := Bits) m ρ
theorem frame_records_ideal : Cert.quiescent_RecordsIdeal := fun m ρ _ => Cert.RecordsIdeal.Gen.frame (F := Ideal) m ρ
theorem frame_records_reference : Cert.quiescent_RecordsReferenceIdeal := fun m ρ _ =>
  (θ_run Cert.RecordsReferenceIdeal.defs _ _).mono (fun r h => ⟨fun c => (h c).2, sem_eq_zero_of_no_sems (by decide) r.2⟩)
    (Cert.RecordsReferenceIdeal.Value.run (F := Ideal) m ρ)

/-- Kernel and reference end with the same records. -/
theorem records_value : Cert.algebraic_RecordsIdeal_RecordsReferenceIdeal := fun m ρ m' ρ' hp hag =>
  ⟨fun c => Rec.out m c,
    (θ_run Cert.RecordsIdeal.defs _ _).mono (fun _ h c => ⟨(h c).1.trans (Rec.final m c), (h c).2⟩) (Cert.RecordsIdeal.Value.run_blocks (F := Ideal) m ρ),
    (θ_run Cert.RecordsReferenceIdeal.defs _ _).mono (fun _ h c => ⟨(h c).1.trans (by
      rw [(hag c).1, (hag c).2.1, (hag c).2.2.1, (hag c).2.2.2.1, (hag c).2.2.2.2]
      exact Rec.ref_out m c (hp c)), (h c).2⟩) (Cert.RecordsReferenceIdeal.Value.run (F := Ideal) m' ρ')⟩

/-! ## The edges' rows -/

instance : Cert.Pre_finite_edges.Facts := Edge.pre_facts

/-- The two programs have the same bodies: their one label runs the same function. -/
theorem edge_defs : Cert.Edge.defs (F := Bits) = Cert.EdgeIdeal.defs (F := Bits) := by
  refine congrArg (Pipeline.defs (Cert.Edge.pcfgs (F := Bits))) ?_
  unfold Cert.Edge.defs₀ Cert.EdgeIdeal.defs₀
  refine congrArg Defs.onTc (funext fun l => funext fun a => ?_)
  match l, a with
  | 0, _ => rfl

theorem frame_edge : Cert.quiescent_Edge := fun m ρ _ => by
  rw [edge_defs]
  exact Cert.EdgeIdeal.Gen.frame (F := Bits) m ρ
theorem frame_edge_ideal : Cert.quiescent_EdgeIdeal := fun m ρ _ => Cert.EdgeIdeal.Gen.frame (F := Ideal) m ρ
theorem frame_edge_reference : Cert.quiescent_EdgeReferenceIdeal := fun m ρ _ =>
  (θ_run Cert.EdgeReferenceIdeal.defs _ _).mono (fun r h => ⟨fun c => (h c).2, sem_eq_zero_of_no_sems (by decide) r.2⟩)
    (Cert.EdgeReferenceIdeal.Value.run (F := Ideal) m ρ)

/-- Kernel and reference end with the same rows. -/
theorem edge_value : Cert.algebraic_EdgeIdeal_EdgeReferenceIdeal := fun m ρ m' ρ' hp hag =>
  ⟨fun c => Edge.out m c,
    (θ_run Cert.EdgeIdeal.defs _ _).mono (fun _ h c => ⟨(h c).1.trans (Edge.final m c), (h c).2⟩) (Cert.EdgeIdeal.Value.run_blocks (F := Ideal) m ρ),
    (θ_run Cert.EdgeReferenceIdeal.defs _ _).mono (fun _ h c => ⟨(h c).1.trans (funext fun y => by
      obtain ⟨n, q, rfl⟩ : ∃ (n : Fin 800000) (q : Fin 128), y = ix2 n q := ⟨y 0, y 1, eq_ix2 y⟩
      have hr := Edge.pre_real Edge.pre_facts _ _ _ _ _ _ _ _ _ _ (hp c)
      refine (Edge.ref m' c n q).trans ?_
      rw [(hag c).1, (hag c).2.1, (hag c).2.2.1, (hag c).2.2.2.1, (hag c).2.2.2.2.1, (hag c).2.2.2.2.2.1, (hag c).2.2.2.2.2.2.1, (hag c).2.2.2.2.2.2.2.1,
        (hag c).2.2.2.2.2.2.2.2.1, (hag c).2.2.2.2.2.2.2.2.2]
      exact Edge.mlp_congr (fun k => (Edge.row_eq _ _ _ (hr.1 n) (hr.2 k)).symm) (fun _ => rfl) (fun _ => rfl) (fun _ => rfl) (fun _ => rfl) rfl rfl rfl),
      (h c).2⟩) (Cert.EdgeReferenceIdeal.Value.run (F := Ideal) m' ρ')⟩

/-! ## The tail -/

theorem frame_tail_ideal : Cert.quiescent_TailIdeal := fun m ρ _ => Cert.TailIdeal.Gen.frame (F := Ideal) m ρ
theorem frame_tail_reference : Cert.quiescent_TailReferenceIdeal := fun m ρ _ =>
  (θ_run Cert.TailReferenceIdeal.defs _ _).mono (fun r h => ⟨fun c => (h c).2, sem_eq_zero_of_no_sems (by decide) r.2⟩)
    (Cert.TailReferenceIdeal.Value.run (F := Ideal) m ρ)

/-- Kernel and reference end with the same rows. -/
theorem tail_value : Cert.algebraic_TailIdeal_TailReferenceIdeal := fun m ρ m' ρ' hp hag =>
  ⟨fun c => Cert.TailIdeal.Gen.W16 m ρ c (Proc.devRef .tc Cert.TailIdeal.main_v44), Tail.run m ρ,
    (θ_run Cert.TailReferenceIdeal.defs _ _).mono (fun _ h c => ⟨(h c).1.trans (funext fun y => by
      obtain ⟨n, q, rfl⟩ : ∃ (n : Fin 50000) (q : Fin 16), y = ix2 n q := ⟨y 0, y 1, eq_ix2 y⟩
      obtain ⟨hr, s, hs⟩ := Tail.pre_par Tail.pre_facts _ _ _ _ _ _ _ _ _ _ _ _ _ _ _ _ _ _ _ _ (hp c)
      have e : Tail.refPar (StableHlo.launchContents m' c) = Tail.kerPar m c :=
        Tail.parOf_congr ((hag c).1) ((hag c).2.1) ((hag c).2.2.1) ((hag c).2.2.2.1) ((hag c).2.2.2.2.1) ((hag c).2.2.2.2.2.1) ((hag c).2.2.2.2.2.2.1)
          ((hag c).2.2.2.2.2.2.2.1) ((hag c).2.2.2.2.2.2.2.2.1) ((hag c).2.2.2.2.2.2.2.2.2.1) ((hag c).2.2.2.2.2.2.2.2.2.2.1) ((hag c).2.2.2.2.2.2.2.2.2.2.2.1)
          ((hag c).2.2.2.2.2.2.2.2.2.2.2.2.1) ((hag c).2.2.2.2.2.2.2.2.2.2.2.2.2.1) ((hag c).2.2.2.2.2.2.2.2.2.2.2.2.2.2.1) ((hag c).2.2.2.2.2.2.2.2.2.2.2.2.2.2.2.1)
          ((hag c).2.2.2.2.2.2.2.2.2.2.2.2.2.2.2.2.1) ((hag c).2.2.2.2.2.2.2.2.2.2.2.2.2.2.2.2.2.1) ((hag c).2.2.2.2.2.2.2.2.2.2.2.2.2.2.2.2.2.2.1) ((hag c).2.2.2.2.2.2.2.2.2.2.2.2.2.2.2.2.2.2.2)
      have hr' : (Tail.kerPar m c).Real := hr
      have hs' : ∀ n, (Tail.kerPar m c).b n = BitVec.ofNat 32 (s n).val := hs
      refine (Tail.ref (StableHlo.launchContents m' c) s (by rw [e]; exact hs') n q).trans ?_
      rw [e]
      exact (Tail.ker m ρ c hr' s hs' n q).symm), (h c).2⟩) (Cert.TailReferenceIdeal.Value.run (F := Ideal) m' ρ')⟩

theorem claim : Cert.Claim :=
  ⟨Cert.Kernel.Gen.facts, Cert.KernelIdeal.Gen.facts, Cert.ReferenceIdeal.Gen.facts, Cert.Gather.Gen.facts, Cert.GatherIdeal.Gen.facts,
    Cert.GatherReferenceIdeal.Gen.facts, Cert.GatherReference.Gen.facts, Cert.Records.Gen.facts, Cert.RecordsIdeal.Gen.facts,
    Cert.RecordsReferenceIdeal.Gen.facts, Cert.Edge.Gen.facts, Cert.EdgeIdeal.Gen.facts, Cert.EdgeReferenceIdeal.Gen.facts,
    Cert.Tail.Gen.facts, Cert.TailIdeal.Gen.facts, Cert.TailReferenceIdeal.Gen.facts,
    Gat.pre_facts, Rec.pre_facts, Edge.pre_facts, Tail.pre_facts,
    frame_kernel, frame_ideal, frame_reference, frame_gather, frame_gather_ideal, frame_gather_reference_ideal, frame_gather_reference,
    frame_records, frame_records_ideal, frame_records_reference, frame_edge, frame_edge_ideal, frame_edge_reference,
    Tail.frame_words, frame_tail_ideal, frame_tail_reference, trivial, value, trivial, gather_value, gather_bits, trivial, records_value, trivial, edge_value, trivial, tail_value⟩

end Cert.Proof

end
